-- ==== Defs.lean ====
def Pre_Window (m : (ℓ : Loc Cert.Window.nD Cert.Window.τ Cert.Window.sig) → Buf (Elt Bits) ℓ) : Prop :=
  True

def Pre_WindowIdeal (m : (ℓ : Loc Cert.WindowIdeal.nD Cert.WindowIdeal.τ Cert.WindowIdeal.sig) → Buf (Elt Ideal) ℓ) : Prop :=
  True

def Pre_WindowReferenceIdeal (m : (ℓ : Loc Cert.WindowReferenceIdeal.nD Cert.WindowReferenceIdeal.τ Cert.WindowReferenceIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_MlpLast (m : (ℓ : Loc Cert.MlpLast.nD Cert.MlpLast.τ Cert.MlpLast.sig) → Buf (Elt Bits) ℓ) : Prop :=
  True

def Pre_MlpLastIdeal (m : (ℓ : Loc Cert.MlpLastIdeal.nD Cert.MlpLastIdeal.τ Cert.MlpLastIdeal.sig) → Buf (Elt Ideal) ℓ) : Prop :=
  True

def Pre_MlpLastReferenceIdeal (m : (ℓ : Loc Cert.MlpLastReferenceIdeal.nD Cert.MlpLastReferenceIdeal.τ Cert.MlpLastReferenceIdeal.sig) → Buf (Elt Ideal) ℓ) : Prop :=
  True

def Pre_InEven (m : (ℓ : Loc Cert.InEven.nD Cert.InEven.τ Cert.InEven.sig) → Buf (Elt Bits) ℓ) : Prop :=
  True

def Pre_InEvenIdeal (m : (ℓ : Loc Cert.InEvenIdeal.nD Cert.InEvenIdeal.τ Cert.InEvenIdeal.sig) → Buf (Elt Ideal) ℓ) : Prop :=
  True

def Pre_InEvenReferenceIdeal (m : (ℓ : Loc Cert.InEvenReferenceIdeal.nD Cert.InEvenReferenceIdeal.τ Cert.InEvenReferenceIdeal.sig) → Buf (Elt Ideal) ℓ) : Prop :=
  True

def Pre_InOdd (m : (ℓ : Loc Cert.InOdd.nD Cert.InOdd.τ Cert.InOdd.sig) → Buf (Elt Bits) ℓ) : Prop :=
  True

def Pre_InOddIdeal (m : (ℓ : Loc Cert.InOddIdeal.nD Cert.InOddIdeal.τ Cert.InOddIdeal.sig) → Buf (Elt Ideal) ℓ) : Prop :=
  True

def Pre_InOddReferenceIdeal (m : (ℓ : Loc Cert.InOddReferenceIdeal.nD Cert.InOddReferenceIdeal.τ Cert.InOddReferenceIdeal.sig) → Buf (Elt Ideal) ℓ) : Prop :=
  True

def Pre_OutEven (m : (ℓ : Loc Cert.OutEven.nD Cert.OutEven.τ Cert.OutEven.sig) → Buf (Elt Bits) ℓ) : Prop :=
  True

def Pre_OutEvenIdeal (m : (ℓ : Loc Cert.OutEvenIdeal.nD Cert.OutEvenIdeal.τ Cert.OutEvenIdeal.sig) → Buf (Elt Ideal) ℓ) : Prop :=
  True

def Pre_OutEvenReferenceIdeal (m : (ℓ : Loc Cert.OutEvenReferenceIdeal.nD Cert.OutEvenReferenceIdeal.τ Cert.OutEvenReferenceIdeal.sig) → Buf (Elt Ideal) ℓ) : Prop :=
  True

def Pre_OutOdd (m : (ℓ : Loc Cert.OutOdd.nD Cert.OutOdd.τ Cert.OutOdd.sig) → Buf (Elt Bits) ℓ) : Prop :=
  True

def Pre_OutOddIdeal (m : (ℓ : Loc Cert.OutOddIdeal.nD Cert.OutOddIdeal.τ Cert.OutOddIdeal.sig) → Buf (Elt Ideal) ℓ) : Prop :=
  True

def Pre_OutOddReferenceIdeal (m : (ℓ : Loc Cert.OutOddReferenceIdeal.nD Cert.OutOddReferenceIdeal.τ Cert.OutOddReferenceIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaReferenceIdeal (m : (ℓ : Loc Cert.AdaReferenceIdeal.nD Cert.AdaReferenceIdeal.τ Cert.AdaReferenceIdeal.sig) → Buf (Elt Ideal) ℓ) : Prop :=
  True

def Pre_Compress (m : (ℓ : Loc Cert.Compress.nD Cert.Compress.τ Cert.Compress.sig) → Buf (Elt Bits) ℓ) : Prop :=
  True

def Pre_CompressIdeal (m : (ℓ : Loc Cert.CompressIdeal.nD Cert.CompressIdeal.τ Cert.CompressIdeal.sig) → Buf (Elt Ideal) ℓ) : Prop :=
  True

def Pre_CompressReferenceIdeal (m : (ℓ : Loc Cert.CompressReferenceIdeal.nD Cert.CompressReferenceIdeal.τ Cert.CompressReferenceIdeal.sig) → Buf (Elt Ideal) ℓ) : Prop :=
  True

def Pre_Select (m : (ℓ : Loc Cert.Select.nD Cert.Select.τ Cert.Select.sig) → Buf (Elt Bits) ℓ) : Prop :=
  True

def Pre_SelectIdeal (m : (ℓ : Loc Cert.SelectIdeal.nD Cert.SelectIdeal.τ Cert.SelectIdeal.sig) → Buf (Elt Ideal) ℓ) : Prop :=
  True

def Pre_SelectReferenceIdeal (m : (ℓ : Loc Cert.SelectReferenceIdeal.nD Cert.SelectReferenceIdeal.τ Cert.SelectReferenceIdeal.sig) → Buf (Elt Ideal) ℓ) : Prop :=
  True

def Pre_SampleWindow (m : (ℓ : Loc Cert.SampleWindow.nD Cert.SampleWindow.τ Cert.SampleWindow.sig) → Buf (Elt Bits) ℓ) : Prop :=
  True

def Pre_SampleWindowIdeal (m : (ℓ : Loc Cert.SampleWindowIdeal.nD Cert.SampleWindowIdeal.τ Cert.SampleWindowIdeal.sig) → Buf (Elt Ideal) ℓ) : Prop :=
  True

def Pre_SampleWindowReferenceIdeal (m : (ℓ : Loc Cert.SampleWindowReferenceIdeal.nD Cert.SampleWindowReferenceIdeal.τ Cert.SampleWindowReferenceIdeal.sig) → Buf (Elt Ideal) ℓ) : Prop :=
  True

def quiescent_Window [hWindow : Cert.Window.Facts] : Prop :=
  ∀ (m : (ℓ : Loc Cert.Window.nD Cert.Window.τ Cert.Window.sig) → Buf (Elt Bits) ℓ) (g : Dev Cert.Window.nD → PrngReg), Pre_Window m →
    θ_run (Cert.Window.defs (F := Bits)) (onTc (τ := Cert.Window.τ) (Cert.Window.main (F := Bits))) ⟨m, fun _ => 0, g⟩ (fun r => (∀ c : Dev Cert.Window.nD,
      r.2.mem ((c.tc : Thread Cert.Window.nD Cert.Window.τ).loc Cert.Window.main_arg0) = m ((c.tc : Thread Cert.Window.nD Cert.Window.τ).loc Cert.Window.main_arg0)
      ∧ r.2.mem ((c.tc : Thread Cert.Window.nD Cert.Window.τ).loc Cert.Window.main_arg1) = m ((c.tc : Thread Cert.Window.nD Cert.Window.τ).loc Cert.Window.main_arg1)
      ∧ r.2.mem ((c.tc : Thread Cert.Window.nD Cert.Window.τ).loc Cert.Window.main_arg2) = m ((c.tc : Thread Cert.Window.nD Cert.Window.τ).loc Cert.Window.main_arg2))
      ∧ r.2.sem = fun _ => 0)

def quiescent_WindowIdeal [hWindowIdeal : Cert.WindowIdeal.Facts] : Prop :=
  ∀ (m : (ℓ : Loc Cert.WindowIdeal.nD Cert.WindowIdeal.τ Cert.WindowIdeal.sig) → Buf (Elt Ideal) ℓ) (g : Dev Cert.WindowIdeal.nD → PrngReg), Pre_WindowIdeal m →
    θ_run (Cert.WindowIdeal.defs (F := Ideal)) (onTc (τ := Cert.WindowIdeal.τ) (Cert.WindowIdeal.main (F := Ideal))) ⟨m, fun _ => 0, g⟩ (fun r => (∀ c : Dev Cert.WindowIdeal.nD,
      r.2.mem ((c.tc : Thread Cert.WindowIdeal.nD Cert.WindowIdeal.τ).loc Cert.WindowIdeal.main_arg0) = m ((c.tc : Thread Cert.WindowIdeal.nD Cert.WindowIdeal.τ).loc Cert.WindowIdeal.main_arg0)
      ∧ r.2.mem ((c.tc : Thread Cert.WindowIdeal.nD Cert.WindowIdeal.τ).loc Cert.WindowIdeal.main_arg1) = m ((c.tc : Thread Cert.WindowIdeal.nD Cert.WindowIdeal.τ).loc Cert.WindowIdeal.main_arg1)
      ∧ r.2.mem ((c.tc : Thread Cert.WindowIdeal.nD Cert.WindowIdeal.τ).loc Cert.WindowIdeal.main_arg2) = m ((c.tc : Thread Cert.WindowIdeal.nD Cert.WindowIdeal.τ).loc Cert.WindowIdeal.main_arg2))
      ∧ r.2.sem = fun _ => 0)

def quiescent_WindowReferenceIdeal [hWindowReferenceIdeal : Cert.WindowReferenceIdeal.Facts] : Prop :=
  ∀ (m : (ℓ : Loc Cert.WindowReferenceIdeal.nD Cert.WindowReferenceIdeal.τ Cert.WindowReferenceIdeal.sig) → Buf (Elt Ideal) ℓ) (g : Dev Cert.WindowReferenceIdeal.nD → PrngReg), Pre_WindowReferenceIdeal m →
    θ_run (Cert.WindowReferenceIdeal.defs (F := Ideal)) (onTc (τ := Cert.WindowReferenceIdeal.τ) (Cert.WindowReferenceIdeal.main (F := Ideal))) ⟨m, fun _ => 0, g⟩ (fun r => (∀ c : Dev Cert.WindowReferenceIdeal.nD,
      r.2.mem ((c.tc : Thread Cert.WindowReferenceIdeal.nD Cert.WindowReferenceIdeal.τ).loc Cert.WindowReferenceIdeal.main_arg0) = m ((c.tc : Thread Cert.WindowReferenceIdeal.nD Cert.WindowReferenceIdeal.τ).loc Cert.WindowReferenceIdeal.main_arg0)
      ∧ r.2.mem ((c.tc : Thread Cert.WindowReferenceIdeal.nD Cert.WindowReferenceIdeal.τ).loc Cert.WindowReferenceIdeal.main_arg1) = m ((c.tc : Thread Cert.WindowReferenceIdeal.nD Cert.WindowReferenceIdeal.τ).loc Cert.WindowReferenceIdeal.main_arg1)
      ∧ r.2.mem ((c.tc : Thread Cert.WindowReferenceIdeal.nD Cert.WindowReferenceIdeal.τ).loc Cert.WindowReferenceIdeal.main_arg2) = m ((c.tc : Thread Cert.WindowReferenceIdeal.nD Cert.WindowReferenceIdeal.τ).loc Cert.WindowReferenceIdeal.main_arg2))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4)
      ∧ r.2.mem ((c.tc : Thread Cert.MlpReferenceIdeal.nD Cert.MlpReferenceIdeal.τ).loc Cert.MlpReferenceIdeal.main_arg5) = m ((c.tc : Thread Cert.MlpReferenceIdeal.nD Cert.MlpReferenceIdeal.τ).loc Cert.MlpReferenceIdeal.main_arg5))
      ∧ r.2.sem = fun _ => 0)

def quiescent_MlpLast [hMlpLast : Cert.MlpLast.Facts] : Prop :=
  ∀ (m : (ℓ : Loc Cert.MlpLast.nD Cert.MlpLast.τ Cert.MlpLast.sig) → Buf (Elt Bits) ℓ) (g : Dev Cert.MlpLast.nD → PrngReg), Pre_MlpLast m →
    θ_run (Cert.MlpLast.defs (F := Bits)) (onTc (τ := Cert.MlpLast.τ) (Cert.MlpLast.main (F := Bits))) ⟨m, fun _ => 0, g⟩ (fun r => (∀ c : Dev Cert.MlpLast.nD,
      r.2.mem ((c.tc : Thread Cert.MlpLast.nD Cert.MlpLast.τ).loc Cert.MlpLast.main_arg0) = m ((c.tc : Thread Cert.MlpLast.nD Cert.MlpLast.τ).loc Cert.MlpLast.main_arg0)
      ∧ r.2.mem ((c.tc : Thread Cert.MlpLast.nD Cert.MlpLast.τ).loc Cert.MlpLast.main_arg1) = m ((c.tc : Thread Cert.MlpLast.nD Cert.MlpLast.τ).loc Cert.MlpLast.main_arg1)
      ∧ r.2.mem ((c.tc : Thread Cert.MlpLast.nD Cert.MlpLast.τ).loc Cert.MlpLast.main_arg2) = m ((c.tc : Thread Cert.MlpLast.nD Cert.MlpLast.τ).loc Cert.MlpLast.main_arg2)
      ∧ r.2.mem ((c.tc : Thread Cert.MlpLast.nD Cert.MlpLast.τ).loc Cert.MlpLast.main_arg3) = m ((c.tc : Thread Cert.MlpLast.nD Cert.MlpLast.τ).loc Cert.MlpLast.main_arg3)
      ∧ r.2.mem ((c.tc : Thread Cert.MlpLast.nD Cert.MlpLast.τ).loc Cert.MlpLast.main_arg4) = m ((c.tc : Thread Cert.MlpLast.nD Cert.MlpLast.τ).loc Cert.MlpLast.main_arg4)
      ∧ r.2.mem ((c.tc : Thread Cert.MlpLast.nD Cert.MlpLast.τ).loc Cert.MlpLast.main_arg5) = m ((c.tc : Thread Cert.MlpLast.nD Cert.MlpLast.τ).loc Cert.MlpLast.main_arg5))
      ∧ r.2.sem = fun _ => 0)

def quiescent_MlpLastIdeal [hMlpLastIdeal : Cert.MlpLastIdeal.Facts] : Prop :=
  ∀ (m : (ℓ : Loc Cert.MlpLastIdeal.nD Cert.MlpLastIdeal.τ Cert.MlpLastIdeal.sig) → Buf (Elt Ideal) ℓ) (g : Dev Cert.MlpLastIdeal.nD → PrngReg), Pre_MlpLastIdeal m →
    θ_run (Cert.MlpLastIdeal.defs (F := Ideal)) (onTc (τ := Cert.MlpLastIdeal.τ) (Cert.MlpLastIdeal.main (F := Ideal))) ⟨m, fun _ => 0, g⟩ (fun r => (∀ c : Dev Cert.MlpLastIdeal.nD,
      r.2.mem ((c.tc : Thread Cert.MlpLastIdeal.nD Cert.MlpLastIdeal.τ).loc Cert.MlpLastIdeal.main_arg0) = m ((c.tc : Thread Cert.MlpLastIdeal.nD Cert.MlpLastIdeal.τ).loc Cert.MlpLastIdeal.main_arg0)
      ∧ r.2.mem ((c.tc : Thread Cert.MlpLastIdeal.nD Cert.MlpLastIdeal.τ).loc Cert.MlpLastIdeal.main_arg1) = m ((c.tc : Thread Cert.MlpLastIdeal.nD Cert.MlpLastIdeal.τ).loc Cert.MlpLastIdeal.main_arg1)
      ∧ r.2.mem ((c.tc : Thread Cert.MlpLastIdeal.nD Cert.MlpLastIdeal.τ).loc Cert.MlpLastIdeal.main_arg2) = m ((c.tc : Thread Cert.MlpLastIdeal.nD Cert.MlpLastIdeal.τ).loc Cert.MlpLastIdeal.main_arg2)
      ∧ r.2.mem ((c.tc : Thread Cert.MlpLastIdeal.nD Cert.MlpLastIdeal.τ).loc Cert.MlpLastIdeal.main_arg3) = m ((c.tc : Thread Cert.MlpLastIdeal.nD Cert.MlpLastIdeal.τ).loc Cert.MlpLastIdeal.main_arg3)
      ∧ r.2.mem ((c.tc : Thread Cert.MlpLastIdeal.nD Cert.MlpLastIdeal.τ).loc Cert.MlpLastIdeal.main_arg4) = m ((c.tc : Thread Cert.MlpLastIdeal.nD Cert.MlpLastIdeal.τ).loc Cert.MlpLastIdeal.main_arg4)
      ∧ r.2.mem ((c.tc : Thread Cert.MlpLastIdeal.nD Cert.MlpLastIdeal.τ).loc Cert.MlpLastIdeal.main_arg5) = m ((c.tc : Thread Cert.MlpLastIdeal.nD Cert.MlpLastIdeal.τ).loc Cert.MlpLastIdeal.main_arg5))
      ∧ r.2.sem = fun _ => 0)

def quiescent_MlpLastReferenceIdeal [hMlpLastReferenceIdeal : Cert.MlpLastReferenceIdeal.Facts] : Prop :=
  ∀ (m : (ℓ : Loc Cert.MlpLastReferenceIdeal.nD Cert.MlpLastReferenceIdeal.τ Cert.MlpLastReferenceIdeal.sig) → Buf (Elt Ideal) ℓ) (g : Dev Cert.MlpLastReferenceIdeal.nD → PrngReg), Pre_MlpLastReferenceIdeal m →
    θ_run (Cert.MlpLastReferenceIdeal.defs (F := Ideal)) (onTc (τ := Cert.MlpLastReferenceIdeal.τ) (Cert.MlpLastReferenceIdeal.main (F := Ideal))) ⟨m, fun _ => 0, g⟩ (fun r => (∀ c : Dev Cert.MlpLastReferenceIdeal.nD,
      r.2.mem ((c.tc : Thread Cert.MlpLastReferenceIdeal.nD Cert.MlpLastReferenceIdeal.τ).loc Cert.MlpLastReferenceIdeal.main_arg0) = m ((c.tc : Thread Cert.MlpLastReferenceIdeal.nD Cert.MlpLastReferenceIdeal.τ).loc Cert.MlpLastReferenceIdeal.main_arg0)
      ∧ r.2.mem ((c.tc : Thread Cert.MlpLastReferenceIdeal.nD Cert.MlpLastReferenceIdeal.τ).loc Cert.MlpLastReferenceIdeal.main_arg1) = m ((c.tc : Thread Cert.MlpLastReferenceIdeal.nD Cert.MlpLastReferenceIdeal.τ).loc Cert.MlpLastReferenceIdeal.main_arg1)
      ∧ r.2.mem ((c.tc : Thread Cert.MlpLastReferenceIdeal.nD Cert.MlpLastReferenceIdeal.τ).loc Cert.MlpLastReferenceIdeal.main_arg2) = m ((c.tc : Thread Cert.MlpLastReferenceIdeal.nD Cert.MlpLastReferenceIdeal.τ).loc Cert.MlpLastReferenceIdeal.main_arg2)
      ∧ r.2.mem ((c.tc : Thread Cert.MlpLastReferenceIdeal.nD Cert.MlpLastReferenceIdeal.τ).loc Cert.MlpLastReferenceIdeal.main_arg3) = m ((c.tc : Thread Cert.MlpLastReferenceIdeal.nD Cert.MlpLastReferenceIdeal.τ).loc Cert.MlpLastReferenceIdeal.main_arg3)
      ∧ r.2.mem ((c.tc : Thread Cert.MlpLastReferenceIdeal.nD Cert.MlpLastReferenceIdeal.τ).loc Cert.MlpLastReferenceIdeal.main_arg4) = m ((c.tc : Thread Cert.MlpLastReferenceIdeal.nD Cert.MlpLastReferenceIdeal.τ).loc Cert.MlpLastReferenceIdeal.main_arg4)
      ∧ r.2.mem ((c.tc : Thread Cert.MlpLastReferenceIdeal.nD Cert.MlpLastReferenceIdeal.τ).loc Cert.MlpLastReferenceIdeal.main_arg5) = m ((c.tc : Thread Cert.MlpLastReferenceIdeal.nD Cert.MlpLastReferenceIdeal.τ).loc Cert.MlpLastReferenceIdeal.main_arg5))
      ∧ r.2.sem = fun _ => 0)

def quiescent_InEven [hInEven : Cert.InEven.Facts] : Prop :=
  ∀ (m : (ℓ : Loc Cert.InEven.nD Cert.InEven.τ Cert.InEven.sig) → Buf (Elt Bits) ℓ) (g : Dev Cert.InEven.nD → PrngReg), Pre_InEven m →
    θ_run (Cert.InEven.defs (F := Bits)) (onTc (τ := Cert.InEven.τ) (Cert.InEven.main (F := Bits))) ⟨m, fun _ => 0, g⟩ (fun r => (∀ c : Dev Cert.InEven.nD,
      r.2.mem ((c.tc : Thread Cert.InEven.nD Cert.InEven.τ).loc Cert.InEven.main_arg0) = m ((c.tc : Thread Cert.InEven.nD Cert.InEven.τ).loc Cert.InEven.main_arg0)
      ∧ r.2.mem ((c.tc : Thread Cert.InEven.nD Cert.InEven.τ).loc Cert.InEven.main_arg1) = m ((c.tc : Thread Cert.InEven.nD Cert.InEven.τ).loc Cert.InEven.main_arg1)
      ∧ r.2.mem ((c.tc : Thread Cert.InEven.nD Cert.InEven.τ).loc Cert.InEven.main_arg2) = m ((c.tc : Thread Cert.InEven.nD Cert.InEven.τ).loc Cert.InEven.main_arg2)
      ∧ r.2.mem ((c.tc : Thread Cert.InEven.nD Cert.InEven.τ).loc Cert.InEven.main_arg3) = m ((c.tc : Thread Cert.InEven.nD Cert.InEven.τ).loc Cert.InEven.main_arg3)
      ∧ r.2.mem ((c.tc : Thread Cert.InEven.nD Cert.InEven.τ).loc Cert.InEven.main_arg4) = m ((c.tc : Thread Cert.InEven.nD Cert.InEven.τ).loc Cert.InEven.main_arg4))
      ∧ r.2.sem = fun _ => 0)

def quiescent_InEvenIdeal [hInEvenIdeal : Cert.InEvenIdeal.Facts] : Prop :=
  ∀ (m : (ℓ : Loc Cert.InEvenIdeal.nD Cert.InEvenIdeal.τ Cert.InEvenIdeal.sig) → Buf (Elt Ideal) ℓ) (g : Dev Cert.InEvenIdeal.nD → PrngReg), Pre_InEvenIdeal m →
    θ_run (Cert.InEvenIdeal.defs (F := Ideal)) (onTc (τ := Cert.InEvenIdeal.τ) (Cert.InEvenIdeal.main (F := Ideal))) ⟨m, fun _ => 0, g⟩ (fun r => (∀ c : Dev Cert.InEvenIdeal.nD,
      r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
      ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1)
      ∧ r.2.mem ((c.tc : Thread Cert.InEvenIdeal.nD Cert.InEvenIdeal.τ).loc Cert.InEvenIdeal.main_arg2) = m ((c.tc : Thread Cert.InEvenIdeal.nD Cert.InEvenIdeal.τ).loc Cert.InEvenIdeal.main_arg2)
      ∧ r.2.mem ((c.tc : Thread Cert.InEvenIdeal.nD Cert.InEvenIdeal.τ).loc Cert.InEvenIdeal.main_arg3) = m ((c.tc : Thread Cert.InEvenIdeal.nD Cert.InEvenIdeal.τ).loc Cert.InEvenIdeal.main_arg3)
      ∧ r.2.mem ((c.tc : Thread Cert.InEvenIdeal.nD Cert.InEvenIdeal.τ).loc Cert.InEvenIdeal.main_arg4) = m ((c.tc : Thread Cert.InEvenIdeal.nD Cert.InEvenIdeal.τ).loc Cert.InEvenIdeal.main_arg4))
      ∧ r.2.sem = fun _ => 0)

def quiescent_InEvenReferenceIdeal [hInEvenReferenceIdeal : Cert.InEvenReferenceIdeal.Facts] : Prop :=
  ∀ (m : (ℓ : Loc Cert.InEvenReferenceIdeal.nD Cert.InEvenReferenceIdeal.τ Cert.InEvenReferenceIdeal.sig) → Buf (Elt Ideal) ℓ) (g : Dev Cert.InEvenReferenceIdeal.nD → PrngReg), Pre_InEvenReferenceIdeal m →
    θ_run (Cert.InEvenReferenceIdeal.defs (F := Ideal)) (onTc (τ := Cert.InEvenReferenceIdeal.τ) (Cert.InEvenReferenceIdeal.main (F := Ideal))) ⟨m, fun _ => 0, g⟩ (fun r => (∀ c : Dev Cert.InEvenReferenceIdeal.nD,
      r.2.mem ((c.tc : Thread Cert.InEvenReferenceIdeal.nD Cert.InEvenReferenceIdeal.τ).loc Cert.InEvenReferenceIdeal.main_arg0) = m ((c.tc : Thread Cert.InEvenReferenceIdeal.nD Cert.InEvenReferenceIdeal.τ).loc Cert.InEvenReferenceIdeal.main_arg0)
      ∧ r.2.mem ((c.tc : Thread Cert.InEvenReferenceIdeal.nD Cert.InEvenReferenceIdeal.τ).loc Cert.InEvenReferenceIdeal.main_arg1) = m ((c.tc : Thread Cert.InEvenReferenceIdeal.nD Cert.InEvenReferenceIdeal.τ).loc Cert.InEvenReferenceIdeal.main_arg1)
      ∧ r.2.mem ((c.tc : Thread Cert.InEvenReferenceIdeal.nD Cert.InEvenReferenceIdeal.τ).loc Cert.InEvenReferenceIdeal.main_arg2) = m ((c.tc : Thread Cert.InEvenReferenceIdeal.nD Cert.InEvenReferenceIdeal.τ).loc Cert.InEvenReferenceIdeal.main_arg2)
      ∧ r.2.mem ((c.tc : Thread Cert.InEvenReferenceIdeal.nD Cert.InEvenReferenceIdeal.τ).loc Cert.InEvenReferenceIdeal.main_arg3) = m ((c.tc : Thread Cert.InEvenReferenceIdeal.nD Cert.InEvenReferenceIdeal.τ).loc Cert.InEvenReferenceIdeal.main_arg3)
      ∧ r.2.mem ((c.tc : Thread Cert.InEvenReferenceIdeal.nD Cert.InEvenReferenceIdeal.τ).loc Cert.InEvenReferenceIdeal.main_arg4) = m ((c.tc : Thread Cert.InEvenReferenceIdeal.nD Cert.InEvenReferenceIdeal.τ).loc Cert.InEvenReferenceIdeal.main_arg4))
      ∧ r.2.sem = fun _ => 0)

def quiescent_InOdd [hInOdd : Cert.InOdd.Facts] : Prop :=
  ∀ (m : (ℓ : Loc Cert.InOdd.nD Cert.InOdd.τ Cert.InOdd.sig) → Buf (Elt Bits) ℓ) (g : Dev Cert.InOdd.nD → PrngReg), Pre_InOdd m →
    θ_run (Cert.InOdd.defs (F := Bits)) (onTc (τ := Cert.InOdd.τ) (Cert.InOdd.main (F := Bits))) ⟨m, fun _ => 0, g⟩ (fun r => (∀ c : Dev Cert.InOdd.nD,
      r.2.mem ((c.tc : Thread Cert.InOdd.nD Cert.InOdd.τ).loc Cert.InOdd.main_arg0) = m ((c.tc : Thread Cert.InOdd.nD Cert.InOdd.τ).loc Cert.InOdd.main_arg0)
      ∧ r.2.mem ((c.tc : Thread Cert.InOdd.nD Cert.InOdd.τ).loc Cert.InOdd.main_arg1) = m ((c.tc : Thread Cert.InOdd.nD Cert.InOdd.τ).loc Cert.InOdd.main_arg1)
      ∧ r.2.mem ((c.tc : Thread Cert.InOdd.nD Cert.InOdd.τ).loc Cert.InOdd.main_arg2) = m ((c.tc : Thread Cert.InOdd.nD Cert.InOdd.τ).loc Cert.InOdd.main_arg2)
      ∧ r.2.mem ((c.tc : Thread Cert.InOdd.nD Cert.InOdd.τ).loc Cert.InOdd.main_arg3) = m ((c.tc : Thread Cert.InOdd.nD Cert.InOdd.τ).loc Cert.InOdd.main_arg3)
      ∧ r.2.mem ((c.tc : Thread Cert.InOdd.nD Cert.InOdd.τ).loc Cert.InOdd.main_arg4) = m ((c.tc : Thread Cert.InOdd.nD Cert.InOdd.τ).loc Cert.InOdd.main_arg4))
      ∧ r.2.sem = fun _ => 0)

def quiescent_InOddIdeal [hInOddIdeal : Cert.InOddIdeal.Facts] : Prop :=
  ∀ (m : (ℓ : Loc Cert.InOddIdeal.nD Cert.InOddIdeal.τ Cert.InOddIdeal.sig) → Buf (Elt Ideal) ℓ) (g : Dev Cert.InOddIdeal.nD → PrngReg), Pre_InOddIdeal m →
    θ_run (Cert.InOddIdeal.defs (F := Ideal)) (onTc (τ := Cert.InOddIdeal.τ) (Cert.InOddIdeal.main (F := Ideal))) ⟨m, fun _ => 0, g⟩ (fun r => (∀ c : Dev Cert.InOddIdeal.nD,
      r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
      ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1)
      ∧ r.2.mem ((c.tc : Thread Cert.InOddIdeal.nD Cert.InOddIdeal.τ).loc Cert.InOddIdeal.main_arg2) = m ((c.tc : Thread Cert.InOddIdeal.nD Cert.InOddIdeal.τ).loc Cert.InOddIdeal.main_arg2)
      ∧ r.2.mem ((c.tc : Thread Cert.InOddIdeal.nD Cert.InOddIdeal.τ).loc Cert.InOddIdeal.main_arg3) = m ((c.tc : Thread Cert.InOddIdeal.nD Cert.InOddIdeal.τ).loc Cert.InOddIdeal.main_arg3)
      ∧ r.2.mem ((c.tc : Thread Cert.InOddIdeal.nD Cert.InOddIdeal.τ).loc Cert.InOddIdeal.main_arg4) = m ((c.tc : Thread Cert.InOddIdeal.nD Cert.InOddIdeal.τ).loc Cert.InOddIdeal.main_arg4))
      ∧ r.2.sem = fun _ => 0)

def quiescent_InOddReferenceIdeal [hInOddReferenceIdeal : Cert.InOddReferenceIdeal.Facts] : Prop :=
  ∀ (m : (ℓ : Loc Cert.InOddReferenceIdeal.nD Cert.InOddReferenceIdeal.τ Cert.InOddReferenceIdeal.sig) → Buf (Elt Ideal) ℓ) (g : Dev Cert.InOddReferenceIdeal.nD → PrngReg), Pre_InOddReferenceIdeal m →
    θ_run (Cert.InOddReferenceIdeal.defs (F := Ideal)) (onTc (τ := Cert.InOddReferenceIdeal.τ) (Cert.InOddReferenceIdeal.main (F := Ideal))) ⟨m, fun _ => 0, g⟩ (fun r => (∀ c : Dev Cert.InOddReferenceIdeal.nD,
      r.2.mem ((c.tc : Thread Cert.InOddReferenceIdeal.nD Cert.InOddReferenceIdeal.τ).loc Cert.InOddReferenceIdeal.main_arg0) = m ((c.tc : Thread Cert.InOddReferenceIdeal.nD Cert.InOddReferenceIdeal.τ).loc Cert.InOddReferenceIdeal.main_arg0)
      ∧ r.2.mem ((c.tc : Thread Cert.InOddReferenceIdeal.nD Cert.InOddReferenceIdeal.τ).loc Cert.InOddReferenceIdeal.main_arg1) = m ((c.tc : Thread Cert.InOddReferenceIdeal.nD Cert.InOddReferenceIdeal.τ).loc Cert.InOddReferenceIdeal.main_arg1)
      ∧ r.2.mem ((c.tc : Thread Cert.InOddReferenceIdeal.nD Cert.InOddReferenceIdeal.τ).loc Cert.InOddReferenceIdeal.main_arg2) = m ((c.tc : Thread Cert.InOddReferenceIdeal.nD Cert.InOddReferenceIdeal.τ).loc Cert.InOddReferenceIdeal.main_arg2)
      ∧ r.2.mem ((c.tc : Thread Cert.InOddReferenceIdeal.nD Cert.InOddReferenceIdeal.τ).loc Cert.InOddReferenceIdeal.main_arg3) = m ((c.tc : Thread Cert.InOddReferenceIdeal.nD Cert.InOddReferenceIdeal.τ).loc Cert.InOddReferenceIdeal.main_arg3)
      ∧ r.2.mem ((c.tc : Thread Cert.InOddReferenceIdeal.nD Cert.InOddReferenceIdeal.τ).loc Cert.InOddReferenceIdeal.main_arg4) = m ((c.tc : Thread Cert.InOddReferenceIdeal.nD Cert.InOddReferenceIdeal.τ).loc Cert.InOddReferenceIdeal.main_arg4))
      ∧ r.2.sem = fun _ => 0)

def quiescent_OutEven [hOutEven : Cert.OutEven.Facts] : Prop :=
  ∀ (m : (ℓ : Loc Cert.OutEven.nD Cert.OutEven.τ Cert.OutEven.sig) → Buf (Elt Bits) ℓ) (g : Dev Cert.OutEven.nD → PrngReg), Pre_OutEven m →
    θ_run (Cert.OutEven.defs (F := Bits)) (onTc (τ := Cert.OutEven.τ) (Cert.OutEven.main (F := Bits))) ⟨m, fun _ => 0, g⟩ (fun r => (∀ c : Dev Cert.OutEven.nD,
      r.2.mem ((c.tc : Thread Cert.OutEven.nD Cert.OutEven.τ).loc Cert.OutEven.main_arg0) = m ((c.tc : Thread Cert.OutEven.nD Cert.OutEven.τ).loc Cert.OutEven.main_arg0)
      ∧ r.2.mem ((c.tc : Thread Cert.OutEven.nD Cert.OutEven.τ).loc Cert.OutEven.main_arg1) = m ((c.tc : Thread Cert.OutEven.nD Cert.OutEven.τ).loc Cert.OutEven.main_arg1)
      ∧ r.2.mem ((c.tc : Thread Cert.OutEven.nD Cert.OutEven.τ).loc Cert.OutEven.main_arg2) = m ((c.tc : Thread Cert.OutEven.nD Cert.OutEven.τ).loc Cert.OutEven.main_arg2)
      ∧ r.2.mem ((c.tc : Thread Cert.OutEven.nD Cert.OutEven.τ).loc Cert.OutEven.main_arg3) = m ((c.tc : Thread Cert.OutEven.nD Cert.OutEven.τ).loc Cert.OutEven.main_arg3)
      ∧ r.2.mem ((c.tc : Thread Cert.OutEven.nD Cert.OutEven.τ).loc Cert.OutEven.main_arg4) = m ((c.tc : Thread Cert.OutEven.nD Cert.OutEven.τ).loc Cert.OutEven.main_arg4)
      ∧ r.2.mem ((c.tc : Thread Cert.OutEven.nD Cert.OutEven.τ).loc Cert.OutEven.main_arg5) = m ((c.tc : Thread Cert.OutEven.nD Cert.OutEven.τ).loc Cert.OutEven.main_arg5)
      ∧ r.2.mem ((c.tc : Thread Cert.OutEven.nD Cert.OutEven.τ).loc Cert.OutEven.main_arg6) = m ((c.tc : Thread Cert.OutEven.nD Cert.OutEven.τ).loc Cert.OutEven.main_arg6))
      ∧ r.2.sem = fun _ => 0)

def quiescent_OutEvenIdeal [hOutEvenIdeal : Cert.OutEvenIdeal.Facts] : Prop :=
  ∀ (m : (ℓ : Loc Cert.OutEvenIdeal.nD Cert.OutEvenIdeal.τ Cert.OutEvenIdeal.sig) → Buf (Elt Ideal) ℓ) (g : Dev Cert.OutEvenIdeal.nD → PrngReg), Pre_OutEvenIdeal m →
    θ_run (Cert.OutEvenIdeal.defs (F := Ideal)) (onTc (τ := Cert.OutEvenIdeal.τ) (Cert.OutEvenIdeal.main (F := Ideal))) ⟨m, fun _ => 0, g⟩ (fun r => (∀ c : Dev Cert.OutEvenIdeal.nD,
      r.2.mem ((c.tc : Thread Cert.OutEvenIdeal.nD Cert.OutEvenIdeal.τ).loc Cert.OutEvenIdeal.main_arg0) = m ((c.tc : Thread Cert.OutEvenIdeal.nD Cert.OutEvenIdeal.τ).loc Cert.OutEvenIdeal.main_arg0)
      ∧ r.2.mem ((c.tc : Thread Cert.OutEvenIdeal.nD Cert.OutEvenIdeal.τ).loc Cert.OutEvenIdeal.main_arg1) = m ((c.tc : Thread Cert.OutEvenIdeal.nD Cert.OutEvenIdeal.τ).loc Cert.OutEvenIdeal.main_arg1)
      ∧ r.2.mem ((c.tc : Thread Cert.OutEvenIdeal.nD Cert.OutEvenIdeal.τ).loc Cert.OutEvenIdeal.main_arg2) = m ((c.tc : Thread Cert.OutEvenIdeal.nD Cert.OutEvenIdeal.τ).loc Cert.OutEvenIdeal.main_arg2)
      ∧ r.2.mem ((c.tc : Thread Cert.OutEvenIdeal.nD Cert.OutEvenIdeal.τ).loc Cert.OutEvenIdeal.main_arg3) = m ((c.tc : Thread Cert.OutEvenIdeal.nD Cert.OutEvenIdeal.τ).loc Cert.OutEvenIdeal.main_arg3)
      ∧ r.2.mem ((c.tc : Thread Cert.OutEvenIdeal.nD Cert.OutEvenIdeal.τ).loc Cert.OutEvenIdeal.main_arg4) = m ((c.tc : Thread Cert.OutEvenIdeal.nD Cert.OutEvenIdeal.τ).loc Cert.OutEvenIdeal.main_arg4)
      ∧ r.2.mem ((c.tc : Thread Cert.OutEvenIdeal.nD Cert.OutEvenIdeal.τ).loc Cert.OutEvenIdeal.main_arg5) = m ((c.tc : Thread Cert.OutEvenIdeal.nD Cert.OutEvenIdeal.τ).loc Cert.OutEvenIdeal.main_arg5)
      ∧ r.2.mem ((c.tc : Thread Cert.OutEvenIdeal.nD Cert.OutEvenIdeal.τ).loc Cert.OutEvenIdeal.main_arg6) = m ((c.tc : Thread Cert.OutEvenIdeal.nD Cert.OutEvenIdeal.τ).loc Cert.OutEvenIdeal.main_arg6))
      ∧ r.2.sem = fun _ => 0)

def quiescent_OutEvenReferenceIdeal [hOutEvenReferenceIdeal : Cert.OutEvenReferenceIdeal.Facts] : Prop :=
  ∀ (m : (ℓ : Loc Cert.OutEvenReferenceIdeal.nD Cert.OutEvenReferenceIdeal.τ Cert.OutEvenReferenceIdeal.sig) → Buf (Elt Ideal) ℓ) (g : Dev Cert.OutEvenReferenceIdeal.nD → PrngReg), Pre_OutEvenReferenceIdeal m →
    θ_run (Cert.OutEvenReferenceIdeal.defs (F := Ideal)) (onTc (τ := Cert.OutEvenReferenceIdeal.τ) (Cert.OutEvenReferenceIdeal.main (F := Ideal))) ⟨m, fun _ => 0, g⟩ (fun r => (∀ c : Dev Cert.OutEvenReferenceIdeal.nD,
      r.2.mem ((c.tc : Thread Cert.OutEvenReferenceIdeal.nD Cert.OutEvenReferenceIdeal.τ).loc Cert.OutEvenReferenceIdeal.main_arg0) = m ((c.tc : Thread Cert.OutEvenReferenceIdeal.nD Cert.OutEvenReferenceIdeal.τ).loc Cert.OutEvenReferenceIdeal.main_arg0)
      ∧ r.2.mem ((c.tc : Thread Cert.OutEvenReferenceIdeal.nD Cert.OutEvenReferenceIdeal.τ).loc Cert.OutEvenReferenceIdeal.main_arg1) = m ((c.tc : Thread Cert.OutEvenReferenceIdeal.nD Cert.OutEvenReferenceIdeal.τ).loc Cert.OutEvenReferenceIdeal.main_arg1)
      ∧ r.2.mem ((c.tc : Thread Cert.OutEvenReferenceIdeal.nD Cert.OutEvenReferenceIdeal.τ).loc Cert.OutEvenReferenceIdeal.main_arg2) = m ((c.tc : Thread Cert.OutEvenReferenceIdeal.nD Cert.OutEvenReferenceIdeal.τ).loc Cert.OutEvenReferenceIdeal.main_arg2)
      ∧ r.2.mem ((c.tc : Thread Cert.OutEvenReferenceIdeal.nD Cert.OutEvenReferenceIdeal.τ).loc Cert.OutEvenReferenceIdeal.main_arg3) = m ((c.tc : Thread Cert.OutEvenReferenceIdeal.nD Cert.OutEvenReferenceIdeal.τ).loc Cert.OutEvenReferenceIdeal.main_arg3)
      ∧ r.2.mem ((c.tc : Thread Cert.OutEvenReferenceIdeal.nD Cert.OutEvenReferenceIdeal.τ).loc Cert.OutEvenReferenceIdeal.main_arg4) = m ((c.tc : Thread Cert.OutEvenReferenceIdeal.nD Cert.OutEvenReferenceIdeal.τ).loc Cert.OutEvenReferenceIdeal.main_arg4)
      ∧ r.2.mem ((c.tc : Thread Cert.OutEvenReferenceIdeal.nD Cert.OutEvenReferenceIdeal.τ).loc Cert.OutEvenReferenceIdeal.main_arg5) = m ((c.tc : Thread Cert.OutEvenReferenceIdeal.nD Cert.OutEvenReferenceIdeal.τ).loc Cert.OutEvenReferenceIdeal.main_arg5)
      ∧ r.2.mem ((c.tc : Thread Cert.OutEvenReferenceIdeal.nD Cert.OutEvenReferenceIdeal.τ).loc Cert.OutEvenReferenceIdeal.main_arg6) = m ((c.tc : Thread Cert.OutEvenReferenceIdeal.nD Cert.OutEvenReferenceIdeal.τ).loc Cert.OutEvenReferenceIdeal.main_arg6))
      ∧ r.2.sem = fun _ => 0)

def quiescent_OutOdd [hOutOdd : Cert.OutOdd.Facts] : Prop :=
  ∀ (m : (ℓ : Loc Cert.OutOdd.nD Cert.OutOdd.τ Cert.OutOdd.sig) → Buf (Elt Bits) ℓ) (g : Dev Cert.OutOdd.nD → PrngReg), Pre_OutOdd m →
    θ_run (Cert.OutOdd.defs (F := Bits)) (onTc (τ := Cert.OutOdd.τ) (Cert.OutOdd.main (F := Bits))) ⟨m, fun _ => 0, g⟩ (fun r => (∀ c : Dev Cert.OutOdd.nD,
      r.2.mem ((c.tc : Thread Cert.OutOdd.nD Cert.OutOdd.τ).loc Cert.OutOdd.main_arg0) = m ((c.tc : Thread Cert.OutOdd.nD Cert.OutOdd.τ).loc Cert.OutOdd.main_arg0)
      ∧ r.2.mem ((c.tc : Thread Cert.OutOdd.nD Cert.OutOdd.τ).loc Cert.OutOdd.main_arg1) = m ((c.tc : Thread Cert.OutOdd.nD Cert.OutOdd.τ).loc Cert.OutOdd.main_arg1)
      ∧ r.2.mem ((c.tc : Thread Cert.OutOdd.nD Cert.OutOdd.τ).loc Cert.OutOdd.main_arg2) = m ((c.tc : Thread Cert.OutOdd.nD Cert.OutOdd.τ).loc Cert.OutOdd.main_arg2)
      ∧ r.2.mem ((c.tc : Thread Cert.OutOdd.nD Cert.OutOdd.τ).loc Cert.OutOdd.main_arg3) = m ((c.tc : Thread Cert.OutOdd.nD Cert.OutOdd.τ).loc Cert.OutOdd.main_arg3)
      ∧ r.2.mem ((c.tc : Thread Cert.OutOdd.nD Cert.OutOdd.τ).loc Cert.OutOdd.main_arg4) = m ((c.tc : Thread Cert.OutOdd.nD Cert.OutOdd.τ).loc Cert.OutOdd.main_arg4))
      ∧ r.2.sem = fun _ => 0)

def quiescent_OutOddIdeal [hOutOddIdeal : Cert.OutOddIdeal.Facts] : Prop :=
  ∀ (m : (ℓ : Loc Cert.OutOddIdeal.nD Cert.OutOddIdeal.τ Cert.OutOddIdeal.sig) → Buf (Elt Ideal) ℓ) (g : Dev Cert.OutOddIdeal.nD → PrngReg), Pre_OutOddIdeal m →
    θ_run (Cert.OutOddIdeal.defs (F := Ideal)) (onTc (τ := Cert.OutOddIdeal.τ) (Cert.OutOddIdeal.main (F := Ideal))) ⟨m, fun _ => 0, g⟩ (fun r => (∀ c : Dev Cert.OutOddIdeal.nD,
      r.2.mem ((c.tc : Thread Cert.OutOddIdeal.nD Cert.OutOddIdeal.τ).loc Cert.OutOddIdeal.main_arg0) = m ((c.tc : Thread Cert.OutOddIdeal.nD Cert.OutOddIdeal.τ).loc Cert.OutOddIdeal.main_arg0)
      ∧ r.2.mem ((c.tc : Thread Cert.OutOddIdeal.nD Cert.OutOddIdeal.τ).loc Cert.OutOddIdeal.main_arg1) = m ((c.tc : Thread Cert.OutOddIdeal.nD Cert.OutOddIdeal.τ).loc Cert.OutOddIdeal.main_arg1)
      ∧ r.2.mem ((c.tc : Thread Cert.OutOddIdeal.nD Cert.OutOddIdeal.τ).loc Cert.OutOddIdeal.main_arg2) = m ((c.tc : Thread Cert.OutOddIdeal.nD Cert.OutOddIdeal.τ).loc Cert.OutOddIdeal.main_arg2)
      ∧ r.2.mem ((c.tc : Thread Cert.OutOddIdeal.nD Cert.OutOddIdeal.τ).loc Cert.OutOddIdeal.main_arg3) = m ((c.tc : Thread Cert.OutOddIdeal.nD Cert.OutOddIdeal.τ).loc Cert.OutOddIdeal.main_arg3)
      ∧ r.2.mem ((c.tc : Thread Cert.OutOddIdeal.nD Cert.OutOddIdeal.τ).loc Cert.OutOddIdeal.main_arg4) = m ((c.tc : Thread Cert.OutOddIdeal.nD Cert.OutOddIdeal.τ).loc Cert.OutOddIdeal.main_arg4))
      ∧ r.2.sem = fun _ => 0)

def quiescent_OutOddReferenceIdeal [hOutOddReferenceIdeal : Cert.OutOddReferenceIdeal.Facts] : Prop :=
  ∀ (m : (ℓ : Loc Cert.OutOddReferenceIdeal.nD Cert.OutOddReferenceIdeal.τ Cert.OutOddReferenceIdeal.sig) → Buf (Elt Ideal) ℓ) (g : Dev Cert.OutOddReferenceIdeal.nD → PrngReg), Pre_OutOddReferenceIdeal m →
    θ_run (Cert.OutOddReferenceIdeal.defs (F := Ideal)) (onTc (τ := Cert.OutOddReferenceIdeal.τ) (Cert.OutOddReferenceIdeal.main (F := Ideal))) ⟨m, fun _ => 0, g⟩ (fun r => (∀ c : Dev Cert.OutOddReferenceIdeal.nD,
      r.2.mem ((c.tc : Thread Cert.OutOddReferenceIdeal.nD Cert.OutOddReferenceIdeal.τ).loc Cert.OutOddReferenceIdeal.main_arg0) = m ((c.tc : Thread Cert.OutOddReferenceIdeal.nD Cert.OutOddReferenceIdeal.τ).loc Cert.OutOddReferenceIdeal.main_arg0)
      ∧ r.2.mem ((c.tc : Thread Cert.OutOddReferenceIdeal.nD Cert.OutOddReferenceIdeal.τ).loc Cert.OutOddReferenceIdeal.main_arg1) = m ((c.tc : Thread Cert.OutOddReferenceIdeal.nD Cert.OutOddReferenceIdeal.τ).loc Cert.OutOddReferenceIdeal.main_arg1)
      ∧ r.2.mem ((c.tc : Thread Cert.OutOddReferenceIdeal.nD Cert.OutOddReferenceIdeal.τ).loc Cert.OutOddReferenceIdeal.main_arg2) = m ((c.tc : Thread Cert.OutOddReferenceIdeal.nD Cert.OutOddReferenceIdeal.τ).loc Cert.OutOddReferenceIdeal.main_arg2)
      ∧ r.2.mem ((c.tc : Thread Cert.OutOddReferenceIdeal.nD Cert.OutOddReferenceIdeal.τ).loc Cert.OutOddReferenceIdeal.main_arg3) = m ((c.tc : Thread Cert.OutOddReferenceIdeal.nD Cert.OutOddReferenceIdeal.τ).loc Cert.OutOddReferenceIdeal.main_arg3)
      ∧ r.2.mem ((c.tc : Thread Cert.OutOddReferenceIdeal.nD Cert.OutOddReferenceIdeal.τ).loc Cert.OutOddReferenceIdeal.main_arg4) = m ((c.tc : Thread Cert.OutOddReferenceIdeal.nD Cert.OutOddReferenceIdeal.τ).loc Cert.OutOddReferenceIdeal.main_arg4))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaReferenceIdeal [hAdaReferenceIdeal : Cert.AdaReferenceIdeal.Facts] : Prop :=
  ∀ (m : (ℓ : Loc Cert.AdaReferenceIdeal.nD Cert.AdaReferenceIdeal.τ Cert.AdaReferenceIdeal.sig) → Buf (Elt Ideal) ℓ) (g : Dev Cert.AdaReferenceIdeal.nD → PrngReg), Pre_AdaReferenceIdeal m →
    θ_run (Cert.AdaReferenceIdeal.defs (F := Ideal)) (onTc (τ := Cert.AdaReferenceIdeal.τ) (Cert.AdaReferenceIdeal.main (F := Ideal))) ⟨m, fun _ => 0, g⟩ (fun r => (∀ c : Dev Cert.AdaReferenceIdeal.nD,
      r.2.mem ((c.tc : Thread Cert.AdaReferenceIdeal.nD Cert.AdaReferenceIdeal.τ).loc Cert.AdaReferenceIdeal.main_arg0) = m ((c.tc : Thread Cert.AdaReferenceIdeal.nD Cert.AdaReferenceIdeal.τ).loc Cert.AdaReferenceIdeal.main_arg0)
      ∧ r.2.mem ((c.tc : Thread Cert.AdaReferenceIdeal.nD Cert.AdaReferenceIdeal.τ).loc Cert.AdaReferenceIdeal.main_arg1) = m ((c.tc : Thread Cert.AdaReferenceIdeal.nD Cert.AdaReferenceIdeal.τ).loc Cert.AdaReferenceIdeal.main_arg1)
      ∧ r.2.mem ((c.tc : Thread Cert.AdaReferenceIdeal.nD Cert.AdaReferenceIdeal.τ).loc Cert.AdaReferenceIdeal.main_arg2) = m ((c.tc : Thread Cert.AdaReferenceIdeal.nD Cert.AdaReferenceIdeal.τ).loc Cert.AdaReferenceIdeal.main_arg2))
      ∧ r.2.sem = fun _ => 0)

def quiescent_Compress [hCompress : Cert.Compress.Facts] : Prop :=
  ∀ (m : (ℓ : Loc Cert.Compress.nD Cert.Compress.τ Cert.Compress.sig) → Buf (Elt Bits) ℓ) (g : Dev Cert.Compress.nD → PrngReg), Pre_Compress m →
    θ_run (Cert.Compress.defs (F := Bits)) (onTc (τ := Cert.Compress.τ) (Cert.Compress.main (F := Bits))) ⟨m, fun _ => 0, g⟩ (fun r => (∀ c : Dev Cert.Compress.nD,
      r.2.mem ((c.tc : Thread Cert.Compress.nD Cert.Compress.τ).loc Cert.Compress.main_arg0) = m ((c.tc : Thread Cert.Compress.nD Cert.Compress.τ).loc Cert.Compress.main_arg0)
      ∧ r.2.mem ((c.tc : Thread Cert.Compress.nD Cert.Compress.τ).loc Cert.Compress.main_arg1) = m ((c.tc : Thread Cert.Compress.nD Cert.Compress.τ).loc Cert.Compress.main_arg1)
      ∧ r.2.mem ((c.tc : Thread Cert.Compress.nD Cert.Compress.τ).loc Cert.Compress.main_arg2) = m ((c.tc : Thread Cert.Compress.nD Cert.Compress.τ).loc Cert.Compress.main_arg2))
      ∧ r.2.sem = fun _ => 0)

def quiescent_CompressIdeal [hCompressIdeal : Cert.CompressIdeal.Facts] : Prop :=
  ∀ (m : (ℓ : Loc Cert.CompressIdeal.nD Cert.CompressIdeal.τ Cert.CompressIdeal.sig) → Buf (Elt Ideal) ℓ) (g : Dev Cert.CompressIdeal.nD → PrngReg), Pre_CompressIdeal m →
    θ_run (Cert.CompressIdeal.defs (F := Ideal)) (onTc (τ := Cert.CompressIdeal.τ) (Cert.CompressIdeal.main (F := Ideal))) ⟨m, fun _ => 0, g⟩ (fun r => (∀ c : Dev Cert.CompressIdeal.nD,
      r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
      ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
      ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2))
      ∧ r.2.sem = fun _ => 0)

def quiescent_CompressReferenceIdeal [hCompressReferenceIdeal : Cert.CompressReferenceIdeal.Facts] : Prop :=
  ∀ (m : (ℓ : Loc Cert.CompressReferenceIdeal.nD Cert.CompressReferenceIdeal.τ Cert.CompressReferenceIdeal.sig) → Buf (Elt Ideal) ℓ) (g : Dev Cert.CompressReferenceIdeal.nD → PrngReg), Pre_CompressReferenceIdeal m →
    θ_run (Cert.CompressReferenceIdeal.defs (F := Ideal)) (onTc (τ := Cert.CompressReferenceIdeal.τ) (Cert.CompressReferenceIdeal.main (F := Ideal))) ⟨m, fun _ => 0, g⟩ (fun r => (∀ c : Dev Cert.CompressReferenceIdeal.nD,
      r.2.mem ((c.tc : Thread Cert.CompressReferenceIdeal.nD Cert.CompressReferenceIdeal.τ).loc Cert.CompressReferenceIdeal.main_arg0) = m ((c.tc : Thread Cert.CompressReferenceIdeal.nD Cert.CompressReferenceIdeal.τ).loc Cert.CompressReferenceIdeal.main_arg0)
      ∧ r.2.mem ((c.tc : Thread Cert.CompressReferenceIdeal.nD Cert.CompressReferenceIdeal.τ).loc Cert.CompressReferenceIdeal.main_arg1) = m ((c.tc : Thread Cert.CompressReferenceIdeal.nD Cert.CompressReferenceIdeal.τ).loc Cert.CompressReferenceIdeal.main_arg1)
      ∧ r.2.mem ((c.tc : Thread Cert.CompressReferenceIdeal.nD Cert.CompressReferenceIdeal.τ).loc Cert.CompressReferenceIdeal.main_arg2) = m ((c.tc : Thread Cert.CompressReferenceIdeal.nD Cert.CompressReferenceIdeal.τ).loc Cert.CompressReferenceIdeal.main_arg2))
      ∧ r.2.sem = fun _ => 0)

def quiescent_Select [hSelect : Cert.Select.Facts] : Prop :=
  ∀ (m : (ℓ : Loc Cert.Select.nD Cert.Select.τ Cert.Select.sig) → Buf (Elt Bits) ℓ) (g : Dev Cert.Select.nD → PrngReg), Pre_Select m →
    θ_run (Cert.Select.defs (F := Bits)) (onTc (τ := Cert.Select.τ) (Cert.Select.main (F := Bits))) ⟨m, fun _ => 0, g⟩ (fun r => (∀ c : Dev Cert.Select.nD,
      r.2.mem ((c.tc : Thread Cert.Select.nD Cert.Select.τ).loc Cert.Select.main_arg0) = m ((c.tc : Thread Cert.Select.nD Cert.Select.τ).loc Cert.Select.main_arg0)
      ∧ r.2.mem ((c.tc : Thread Cert.Select.nD Cert.Select.τ).loc Cert.Select.main_arg1) = m ((c.tc : Thread Cert.Select.nD Cert.Select.τ).loc Cert.Select.main_arg1)
      ∧ r.2.mem ((c.tc : Thread Cert.Select.nD Cert.Select.τ).loc Cert.Select.main_arg2) = m ((c.tc : Thread Cert.Select.nD Cert.Select.τ).loc Cert.Select.main_arg2))
      ∧ r.2.sem = fun _ => 0)

def quiescent_SelectIdeal [hSelectIdeal : Cert.SelectIdeal.Facts] : Prop :=
  ∀ (m : (ℓ : Loc Cert.SelectIdeal.nD Cert.SelectIdeal.τ Cert.SelectIdeal.sig) → Buf (Elt Ideal) ℓ) (g : Dev Cert.SelectIdeal.nD → PrngReg), Pre_SelectIdeal m →
    θ_run (Cert.SelectIdeal.defs (F := Ideal)) (onTc (τ := Cert.SelectIdeal.τ) (Cert.SelectIdeal.main (F := Ideal))) ⟨m, fun _ => 0, g⟩ (fun r => (∀ c : Dev Cert.SelectIdeal.nD,
      r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
      ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1)
      ∧ r.2.mem ((c.tc : Thread Cert.SelectIdeal.nD Cert.SelectIdeal.τ).loc Cert.SelectIdeal.main_arg2) = m ((c.tc : Thread Cert.SelectIdeal.nD Cert.SelectIdeal.τ).loc Cert.SelectIdeal.main_arg2))
      ∧ r.2.sem = fun _ => 0)

def quiescent_SelectReferenceIdeal [hSelectReferenceIdeal : Cert.SelectReferenceIdeal.Facts] : Prop :=
  ∀ (m : (ℓ : Loc Cert.SelectReferenceIdeal.nD Cert.SelectReferenceIdeal.τ Cert.SelectReferenceIdeal.sig) → Buf (Elt Ideal) ℓ) (g : Dev Cert.SelectReferenceIdeal.nD → PrngReg), Pre_SelectReferenceIdeal m →
    θ_run (Cert.SelectReferenceIdeal.defs (F := Ideal)) (onTc (τ := Cert.SelectReferenceIdeal.τ) (Cert.SelectReferenceIdeal.main (F := Ideal))) ⟨m, fun _ => 0, g⟩ (fun r => (∀ c : Dev Cert.SelectReferenceIdeal.nD,
      r.2.mem ((c.tc : Thread Cert.SelectReferenceIdeal.nD Cert.SelectReferenceIdeal.τ).loc Cert.SelectReferenceIdeal.main_arg0) = m ((c.tc : Thread Cert.SelectReferenceIdeal.nD Cert.SelectReferenceIdeal.τ).loc Cert.SelectReferenceIdeal.main_arg0)
      ∧ r.2.mem ((c.tc : Thread Cert.SelectReferenceIdeal.nD Cert.SelectReferenceIdeal.τ).loc Cert.SelectReferenceIdeal.main_arg1) = m ((c.tc : Thread Cert.SelectReferenceIdeal.nD Cert.SelectReferenceIdeal.τ).loc Cert.SelectReferenceIdeal.main_arg1)
      ∧ r.2.mem ((c.tc : Thread Cert.SelectReferenceIdeal.nD Cert.SelectReferenceIdeal.τ).loc Cert.SelectReferenceIdeal.main_arg2) = m ((c.tc : Thread Cert.SelectReferenceIdeal.nD Cert.SelectReferenceIdeal.τ).loc Cert.SelectReferenceIdeal.main_arg2))
      ∧ r.2.sem = fun _ => 0)

def quiescent_SampleWindow [hSampleWindow : Cert.SampleWindow.Facts] : Prop :=
  ∀ (m : (ℓ : Loc Cert.SampleWindow.nD Cert.SampleWindow.τ Cert.SampleWindow.sig) → Buf (Elt Bits) ℓ) (g : Dev Cert.SampleWindow.nD → PrngReg), Pre_SampleWindow m →
    θ_run (Cert.SampleWindow.defs (F := Bits)) (onTc (τ := Cert.SampleWindow.τ) (Cert.SampleWindow.main (F := Bits))) ⟨m, fun _ => 0, g⟩ (fun r => (∀ c : Dev Cert.SampleWindow.nD,
      r.2.mem ((c.tc : Thread Cert.SampleWindow.nD Cert.SampleWindow.τ).loc Cert.SampleWindow.main_arg0) = m ((c.tc : Thread Cert.SampleWindow.nD Cert.SampleWindow.τ).loc Cert.SampleWindow.main_arg0)
      ∧ r.2.mem ((c.tc : Thread Cert.SampleWindow.nD Cert.SampleWindow.τ).loc Cert.SampleWindow.main_arg1) = m ((c.tc : Thread Cert.SampleWindow.nD Cert.SampleWindow.τ).loc Cert.SampleWindow.main_arg1)
      ∧ r.2.mem ((c.tc : Thread Cert.SampleWindow.nD Cert.SampleWindow.τ).loc Cert.SampleWindow.main_arg2) = m ((c.tc : Thread Cert.SampleWindow.nD Cert.SampleWindow.τ).loc Cert.SampleWindow.main_arg2))
      ∧ r.2.sem = fun _ => 0)

def quiescent_SampleWindowIdeal [hSampleWindowIdeal : Cert.SampleWindowIdeal.Facts] : Prop :=
  ∀ (m : (ℓ : Loc Cert.SampleWindowIdeal.nD Cert.SampleWindowIdeal.τ Cert.SampleWindowIdeal.sig) → Buf (Elt Ideal) ℓ) (g : Dev Cert.SampleWindowIdeal.nD → PrngReg), Pre_SampleWindowIdeal m →
    θ_run (Cert.SampleWindowIdeal.defs (F := Ideal)) (onTc (τ := Cert.SampleWindowIdeal.τ) (Cert.SampleWindowIdeal.main (F := Ideal))) ⟨m, fun _ => 0, g⟩ (fun r => (∀ c : Dev Cert.SampleWindowIdeal.nD,
      r.2.mem ((c.tc : Thread Cert.SampleWindowIdeal.nD Cert.SampleWindowIdeal.τ).loc Cert.SampleWindowIdeal.main_arg0) = m ((c.tc : Thread Cert.SampleWindowIdeal.nD Cert.SampleWindowIdeal.τ).loc Cert.SampleWindowIdeal.main_arg0)
      ∧ r.2.mem ((c.tc : Thread Cert.SampleWindowIdeal.nD Cert.SampleWindowIdeal.τ).loc Cert.SampleWindowIdeal.main_arg1) = m ((c.tc : Thread Cert.SampleWindowIdeal.nD Cert.SampleWindowIdeal.τ).loc Cert.SampleWindowIdeal.main_arg1)
      ∧ r.2.mem ((c.tc : Thread Cert.SampleWindowIdeal.nD Cert.SampleWindowIdeal.τ).loc Cert.SampleWindowIdeal.main_arg2) = m ((c.tc : Thread Cert.SampleWindowIdeal.nD Cert.SampleWindowIdeal.τ).loc Cert.SampleWindowIdeal.main_arg2))
      ∧ r.2.sem = fun _ => 0)

def quiescent_SampleWindowReferenceIdeal [hSampleWindowReferenceIdeal : Cert.SampleWindowReferenceIdeal.Facts] : Prop :=
  ∀ (m : (ℓ : Loc Cert.SampleWindowReferenceIdeal.nD Cert.SampleWindowReferenceIdeal.τ Cert.SampleWindowReferenceIdeal.sig) → Buf (Elt Ideal) ℓ) (g : Dev Cert.SampleWindowReferenceIdeal.nD → PrngReg), Pre_SampleWindowReferenceIdeal m →
    θ_run (Cert.SampleWindowReferenceIdeal.defs (F := Ideal)) (onTc (τ := Cert.SampleWindowReferenceIdeal.τ) (Cert.SampleWindowReferenceIdeal.main (F := Ideal))) ⟨m, fun _ => 0, g⟩ (fun r => (∀ c : Dev Cert.SampleWindowReferenceIdeal.nD,
      r.2.mem ((c.tc : Thread Cert.SampleWindowReferenceIdeal.nD Cert.SampleWindowReferenceIdeal.τ).loc Cert.SampleWindowReferenceIdeal.main_arg0) = m ((c.tc : Thread Cert.SampleWindowReferenceIdeal.nD Cert.SampleWindowReferenceIdeal.τ).loc Cert.SampleWindowReferenceIdeal.main_arg0)
      ∧ r.2.mem ((c.tc : Thread Cert.SampleWindowReferenceIdeal.nD Cert.SampleWindowReferenceIdeal.τ).loc Cert.SampleWindowReferenceIdeal.main_arg1) = m ((c.tc : Thread Cert.SampleWindowReferenceIdeal.nD Cert.SampleWindowReferenceIdeal.τ).loc Cert.SampleWindowReferenceIdeal.main_arg1)
      ∧ r.2.mem ((c.tc : Thread Cert.SampleWindowReferenceIdeal.nD Cert.SampleWindowReferenceIdeal.τ).loc Cert.SampleWindowReferenceIdeal.main_arg2) = m ((c.tc : Thread Cert.SampleWindowReferenceIdeal.nD Cert.SampleWindowReferenceIdeal.τ).loc Cert.SampleWindowReferenceIdeal.main_arg2))
      ∧ r.2.sem = fun _ => 0)

def preserves_Window_WindowIdeal : Prop :=
  True

def algebraic_WindowIdeal_WindowReferenceIdeal [hWindowIdeal : Cert.WindowIdeal.Facts] [hWindowReferenceIdeal : Cert.WindowReferenceIdeal.Facts] : Prop :=
  ∀ (m : (ℓ : Loc Cert.WindowIdeal.nD Cert.WindowIdeal.τ Cert.WindowIdeal.sig) → Buf (Elt Ideal) ℓ) (g : Dev Cert.WindowIdeal.nD → PrngReg)
    (m' : (ℓ : Loc Cert.WindowReferenceIdeal.nD Cert.WindowReferenceIdeal.τ Cert.WindowReferenceIdeal.sig) → Buf (Elt Ideal) ℓ) (g' : Dev Cert.WindowReferenceIdeal.nD → PrngReg), Pre_WindowIdeal m →
    (∀ c : Dev Cert.WindowIdeal.nD,
      m' ((c.tc : Thread Cert.WindowReferenceIdeal.nD Cert.WindowReferenceIdeal.τ).loc Cert.WindowReferenceIdeal.main_arg0) = m ((c.tc : Thread Cert.WindowIdeal.nD Cert.WindowIdeal.τ).loc Cert.WindowIdeal.main_arg0)
      ∧ m' ((c.tc : Thread Cert.WindowReferenceIdeal.nD Cert.WindowReferenceIdeal.τ).loc Cert.WindowReferenceIdeal.main_arg1) = m ((c.tc : Thread Cert.WindowIdeal.nD Cert.WindowIdeal.τ).loc Cert.WindowIdeal.main_arg1)
      ∧ m' ((c.tc : Thread Cert.WindowReferenceIdeal.nD Cert.WindowReferenceIdeal.τ).loc Cert.WindowReferenceIdeal.main_arg2) = m ((c.tc : Thread Cert.WindowIdeal.nD Cert.WindowIdeal.τ).loc Cert.WindowIdeal.main_arg2)) →
    ∃ (v0 : (c : Dev Cert.WindowIdeal.nD) → Buf (Elt Ideal) ((c.tc : Thread Cert.WindowIdeal.nD Cert.WindowIdeal.τ).loc Cert.WindowIdeal.main_v0)),
      θ_run (Cert.WindowIdeal.defs (F := Ideal)) (onTc (τ := Cert.WindowIdeal.τ) (Cert.WindowIdeal.main (F := Ideal))) ⟨m, fun _ => 0, g⟩ (fun r => ∀ c : Dev Cert.WindowIdeal.nD,
          r.2.mem ((c.tc : Thread Cert.WindowIdeal.nD Cert.WindowIdeal.τ).loc Cert.WindowIdeal.main_v0) = v0 c
          ∧ r.2.mem ((c.tc : Thread Cert.WindowIdeal.nD Cert.WindowIdeal.τ).loc Cert.WindowIdeal.main_arg0) = m ((c.tc : Thread Cert.WindowIdeal.nD Cert.WindowIdeal.τ).loc Cert.WindowIdeal.main_arg0)
          ∧ r.2.mem ((c.tc : Thread Cert.WindowIdeal.nD Cert.WindowIdeal.τ).loc Cert.WindowIdeal.main_arg1) = m ((c.tc : Thread Cert.WindowIdeal.nD Cert.WindowIdeal.τ).loc Cert.WindowIdeal.main_arg1)
          ∧ r.2.mem ((c.tc : Thread Cert.WindowIdeal.nD Cert.WindowIdeal.τ).loc Cert.WindowIdeal.main_arg2) = m ((c.tc : Thread Cert.WindowIdeal.nD Cert.WindowIdeal.τ).loc Cert.WindowIdeal.main_arg2))
      ∧ θ_run (Cert.WindowReferenceIdeal.defs (F := Ideal)) (onTc (τ := Cert.WindowReferenceIdeal.τ) (Cert.WindowReferenceIdeal.main (F := Ideal))) ⟨m', fun _ => 0, g'⟩ (fun r => ∀ c : Dev Cert.WindowReferenceIdeal.nD,
          r.2.mem ((c.tc : Thread Cert.WindowReferenceIdeal.nD Cert.WindowReferenceIdeal.τ).loc Cert.WindowReferenceIdeal.main_v48) = v0 c
          ∧ r.2.mem ((c.tc : Thread Cert.WindowReferenceIdeal.nD Cert.WindowReferenceIdeal.τ).loc Cert.WindowReferenceIdeal.main_arg0) = m' ((c.tc : Thread Cert.WindowReferenceIdeal.nD Cert.WindowReferenceIdeal.τ).loc Cert.WindowReferenceIdeal.main_arg0)
          ∧ r.2.mem ((c.tc : Thread Cert.WindowReferenceIdeal.nD Cert.WindowReferenceIdeal.τ).loc Cert.WindowReferenceIdeal.main_arg1) = m' ((c.tc : Thread Cert.WindowReferenceIdeal.nD Cert.WindowReferenceIdeal.τ).loc Cert.WindowReferenceIdeal.main_arg1)
          ∧ r.2.mem ((c.tc : Thread Cert.WindowReferenceIdeal.nD Cert.WindowReferenceIdeal.τ).loc Cert.WindowReferenceIdeal.main_arg2) = m' ((c.tc : Thread Cert.WindowReferenceIdeal.nD Cert.WindowReferenceIdeal.τ).loc Cert.WindowReferenceIdeal.main_arg2))

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)
      ∧ m' ((c.tc : Thread Cert.MlpReferenceIdeal.nD Cert.MlpReferenceIdeal.τ).loc Cert.MlpReferenceIdeal.main_arg4) = m ((c.tc : Thread Cert.MlpIdeal.nD Cert.MlpIdeal.τ).loc Cert.MlpIdeal.main_arg4)
      ∧ m' ((c.tc : Thread Cert.MlpReferenceIdeal.nD Cert.MlpReferenceIdeal.τ).loc Cert.MlpReferenceIdeal.main_arg5) = m ((c.tc : Thread Cert.MlpIdeal.nD Cert.MlpIdeal.τ).loc Cert.MlpIdeal.main_arg5)) →
    ∃ (v0 : (c : Dev Cert.MlpIdeal.nD) → Buf (Elt Ideal) ((c.tc : Thread Cert.MlpIdeal.nD Cert.MlpIdeal.τ).loc Cert.MlpIdeal.main_v2)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v2) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v32) = v0 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4)
          ∧ r.2.mem ((c.tc : Thread Cert.MlpReferenceIdeal.nD Cert.MlpReferenceIdeal.τ).loc Cert.MlpReferenceIdeal.main_arg5) = m' ((c.tc : Thread Cert.MlpReferenceIdeal.nD Cert.MlpReferenceIdeal.τ).loc Cert.MlpReferenceIdeal.main_arg5))

def preserves_MlpLast_MlpLastIdeal : Prop :=
  True

def algebraic_MlpLastIdeal_MlpLastReferenceIdeal [hMlpLastIdeal : Cert.MlpLastIdeal.Facts] [hMlpLastReferenceIdeal : Cert.MlpLastReferenceIdeal.Facts] : Prop :=
  ∀ (m : (ℓ : Loc Cert.MlpLastIdeal.nD Cert.MlpLastIdeal.τ Cert.MlpLastIdeal.sig) → Buf (Elt Ideal) ℓ) (g : Dev Cert.MlpLastIdeal.nD → PrngReg)
    (m' : (ℓ : Loc Cert.MlpLastReferenceIdeal.nD Cert.MlpLastReferenceIdeal.τ Cert.MlpLastReferenceIdeal.sig) → Buf (Elt Ideal) ℓ) (g' : Dev Cert.MlpLastReferenceIdeal.nD → PrngReg), Pre_MlpLastIdeal m →
    (∀ c : Dev Cert.MlpLastIdeal.nD,
      m' ((c.tc : Thread Cert.MlpLastReferenceIdeal.nD Cert.MlpLastReferenceIdeal.τ).loc Cert.MlpLastReferenceIdeal.main_arg0) = m ((c.tc : Thread Cert.MlpLastIdeal.nD Cert.MlpLastIdeal.τ).loc Cert.MlpLastIdeal.main_arg0)
      ∧ m' ((c.tc : Thread Cert.MlpLastReferenceIdeal.nD Cert.MlpLastReferenceIdeal.τ).loc Cert.MlpLastReferenceIdeal.main_arg1) = m ((c.tc : Thread Cert.MlpLastIdeal.nD Cert.MlpLastIdeal.τ).loc Cert.MlpLastIdeal.main_arg1)
      ∧ m' ((c.tc : Thread Cert.MlpLastReferenceIdeal.nD Cert.MlpLastReferenceIdeal.τ).loc Cert.MlpLastReferenceIdeal.main_arg2) = m ((c.tc : Thread Cert.MlpLastIdeal.nD Cert.MlpLastIdeal.τ).loc Cert.MlpLastIdeal.main_arg2)
      ∧ m' ((c.tc : Thread Cert.MlpLastReferenceIdeal.nD Cert.MlpLastReferenceIdeal.τ).loc Cert.MlpLastReferenceIdeal.main_arg3) = m ((c.tc : Thread Cert.MlpLastIdeal.nD Cert.MlpLastIdeal.τ).loc Cert.MlpLastIdeal.main_arg3)
      ∧ m' ((c.tc : Thread Cert.MlpLastReferenceIdeal.nD Cert.MlpLastReferenceIdeal.τ).loc Cert.MlpLastReferenceIdeal.main_arg4) = m ((c.tc : Thread Cert.MlpLastIdeal.nD Cert.MlpLastIdeal.τ).loc Cert.MlpLastIdeal.main_arg4)
      ∧ m' ((c.tc : Thread Cert.MlpLastReferenceIdeal.nD Cert.MlpLastReferenceIdeal.τ).loc Cert.MlpLastReferenceIdeal.main_arg5) = m ((c.tc : Thread Cert.MlpLastIdeal.nD Cert.MlpLastIdeal.τ).loc Cert.MlpLastIdeal.main_arg5)) →
    ∃ (v0 : (c : Dev Cert.MlpLastIdeal.nD) → Buf (Elt Ideal) ((c.tc : Thread Cert.MlpLastIdeal.nD Cert.MlpLastIdeal.τ).loc Cert.MlpLastIdeal.main_v2)),
      θ_run (Cert.MlpLastIdeal.defs (F := Ideal)) (onTc (τ := Cert.MlpLastIdeal.τ) (Cert.MlpLastIdeal.main (F := Ideal))) ⟨m, fun _ => 0, g⟩ (fun r => ∀ c : Dev Cert.MlpLastIdeal.nD,
          r.2.mem ((c.tc : Thread Cert.MlpLastIdeal.nD Cert.MlpLastIdeal.τ).loc Cert.MlpLastIdeal.main_v2) = v0 c
          ∧ r.2.mem ((c.tc : Thread Cert.MlpLastIdeal.nD Cert.MlpLastIdeal.τ).loc Cert.MlpLastIdeal.main_arg0) = m ((c.tc : Thread Cert.MlpLastIdeal.nD Cert.MlpLastIdeal.τ).loc Cert.MlpLastIdeal.main_arg0)
          ∧ r.2.mem ((c.tc : Thread Cert.MlpLastIdeal.nD Cert.MlpLastIdeal.τ).loc Cert.MlpLastIdeal.main_arg1) = m ((c.tc : Thread Cert.MlpLastIdeal.nD Cert.MlpLastIdeal.τ).loc Cert.MlpLastIdeal.main_arg1)
          ∧ r.2.mem ((c.tc : Thread Cert.MlpLastIdeal.nD Cert.MlpLastIdeal.τ).loc Cert.MlpLastIdeal.main_arg2) = m ((c.tc : Thread Cert.MlpLastIdeal.nD Cert.MlpLastIdeal.τ).loc Cert.MlpLastIdeal.main_arg2)
          ∧ r.2.mem ((c.tc : Thread Cert.MlpLastIdeal.nD Cert.MlpLastIdeal.τ).loc Cert.MlpLastIdeal.main_arg3) = m ((c.tc : Thread Cert.MlpLastIdeal.nD Cert.MlpLastIdeal.τ).loc Cert.MlpLastIdeal.main_arg3)
          ∧ r.2.mem ((c.tc : Thread Cert.MlpLastIdeal.nD Cert.MlpLastIdeal.τ).loc Cert.MlpLastIdeal.main_arg4) = m ((c.tc : Thread Cert.MlpLastIdeal.nD Cert.MlpLastIdeal.τ).loc Cert.MlpLastIdeal.main_arg4)
          ∧ r.2.mem ((c.tc : Thread Cert.MlpLastIdeal.nD Cert.MlpLastIdeal.τ).loc Cert.MlpLastIdeal.main_arg5) = m ((c.tc : Thread Cert.MlpLastIdeal.nD Cert.MlpLastIdeal.τ).loc Cert.MlpLastIdeal.main_arg5))
      ∧ θ_run (Cert.MlpLastReferenceIdeal.defs (F := Ideal)) (onTc (τ := Cert.MlpLastReferenceIdeal.τ) (Cert.MlpLastReferenceIdeal.main (F := Ideal))) ⟨m', fun _ => 0, g'⟩ (fun r => ∀ c : Dev Cert.MlpLastReferenceIdeal.nD,
          r.2.mem ((c.tc : Thread Cert.MlpLastReferenceIdeal.nD Cert.MlpLastReferenceIdeal.τ).loc Cert.MlpLastReferenceIdeal.main_v45) = v0 c
          ∧ r.2.mem ((c.tc : Thread Cert.MlpLastReferenceIdeal.nD Cert.MlpLastReferenceIdeal.τ).loc Cert.MlpLastReferenceIdeal.main_arg0) = m' ((c.tc : Thread Cert.MlpLastReferenceIdeal.nD Cert.MlpLastReferenceIdeal.τ).loc Cert.MlpLastReferenceIdeal.main_arg0)
          ∧ r.2.mem ((c.tc : Thread Cert.MlpLastReferenceIdeal.nD Cert.MlpLastReferenceIdeal.τ).loc Cert.MlpLastReferenceIdeal.main_arg1) = m' ((c.tc : Thread Cert.MlpLastReferenceIdeal.nD Cert.MlpLastReferenceIdeal.τ).loc Cert.MlpLastReferenceIdeal.main_arg1)
          ∧ r.2.mem ((c.tc : Thread Cert.MlpLastReferenceIdeal.nD Cert.MlpLastReferenceIdeal.τ).loc Cert.MlpLastReferenceIdeal.main_arg2) = m' ((c.tc : Thread Cert.MlpLastReferenceIdeal.nD Cert.MlpLastReferenceIdeal.τ).loc Cert.MlpLastReferenceIdeal.main_arg2)
          ∧ r.2.mem ((c.tc : Thread Cert.MlpLastReferenceIdeal.nD Cert.MlpLastReferenceIdeal.τ).loc Cert.MlpLastReferenceIdeal.main_arg3) = m' ((c.tc : Thread Cert.MlpLastReferenceIdeal.nD Cert.MlpLastReferenceIdeal.τ).loc Cert.MlpLastReferenceIdeal.main_arg3)
          ∧ r.2.mem ((c.tc : Thread Cert.MlpLastReferenceIdeal.nD Cert.MlpLastReferenceIdeal.τ).loc Cert.MlpLastReferenceIdeal.main_arg4) = m' ((c.tc : Thread Cert.MlpLastReferenceIdeal.nD Cert.MlpLastReferenceIdeal.τ).loc Cert.MlpLastReferenceIdeal.main_arg4)
          ∧ r.2.mem ((c.tc : Thread Cert.MlpLastReferenceIdeal.nD Cert.MlpLastReferenceIdeal.τ).loc Cert.MlpLastReferenceIdeal.main_arg5) = m' ((c.tc : Thread Cert.MlpLastReferenceIdeal.nD Cert.MlpLastReferenceIdeal.τ).loc Cert.MlpLastReferenceIdeal.main_arg5))

def preserves_InEven_InEvenIdeal : Prop :=
  True

def algebraic_InEvenIdeal_InEvenReferenceIdeal [hInEvenIdeal : Cert.InEvenIdeal.Facts] [hInEvenReferenceIdeal : Cert.InEvenReferenceIdeal.Facts] : Prop :=
  ∀ (m : (ℓ : Loc Cert.InEvenIdeal.nD Cert.InEvenIdeal.τ Cert.InEvenIdeal.sig) → Buf (Elt Ideal) ℓ) (g : Dev Cert.InEvenIdeal.nD → PrngReg)
    (m' : (ℓ : Loc Cert.InEvenReferenceIdeal.nD Cert.InEvenReferenceIdeal.τ Cert.InEvenReferenceIdeal.sig) → Buf (Elt Ideal) ℓ) (g' : Dev Cert.InEvenReferenceIdeal.nD → PrngReg), Pre_InEvenIdeal m →
    (∀ c : Dev Cert.InEvenIdeal.nD,
      m' ((c.tc : Thread Cert.InEvenReferenceIdeal.nD Cert.InEvenReferenceIdeal.τ).loc Cert.InEvenReferenceIdeal.main_arg0) = m ((c.tc : Thread Cert.InEvenIdeal.nD Cert.InEvenIdeal.τ).loc Cert.InEvenIdeal.main_arg0)
      ∧ m' ((c.tc : Thread Cert.InEvenReferenceIdeal.nD Cert.InEvenReferenceIdeal.τ).loc Cert.InEvenReferenceIdeal.main_arg1) = m ((c.tc : Thread Cert.InEvenIdeal.nD Cert.InEvenIdeal.τ).loc Cert.InEvenIdeal.main_arg1)
      ∧ m' ((c.tc : Thread Cert.InEvenReferenceIdeal.nD Cert.InEvenReferenceIdeal.τ).loc Cert.InEvenReferenceIdeal.main_arg2) = m ((c.tc : Thread Cert.InEvenIdeal.nD Cert.InEvenIdeal.τ).loc Cert.InEvenIdeal.main_arg2)
      ∧ m' ((c.tc : Thread Cert.InEvenReferenceIdeal.nD Cert.InEvenReferenceIdeal.τ).loc Cert.InEvenReferenceIdeal.main_arg3) = m ((c.tc : Thread Cert.InEvenIdeal.nD Cert.InEvenIdeal.τ).loc Cert.InEvenIdeal.main_arg3)
      ∧ m' ((c.tc : Thread Cert.InEvenReferenceIdeal.nD Cert.InEvenReferenceIdeal.τ).loc Cert.InEvenReferenceIdeal.main_arg4) = m ((c.tc : Thread Cert.InEvenIdeal.nD Cert.InEvenIdeal.τ).loc Cert.InEvenIdeal.main_arg4)) →
    ∃ (v0 : (c : Dev Cert.InEvenIdeal.nD) → Buf (Elt Ideal) ((c.tc : Thread Cert.InEvenIdeal.nD Cert.InEvenIdeal.τ).loc Cert.InEvenIdeal.main_v2_0)) (v1 : (c : Dev Cert.InEvenIdeal.nD) → Buf (Elt Ideal) ((c.tc : Thread Cert.InEvenIdeal.nD Cert.InEvenIdeal.τ).loc Cert.InEvenIdeal.main_v2_1)) (v2 : (c : Dev Cert.InEvenIdeal.nD) → Buf (Elt Ideal) ((c.tc : Thread Cert.InEvenIdeal.nD Cert.InEvenIdeal.τ).loc Cert.InEvenIdeal.main_v2_2)) (v3 : (c : Dev Cert.InEvenIdeal.nD) → Buf (Elt Ideal) ((c.tc : Thread Cert.InEvenIdeal.nD Cert.InEvenIdeal.τ).loc Cert.InEvenIdeal.main_v2_3)) (v4 : (c : Dev Cert.InEvenIdeal.nD) → Buf (Elt Ideal) ((c.tc : Thread Cert.InEvenIdeal.nD Cert.InEvenIdeal.τ).loc Cert.InEvenIdeal.main_v2_4)) (v5 : (c : Dev Cert.InEvenIdeal.nD) → Buf (Elt Ideal) ((c.tc : Thread Cert.InEvenIdeal.nD Cert.InEvenIdeal.τ).loc Cert.InEvenIdeal.main_v2_5)) (v6 : (c : Dev Cert.InEvenIdeal.nD) → Buf (Elt Ideal) ((c.tc : Thread Cert.InEvenIdeal.nD Cert.InEvenIdeal.τ).loc Cert.InEvenIdeal.main_v2_6)) (v7 : (c : Dev Cert.InEvenIdeal.nD) → Buf (Elt Ideal) ((c.tc : Thread Cert.InEvenIdeal.nD Cert.InEvenIdeal.τ).loc Cert.InEvenIdeal.main_v2_7)),
      θ_run (Cert.InEvenIdeal.defs (F := Ideal)) (onTc (τ := Cert.InEvenIdeal.τ) (Cert.InEvenIdeal.main (F := Ideal))) ⟨m, fun _ => 0, g⟩ (fun r => ∀ c : Dev Cert.InEvenIdeal.nD,
          r.2.mem ((c.tc : Thread Cert.InEvenIdeal.nD Cert.InEvenIdeal.τ).loc Cert.InEvenIdeal.main_v2_0) = v0 c
          ∧ r.2.mem ((c.tc : Thread Cert.InEvenIdeal.nD Cert.InEvenIdeal.τ).loc Cert.InEvenIdeal.main_v2_1) = v1 c
          ∧ r.2.mem ((c.tc : Thread Cert.InEvenIdeal.nD Cert.InEvenIdeal.τ).loc Cert.InEvenIdeal.main_v2_2) = v2 c
          ∧ r.2.mem ((c.tc : Thread Cert.InEvenIdeal.nD Cert.InEvenIdeal.τ).loc Cert.InEvenIdeal.main_v2_3) = v3 c
          ∧ r.2.mem ((c.tc : Thread Cert.InEvenIdeal.nD Cert.InEvenIdeal.τ).loc Cert.InEvenIdeal.main_v2_4) = v4 c
          ∧ r.2.mem ((c.tc : Thread Cert.InEvenIdeal.nD Cert.InEvenIdeal.τ).loc Cert.InEvenIdeal.main_v2_5) = v5 c
          ∧ r.2.mem ((c.tc : Thread Cert.InEvenIdeal.nD Cert.InEvenIdeal.τ).loc Cert.InEvenIdeal.main_v2_6) = v6 c
          ∧ r.2.mem ((c.tc : Thread Cert.InEvenIdeal.nD Cert.InEvenIdeal.τ).loc Cert.InEvenIdeal.main_v2_7) = v7 c
          ∧ r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
          ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1)
          ∧ r.2.mem ((c.tc : Thread Cert.InEvenIdeal.nD Cert.InEvenIdeal.τ).loc Cert.InEvenIdeal.main_arg2) = m ((c.tc : Thread Cert.InEvenIdeal.nD Cert.InEvenIdeal.τ).loc Cert.InEvenIdeal.main_arg2)
          ∧ r.2.mem ((c.tc : Thread Cert.InEvenIdeal.nD Cert.InEvenIdeal.τ).loc Cert.InEvenIdeal.main_arg3) = m ((c.tc : Thread Cert.InEvenIdeal.nD Cert.InEvenIdeal.τ).loc Cert.InEvenIdeal.main_arg3)
          ∧ r.2.mem ((c.tc : Thread Cert.InEvenIdeal.nD Cert.InEvenIdeal.τ).loc Cert.InEvenIdeal.main_arg4) = m ((c.tc : Thread Cert.InEvenIdeal.nD Cert.InEvenIdeal.τ).loc Cert.InEvenIdeal.main_arg4))
      ∧ θ_run (Cert.InEvenReferenceIdeal.defs (F := Ideal)) (onTc (τ := Cert.InEvenReferenceIdeal.τ) (Cert.InEvenReferenceIdeal.main (F := Ideal))) ⟨m', fun _ => 0, g'⟩ (fun r => ∀ c : Dev Cert.InEvenReferenceIdeal.nD,
          r.2.mem ((c.tc : Thread Cert.InEvenReferenceIdeal.nD Cert.InEvenReferenceIdeal.τ).loc Cert.InEvenReferenceIdeal.main_v28) = v0 c
          ∧ r.2.mem ((c.tc : Thread Cert.InEvenReferenceIdeal.nD Cert.InEvenReferenceIdeal.τ).loc Cert.InEvenReferenceIdeal.main_v29) = v1 c
          ∧ r.2.mem ((c.tc : Thread Cert.InEvenReferenceIdeal.nD Cert.InEvenReferenceIdeal.τ).loc Cert.InEvenReferenceIdeal.main_v30) = v2 c
          ∧ r.2.mem ((c.tc : Thread Cert.InEvenReferenceIdeal.nD Cert.InEvenReferenceIdeal.τ).loc Cert.InEvenReferenceIdeal.main_v31) = v3 c
          ∧ r.2.mem ((c.tc : Thread Cert.InEvenReferenceIdeal.nD Cert.InEvenReferenceIdeal.τ).loc Cert.InEvenReferenceIdeal.main_v32) = v4 c
          ∧ r.2.mem ((c.tc : Thread Cert.InEvenReferenceIdeal.nD Cert.InEvenReferenceIdeal.τ).loc Cert.InEvenReferenceIdeal.main_v33) = v5 c
          ∧ r.2.mem ((c.tc : Thread Cert.InEvenReferenceIdeal.nD Cert.InEvenReferenceIdeal.τ).loc Cert.InEvenReferenceIdeal.main_v34) = v6 c
          ∧ r.2.mem ((c.tc : Thread Cert.InEvenReferenceIdeal.nD Cert.InEvenReferenceIdeal.τ).loc Cert.InEvenReferenceIdeal.main_v36) = v7 c
          ∧ r.2.mem ((c.tc : Thread Cert.InEvenReferenceIdeal.nD Cert.InEvenReferenceIdeal.τ).loc Cert.InEvenReferenceIdeal.main_arg0) = m' ((c.tc : Thread Cert.InEvenReferenceIdeal.nD Cert.InEvenReferenceIdeal.τ).loc Cert.InEvenReferenceIdeal.main_arg0)
          ∧ r.2.mem ((c.tc : Thread Cert.InEvenReferenceIdeal.nD Cert.InEvenReferenceIdeal.τ).loc Cert.InEvenReferenceIdeal.main_arg1) = m' ((c.tc : Thread Cert.InEvenReferenceIdeal.nD Cert.InEvenReferenceIdeal.τ).loc Cert.InEvenReferenceIdeal.main_arg1)
          ∧ r.2.mem ((c.tc : Thread Cert.InEvenReferenceIdeal.nD Cert.InEvenReferenceIdeal.τ).loc Cert.InEvenReferenceIdeal.main_arg2) = m' ((c.tc : Thread Cert.InEvenReferenceIdeal.nD Cert.InEvenReferenceIdeal.τ).loc Cert.InEvenReferenceIdeal.main_arg2)
          ∧ r.2.mem ((c.tc : Thread Cert.InEvenReferenceIdeal.nD Cert.InEvenReferenceIdeal.τ).loc Cert.InEvenReferenceIdeal.main_arg3) = m' ((c.tc : Thread Cert.InEvenReferenceIdeal.nD Cert.InEvenReferenceIdeal.τ).loc Cert.InEvenReferenceIdeal.main_arg3)
          ∧ r.2.mem ((c.tc : Thread Cert.InEvenReferenceIdeal.nD Cert.InEvenReferenceIdeal.τ).loc Cert.InEvenReferenceIdeal.main_arg4) = m' ((c.tc : Thread Cert.InEvenReferenceIdeal.nD Cert.InEvenReferenceIdeal.τ).loc Cert.InEvenReferenceIdeal.main_arg4))

def preserves_InOdd_InOddIdeal : Prop :=
  True

def algebraic_InOddIdeal_InOddReferenceIdeal [hInOddIdeal : Cert.InOddIdeal.Facts] [hInOddReferenceIdeal : Cert.InOddReferenceIdeal.Facts] : Prop :=
  ∀ (m : (ℓ : Loc Cert.InOddIdeal.nD Cert.InOddIdeal.τ Cert.InOddIdeal.sig) → Buf (Elt Ideal) ℓ) (g : Dev Cert.InOddIdeal.nD → PrngReg)
    (m' : (ℓ : Loc Cert.InOddReferenceIdeal.nD Cert.InOddReferenceIdeal.τ Cert.InOddReferenceIdeal.sig) → Buf (Elt Ideal) ℓ) (g' : Dev Cert.InOddReferenceIdeal.nD → PrngReg), Pre_InOddIdeal m →
    (∀ c : Dev Cert.InOddIdeal.nD,
      m' ((c.tc : Thread Cert.InOddReferenceIdeal.nD Cert.InOddReferenceIdeal.τ).loc Cert.InOddReferenceIdeal.main_arg0) = m ((c.tc : Thread Cert.InOddIdeal.nD Cert.InOddIdeal.τ).loc Cert.InOddIdeal.main_arg0)
      ∧ m' ((c.tc : Thread Cert.InOddReferenceIdeal.nD Cert.InOddReferenceIdeal.τ).loc Cert.InOddReferenceIdeal.main_arg1) = m ((c.tc : Thread Cert.InOddIdeal.nD Cert.InOddIdeal.τ).loc Cert.InOddIdeal.main_arg1)
      ∧ m' ((c.tc : Thread Cert.InOddReferenceIdeal.nD Cert.InOddReferenceIdeal.τ).loc Cert.InOddReferenceIdeal.main_arg2) = m ((c.tc : Thread Cert.InOddIdeal.nD Cert.InOddIdeal.τ).loc Cert.InOddIdeal.main_arg2)
      ∧ m' ((c.tc : Thread Cert.InOddReferenceIdeal.nD Cert.InOddReferenceIdeal.τ).loc Cert.InOddReferenceIdeal.main_arg3) = m ((c.tc : Thread Cert.InOddIdeal.nD Cert.InOddIdeal.τ).loc Cert.InOddIdeal.main_arg3)
      ∧ m' ((c.tc : Thread Cert.InOddReferenceIdeal.nD Cert.InOddReferenceIdeal.τ).loc Cert.InOddReferenceIdeal.main_arg4) = m ((c.tc : Thread Cert.InOddIdeal.nD Cert.InOddIdeal.τ).loc Cert.InOddIdeal.main_arg4)) →
    ∃ (v0 : (c : Dev Cert.InOddIdeal.nD) → Buf (Elt Ideal) ((c.tc : Thread Cert.InOddIdeal.nD Cert.InOddIdeal.τ).loc Cert.InOddIdeal.main_v2_0)) (v1 : (c : Dev Cert.InOddIdeal.nD) → Buf (Elt Ideal) ((c.tc : Thread Cert.InOddIdeal.nD Cert.InOddIdeal.τ).loc Cert.InOddIdeal.main_v2_1)) (v2 : (c : Dev Cert.InOddIdeal.nD) → Buf (Elt Ideal) ((c.tc : Thread Cert.InOddIdeal.nD Cert.InOddIdeal.τ).loc Cert.InOddIdeal.main_v2_2)) (v3 : (c : Dev Cert.InOddIdeal.nD) → Buf (Elt Ideal) ((c.tc : Thread Cert.InOddIdeal.nD Cert.InOddIdeal.τ).loc Cert.InOddIdeal.main_v2_3)) (v4 : (c : Dev Cert.InOddIdeal.nD) → Buf (Elt Ideal) ((c.tc : Thread Cert.InOddIdeal.nD Cert.InOddIdeal.τ).loc Cert.InOddIdeal.main_v2_4)) (v5 : (c : Dev Cert.InOddIdeal.nD) → Buf (Elt Ideal) ((c.tc : Thread Cert.InOddIdeal.nD Cert.InOddIdeal.τ).loc Cert.InOddIdeal.main_v2_5)),
      θ_run (Cert.InOddIdeal.defs (F := Ideal)) (onTc (τ := Cert.InOddIdeal.τ) (Cert.InOddIdeal.main (F := Ideal))) ⟨m, fun _ => 0, g⟩ (fun r => ∀ c : Dev Cert.InOddIdeal.nD,
          r.2.mem ((c.tc : Thread Cert.InOddIdeal.nD Cert.InOddIdeal.τ).loc Cert.InOddIdeal.main_v2_0) = v0 c
          ∧ r.2.mem ((c.tc : Thread Cert.InOddIdeal.nD Cert.InOddIdeal.τ).loc Cert.InOddIdeal.main_v2_1) = v1 c
          ∧ r.2.mem ((c.tc : Thread Cert.InOddIdeal.nD Cert.InOddIdeal.τ).loc Cert.InOddIdeal.main_v2_2) = v2 c
          ∧ r.2.mem ((c.tc : Thread Cert.InOddIdeal.nD Cert.InOddIdeal.τ).loc Cert.InOddIdeal.main_v2_3) = v3 c
          ∧ r.2.mem ((c.tc : Thread Cert.InOddIdeal.nD Cert.InOddIdeal.τ).loc Cert.InOddIdeal.main_v2_4) = v4 c
          ∧ r.2.mem ((c.tc : Thread Cert.InOddIdeal.nD Cert.InOddIdeal.τ).loc Cert.InOddIdeal.main_v2_5) = v5 c
          ∧ r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
          ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1)
          ∧ r.2.mem ((c.tc : Thread Cert.InOddIdeal.nD Cert.InOddIdeal.τ).loc Cert.InOddIdeal.main_arg2) = m ((c.tc : Thread Cert.InOddIdeal.nD Cert.InOddIdeal.τ).loc Cert.InOddIdeal.main_arg2)
          ∧ r.2.mem ((c.tc : Thread Cert.InOddIdeal.nD Cert.InOddIdeal.τ).loc Cert.InOddIdeal.main_arg3) = m ((c.tc : Thread Cert.InOddIdeal.nD Cert.InOddIdeal.τ).loc Cert.InOddIdeal.main_arg3)
          ∧ r.2.mem ((c.tc : Thread Cert.InOddIdeal.nD Cert.InOddIdeal.τ).loc Cert.InOddIdeal.main_arg4) = m ((c.tc : Thread Cert.InOddIdeal.nD Cert.InOddIdeal.τ).loc Cert.InOddIdeal.main_arg4))
      ∧ θ_run (Cert.InOddReferenceIdeal.defs (F := Ideal)) (onTc (τ := Cert.InOddReferenceIdeal.τ) (Cert.InOddReferenceIdeal.main (F := Ideal))) ⟨m', fun _ => 0, g'⟩ (fun r => ∀ c : Dev Cert.InOddReferenceIdeal.nD,
          r.2.mem ((c.tc : Thread Cert.InOddReferenceIdeal.nD Cert.InOddReferenceIdeal.τ).loc Cert.InOddReferenceIdeal.main_v28) = v0 c
          ∧ r.2.mem ((c.tc : Thread Cert.InOddReferenceIdeal.nD Cert.InOddReferenceIdeal.τ).loc Cert.InOddReferenceIdeal.main_v29) = v1 c
          ∧ r.2.mem ((c.tc : Thread Cert.InOddReferenceIdeal.nD Cert.InOddReferenceIdeal.τ).loc Cert.InOddReferenceIdeal.main_v30) = v2 c
          ∧ r.2.mem ((c.tc : Thread Cert.InOddReferenceIdeal.nD Cert.InOddReferenceIdeal.τ).loc Cert.InOddReferenceIdeal.main_v31) = v3 c
          ∧ r.2.mem ((c.tc : Thread Cert.InOddReferenceIdeal.nD Cert.InOddReferenceIdeal.τ).loc Cert.InOddReferenceIdeal.main_v32) = v4 c
          ∧ r.2.mem ((c.tc : Thread Cert.InOddReferenceIdeal.nD Cert.InOddReferenceIdeal.τ).loc Cert.InOddReferenceIdeal.main_v33) = v5 c
          ∧ r.2.mem ((c.tc : Thread Cert.InOddReferenceIdeal.nD Cert.InOddReferenceIdeal.τ).loc Cert.InOddReferenceIdeal.main_arg0) = m' ((c.tc : Thread Cert.InOddReferenceIdeal.nD Cert.InOddReferenceIdeal.τ).loc Cert.InOddReferenceIdeal.main_arg0)
          ∧ r.2.mem ((c.tc : Thread Cert.InOddReferenceIdeal.nD Cert.InOddReferenceIdeal.τ).loc Cert.InOddReferenceIdeal.main_arg1) = m' ((c.tc : Thread Cert.InOddReferenceIdeal.nD Cert.InOddReferenceIdeal.τ).loc Cert.InOddReferenceIdeal.main_arg1)
          ∧ r.2.mem ((c.tc : Thread Cert.InOddReferenceIdeal.nD Cert.InOddReferenceIdeal.τ).loc Cert.InOddReferenceIdeal.main_arg2) = m' ((c.tc : Thread Cert.InOddReferenceIdeal.nD Cert.InOddReferenceIdeal.τ).loc Cert.InOddReferenceIdeal.main_arg2)
          ∧ r.2.mem ((c.tc : Thread Cert.InOddReferenceIdeal.nD Cert.InOddReferenceIdeal.τ).loc Cert.InOddReferenceIdeal.main_arg3) = m' ((c.tc : Thread Cert.InOddReferenceIdeal.nD Cert.InOddReferenceIdeal.τ).loc Cert.InOddReferenceIdeal.main_arg3)
          ∧ r.2.mem ((c.tc : Thread Cert.InOddReferenceIdeal.nD Cert.InOddReferenceIdeal.τ).loc Cert.InOddReferenceIdeal.main_arg4) = m' ((c.tc : Thread Cert.InOddReferenceIdeal.nD Cert.InOddReferenceIdeal.τ).loc Cert.InOddReferenceIdeal.main_arg4))

def preserves_OutEven_OutEvenIdeal : Prop :=
  True

def algebraic_OutEvenIdeal_OutEvenReferenceIdeal [hOutEvenIdeal : Cert.OutEvenIdeal.Facts] [hOutEvenReferenceIdeal : Cert.OutEvenReferenceIdeal.Facts] : Prop :=
  ∀ (m : (ℓ : Loc Cert.OutEvenIdeal.nD Cert.OutEvenIdeal.τ Cert.OutEvenIdeal.sig) → Buf (Elt Ideal) ℓ) (g : Dev Cert.OutEvenIdeal.nD → PrngReg)
    (m' : (ℓ : Loc Cert.OutEvenReferenceIdeal.nD Cert.OutEvenReferenceIdeal.τ Cert.OutEvenReferenceIdeal.sig) → Buf (Elt Ideal) ℓ) (g' : Dev Cert.OutEvenReferenceIdeal.nD → PrngReg), Pre_OutEvenIdeal m →
    (∀ c : Dev Cert.OutEvenIdeal.nD,
      m' ((c.tc : Thread Cert.OutEvenReferenceIdeal.nD Cert.OutEvenReferenceIdeal.τ).loc Cert.OutEvenReferenceIdeal.main_arg0) = m ((c.tc : Thread Cert.OutEvenIdeal.nD Cert.OutEvenIdeal.τ).loc Cert.OutEvenIdeal.main_arg0)
      ∧ m' ((c.tc : Thread Cert.OutEvenReferenceIdeal.nD Cert.OutEvenReferenceIdeal.τ).loc Cert.OutEvenReferenceIdeal.main_arg1) = m ((c.tc : Thread Cert.OutEvenIdeal.nD Cert.OutEvenIdeal.τ).loc Cert.OutEvenIdeal.main_arg1)
      ∧ m' ((c.tc : Thread Cert.OutEvenReferenceIdeal.nD Cert.OutEvenReferenceIdeal.τ).loc Cert.OutEvenReferenceIdeal.main_arg2) = m ((c.tc : Thread Cert.OutEvenIdeal.nD Cert.OutEvenIdeal.τ).loc Cert.OutEvenIdeal.main_arg2)
      ∧ m' ((c.tc : Thread Cert.OutEvenReferenceIdeal.nD Cert.OutEvenReferenceIdeal.τ).loc Cert.OutEvenReferenceIdeal.main_arg3) = m ((c.tc : Thread Cert.OutEvenIdeal.nD Cert.OutEvenIdeal.τ).loc Cert.OutEvenIdeal.main_arg3)
      ∧ m' ((c.tc : Thread Cert.OutEvenReferenceIdeal.nD Cert.OutEvenReferenceIdeal.τ).loc Cert.OutEvenReferenceIdeal.main_arg4) = m ((c.tc : Thread Cert.OutEvenIdeal.nD Cert.OutEvenIdeal.τ).loc Cert.OutEvenIdeal.main_arg4)
      ∧ m' ((c.tc : Thread Cert.OutEvenReferenceIdeal.nD Cert.OutEvenReferenceIdeal.τ).loc Cert.OutEvenReferenceIdeal.main_arg5) = m ((c.tc : Thread Cert.OutEvenIdeal.nD Cert.OutEvenIdeal.τ).loc Cert.OutEvenIdeal.main_arg5)
      ∧ m' ((c.tc : Thread Cert.OutEvenReferenceIdeal.nD Cert.OutEvenReferenceIdeal.τ).loc Cert.OutEvenReferenceIdeal.main_arg6) = m ((c.tc : Thread Cert.OutEvenIdeal.nD Cert.OutEvenIdeal.τ).loc Cert.OutEvenIdeal.main_arg6)) →
    ∃ (v0 : (c : Dev Cert.OutEvenIdeal.nD) → Buf (Elt Ideal) ((c.tc : Thread Cert.OutEvenIdeal.nD Cert.OutEvenIdeal.τ).loc Cert.OutEvenIdeal.main_v0)),
      θ_run (Cert.OutEvenIdeal.defs (F := Ideal)) (onTc (τ := Cert.OutEvenIdeal.τ) (Cert.OutEvenIdeal.main (F := Ideal))) ⟨m, fun _ => 0, g⟩ (fun r => ∀ c : Dev Cert.OutEvenIdeal.nD,
          r.2.mem ((c.tc : Thread Cert.OutEvenIdeal.nD Cert.OutEvenIdeal.τ).loc Cert.OutEvenIdeal.main_v0) = v0 c
          ∧ r.2.mem ((c.tc : Thread Cert.OutEvenIdeal.nD Cert.OutEvenIdeal.τ).loc Cert.OutEvenIdeal.main_arg0) = m ((c.tc : Thread Cert.OutEvenIdeal.nD Cert.OutEvenIdeal.τ).loc Cert.OutEvenIdeal.main_arg0)
          ∧ r.2.mem ((c.tc : Thread Cert.OutEvenIdeal.nD Cert.OutEvenIdeal.τ).loc Cert.OutEvenIdeal.main_arg1) = m ((c.tc : Thread Cert.OutEvenIdeal.nD Cert.OutEvenIdeal.τ).loc Cert.OutEvenIdeal.main_arg1)
          ∧ r.2.mem ((c.tc : Thread Cert.OutEvenIdeal.nD Cert.OutEvenIdeal.τ).loc Cert.OutEvenIdeal.main_arg2) = m ((c.tc : Thread Cert.OutEvenIdeal.nD Cert.OutEvenIdeal.τ).loc Cert.OutEvenIdeal.main_arg2)
          ∧ r.2.mem ((c.tc : Thread Cert.OutEvenIdeal.nD Cert.OutEvenIdeal.τ).loc Cert.OutEvenIdeal.main_arg3) = m ((c.tc : Thread Cert.OutEvenIdeal.nD Cert.OutEvenIdeal.τ).loc Cert.OutEvenIdeal.main_arg3)
          ∧ r.2.mem ((c.tc : Thread Cert.OutEvenIdeal.nD Cert.OutEvenIdeal.τ).loc Cert.OutEvenIdeal.main_arg4) = m ((c.tc : Thread Cert.OutEvenIdeal.nD Cert.OutEvenIdeal.τ).loc Cert.OutEvenIdeal.main_arg4)
          ∧ r.2.mem ((c.tc : Thread Cert.OutEvenIdeal.nD Cert.OutEvenIdeal.τ).loc Cert.OutEvenIdeal.main_arg5) = m ((c.tc : Thread Cert.OutEvenIdeal.nD Cert.OutEvenIdeal.τ).loc Cert.OutEvenIdeal.main_arg5)
          ∧ r.2.mem ((c.tc : Thread Cert.OutEvenIdeal.nD Cert.OutEvenIdeal.τ).loc Cert.OutEvenIdeal.main_arg6) = m ((c.tc : Thread Cert.OutEvenIdeal.nD Cert.OutEvenIdeal.τ).loc Cert.OutEvenIdeal.main_arg6))
      ∧ θ_run (Cert.OutEvenReferenceIdeal.defs (F := Ideal)) (onTc (τ := Cert.OutEvenReferenceIdeal.τ) (Cert.OutEvenReferenceIdeal.main (F := Ideal))) ⟨m', fun _ => 0, g'⟩ (fun r => ∀ c : Dev Cert.OutEvenReferenceIdeal.nD,
          r.2.mem ((c.tc : Thread Cert.OutEvenReferenceIdeal.nD Cert.OutEvenReferenceIdeal.τ).loc Cert.OutEvenReferenceIdeal.main_v11) = v0 c
          ∧ r.2.mem ((c.tc : Thread Cert.OutEvenReferenceIdeal.nD Cert.OutEvenReferenceIdeal.τ).loc Cert.OutEvenReferenceIdeal.main_arg0) = m' ((c.tc : Thread Cert.OutEvenReferenceIdeal.nD Cert.OutEvenReferenceIdeal.τ).loc Cert.OutEvenReferenceIdeal.main_arg0)
          ∧ r.2.mem ((c.tc : Thread Cert.OutEvenReferenceIdeal.nD Cert.OutEvenReferenceIdeal.τ).loc Cert.OutEvenReferenceIdeal.main_arg1) = m' ((c.tc : Thread Cert.OutEvenReferenceIdeal.nD Cert.OutEvenReferenceIdeal.τ).loc Cert.OutEvenReferenceIdeal.main_arg1)
          ∧ r.2.mem ((c.tc : Thread Cert.OutEvenReferenceIdeal.nD Cert.OutEvenReferenceIdeal.τ).loc Cert.OutEvenReferenceIdeal.main_arg2) = m' ((c.tc : Thread Cert.OutEvenReferenceIdeal.nD Cert.OutEvenReferenceIdeal.τ).loc Cert.OutEvenReferenceIdeal.main_arg2)
          ∧ r.2.mem ((c.tc : Thread Cert.OutEvenReferenceIdeal.nD Cert.OutEvenReferenceIdeal.τ).loc Cert.OutEvenReferenceIdeal.main_arg3) = m' ((c.tc : Thread Cert.OutEvenReferenceIdeal.nD Cert.OutEvenReferenceIdeal.τ).loc Cert.OutEvenReferenceIdeal.main_arg3)
          ∧ r.2.mem ((c.tc : Thread Cert.OutEvenReferenceIdeal.nD Cert.OutEvenReferenceIdeal.τ).loc Cert.OutEvenReferenceIdeal.main_arg4) = m' ((c.tc : Thread Cert.OutEvenReferenceIdeal.nD Cert.OutEvenReferenceIdeal.τ).loc Cert.OutEvenReferenceIdeal.main_arg4)
          ∧ r.2.mem ((c.tc : Thread Cert.OutEvenReferenceIdeal.nD Cert.OutEvenReferenceIdeal.τ).loc Cert.OutEvenReferenceIdeal.main_arg5) = m' ((c.tc : Thread Cert.OutEvenReferenceIdeal.nD Cert.OutEvenReferenceIdeal.τ).loc Cert.OutEvenReferenceIdeal.main_arg5)
          ∧ r.2.mem ((c.tc : Thread Cert.OutEvenReferenceIdeal.nD Cert.OutEvenReferenceIdeal.τ).loc Cert.OutEvenReferenceIdeal.main_arg6) = m' ((c.tc : Thread Cert.OutEvenReferenceIdeal.nD Cert.OutEvenReferenceIdeal.τ).loc Cert.OutEvenReferenceIdeal.main_arg6))

def preserves_OutOdd_OutOddIdeal : Prop :=
  True

def algebraic_OutOddIdeal_OutOddReferenceIdeal [hOutOddIdeal : Cert.OutOddIdeal.Facts] [hOutOddReferenceIdeal : Cert.OutOddReferenceIdeal.Facts] : Prop :=
  ∀ (m : (ℓ : Loc Cert.OutOddIdeal.nD Cert.OutOddIdeal.τ Cert.OutOddIdeal.sig) → Buf (Elt Ideal) ℓ) (g : Dev Cert.OutOddIdeal.nD → PrngReg)
    (m' : (ℓ : Loc Cert.OutOddReferenceIdeal.nD Cert.OutOddReferenceIdeal.τ Cert.OutOddReferenceIdeal.sig) → Buf (Elt Ideal) ℓ) (g' : Dev Cert.OutOddReferenceIdeal.nD → PrngReg), Pre_OutOddIdeal m →
    (∀ c : Dev Cert.OutOddIdeal.nD,
      m' ((c.tc : Thread Cert.OutOddReferenceIdeal.nD Cert.OutOddReferenceIdeal.τ).loc Cert.OutOddReferenceIdeal.main_arg0) = m ((c.tc : Thread Cert.OutOddIdeal.nD Cert.OutOddIdeal.τ).loc Cert.OutOddIdeal.main_arg0)
      ∧ m' ((c.tc : Thread Cert.OutOddReferenceIdeal.nD Cert.OutOddReferenceIdeal.τ).loc Cert.OutOddReferenceIdeal.main_arg1) = m ((c.tc : Thread Cert.OutOddIdeal.nD Cert.OutOddIdeal.τ).loc Cert.OutOddIdeal.main_arg1)
      ∧ m' ((c.tc : Thread Cert.OutOddReferenceIdeal.nD Cert.OutOddReferenceIdeal.τ).loc Cert.OutOddReferenceIdeal.main_arg2) = m ((c.tc : Thread Cert.OutOddIdeal.nD Cert.OutOddIdeal.τ).loc Cert.OutOddIdeal.main_arg2)
      ∧ m' ((c.tc : Thread Cert.OutOddReferenceIdeal.nD Cert.OutOddReferenceIdeal.τ).loc Cert.OutOddReferenceIdeal.main_arg3) = m ((c.tc : Thread Cert.OutOddIdeal.nD Cert.OutOddIdeal.τ).loc Cert.OutOddIdeal.main_arg3)
      ∧ m' ((c.tc : Thread Cert.OutOddReferenceIdeal.nD Cert.OutOddReferenceIdeal.τ).loc Cert.OutOddReferenceIdeal.main_arg4) = m ((c.tc : Thread Cert.OutOddIdeal.nD Cert.OutOddIdeal.τ).loc Cert.OutOddIdeal.main_arg4)) →
    ∃ (v0 : (c : Dev Cert.OutOddIdeal.nD) → Buf (Elt Ideal) ((c.tc : Thread Cert.OutOddIdeal.nD Cert.OutOddIdeal.τ).loc Cert.OutOddIdeal.main_v0)),
      θ_run (Cert.OutOddIdeal.defs (F := Ideal)) (onTc (τ := Cert.OutOddIdeal.τ) (Cert.OutOddIdeal.main (F := Ideal))) ⟨m, fun _ => 0, g⟩ (fun r => ∀ c : Dev Cert.OutOddIdeal.nD,
          r.2.mem ((c.tc : Thread Cert.OutOddIdeal.nD Cert.OutOddIdeal.τ).loc Cert.OutOddIdeal.main_v0) = v0 c
          ∧ r.2.mem ((c.tc : Thread Cert.OutOddIdeal.nD Cert.OutOddIdeal.τ).loc Cert.OutOddIdeal.main_arg0) = m ((c.tc : Thread Cert.OutOddIdeal.nD Cert.OutOddIdeal.τ).loc Cert.OutOddIdeal.main_arg0)
          ∧ r.2.mem ((c.tc : Thread Cert.OutOddIdeal.nD Cert.OutOddIdeal.τ).loc Cert.OutOddIdeal.main_arg1) = m ((c.tc : Thread Cert.OutOddIdeal.nD Cert.OutOddIdeal.τ).loc Cert.OutOddIdeal.main_arg1)
          ∧ r.2.mem ((c.tc : Thread Cert.OutOddIdeal.nD Cert.OutOddIdeal.τ).loc Cert.OutOddIdeal.main_arg2) = m ((c.tc : Thread Cert.OutOddIdeal.nD Cert.OutOddIdeal.τ).loc Cert.OutOddIdeal.main_arg2)
          ∧ r.2.mem ((c.tc : Thread Cert.OutOddIdeal.nD Cert.OutOddIdeal.τ).loc Cert.OutOddIdeal.main_arg3) = m ((c.tc : Thread Cert.OutOddIdeal.nD Cert.OutOddIdeal.τ).loc Cert.OutOddIdeal.main_arg3)
          ∧ r.2.mem ((c.tc : Thread Cert.OutOddIdeal.nD Cert.OutOddIdeal.τ).loc Cert.OutOddIdeal.main_arg4) = m ((c.tc : Thread Cert.OutOddIdeal.nD Cert.OutOddIdeal.τ).loc Cert.OutOddIdeal.main_arg4))
      ∧ θ_run (Cert.OutOddReferenceIdeal.defs (F := Ideal)) (onTc (τ := Cert.OutOddReferenceIdeal.τ) (Cert.OutOddReferenceIdeal.main (F := Ideal))) ⟨m', fun _ => 0, g'⟩ (fun r => ∀ c : Dev Cert.OutOddReferenceIdeal.nD,
          r.2.mem ((c.tc : Thread Cert.OutOddReferenceIdeal.nD Cert.OutOddReferenceIdeal.τ).loc Cert.OutOddReferenceIdeal.main_v9) = v0 c
          ∧ r.2.mem ((c.tc : Thread Cert.OutOddReferenceIdeal.nD Cert.OutOddReferenceIdeal.τ).loc Cert.OutOddReferenceIdeal.main_arg0) = m' ((c.tc : Thread Cert.OutOddReferenceIdeal.nD Cert.OutOddReferenceIdeal.τ).loc Cert.OutOddReferenceIdeal.main_arg0)
          ∧ r.2.mem ((c.tc : Thread Cert.OutOddReferenceIdeal.nD Cert.OutOddReferenceIdeal.τ).loc Cert.OutOddReferenceIdeal.main_arg1) = m' ((c.tc : Thread Cert.OutOddReferenceIdeal.nD Cert.OutOddReferenceIdeal.τ).loc Cert.OutOddReferenceIdeal.main_arg1)
          ∧ r.2.mem ((c.tc : Thread Cert.OutOddReferenceIdeal.nD Cert.OutOddReferenceIdeal.τ).loc Cert.OutOddReferenceIdeal.main_arg2) = m' ((c.tc : Thread Cert.OutOddReferenceIdeal.nD Cert.OutOddReferenceIdeal.τ).loc Cert.OutOddReferenceIdeal.main_arg2)
          ∧ r.2.mem ((c.tc : Thread Cert.OutOddReferenceIdeal.nD Cert.OutOddReferenceIdeal.τ).loc Cert.OutOddReferenceIdeal.main_arg3) = m' ((c.tc : Thread Cert.OutOddReferenceIdeal.nD Cert.OutOddReferenceIdeal.τ).loc Cert.OutOddReferenceIdeal.main_arg3)
          ∧ r.2.mem ((c.tc : Thread Cert.OutOddReferenceIdeal.nD Cert.OutOddReferenceIdeal.τ).loc Cert.OutOddReferenceIdeal.main_arg4) = m' ((c.tc : Thread Cert.OutOddReferenceIdeal.nD Cert.OutOddReferenceIdeal.τ).loc Cert.OutOddReferenceIdeal.main_arg4))

def preserves_Ada_AdaIdeal : Prop :=
  True

def algebraic_AdaIdeal_AdaReferenceIdeal [hAdaIdeal : Cert.AdaIdeal.Facts] [hAdaReferenceIdeal : Cert.AdaReferenceIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaReferenceIdeal.nD Cert.AdaReferenceIdeal.τ Cert.AdaReferenceIdeal.sig) → Buf (Elt Ideal) ℓ) (g' : Dev Cert.AdaReferenceIdeal.nD → PrngReg), Pre_AdaIdeal m →
    (∀ c : Dev Cert.AdaIdeal.nD,
      m' ((c.tc : Thread Cert.AdaReferenceIdeal.nD Cert.AdaReferenceIdeal.τ).loc Cert.AdaReferenceIdeal.main_arg0) = m ((c.tc : Thread Cert.AdaIdeal.nD Cert.AdaIdeal.τ).loc Cert.AdaIdeal.main_arg0)
      ∧ m' ((c.tc : Thread Cert.AdaReferenceIdeal.nD Cert.AdaReferenceIdeal.τ).loc Cert.AdaReferenceIdeal.main_arg1) = m ((c.tc : Thread Cert.AdaIdeal.nD Cert.AdaIdeal.τ).loc Cert.AdaIdeal.main_arg1)
      ∧ m' ((c.tc : Thread Cert.AdaReferenceIdeal.nD Cert.AdaReferenceIdeal.τ).loc Cert.AdaReferenceIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v2)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v2) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaReferenceIdeal.defs (F := Ideal)) (onTc (τ := Cert.AdaReferenceIdeal.τ) (Cert.AdaReferenceIdeal.main (F := Ideal))) ⟨m', fun _ => 0, g'⟩ (fun r => ∀ c : Dev Cert.AdaReferenceIdeal.nD,
          r.2.mem ((c.tc : Thread Cert.AdaReferenceIdeal.nD Cert.AdaReferenceIdeal.τ).loc Cert.AdaReferenceIdeal.main_v5) = v0 c
          ∧ r.2.mem ((c.tc : Thread Cert.AdaReferenceIdeal.nD Cert.AdaReferenceIdeal.τ).loc Cert.AdaReferenceIdeal.main_arg0) = m' ((c.tc : Thread Cert.AdaReferenceIdeal.nD Cert.AdaReferenceIdeal.τ).loc Cert.AdaReferenceIdeal.main_arg0)
          ∧ r.2.mem ((c.tc : Thread Cert.AdaReferenceIdeal.nD Cert.AdaReferenceIdeal.τ).loc Cert.AdaReferenceIdeal.main_arg1) = m' ((c.tc : Thread Cert.AdaReferenceIdeal.nD Cert.AdaReferenceIdeal.τ).loc Cert.AdaReferenceIdeal.main_arg1)
          ∧ r.2.mem ((c.tc : Thread Cert.AdaReferenceIdeal.nD Cert.AdaReferenceIdeal.τ).loc Cert.AdaReferenceIdeal.main_arg2) = m' ((c.tc : Thread Cert.AdaReferenceIdeal.nD Cert.AdaReferenceIdeal.τ).loc Cert.AdaReferenceIdeal.main_arg2))

def preserves_Compress_CompressIdeal : Prop :=
  True

def algebraic_CompressIdeal_CompressReferenceIdeal [hCompressIdeal : Cert.CompressIdeal.Facts] [hCompressReferenceIdeal : Cert.CompressReferenceIdeal.Facts] : Prop :=
  ∀ (m : (ℓ : Loc Cert.CompressIdeal.nD Cert.CompressIdeal.τ Cert.CompressIdeal.sig) → Buf (Elt Ideal) ℓ) (g : Dev Cert.CompressIdeal.nD → PrngReg)
    (m' : (ℓ : Loc Cert.CompressReferenceIdeal.nD Cert.CompressReferenceIdeal.τ Cert.CompressReferenceIdeal.sig) → Buf (Elt Ideal) ℓ) (g' : Dev Cert.CompressReferenceIdeal.nD → PrngReg), Pre_CompressIdeal m →
    (∀ c : Dev Cert.CompressIdeal.nD,
      m' ((c.tc : Thread Cert.CompressReferenceIdeal.nD Cert.CompressReferenceIdeal.τ).loc Cert.CompressReferenceIdeal.main_arg0) = m ((c.tc : Thread Cert.CompressIdeal.nD Cert.CompressIdeal.τ).loc Cert.CompressIdeal.main_arg0)
      ∧ m' ((c.tc : Thread Cert.CompressReferenceIdeal.nD Cert.CompressReferenceIdeal.τ).loc Cert.CompressReferenceIdeal.main_arg1) = m ((c.tc : Thread Cert.CompressIdeal.nD Cert.CompressIdeal.τ).loc Cert.CompressIdeal.main_arg1)
      ∧ m' ((c.tc : Thread Cert.CompressReferenceIdeal.nD Cert.CompressReferenceIdeal.τ).loc Cert.CompressReferenceIdeal.main_arg2) = m ((c.tc : Thread Cert.CompressIdeal.nD Cert.CompressIdeal.τ).loc Cert.CompressIdeal.main_arg2)) →
    ∃ (v0 : (c : Dev Cert.CompressIdeal.nD) → Buf (Elt Ideal) ((c.tc : Thread Cert.CompressIdeal.nD Cert.CompressIdeal.τ).loc Cert.CompressIdeal.main_v19)),
      θ_run (Cert.CompressIdeal.defs (F := Ideal)) (onTc (τ := Cert.CompressIdeal.τ) (Cert.CompressIdeal.main (F := Ideal))) ⟨m, fun _ => 0, g⟩ (fun r => ∀ c : Dev Cert.CompressIdeal.nD,
          r.2.mem ((c.tc : Thread Cert.CompressIdeal.nD Cert.CompressIdeal.τ).loc Cert.CompressIdeal.main_v19) = v0 c
          ∧ r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
          ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
          ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2))
      ∧ θ_run (Cert.CompressReferenceIdeal.defs (F := Ideal)) (onTc (τ := Cert.CompressReferenceIdeal.τ) (Cert.CompressReferenceIdeal.main (F := Ideal))) ⟨m', fun _ => 0, g'⟩ (fun r => ∀ c : Dev Cert.CompressReferenceIdeal.nD,
          r.2.mem ((c.tc : Thread Cert.CompressReferenceIdeal.nD Cert.CompressReferenceIdeal.τ).loc Cert.CompressReferenceIdeal.main_v51) = v0 c
          ∧ r.2.mem ((c.tc : Thread Cert.CompressReferenceIdeal.nD Cert.CompressReferenceIdeal.τ).loc Cert.CompressReferenceIdeal.main_arg0) = m' ((c.tc : Thread Cert.CompressReferenceIdeal.nD Cert.CompressReferenceIdeal.τ).loc Cert.CompressReferenceIdeal.main_arg0)
          ∧ r.2.mem ((c.tc : Thread Cert.CompressReferenceIdeal.nD Cert.CompressReferenceIdeal.τ).loc Cert.CompressReferenceIdeal.main_arg1) = m' ((c.tc : Thread Cert.CompressReferenceIdeal.nD Cert.CompressReferenceIdeal.τ).loc Cert.CompressReferenceIdeal.main_arg1)
          ∧ r.2.mem ((c.tc : Thread Cert.CompressReferenceIdeal.nD Cert.CompressReferenceIdeal.τ).loc Cert.CompressReferenceIdeal.main_arg2) = m' ((c.tc : Thread Cert.CompressReferenceIdeal.nD Cert.CompressReferenceIdeal.τ).loc Cert.CompressReferenceIdeal.main_arg2))

def preserves_Select_SelectIdeal : Prop :=
  True

def algebraic_SelectIdeal_SelectReferenceIdeal_on_attended [hSelectIdeal : Cert.SelectIdeal.Facts] [hSelectReferenceIdeal : Cert.SelectReferenceIdeal.Facts] [hOn_attended : Cert.On_attended.Facts] : Prop :=
  ∀ (m : (ℓ : Loc Cert.SelectIdeal.nD Cert.SelectIdeal.τ Cert.SelectIdeal.sig) → Buf (Elt Ideal) ℓ) (g : Dev Cert.SelectIdeal.nD → PrngReg)
    (m' : (ℓ : Loc Cert.SelectReferenceIdeal.nD Cert.SelectReferenceIdeal.τ Cert.SelectReferenceIdeal.sig) → Buf (Elt Ideal) ℓ) (g' : Dev Cert.SelectReferenceIdeal.nD → PrngReg), Pre_SelectIdeal m →
    (∀ c : Dev Cert.SelectIdeal.nD,
      m' ((c.tc : Thread Cert.SelectReferenceIdeal.nD Cert.SelectReferenceIdeal.τ).loc Cert.SelectReferenceIdeal.main_arg0) = m ((c.tc : Thread Cert.SelectIdeal.nD Cert.SelectIdeal.τ).loc Cert.SelectIdeal.main_arg0)
      ∧ m' ((c.tc : Thread Cert.SelectReferenceIdeal.nD Cert.SelectReferenceIdeal.τ).loc Cert.SelectReferenceIdeal.main_arg1) = m ((c.tc : Thread Cert.SelectIdeal.nD Cert.SelectIdeal.τ).loc Cert.SelectIdeal.main_arg1)
      ∧ m' ((c.tc : Thread Cert.SelectReferenceIdeal.nD Cert.SelectReferenceIdeal.τ).loc Cert.SelectReferenceIdeal.main_arg2) = m ((c.tc : Thread Cert.SelectIdeal.nD Cert.SelectIdeal.τ).loc Cert.SelectIdeal.main_arg2)) →
    ∃ (v0 : (c : Dev Cert.SelectIdeal.nD) → Buf (Elt Ideal) ((c.tc : Thread Cert.SelectIdeal.nD Cert.SelectIdeal.τ).loc Cert.SelectIdeal.main_v0_0)) (v1 : (c : Dev Cert.SelectIdeal.nD) → Buf (Elt Ideal) ((c.tc : Thread Cert.SelectIdeal.nD Cert.SelectIdeal.τ).loc Cert.SelectIdeal.main_v0_1)),
      θ_run (Cert.SelectIdeal.defs (F := Ideal)) (onTc (τ := Cert.SelectIdeal.τ) (Cert.SelectIdeal.main (F := Ideal))) ⟨m, fun _ => 0, g⟩ (fun r => ∀ c : Dev Cert.SelectIdeal.nD,
          (∀ i : (⟨3, ![4, 4096, 512]⟩ : Shape).Idx, (Cert.On_attended.fn (F := Ideal) (m ((c.tc : Thread Cert.SelectIdeal.nD Cert.SelectIdeal.τ).loc Cert.SelectIdeal.main_arg0)) (m ((c.tc : Thread Cert.SelectIdeal.nD Cert.SelectIdeal.τ).loc Cert.SelectIdeal.main_arg1)) (m ((c.tc : Thread Cert.SelectIdeal.nD Cert.SelectIdeal.τ).loc Cert.SelectIdeal.main_arg2))).1 i = 1#1 → r.2.mem ((c.tc : Thread Cert.SelectIdeal.nD Cert.SelectIdeal.τ).loc Cert.SelectIdeal.main_v0_0) i = v0 c i)
          ∧ (∀ i : (⟨3, ![4, 4096, 256]⟩ : Shape).Idx, (Cert.On_attended.fn (F := Ideal) (m ((c.tc : Thread Cert.SelectIdeal.nD Cert.SelectIdeal.τ).loc Cert.SelectIdeal.main_arg0)) (m ((c.tc : Thread Cert.SelectIdeal.nD Cert.SelectIdeal.τ).loc Cert.SelectIdeal.main_arg1)) (m ((c.tc : Thread Cert.SelectIdeal.nD Cert.SelectIdeal.τ).loc Cert.SelectIdeal.main_arg2))).2 i = 1#1 → r.2.mem ((c.tc : Thread Cert.SelectIdeal.nD Cert.SelectIdeal.τ).loc Cert.SelectIdeal.main_v0_1) i = v1 c i)
          ∧ r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
          ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1)
          ∧ r.2.mem ((c.tc : Thread Cert.SelectIdeal.nD Cert.SelectIdeal.τ).loc Cert.SelectIdeal.main_arg2) = m ((c.tc : Thread Cert.SelectIdeal.nD Cert.SelectIdeal.τ).loc Cert.SelectIdeal.main_arg2))
      ∧ θ_run (Cert.SelectReferenceIdeal.defs (F := Ideal)) (onTc (τ := Cert.SelectReferenceIdeal.τ) (Cert.SelectReferenceIdeal.main (F := Ideal))) ⟨m', fun _ => 0, g'⟩ (fun r => ∀ c : Dev Cert.SelectReferenceIdeal.nD,
          (∀ i : (⟨3, ![4, 4096, 512]⟩ : Shape).Idx, (Cert.On_attended.fn (F := Ideal) (m ((c.tc : Thread Cert.SelectIdeal.nD Cert.SelectIdeal.τ).loc Cert.SelectIdeal.main_arg0)) (m ((c.tc : Thread Cert.SelectIdeal.nD Cert.SelectIdeal.τ).loc Cert.SelectIdeal.main_arg1)) (m ((c.tc : Thread Cert.SelectIdeal.nD Cert.SelectIdeal.τ).loc Cert.SelectIdeal.main_arg2))).1 i = 1#1 → r.2.mem ((c.tc : Thread Cert.SelectReferenceIdeal.nD Cert.SelectReferenceIdeal.τ).loc Cert.SelectReferenceIdeal.main_v113) i = v0 c i)
          ∧ (∀ i : (⟨3, ![4, 4096, 256]⟩ : Shape).Idx, (Cert.On_attended.fn (F := Ideal) (m ((c.tc : Thread Cert.SelectIdeal.nD Cert.SelectIdeal.τ).loc Cert.SelectIdeal.main_arg0)) (m ((c.tc : Thread Cert.SelectIdeal.nD Cert.SelectIdeal.τ).loc Cert.SelectIdeal.main_arg1)) (m ((c.tc : Thread Cert.SelectIdeal.nD Cert.SelectIdeal.τ).loc Cert.SelectIdeal.main_arg2))).2 i = 1#1 → r.2.mem ((c.tc : Thread Cert.SelectReferenceIdeal.nD Cert.SelectReferenceIdeal.τ).loc Cert.SelectReferenceIdeal.main_v115) i = v1 c i)
          ∧ r.2.mem ((c.tc : Thread Cert.SelectReferenceIdeal.nD Cert.SelectReferenceIdeal.τ).loc Cert.SelectReferenceIdeal.main_arg0) = m' ((c.tc : Thread Cert.SelectReferenceIdeal.nD Cert.SelectReferenceIdeal.τ).loc Cert.SelectReferenceIdeal.main_arg0)
          ∧ r.2.mem ((c.tc : Thread Cert.SelectReferenceIdeal.nD Cert.SelectReferenceIdeal.τ).loc Cert.SelectReferenceIdeal.main_arg1) = m' ((c.tc : Thread Cert.SelectReferenceIdeal.nD Cert.SelectReferenceIdeal.τ).loc Cert.SelectReferenceIdeal.main_arg1)
          ∧ r.2.mem ((c.tc : Thread Cert.SelectReferenceIdeal.nD Cert.SelectReferenceIdeal.τ).loc Cert.SelectReferenceIdeal.main_arg2) = m' ((c.tc : Thread Cert.SelectReferenceIdeal.nD Cert.SelectReferenceIdeal.τ).loc Cert.SelectReferenceIdeal.main_arg2))

def preserves_SampleWindow_SampleWindowIdeal : Prop :=
  True

def algebraic_SampleWindowIdeal_SampleWindowReferenceIdeal [hSampleWindowIdeal : Cert.SampleWindowIdeal.Facts] [hSampleWindowReferenceIdeal : Cert.SampleWindowReferenceIdeal.Facts] : Prop :=
  ∀ (m : (ℓ : Loc Cert.SampleWindowIdeal.nD Cert.SampleWindowIdeal.τ Cert.SampleWindowIdeal.sig) → Buf (Elt Ideal) ℓ) (g : Dev Cert.SampleWindowIdeal.nD → PrngReg)
    (m' : (ℓ : Loc Cert.SampleWindowReferenceIdeal.nD Cert.SampleWindowReferenceIdeal.τ Cert.SampleWindowReferenceIdeal.sig) → Buf (Elt Ideal) ℓ) (g' : Dev Cert.SampleWindowReferenceIdeal.nD → PrngReg), Pre_SampleWindowIdeal m →
    (∀ c : Dev Cert.SampleWindowIdeal.nD,
      m' ((c.tc : Thread Cert.SampleWindowReferenceIdeal.nD Cert.SampleWindowReferenceIdeal.τ).loc Cert.SampleWindowReferenceIdeal.main_arg0) = m ((c.tc : Thread Cert.SampleWindowIdeal.nD Cert.SampleWindowIdeal.τ).loc Cert.SampleWindowIdeal.main_arg0)
      ∧ m' ((c.tc : Thread Cert.SampleWindowReferenceIdeal.nD Cert.SampleWindowReferenceIdeal.τ).loc Cert.SampleWindowReferenceIdeal.main_arg1) = m ((c.tc : Thread Cert.SampleWindowIdeal.nD Cert.SampleWindowIdeal.τ).loc Cert.SampleWindowIdeal.main_arg1)
      ∧ m' ((c.tc : Thread Cert.SampleWindowReferenceIdeal.nD Cert.SampleWindowReferenceIdeal.τ).loc Cert.SampleWindowReferenceIdeal.main_arg2) = m ((c.tc : Thread Cert.SampleWindowIdeal.nD Cert.SampleWindowIdeal.τ).loc Cert.SampleWindowIdeal.main_arg2)) →
    ∃ (v0 : (c : Dev Cert.SampleWindowIdeal.nD) → Buf (Elt Ideal) ((c.tc : Thread Cert.SampleWindowIdeal.nD Cert.SampleWindowIdeal.τ).loc Cert.SampleWindowIdeal.main_v0)),
      θ_run (Cert.SampleWindowIdeal.defs (F := Ideal)) (onTc (τ := Cert.SampleWindowIdeal.τ) (Cert.SampleWindowIdeal.main (F := Ideal))) ⟨m, fun _ => 0, g⟩ (fun r => ∀ c : Dev Cert.SampleWindowIdeal.nD,
          r.2.mem ((c.tc : Thread Cert.SampleWindowIdeal.nD Cert.SampleWindowIdeal.τ).loc Cert.SampleWindowIdeal.main_v0) = v0 c
          ∧ r.2.mem ((c.tc : Thread Cert.SampleWindowIdeal.nD Cert.SampleWindowIdeal.τ).loc Cert.SampleWindowIdeal.main_arg0) = m ((c.tc : Thread Cert.SampleWindowIdeal.nD Cert.SampleWindowIdeal.τ).loc Cert.SampleWindowIdeal.main_arg0)
          ∧ r.2.mem ((c.tc : Thread Cert.SampleWindowIdeal.nD Cert.SampleWindowIdeal.τ).loc Cert.SampleWindowIdeal.main_arg1) = m ((c.tc : Thread Cert.SampleWindowIdeal.nD Cert.SampleWindowIdeal.τ).loc Cert.SampleWindowIdeal.main_arg1)
          ∧ r.2.mem ((c.tc : Thread Cert.SampleWindowIdeal.nD Cert.SampleWindowIdeal.τ).loc Cert.SampleWindowIdeal.main_arg2) = m ((c.tc : Thread Cert.SampleWindowIdeal.nD Cert.SampleWindowIdeal.τ).loc Cert.SampleWindowIdeal.main_arg2))
      ∧ θ_run (Cert.SampleWindowReferenceIdeal.defs (F := Ideal)) (onTc (τ := Cert.SampleWindowReferenceIdeal.τ) (Cert.SampleWindowReferenceIdeal.main (F := Ideal))) ⟨m', fun _ => 0, g'⟩ (fun r => ∀ c : Dev Cert.SampleWindowReferenceIdeal.nD,
          r.2.mem ((c.tc : Thread Cert.SampleWindowReferenceIdeal.nD Cert.SampleWindowReferenceIdeal.τ).loc Cert.SampleWindowReferenceIdeal.main_v54) = v0 c
          ∧ r.2.mem ((c.tc : Thread Cert.SampleWindowReferenceIdeal.nD Cert.SampleWindowReferenceIdeal.τ).loc Cert.SampleWindowReferenceIdeal.main_arg0) = m' ((c.tc : Thread Cert.SampleWindowReferenceIdeal.nD Cert.SampleWindowReferenceIdeal.τ).loc Cert.SampleWindowReferenceIdeal.main_arg0)
          ∧ r.2.mem ((c.tc : Thread Cert.SampleWindowReferenceIdeal.nD Cert.SampleWindowReferenceIdeal.τ).loc Cert.SampleWindowReferenceIdeal.main_arg1) = m' ((c.tc : Thread Cert.SampleWindowReferenceIdeal.nD Cert.SampleWindowReferenceIdeal.τ).loc Cert.SampleWindowReferenceIdeal.main_arg1)
          ∧ r.2.mem ((c.tc : Thread Cert.SampleWindowReferenceIdeal.nD Cert.SampleWindowReferenceIdeal.τ).loc Cert.SampleWindowReferenceIdeal.main_arg2) = m' ((c.tc : Thread Cert.SampleWindowReferenceIdeal.nD Cert.SampleWindowReferenceIdeal.τ).loc Cert.SampleWindowReferenceIdeal.main_arg2))

def Claim : Prop :=
  ∃ (hWindow : Cert.Window.Facts) (hWindowIdeal : Cert.WindowIdeal.Facts) (hWindowReferenceIdeal : Cert.WindowReferenceIdeal.Facts) (hMlp : Cert.Mlp.Facts) (hMlpIdeal : Cert.MlpIdeal.Facts) (hMlpReferenceIdeal : Cert.MlpReferenceIdeal.Facts) (hMlpLast : Cert.MlpLast.Facts) (hMlpLastIdeal : Cert.MlpLastIdeal.Facts) (hMlpLastReferenceIdeal : Cert.MlpLastReferenceIdeal.Facts) (hInEven : Cert.InEven.Facts) (hInEvenIdeal : Cert.InEvenIdeal.Facts) (hInEvenReferenceIdeal : Cert.InEvenReferenceIdeal.Facts) (hInOdd : Cert.InOdd.Facts) (hInOddIdeal : Cert.InOddIdeal.Facts) (hInOddReferenceIdeal : Cert.InOddReferenceIdeal.Facts) (hOutEven : Cert.OutEven.Facts) (hOutEvenIdeal : Cert.OutEvenIdeal.Facts) (hOutEvenReferenceIdeal : Cert.OutEvenReferenceIdeal.Facts) (hOutOdd : Cert.OutOdd.Facts) (hOutOddIdeal : Cert.OutOddIdeal.Facts) (hOutOddReferenceIdeal : Cert.OutOddReferenceIdeal.Facts) (hAda : Cert.Ada.Facts) (hAdaIdeal : Cert.AdaIdeal.Facts) (hAdaReferenceIdeal : Cert.AdaReferenceIdeal.Facts) (hCompress : Cert.Compress.Facts) (hCompressIdeal : Cert.CompressIdeal.Facts) (hCompressReferenceIdeal : Cert.CompressReferenceIdeal.Facts) (hSelect : Cert.Select.Facts) (hSelectIdeal : Cert.SelectIdeal.Facts) (hSelectReferenceIdeal : Cert.SelectReferenceIdeal.Facts) (hSampleWindow : Cert.SampleWindow.Facts) (hSampleWindowIdeal : Cert.SampleWindowIdeal.Facts) (hSampleWindowReferenceIdeal : Cert.SampleWindowReferenceIdeal.Facts) (hOn_attended : Cert.On_attended.Facts),
    quiescent_Window (hWindow := hWindow)
    ∧ quiescent_WindowIdeal (hWindowIdeal := hWindowIdeal)
    ∧ quiescent_WindowReferenceIdeal (hWindowReferenceIdeal := hWindowReferenceIdeal)
    ∧ quiescent_Mlp (hMlp := hMlp)
    ∧ quiescent_MlpIdeal (hMlpIdeal := hMlpIdeal)
    ∧ quiescent_MlpReferenceIdeal (hMlpReferenceIdeal := hMlpReferenceIdeal)
    ∧ quiescent_MlpLast (hMlpLast := hMlpLast)
    ∧ quiescent_MlpLastIdeal (hMlpLastIdeal := hMlpLastIdeal)
    ∧ quiescent_MlpLastReferenceIdeal (hMlpLastReferenceIdeal := hMlpLastReferenceIdeal)
    ∧ quiescent_InEven (hInEven := hInEven)
    ∧ quiescent_InEvenIdeal (hInEvenIdeal := hInEvenIdeal)
    ∧ quiescent_InEvenReferenceIdeal (hInEvenReferenceIdeal := hInEvenReferenceIdeal)
    ∧ quiescent_InOdd (hInOdd := hInOdd)
    ∧ quiescent_InOddIdeal (hInOddIdeal := hInOddIdeal)
    ∧ quiescent_InOddReferenceIdeal (hInOddReferenceIdeal := hInOddReferenceIdeal)
    ∧ quiescent_OutEven (hOutEven := hOutEven)
    ∧ quiescent_OutEvenIdeal (hOutEvenIdeal := hOutEvenIdeal)
    ∧ quiescent_OutEvenReferenceIdeal (hOutEvenReferenceIdeal := hOutEvenReferenceIdeal)
    ∧ quiescent_OutOdd (hOutOdd := hOutOdd)
    ∧ quiescent_OutOddIdeal (hOutOddIdeal := hOutOddIdeal)
    ∧ quiescent_OutOddReferenceIdeal (hOutOddReferenceIdeal := hOutOddReferenceIdeal)
    ∧ quiescent_Ada (hAda := hAda)
    ∧ quiescent_AdaIdeal (hAdaIdeal := hAdaIdeal)
    ∧ quiescent_AdaReferenceIdeal (hAdaReferenceIdeal := hAdaReferenceIdeal)
    ∧ quiescent_Compress (hCompress := hCompress)
    ∧ quiescent_CompressIdeal (hCompressIdeal := hCompressIdeal)
    ∧ quiescent_CompressReferenceIdeal (hCompressReferenceIdeal := hCompressReferenceIdeal)
    ∧ quiescent_Select (hSelect := hSelect)
    ∧ quiescent_SelectIdeal (hSelectIdeal := hSelectIdeal)
    ∧ quiescent_SelectReferenceIdeal (hSelectReferenceIdeal := hSelectReferenceIdeal)
    ∧ quiescent_SampleWindow (hSampleWindow := hSampleWindow)
    ∧ quiescent_SampleWindowIdeal (hSampleWindowIdeal := hSampleWindowIdeal)
    ∧ quiescent_SampleWindowReferenceIdeal (hSampleWindowReferenceIdeal := hSampleWindowReferenceIdeal)
    ∧ preserves_Window_WindowIdeal
    ∧ algebraic_WindowIdeal_WindowReferenceIdeal (hWindowIdeal := hWindowIdeal) (hWindowReferenceIdeal := hWindowReferenceIdeal)
    ∧ preserves_Mlp_MlpIdeal
    ∧ algebraic_MlpIdeal_MlpReferenceIdeal (hMlpIdeal := hMlpIdeal) (hMlpReferenceIdeal := hMlpReferenceIdeal)
    ∧ preserves_MlpLast_MlpLastIdeal
    ∧ algebraic_MlpLastIdeal_MlpLastReferenceIdeal (hMlpLastIdeal := hMlpLastIdeal) (hMlpLastReferenceIdeal := hMlpLastReferenceIdeal)
    ∧ preserves_InEven_InEvenIdeal
    ∧ algebraic_InEvenIdeal_InEvenReferenceIdeal (hInEvenIdeal := hInEvenIdeal) (hInEvenReferenceIdeal := hInEvenReferenceIdeal)
    ∧ preserves_InOdd_InOddIdeal
    ∧ algebraic_InOddIdeal_InOddReferenceIdeal (hInOddIdeal := hInOddIdeal) (hInOddReferenceIdeal := hInOddReferenceIdeal)
    ∧ preserves_OutEven_OutEvenIdeal
    ∧ algebraic_OutEvenIdeal_OutEvenReferenceIdeal (hOutEvenIdeal := hOutEvenIdeal) (hOutEvenReferenceIdeal := hOutEvenReferenceIdeal)
    ∧ preserves_OutOdd_OutOddIdeal
    ∧ algebraic_OutOddIdeal_OutOddReferenceIdeal (hOutOddIdeal := hOutOddIdeal) (hOutOddReferenceIdeal := hOutOddReferenceIdeal)
    ∧ preserves_Ada_AdaIdeal
    ∧ algebraic_AdaIdeal_AdaReferenceIdeal (hAdaIdeal := hAdaIdeal) (hAdaReferenceIdeal := hAdaReferenceIdeal)
    ∧ preserves_Compress_CompressIdeal
    ∧ algebraic_CompressIdeal_CompressReferenceIdeal (hCompressIdeal := hCompressIdeal) (hCompressReferenceIdeal := hCompressReferenceIdeal)
    ∧ preserves_Select_SelectIdeal
    ∧ algebraic_SelectIdeal_SelectReferenceIdeal_on_attended (hSelectIdeal := hSelectIdeal) (hSelectReferenceIdeal := hSelectReferenceIdeal) (hOn_attended := hOn_attended)
    ∧ preserves_SampleWindow_SampleWindowIdeal
    ∧ algebraic_SampleWindowIdeal_SampleWindowReferenceIdeal (hSampleWindowIdeal := hSampleWindowIdeal) (hSampleWindowReferenceIdeal := hSampleWindowReferenceIdeal)
-- ==== On_attended.lean ====
abbrev S4x4096x512 : Shape := ⟨3, ![4, 4096, 512]⟩
abbrev S4x256x256 : Shape := ⟨3, ![4, 256, 256]⟩
abbrev S4x4096x128 : Shape := ⟨3, ![4, 4096, 128]⟩
abbrev S_ : Shape := ⟨0, ![]⟩
abbrev S4x4096x256 : Shape := ⟨3, ![4, 4096, 256]⟩

class Facts : Prop where
  bcast_S_S4x4096x512 : S_.BroadcastsInDim S4x4096x512 (![] : Fin 0 → Fin S4x4096x512.rank)
  bcast_S_S4x4096x256 : S_.BroadcastsInDim S4x4096x256 (![] : Fin 0 → Fin S4x4096x256.rank)

variable [Facts]

def fn {F : FTy → Type} [FloatOps F] (main_arg0 : FVec F S4x4096x512 .f32) (main_arg1 : FVec F S4x256x256 .f32) (main_arg2 : FVec F S4x4096x128 .f32) : IVec S4x4096x512 1 × IVec S4x4096x256 1 :=
  let main_c : IVec S_ 1 := constantI S_ 1 1#1
  let main_v0 : IVec S4x4096x512 1 := broadcastInDim S4x4096x512 ![] bcast_S_S4x4096x512 main_c
  let main_c_0 : IVec S_ 1 := constantI S_ 1 0#1
  let main_v1 : IVec S4x4096x256 1 := broadcastInDim S4x4096x256 ![] bcast_S_S4x4096x256 main_c_0
  (main_v0, main_v1)
-- ==== Window.lean ====
abbrev S4x4096x512 : Shape := ⟨3, ![4, 4096, 512]⟩
abbrev S4x4096x256 : Shape := ⟨3, ![4, 4096, 256]⟩
abbrev S4x4096x128 : Shape := ⟨3, ![4, 4096, 128]⟩
abbrev S1x128x512 : Shape := ⟨3, ![1, 128, 512]⟩
abbrev S1x4096x128 : Shape := ⟨3, ![1, 4096, 128]⟩
abbrev S1x128x128 : Shape := ⟨3, ![1, 128, 128]⟩
abbrev S1x640x128 : Shape := ⟨3, ![1, 640, 128]⟩
abbrev S640x128 : Shape := ⟨2, ![640, 128]⟩
abbrev S1x640 : Shape := ⟨2, ![1, 640]⟩
abbrev S128x1 : Shape := ⟨2, ![128, 1]⟩
abbrev S128x640 : Shape := ⟨2, ![128, 640]⟩
abbrev S128x128 : Shape := ⟨2, ![128, 128]⟩
abbrev S1024x128 : Shape := ⟨2, ![1024, 128]⟩
abbrev S1024x640 : Shape := ⟨2, ![1024, 640]⟩
abbrev S128 : Shape := ⟨1, ![128]⟩
abbrev S1x128x1 : Shape := ⟨3, ![1, 128, 1]⟩
abbrev S128x512 : Shape := ⟨2, ![128, 512]⟩

abbrev nBuf : Space → Nat
  | .hbm => 4
  | .vmem => 10
  | .smem => 0
  | _ => 0

abbrev bufTy : (tb : Table) → Fin (tcTables nBuf tb) → BufTy
  | .hbm, ⟨0, _⟩ => ⟨S4x4096x512, .f32⟩
  | .hbm, ⟨1, _⟩ => ⟨S4x4096x256, .f32⟩
  | .hbm, ⟨2, _⟩ => ⟨S4x4096x128, .f32⟩
  | .hbm, ⟨3, _⟩ => ⟨S4x4096x512, .f32⟩
  | .local _ .vmem, ⟨0, _⟩ => ⟨S1x128x512, .f32⟩
  | .local _ .vmem, ⟨1, _⟩ => ⟨S1x128x512, .f32⟩
  | .local _ .vmem, ⟨2, _⟩ => ⟨S1x4096x128, .f32⟩
  | .local _ .vmem, ⟨3, _⟩ => ⟨S1x4096x128, .f32⟩
  | .local _ .vmem, ⟨4, _⟩ => ⟨S1x4096x128, .f32⟩
  | .local _ .vmem, ⟨5, _⟩ => ⟨S1x4096x128, .f32⟩
  | .local _ .vmem, ⟨6, _⟩ => ⟨S1x128x128, .f32⟩
  | .local _ .vmem, ⟨7, _⟩ => ⟨S1x128x128, .f32⟩
  | .local _ .vmem, ⟨8, _⟩ => ⟨S1x128x512, .f32⟩
  | .local _ .vmem, ⟨9, _⟩ => ⟨S1x128x512, .f32⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 32], ![false, false]⟩

def k0_mult1 (i : grid0.Coords) : BitVec 32 :=
  let c3456_i32 : BitVec 32 := 3456#32
  let c0_i32_1 : BitVec 32 := 0#32
  let c0_i32 : BitVec 32 := 0#32
  let arg1 : BitVec 32 := BitVec.ofNat 32 (i 1).val
  let c128_i32 : BitVec 32 := 128#32
  let v0 : BitVec 32 := Scalar.muli arg1 c128_i32
  let v1 : BitVec 32 := Scalar.addi c0_i32 v0
  let c0_i32_0 : BitVec 32 := 0#32
  let v2 : BitVec 32 := Scalar.subi v1 c0_i32_0
  let c512_i32 : BitVec 32 := 512#32
  let v3 : BitVec 32 := Scalar.subi v2 c512_i32
  let v4 : BitVec 32 := Scalar.maxsi c0_i32_1 v3
  let v5 : BitVec 32 := Scalar.minsi c3456_i32 v4
  v5
def k0_off1 (i : grid0.Coords) : Fin 3 → Nat :=
  let c0 : Index := 0#32
  let c3456_i32 : BitVec 32 := 3456#32
  let c0_i32_1 : BitVec 32 := 0#32
  let c0_i32 : BitVec 32 := 0#32
  let arg1 : BitVec 32 := BitVec.ofNat 32 (i 1).val
  let c128_i32 : BitVec 32 := 128#32
  let v0 : BitVec 32 := Scalar.muli arg1 c128_i32
  let v1 : BitVec 32 := Scalar.addi c0_i32 v0
  let c0_i32_0 : BitVec 32 := 0#32
  let v2 : BitVec 32 := Scalar.subi v1 c0_i32_0
  let c512_i32 : BitVec 32 := 512#32
  let v3 : BitVec 32 := Scalar.subi v2 c512_i32
  let v4 : BitVec 32 := Scalar.maxsi c0_i32_1 v3
  let v5 : BitVec 32 := Scalar.minsi c3456_i32 v4
  let v6 : BitVec 32 := v5
  let v7 : Index := Scalar.indexCast v6
  let c0_2 : Index := 0#32
  ![0, v7.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== WindowReferenceIdeal.lean ====
abbrev S4x4096x512 : Shape := ⟨3, ![4, 4096, 512]⟩
abbrev S4x4096x256 : Shape := ⟨3, ![4, 4096, 256]⟩
abbrev S4x4096x128 : Shape := ⟨3, ![4, 4096, 128]⟩
abbrev S4x4096x2x4x64 : Shape := ⟨5, ![4, 4096, 2, 4, 64]⟩
abbrev S4x4096x2x2x64 : Shape := ⟨5, ![4, 4096, 2, 2, 64]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S1x4096x1x1x4096 : Shape := ⟨5, ![1, 4096, 1, 1, 4096]⟩
abbrev S4x4096x1x2x64 : Shape := ⟨5, ![4, 4096, 1, 2, 64]⟩
abbrev S4x4096x2x64 : Shape := ⟨4, ![4, 4096, 2, 64]⟩
abbrev S4x2x4096x4096x4 : Shape := ⟨5, ![4, 2, 4096, 4096, 4]⟩
abbrev S4x4096x2x4x4096 : Shape := ⟨5, ![4, 4096, 2, 4, 4096]⟩
abbrev S4x4096x2x4 : Shape := ⟨4, ![4, 4096, 2, 4]⟩
abbrev S4x4096x2x4x1 : Shape := ⟨5, ![4, 4096, 2, 4, 1]⟩
abbrev S4x2x64x4096x4 : Shape := ⟨5, ![4, 2, 64, 4096, 4]⟩
abbrev S4x4096x8 : Shape := ⟨3, ![4, 4096, 8]⟩

abbrev nBuf : Space → Nat
  | .hbm => 68
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S4x4096x256, .f32⟩
  | .hbm, ⟨2, _⟩ => ⟨S4x4096x128, .f32⟩
  | .hbm, ⟨3, _⟩ => ⟨S4x4096x2x4x64, .f32⟩
  | .hbm, ⟨4, _⟩ => ⟨S4x4096x2x2x64, .f32⟩
  | .hbm, ⟨5, _⟩ => ⟨S4096, .i32⟩
  | .hbm, ⟨6, _⟩ => ⟨S4096x1, .i32⟩
  | .hbm, ⟨7, _⟩ => ⟨S1x4096, .i32⟩
  | .hbm, ⟨8, _⟩ => ⟨S4096x4096, .i32⟩
  | .hbm, ⟨9, _⟩ => ⟨S4096x4096, .i32⟩
  | .hbm, ⟨10, _⟩ => ⟨S4096x4096, .i32⟩
  | .hbm, ⟨11, _⟩ => ⟨S_, .i32⟩
  | .hbm, ⟨12, _⟩ => ⟨S4096x4096, .i32⟩
  | .hbm, ⟨13, _⟩ => ⟨S4096x4096, .i1⟩
  | .hbm, ⟨14, _⟩ => ⟨S_, .i32⟩
  | .hbm, ⟨15, _⟩ => ⟨S4096x4096, .i32⟩
  | .hbm, ⟨16, _⟩ => ⟨S4096x4096, .i1⟩
  | .hbm, ⟨17, _⟩ => ⟨S4096x4096, .i1⟩
  | .hbm, ⟨18, _⟩ => ⟨S1x4096x1x1x4096, .i1⟩
  | .hbm, ⟨19, _⟩ => ⟨S4x4096x1x2x64, .f32⟩
  | .hbm, ⟨20, _⟩ => ⟨S4x4096x2x64, .f32⟩
  | .hbm, ⟨21, _⟩ => ⟨S4x4096x1x2x64, .f32⟩
  | .hbm, ⟨22, _⟩ => ⟨S4x4096x2x64, .f32⟩
  | .hbm, ⟨23, _⟩ => ⟨S4x2x4096x4096x4, .f32⟩
  | .hbm, ⟨24, _⟩ => ⟨S4x4096x2x4x4096, .f32⟩
  | .hbm, ⟨25, _⟩ => ⟨S_, .f32⟩
  | .hbm, ⟨26, _⟩ => ⟨S4x4096x2x4x4096, .f32⟩
  | .hbm, ⟨27, _⟩ => ⟨S4x4096x2x4x4096, .f32⟩
  | .hbm, ⟨28, _⟩ => ⟨S_, .f32⟩
  | .hbm, ⟨29, _⟩ => ⟨S_, .f32⟩
  | .hbm, ⟨30, _⟩ => ⟨S4x4096x2x4x4096, .i1⟩
  | .hbm, ⟨31, _⟩ => ⟨S4x4096x2x4x4096, .f32⟩
  | .hbm, ⟨32, _⟩ => ⟨S4x4096x2x4x4096, .f32⟩
  | .hbm, ⟨33, _⟩ => ⟨S_, .f32⟩
  | .hbm, ⟨34, _⟩ => ⟨S4x4096x2x4, .f32⟩
  | .hbm, ⟨35, _⟩ => ⟨S4x4096x2x4x1, .f32⟩
  | .hbm, ⟨36, _⟩ => ⟨S4x4096x2x4x4096, .f32⟩
  | .hbm, ⟨37, _⟩ => ⟨S4x4096x2x4x4096, .f32⟩
  | .hbm, ⟨38, _⟩ => ⟨S4x4096x2x4x4096, .f32⟩
  | .hbm, ⟨39, _⟩ => ⟨S_, .f32⟩
  | .hbm, ⟨40, _⟩ => ⟨S_, .f32⟩
  | .hbm, ⟨41, _⟩ => ⟨S4x4096x2x4x4096, .i1⟩
  | .hbm, ⟨42, _⟩ => ⟨S4x4096x2x4x4096, .f32⟩
  | .hbm, ⟨43, _⟩ => ⟨S4x4096x2x4x4096, .f32⟩
  | .hbm, ⟨44, _⟩ => ⟨S_, .f32⟩
  | .hbm, ⟨45, _⟩ => ⟨S4x4096x2x4, .f32⟩
  | .hbm, ⟨46, _⟩ => ⟨S4x4096x2x4x1, .f32⟩
  | .hbm, ⟨47, _⟩ => ⟨S_, .f32⟩
  | .hbm, ⟨48, _⟩ => ⟨S4x4096x2x4x1, .f32⟩
  | .hbm, ⟨49, _⟩ => ⟨S4x4096x2x4x1, .f32⟩
  | .hbm, ⟨50, _⟩ => ⟨S4x4096x2x4x4096, .f32⟩
  | .hbm, ⟨51, _⟩ => ⟨S4x4096x2x4x4096, .f32⟩
  | .hbm, ⟨52, _⟩ => ⟨S4x2x64x4096x4, .f32⟩
  | .hbm, ⟨53, _⟩ => ⟨S4x4096x2x4x64, .f32⟩
  | .hbm, ⟨54, _⟩ => ⟨S4x4096x8, .f32⟩
  | .hbm, ⟨55, _⟩ => ⟨S4x4096x8, .f32⟩
  | .hbm, ⟨56, _⟩ => ⟨S4x4096x8, .f32⟩
  | .hbm, ⟨57, _⟩ => ⟨S_, .f32⟩
  | .hbm, ⟨58, _⟩ => ⟨S4x4096x8, .f32⟩
  | .hbm, ⟨59, _⟩ => ⟨S4x4096x8, .f32⟩
  | .hbm, ⟨60, _⟩ => ⟨S_, .f32⟩
  | .hbm, ⟨61, _⟩ => ⟨S4x4096x8, .f32⟩
  | .hbm, ⟨62, _⟩ => ⟨S4x4096x8, .f32⟩
  | .hbm, ⟨63, _⟩ => ⟨S4x4096x2x4, .f32⟩
  | .hbm, ⟨64, _⟩ => ⟨S4x4096x2x4x1, .f32⟩
  | .hbm, ⟨65, _⟩ => ⟨S4x4096x2x4x64, .f32⟩
  | .hbm, ⟨66, _⟩ => ⟨S4x4096x2x4x64, .f32⟩
  | .hbm, ⟨67, _⟩ => ⟨S4x4096x512, .f32⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩

abbrev nD : Nat := 1
abbrev τ : Topo := Topo.v7x

variable {F : FTy → Type} [FloatOps F]
-- ==== Mlp.lean ====
abbrev S16384x1024 : Shape := ⟨2, ![16384, 1024]⟩
abbrev S4x6x1024 : Shape := ⟨3, ![4, 6, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1024x1024 : Shape := ⟨2, ![1024, 1024]⟩
abbrev S1x6x1024 : Shape := ⟨3, ![1, 6, 1024]⟩
abbrev S1x1x1024 : Shape := ⟨3, ![1, 1, 1024]⟩
abbrev S1024x1 : Shape := ⟨2, ![1024, 1]⟩

abbrev nBuf : Space → Nat
  | .hbm => 9
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S4x6x1024, .f32⟩
  | .hbm, ⟨2, _⟩ => ⟨S1024, .f32⟩
  | .hbm, ⟨3, _⟩ => ⟨S1024, .f32⟩
  | .hbm, ⟨4, _⟩ => ⟨S1024x4096, .bf16⟩
  | .hbm, ⟨5, _⟩ => ⟨S4096x1024, .bf16⟩
  | .hbm, ⟨6, _⟩ => ⟨S1x1024, .f32⟩
  | .hbm, ⟨7, _⟩ => ⟨S1x1024, .f32⟩
  | .hbm, ⟨8, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_12 : BitVec 32 := 0#32
  let v19 : BitVec 1 := Scalar.cmpi .ne v18 c0_i32_12
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== MlpReferenceIdeal.lean ====
abbrev S16384x1024 : Shape := ⟨2, ![16384, 1024]⟩
abbrev S4x6x1024 : Shape := ⟨3, ![4, 6, 1024]⟩
abbrev S1024 : Shape := ⟨1, ![1024]⟩
abbrev S1024x4096 : Shape := ⟨2, ![1024, 4096]⟩
abbrev S4096x1024 : Shape := ⟨2, ![4096, 1024]⟩
abbrev S4x4096x1024 : Shape := ⟨3, ![4, 4096, 1024]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x4096 : Shape := ⟨3, ![4, 4096, 4096]⟩

abbrev nBuf : Space → Nat
  | .hbm => 45
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x6x1024, .f32⟩
  | .hbm, ⟨2, _⟩ => ⟨S1024, .f32⟩
  | .hbm, ⟨3, _⟩ => ⟨S1024, .f32⟩
  | .hbm, ⟨4, _⟩ => ⟨S1024x4096, .bf16⟩
  | .hbm, ⟨5, _⟩ => ⟨S4096x1024, .bf16⟩
  | .hbm, ⟨6, _⟩ => ⟨S4x4096x1024, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S4x4096x1024, .f32⟩
  | .hbm, ⟨11, _⟩ => ⟨S_, .f32⟩
  | .hbm, ⟨12, _⟩ => ⟨S4x4096, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S4x4096x1, .f32⟩
  | .hbm, ⟨21, _⟩ => ⟨S4x4096x1024, .f32⟩
  | .hbm, ⟨22, _⟩ => ⟨S4x4096x1024, .f32⟩
  | .hbm, ⟨23, _⟩ => ⟨S1x1x1024, .f32⟩
  | .hbm, ⟨24, _⟩ => ⟨S4x4096x1024, .f32⟩
  | .hbm, ⟨25, _⟩ => ⟨S4x4096x1024, .f32⟩
  | .hbm, ⟨26, _⟩ => ⟨S_, .f32⟩
  | .hbm, ⟨27, _⟩ => ⟨S4x1x1024, .f32⟩
  | .hbm, ⟨28, _⟩ => ⟨S4x1x1024, .f32⟩
  | .hbm, ⟨29, _⟩ => ⟨S4x4096x1024, .f32⟩
  | .hbm, ⟨30, _⟩ => ⟨S4x4096x1024, .f32⟩
  | .hbm, ⟨31, _⟩ => ⟨S4x4096x1024, .f32⟩
  | .hbm, ⟨32, _⟩ => ⟨S4x4096x1024, .f32⟩
  | .hbm, ⟨33, _⟩ => ⟨S1024x4096, .f32⟩
  | .hbm, ⟨34, _⟩ => ⟨S4x4096x4096, .f32⟩
  | .hbm, ⟨35, _⟩ => ⟨S_, .f32⟩
  | .hbm, ⟨36, _⟩ => ⟨S4x4096x4096, .f32⟩
  | .hbm, ⟨37, _⟩ => ⟨S4x4096x4096, .f32⟩
  | .hbm, ⟨38, _⟩ => ⟨S4x4096x4096, .f32⟩
  | .hbm, ⟨39, _⟩ => ⟨S4096x1024, .f32⟩
  | .hbm, ⟨40, _⟩ => ⟨S4x4096x1024, .f32⟩
  | .hbm, ⟨41, _⟩ => ⟨S4x4096x1024, .f32⟩
  | .hbm, ⟨42, _⟩ => ⟨S4x4096x1024, .f32⟩
  | .hbm, ⟨43, _⟩ => ⟨S4x4096x1024, .f32⟩
  | .hbm, ⟨44, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_cst : Ref sig .tc := ⟨.hbm, 35, rfl⟩
abbrev main_call0_v0 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== MlpLast.lean ====
abbrev S16384x1024 : Shape := ⟨2, ![16384, 1024]⟩
abbrev S4x6x1024 : Shape := ⟨3, ![4, 6, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1024x1024 : Shape := ⟨2, ![1024, 1024]⟩
abbrev S1x6x1024 : Shape := ⟨3, ![1, 6, 1024]⟩
abbrev S1x1x1024 : Shape := ⟨3, ![1, 1, 1024]⟩
abbrev S1024x1 : Shape := ⟨2, ![1024, 1]⟩

abbrev nBuf : Space → Nat
  | .hbm => 9
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S4x6x1024, .f32⟩
  | .hbm, ⟨2, _⟩ => ⟨S1024, .f32⟩
  | .hbm, ⟨3, _⟩ => ⟨S1024, .f32⟩
  | .hbm, ⟨4, _⟩ => ⟨S1024x4096, .bf16⟩
  | .hbm, ⟨5, _⟩ => ⟨S4096x1024, .bf16⟩
  | .hbm, ⟨6, _⟩ => ⟨S1x1024, .f32⟩
  | .hbm, ⟨7, _⟩ => ⟨S1x1024, .f32⟩
  | .hbm, ⟨8, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_12 : BitVec 32 := 0#32
  let v19 : BitVec 1 := Scalar.cmpi .ne v18 c0_i32_12
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== MlpLastReferenceIdeal.lean ====
abbrev S16384x1024 : Shape := ⟨2, ![16384, 1024]⟩
abbrev S4x6x1024 : Shape := ⟨3, ![4, 6, 1024]⟩
abbrev S1024 : Shape := ⟨1, ![1024]⟩
abbrev S1024x4096 : Shape := ⟨2, ![1024, 4096]⟩
abbrev S4096x1024 : Shape := ⟨2, ![4096, 1024]⟩
abbrev S4x4096x1024 : Shape := ⟨3, ![4, 4096, 1024]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x4096 : Shape := ⟨3, ![4, 4096, 4096]⟩
abbrev S16384 : Shape := ⟨1, ![16384]⟩
abbrev S16384x1 : Shape := ⟨2, ![16384, 1]⟩
abbrev S1x1024 : Shape := ⟨2, ![1, 1024]⟩

abbrev nBuf : Space → Nat
  | .hbm => 61
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x6x1024, .f32⟩
  | .hbm, ⟨2, _⟩ => ⟨S1024, .f32⟩
  | .hbm, ⟨3, _⟩ => ⟨S1024, .f32⟩
  | .hbm, ⟨4, _⟩ => ⟨S1024x4096, .bf16⟩
  | .hbm, ⟨5, _⟩ => ⟨S4096x1024, .bf16⟩
  | .hbm, ⟨6, _⟩ => ⟨S4x4096x1024, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S4x4096x1024, .f32⟩
  | .hbm, ⟨11, _⟩ => ⟨S_, .f32⟩
  | .hbm, ⟨12, _⟩ => ⟨S4x4096, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S4x4096x1, .f32⟩
  | .hbm, ⟨21, _⟩ => ⟨S4x4096x1024, .f32⟩
  | .hbm, ⟨22, _⟩ => ⟨S4x4096x1024, .f32⟩
  | .hbm, ⟨23, _⟩ => ⟨S1x1x1024, .f32⟩
  | .hbm, ⟨24, _⟩ => ⟨S4x4096x1024, .f32⟩
  | .hbm, ⟨25, _⟩ => ⟨S4x4096x1024, .f32⟩
  | .hbm, ⟨26, _⟩ => ⟨S_, .f32⟩
  | .hbm, ⟨27, _⟩ => ⟨S4x1x1024, .f32⟩
  | .hbm, ⟨28, _⟩ => ⟨S4x1x1024, .f32⟩
  | .hbm, ⟨29, _⟩ => ⟨S4x4096x1024, .f32⟩
  | .hbm, ⟨30, _⟩ => ⟨S4x4096x1024, .f32⟩
  | .hbm, ⟨31, _⟩ => ⟨S4x4096x1024, .f32⟩
  | .hbm, ⟨32, _⟩ => ⟨S4x4096x1024, .f32⟩
  | .hbm, ⟨33, _⟩ => ⟨S1024x4096, .f32⟩
  | .hbm, ⟨34, _⟩ => ⟨S4x4096x4096, .f32⟩
  | .hbm, ⟨35, _⟩ => ⟨S_, .f32⟩
  | .hbm, ⟨36, _⟩ => ⟨S4x4096x4096, .f32⟩
  | .hbm, ⟨37, _⟩ => ⟨S4x4096x4096, .f32⟩
  | .hbm, ⟨38, _⟩ => ⟨S4x4096x4096, .f32⟩
  | .hbm, ⟨39, _⟩ => ⟨S4096x1024, .f32⟩
  | .hbm, ⟨40, _⟩ => ⟨S4x4096x1024, .f32⟩
  | .hbm, ⟨41, _⟩ => ⟨S4x4096x1024, .f32⟩
  | .hbm, ⟨42, _⟩ => ⟨S4x4096x1024, .f32⟩
  | .hbm, ⟨43, _⟩ => ⟨S4x4096x1024, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S_, .f32⟩
  | .hbm, ⟨53, _⟩ => ⟨S16384x1, .f32⟩
  | .hbm, ⟨54, _⟩ => ⟨S16384x1, .f32⟩
  | .hbm, ⟨55, _⟩ => ⟨S16384x1, .f32⟩
  | .hbm, ⟨56, _⟩ => ⟨S16384x1024, .f32⟩
  | .hbm, ⟨57, _⟩ => ⟨S16384x1024, .f32⟩
  | .hbm, ⟨58, _⟩ => ⟨S1x1024, .f32⟩
  | .hbm, ⟨59, _⟩ => ⟨S16384x1024, .f32⟩
  | .hbm, ⟨60, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_cst : Ref sig .tc := ⟨.hbm, 35, rfl⟩
abbrev main_call0_v0 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== InEven.lean ====
abbrev S16384x1024 : Shape := ⟨2, ![16384, 1024]⟩
abbrev S4x6x1024 : Shape := ⟨3, ![4, 6, 1024]⟩
abbrev S1024 : Shape := ⟨1, ![1024]⟩
abbrev S1024x2816 : Shape := ⟨2, ![1024, 2816]⟩
abbrev S2816 : Shape := ⟨1, ![2816]⟩
abbrev S1x1024 : Shape := ⟨2, ![1, 1024]⟩
abbrev S1x2816 : Shape := ⟨2, ![1, 2816]⟩
abbrev S16384x512 : Shape := ⟨2, ![16384, 512]⟩
abbrev S16384x256 : Shape := ⟨2, ![16384, 256]⟩
abbrev S16384x64 : Shape := ⟨2, ![16384, 64]⟩
abbrev S16384x128 : Shape := ⟨2, ![16384, 128]⟩
abbrev S512x1024 : Shape := ⟨2, ![512, 1024]⟩
abbrev S1x6x1024 : Shape := ⟨3, ![1, 6, 1024]⟩
abbrev S512x512 : Shape := ⟨2, ![512, 512]⟩
abbrev S512x256 : Shape := ⟨2, ![512, 256]⟩
abbrev S512x64 : Shape := ⟨2, ![512, 64]⟩
abbrev S512x128 : Shape := ⟨2, ![512, 128]⟩
abbrev S1x1x1024 : Shape := ⟨3, ![1, 1, 1024]⟩
abbrev S512 : Shape := ⟨1, ![512]⟩
abbrev S512x1 : Shape := ⟨2, ![512, 1]⟩
abbrev S1024x512 : Shape := ⟨2, ![1024, 512]⟩
abbrev S1x512 : Shape := ⟨2, ![1, 512]⟩
abbrev S1024x256 : Shape := ⟨2, ![1024, 256]⟩
abbrev S1x256 : Shape := ⟨2, ![1, 256]⟩
abbrev S1024x128 : Shape := ⟨2, ![1024, 128]⟩
abbrev S1x128 : Shape := ⟨2, ![1, 128]⟩

abbrev nBuf : Space → Nat
  | .hbm => 15
  | .vmem => 24
  | .smem => 0
  | _ => 0

abbrev bufTy : (tb : Table) → Fin (tcTables nBuf tb) → BufTy
  | .hbm, ⟨0, _⟩ => ⟨S16384x1024, .f32⟩
  | .hbm, ⟨1, _⟩ => ⟨S4x6x1024, .f32⟩
  | .hbm, ⟨2, _⟩ => ⟨S1024, .f32⟩
  | .hbm, ⟨3, _⟩ => ⟨S1024x2816, .bf16⟩
  | .hbm, ⟨4, _⟩ => ⟨S2816, .f32⟩
  | .hbm, ⟨5, _⟩ => ⟨S1x1024, .f32⟩
  | .hbm, ⟨6, _⟩ => ⟨S1x2816, .f32⟩
  | .hbm, ⟨7, _⟩ => ⟨S16384x512, .f32⟩
  | .hbm, ⟨8, _⟩ => ⟨S16384x512, .f32⟩
  | .hbm, ⟨9, _⟩ => ⟨S16384x256, .f32⟩
  | .hbm, ⟨10, _⟩ => ⟨S16384x512, .f32⟩
  | .hbm, ⟨11, _⟩ => ⟨S16384x256, .f32⟩
  | .hbm, ⟨12, _⟩ => ⟨S16384x512, .f32⟩
  | .hbm, ⟨13, _⟩ => ⟨S16384x64, .f32⟩
  | .hbm, ⟨14, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x2816, .bf16⟩
  | .local _ .vmem, ⟨6, _⟩ => ⟨S1x2816, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x256, .f32⟩
  | .local _ .vmem, ⟨12, _⟩ => ⟨S512x256, .f32⟩
  | .local _ .vmem, ⟨13, _⟩ => ⟨S512x512, .f32⟩
  | .local _ .vmem, ⟨14, _⟩ => ⟨S512x512, .f32⟩
  | .local _ .vmem, ⟨15, _⟩ => ⟨S512x256, .f32⟩
  | .local _ .vmem, ⟨16, _⟩ => ⟨S512x256, .f32⟩
  | .local _ .vmem, ⟨17, _⟩ => ⟨S512x512, .f32⟩
  | .local _ .vmem, ⟨18, _⟩ => ⟨S512x512, .f32⟩
  | .local _ .vmem, ⟨19, _⟩ => ⟨S512x64, .f32⟩
  | .local _ .vmem, ⟨20, _⟩ => ⟨S512x64, .f32⟩
  | .local _ .vmem, ⟨21, _⟩ => ⟨S512x128, .f32⟩
  | .local _ .vmem, ⟨22, _⟩ => ⟨S512x128, .f32⟩
  | .local _ .vmem, ⟨23, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev main_v2_5 : Ref sig .tc := ⟨.hbm, 12, rfl⟩
abbrev main_v2_6 : Ref sig .tc := ⟨.hbm, 13, rfl⟩
abbrev main_v2_7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== InEvenReferenceIdeal.lean ====
abbrev S16384x1024 : Shape := ⟨2, ![16384, 1024]⟩
abbrev S4x6x1024 : Shape := ⟨3, ![4, 6, 1024]⟩
abbrev S1024 : Shape := ⟨1, ![1024]⟩
abbrev S1024x2816 : Shape := ⟨2, ![1024, 2816]⟩
abbrev S2816 : Shape := ⟨1, ![2816]⟩
abbrev S4x4096x1024 : Shape := ⟨3, ![4, 4096, 1024]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2816 : Shape := ⟨3, ![4, 4096, 2816]⟩
abbrev S1x1x2816 : Shape := ⟨3, ![1, 1, 2816]⟩
abbrev S16384x2816 : Shape := ⟨2, ![16384, 2816]⟩
abbrev S16384x512 : Shape := ⟨2, ![16384, 512]⟩
abbrev S16384x256 : Shape := ⟨2, ![16384, 256]⟩
abbrev S16384x64 : Shape := ⟨2, ![16384, 64]⟩
abbrev S16384x128 : Shape := ⟨2, ![16384, 128]⟩

abbrev nBuf : Space → Nat
  | .hbm => 46
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x6x1024, .f32⟩
  | .hbm, ⟨2, _⟩ => ⟨S1024, .f32⟩
  | .hbm, ⟨3, _⟩ => ⟨S1024x2816, .bf16⟩
  | .hbm, ⟨4, _⟩ => ⟨S2816, .f32⟩
  | .hbm, ⟨5, _⟩ => ⟨S4x4096x1024, .f32⟩
  | .hbm, ⟨6, _⟩ => ⟨S4x1x1024, .f32⟩
  | .hbm, ⟨7, _⟩ => ⟨S4x1x1024, .f32⟩
  | .hbm, ⟨8, _⟩ => ⟨S4x4096x1024, .f32⟩
  | .hbm, ⟨9, _⟩ => ⟨S_, .f32⟩
  | .hbm, ⟨10, _⟩ => ⟨S4x4096, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S4x4096x1, .f32⟩
  | .hbm, ⟨19, _⟩ => ⟨S4x4096x1024, .f32⟩
  | .hbm, ⟨20, _⟩ => ⟨S4x4096x1024, .f32⟩
  | .hbm, ⟨21, _⟩ => ⟨S1x1x1024, .f32⟩
  | .hbm, ⟨22, _⟩ => ⟨S4x4096x1024, .f32⟩
  | .hbm, ⟨23, _⟩ => ⟨S4x4096x1024, .f32⟩
  | .hbm, ⟨24, _⟩ => ⟨S_, .f32⟩
  | .hbm, ⟨25, _⟩ => ⟨S4x1x1024, .f32⟩
  | .hbm, ⟨26, _⟩ => ⟨S4x1x1024, .f32⟩
  | .hbm, ⟨27, _⟩ => ⟨S4x4096x1024, .f32⟩
  | .hbm, ⟨28, _⟩ => ⟨S4x4096x1024, .f32⟩
  | .hbm, ⟨29, _⟩ => ⟨S4x4096x1024, .f32⟩
  | .hbm, ⟨30, _⟩ => ⟨S4x4096x1024, .f32⟩
  | .hbm, ⟨31, _⟩ => ⟨S1024x2816, .f32⟩
  | .hbm, ⟨32, _⟩ => ⟨S4x4096x2816, .f32⟩
  | .hbm, ⟨33, _⟩ => ⟨S1x1x2816, .f32⟩
  | .hbm, ⟨34, _⟩ => ⟨S4x4096x2816, .f32⟩
  | .hbm, ⟨35, _⟩ => ⟨S4x4096x2816, .f32⟩
  | .hbm, ⟨36, _⟩ => ⟨S16384x2816, .f32⟩
  | .hbm, ⟨37, _⟩ => ⟨S16384x512, .f32⟩
  | .hbm, ⟨38, _⟩ => ⟨S16384x512, .f32⟩
  | .hbm, ⟨39, _⟩ => ⟨S16384x256, .f32⟩
  | .hbm, ⟨40, _⟩ => ⟨S16384x512, .f32⟩
  | .hbm, ⟨41, _⟩ => ⟨S16384x256, .f32⟩
  | .hbm, ⟨42, _⟩ => ⟨S16384x512, .f32⟩
  | .hbm, ⟨43, _⟩ => ⟨S16384x64, .f32⟩
  | .hbm, ⟨44, _⟩ => ⟨S16384x64, .f32⟩
  | .hbm, ⟨45, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩

abbrev nD : Nat := 1
abbrev τ : Topo := Topo.v7x

variable {F : FTy → Type} [FloatOps F]
-- ==== InOdd.lean ====
abbrev S16384x1024 : Shape := ⟨2, ![16384, 1024]⟩
abbrev S4x6x1024 : Shape := ⟨3, ![4, 6, 1024]⟩
abbrev S1024 : Shape := ⟨1, ![1024]⟩
abbrev S1024x2432 : Shape := ⟨2, ![1024, 2432]⟩
abbrev S2432 : Shape := ⟨1, ![2432]⟩
abbrev S1x1024 : Shape := ⟨2, ![1, 1024]⟩
abbrev S1x2432 : Shape := ⟨2, ![1, 2432]⟩
abbrev S16384x512 : Shape := ⟨2, ![16384, 512]⟩
abbrev S16384x256 : Shape := ⟨2, ![16384, 256]⟩
abbrev S16384x128 : Shape := ⟨2, ![16384, 128]⟩
abbrev S512x1024 : Shape := ⟨2, ![512, 1024]⟩
abbrev S1x6x1024 : Shape := ⟨3, ![1, 6, 1024]⟩
abbrev S512x512 : Shape := ⟨2, ![512, 512]⟩
abbrev S512x256 : Shape := ⟨2, ![512, 256]⟩
abbrev S512x128 : Shape := ⟨2, ![512, 128]⟩
abbrev S1x1x1024 : Shape := ⟨3, ![1, 1, 1024]⟩
abbrev S512 : Shape := ⟨1, ![512]⟩
abbrev S512x1 : Shape := ⟨2, ![512, 1]⟩
abbrev S1024x512 : Shape := ⟨2, ![1024, 512]⟩
abbrev S1x512 : Shape := ⟨2, ![1, 512]⟩
abbrev S1024x256 : Shape := ⟨2, ![1024, 256]⟩
abbrev S1x256 : Shape := ⟨2, ![1, 256]⟩
abbrev S1024x128 : Shape := ⟨2, ![1024, 128]⟩
abbrev S1x128 : Shape := ⟨2, ![1, 128]⟩

abbrev nBuf : Space → Nat
  | .hbm => 13
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S4x6x1024, .f32⟩
  | .hbm, ⟨2, _⟩ => ⟨S1024, .f32⟩
  | .hbm, ⟨3, _⟩ => ⟨S1024x2432, .bf16⟩
  | .hbm, ⟨4, _⟩ => ⟨S2432, .f32⟩
  | .hbm, ⟨5, _⟩ => ⟨S1x1024, .f32⟩
  | .hbm, ⟨6, _⟩ => ⟨S1x2432, .f32⟩
  | .hbm, ⟨7, _⟩ => ⟨S16384x512, .f32⟩
  | .hbm, ⟨8, _⟩ => ⟨S16384x512, .f32⟩
  | .hbm, ⟨9, _⟩ => ⟨S16384x512, .f32⟩
  | .hbm, ⟨10, _⟩ => ⟨S16384x512, .f32⟩
  | .hbm, ⟨11, _⟩ => ⟨S16384x256, .f32⟩
  | .hbm, ⟨12, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x2432, .bf16⟩
  | .local _ .vmem, ⟨6, _⟩ => ⟨S1x2432, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x256, .f32⟩
  | .local _ .vmem, ⟨16, _⟩ => ⟨S512x256, .f32⟩
  | .local _ .vmem, ⟨17, _⟩ => ⟨S512x128, .f32⟩
  | .local _ .vmem, ⟨18, _⟩ => ⟨S512x128, .f32⟩
  | .local _ .vmem, ⟨19, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev main_v2_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2432 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2432 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== InOddReferenceIdeal.lean ====
abbrev S16384x1024 : Shape := ⟨2, ![16384, 1024]⟩
abbrev S4x6x1024 : Shape := ⟨3, ![4, 6, 1024]⟩
abbrev S1024 : Shape := ⟨1, ![1024]⟩
abbrev S1024x2432 : Shape := ⟨2, ![1024, 2432]⟩
abbrev S2432 : Shape := ⟨1, ![2432]⟩
abbrev S4x4096x1024 : Shape := ⟨3, ![4, 4096, 1024]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2432 : Shape := ⟨3, ![4, 4096, 2432]⟩
abbrev S1x1x2432 : Shape := ⟨3, ![1, 1, 2432]⟩
abbrev S16384x2432 : Shape := ⟨2, ![16384, 2432]⟩
abbrev S16384x512 : Shape := ⟨2, ![16384, 512]⟩
abbrev S16384x256 : Shape := ⟨2, ![16384, 256]⟩
abbrev S16384x128 : Shape := ⟨2, ![16384, 128]⟩

abbrev nBuf : Space → Nat
  | .hbm => 43
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x6x1024, .f32⟩
  | .hbm, ⟨2, _⟩ => ⟨S1024, .f32⟩
  | .hbm, ⟨3, _⟩ => ⟨S1024x2432, .bf16⟩
  | .hbm, ⟨4, _⟩ => ⟨S2432, .f32⟩
  | .hbm, ⟨5, _⟩ => ⟨S4x4096x1024, .f32⟩
  | .hbm, ⟨6, _⟩ => ⟨S4x1x1024, .f32⟩
  | .hbm, ⟨7, _⟩ => ⟨S4x1x1024, .f32⟩
  | .hbm, ⟨8, _⟩ => ⟨S4x4096x1024, .f32⟩
  | .hbm, ⟨9, _⟩ => ⟨S_, .f32⟩
  | .hbm, ⟨10, _⟩ => ⟨S4x4096, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S4x4096x1, .f32⟩
  | .hbm, ⟨19, _⟩ => ⟨S4x4096x1024, .f32⟩
  | .hbm, ⟨20, _⟩ => ⟨S4x4096x1024, .f32⟩
  | .hbm, ⟨21, _⟩ => ⟨S1x1x1024, .f32⟩
  | .hbm, ⟨22, _⟩ => ⟨S4x4096x1024, .f32⟩
  | .hbm, ⟨23, _⟩ => ⟨S4x4096x1024, .f32⟩
  | .hbm, ⟨24, _⟩ => ⟨S_, .f32⟩
  | .hbm, ⟨25, _⟩ => ⟨S4x1x1024, .f32⟩
  | .hbm, ⟨26, _⟩ => ⟨S4x1x1024, .f32⟩
  | .hbm, ⟨27, _⟩ => ⟨S4x4096x1024, .f32⟩
  | .hbm, ⟨28, _⟩ => ⟨S4x4096x1024, .f32⟩
  | .hbm, ⟨29, _⟩ => ⟨S4x4096x1024, .f32⟩
  | .hbm, ⟨30, _⟩ => ⟨S4x4096x1024, .f32⟩
  | .hbm, ⟨31, _⟩ => ⟨S1024x2432, .f32⟩
  | .hbm, ⟨32, _⟩ => ⟨S4x4096x2432, .f32⟩
  | .hbm, ⟨33, _⟩ => ⟨S1x1x2432, .f32⟩
  | .hbm, ⟨34, _⟩ => ⟨S4x4096x2432, .f32⟩
  | .hbm, ⟨35, _⟩ => ⟨S4x4096x2432, .f32⟩
  | .hbm, ⟨36, _⟩ => ⟨S16384x2432, .f32⟩
  | .hbm, ⟨37, _⟩ => ⟨S16384x512, .f32⟩
  | .hbm, ⟨38, _⟩ => ⟨S16384x512, .f32⟩
  | .hbm, ⟨39, _⟩ => ⟨S16384x512, .f32⟩
  | .hbm, ⟨40, _⟩ => ⟨S16384x512, .f32⟩
  | .hbm, ⟨41, _⟩ => ⟨S16384x256, .f32⟩
  | .hbm, ⟨42, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩

abbrev nD : Nat := 1
abbrev τ : Topo := Topo.v7x

variable {F : FTy → Type} [FloatOps F]
-- ==== OutEven.lean ====
abbrev S16384x512 : Shape := ⟨2, ![16384, 512]⟩
abbrev S16384x1024 : Shape := ⟨2, ![16384, 1024]⟩
abbrev S4x6x1024 : Shape := ⟨3, ![4, 6, 1024]⟩
abbrev S1024x1024 : Shape := ⟨2, ![1024, 1024]⟩
abbrev S512x512 : Shape := ⟨2, ![512, 512]⟩
abbrev S512x1024 : Shape := ⟨2, ![512, 1024]⟩
abbrev S1x6x1024 : Shape := ⟨3, ![1, 6, 1024]⟩
abbrev S1x1x1024 : Shape := ⟨3, ![1, 1, 1024]⟩
abbrev S1x1024 : Shape := ⟨2, ![1, 1024]⟩

abbrev nBuf : Space → Nat
  | .hbm => 8
  | .vmem => 15
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x1024, .f32⟩
  | .hbm, ⟨5, _⟩ => ⟨S4x6x1024, .f32⟩
  | .hbm, ⟨6, _⟩ => ⟨S1024x1024, .bf16⟩
  | .hbm, ⟨7, _⟩ => ⟨S16384x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x1024, .f32⟩
  | .local _ .vmem, ⟨9, _⟩ => ⟨S512x1024, .f32⟩
  | .local _ .vmem, ⟨10, _⟩ => ⟨S1x6x1024, .f32⟩
  | .local _ .vmem, ⟨11, _⟩ => ⟨S1x6x1024, .f32⟩
  | .local _ .vmem, ⟨12, _⟩ => ⟨S1024x1024, .bf16⟩
  | .local _ .vmem, ⟨13, _⟩ => ⟨S512x1024, .f32⟩
  | .local _ .vmem, ⟨14, _⟩ => ⟨S512x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutEvenReferenceIdeal.lean ====
abbrev S16384x512 : Shape := ⟨2, ![16384, 512]⟩
abbrev S16384x1024 : Shape := ⟨2, ![16384, 1024]⟩
abbrev S4x6x1024 : Shape := ⟨3, ![4, 6, 1024]⟩
abbrev S1024x1024 : Shape := ⟨2, ![1024, 1024]⟩
abbrev S4x4096x1024 : Shape := ⟨3, ![4, 4096, 1024]⟩
abbrev S4x1x1024 : Shape := ⟨3, ![4, 1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x1024, .f32⟩
  | .hbm, ⟨5, _⟩ => ⟨S4x6x1024, .f32⟩
  | .hbm, ⟨6, _⟩ => ⟨S1024x1024, .bf16⟩
  | .hbm, ⟨7, _⟩ => ⟨S16384x512, .f32⟩
  | .hbm, ⟨8, _⟩ => ⟨S16384x512, .f32⟩
  | .hbm, ⟨9, _⟩ => ⟨S16384x1024, .f32⟩
  | .hbm, ⟨10, _⟩ => ⟨S1024x1024, .f32⟩
  | .hbm, ⟨11, _⟩ => ⟨S16384x1024, .f32⟩
  | .hbm, ⟨12, _⟩ => ⟨S4x4096x1024, .f32⟩
  | .hbm, ⟨13, _⟩ => ⟨S4x1x1024, .f32⟩
  | .hbm, ⟨14, _⟩ => ⟨S4x4096x1024, .f32⟩
  | .hbm, ⟨15, _⟩ => ⟨S4x4096x1024, .f32⟩
  | .hbm, ⟨16, _⟩ => ⟨S4x4096x1024, .f32⟩
  | .hbm, ⟨17, _⟩ => ⟨S4x4096x1024, .f32⟩
  | .hbm, ⟨18, _⟩ => ⟨S16384x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]
-- ==== OutOdd.lean ====
abbrev S16384x512 : Shape := ⟨2, ![16384, 512]⟩
abbrev S16384x1024 : Shape := ⟨2, ![16384, 1024]⟩
abbrev S4x6x1024 : Shape := ⟨3, ![4, 6, 1024]⟩
abbrev S1024x1024 : Shape := ⟨2, ![1024, 1024]⟩
abbrev S512x512 : Shape := ⟨2, ![512, 512]⟩
abbrev S512x1024 : Shape := ⟨2, ![512, 1024]⟩
abbrev S1x6x1024 : Shape := ⟨3, ![1, 6, 1024]⟩
abbrev S1x1x1024 : Shape := ⟨3, ![1, 1, 1024]⟩
abbrev S1x1024 : Shape := ⟨2, ![1, 1024]⟩

abbrev nBuf : Space → Nat
  | .hbm => 6
  | .vmem => 11
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x1024, .f32⟩
  | .hbm, ⟨3, _⟩ => ⟨S4x6x1024, .f32⟩
  | .hbm, ⟨4, _⟩ => ⟨S1024x1024, .bf16⟩
  | .hbm, ⟨5, _⟩ => ⟨S16384x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1024, .f32⟩
  | .local _ .vmem, ⟨5, _⟩ => ⟨S512x1024, .f32⟩
  | .local _ .vmem, ⟨6, _⟩ => ⟨S1x6x1024, .f32⟩
  | .local _ .vmem, ⟨7, _⟩ => ⟨S1x6x1024, .f32⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutOddReferenceIdeal.lean ====
abbrev S16384x512 : Shape := ⟨2, ![16384, 512]⟩
abbrev S16384x1024 : Shape := ⟨2, ![16384, 1024]⟩
abbrev S4x6x1024 : Shape := ⟨3, ![4, 6, 1024]⟩
abbrev S1024x1024 : Shape := ⟨2, ![1024, 1024]⟩
abbrev S4x4096x1024 : Shape := ⟨3, ![4, 4096, 1024]⟩
abbrev S4x1x1024 : Shape := ⟨3, ![4, 1, 1024]⟩

abbrev nBuf : Space → Nat
  | .hbm => 15
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x1024, .f32⟩
  | .hbm, ⟨3, _⟩ => ⟨S4x6x1024, .f32⟩
  | .hbm, ⟨4, _⟩ => ⟨S1024x1024, .bf16⟩
  | .hbm, ⟨5, _⟩ => ⟨S16384x1024, .f32⟩
  | .hbm, ⟨6, _⟩ => ⟨S1024x1024, .f32⟩
  | .hbm, ⟨7, _⟩ => ⟨S16384x1024, .f32⟩
  | .hbm, ⟨8, _⟩ => ⟨S4x4096x1024, .f32⟩
  | .hbm, ⟨9, _⟩ => ⟨S4x1x1024, .f32⟩
  | .hbm, ⟨10, _⟩ => ⟨S4x4096x1024, .f32⟩
  | .hbm, ⟨11, _⟩ => ⟨S4x4096x1024, .f32⟩
  | .hbm, ⟨12, _⟩ => ⟨S4x4096x1024, .f32⟩
  | .hbm, ⟨13, _⟩ => ⟨S4x4096x1024, .f32⟩
  | .hbm, ⟨14, _⟩ => ⟨S16384x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Ada.lean ====
abbrev S40x1024 : Shape := ⟨2, ![40, 1024]⟩
abbrev S4x1024x6144 : Shape := ⟨3, ![4, 1024, 6144]⟩
abbrev S4x6144 : Shape := ⟨2, ![4, 6144]⟩
abbrev S4x1x6144 : Shape := ⟨3, ![4, 1, 6144]⟩
abbrev S4x40x6144 : Shape := ⟨3, ![4, 40, 6144]⟩
abbrev S1x1024x1536 : Shape := ⟨3, ![1, 1024, 1536]⟩
abbrev S1x1x1536 : Shape := ⟨3, ![1, 1, 1536]⟩
abbrev S1x40x1536 : Shape := ⟨3, ![1, 40, 1536]⟩
abbrev S1024x1536 : Shape := ⟨2, ![1024, 1536]⟩
abbrev S40x1536 : Shape := ⟨2, ![40, 1536]⟩
abbrev S1x1536 : Shape := ⟨2, ![1, 1536]⟩

abbrev nBuf : Space → Nat
  | .hbm => 6
  | .vmem => 7
  | .smem => 0
  | _ => 0

abbrev bufTy : (tb : Table) → Fin (tcTables nBuf tb) → BufTy
  | .hbm, ⟨0, _⟩ => ⟨S40x1024, .f32⟩
  | .hbm, ⟨1, _⟩ => ⟨S4x1024x6144, .f32⟩
  | .hbm, ⟨2, _⟩ => ⟨S4x6144, .f32⟩
  | .hbm, ⟨3, _⟩ => ⟨S4x1024x6144, .bf16⟩
  | .hbm, ⟨4, _⟩ => ⟨S4x1x6144, .f32⟩
  | .hbm, ⟨5, _⟩ => ⟨S4x40x6144, .f32⟩
  | .local _ .vmem, ⟨0, _⟩ => ⟨S40x1024, .f32⟩
  | .local _ .vmem, ⟨1, _⟩ => ⟨S1x1024x1536, .bf16⟩
  | .local _ .vmem, ⟨2, _⟩ => ⟨S1x1024x1536, .bf16⟩
  | .local _ .vmem, ⟨3, _⟩ => ⟨S1x1x1536, .f32⟩
  | .local _ .vmem, ⟨4, _⟩ => ⟨S1x1x1536, .f32⟩
  | .local _ .vmem, ⟨5, _⟩ => ⟨S1x40x1536, .f32⟩
  | .local _ .vmem, ⟨6, _⟩ => ⟨S1x40x1536, .f32⟩
  | _, _ => ⟨S40x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S40x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x40x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaReferenceIdeal.lean ====
abbrev S40x1024 : Shape := ⟨2, ![40, 1024]⟩
abbrev S4x1024x6144 : Shape := ⟨3, ![4, 1024, 6144]⟩
abbrev S4x6144 : Shape := ⟨2, ![4, 6144]⟩
abbrev S_ : Shape := ⟨0, ![]⟩
abbrev S4x6144x40 : Shape := ⟨3, ![4, 6144, 40]⟩
abbrev S4x40x6144 : Shape := ⟨3, ![4, 40, 6144]⟩
abbrev S4x1x6144 : Shape := ⟨3, ![4, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S40x1024, .f32⟩
  | .hbm, ⟨1, _⟩ => ⟨S4x1024x6144, .f32⟩
  | .hbm, ⟨2, _⟩ => ⟨S4x6144, .f32⟩
  | .hbm, ⟨3, _⟩ => ⟨S40x1024, .f32⟩
  | .hbm, ⟨4, _⟩ => ⟨S40x1024, .f32⟩
  | .hbm, ⟨5, _⟩ => ⟨S_, .f32⟩
  | .hbm, ⟨6, _⟩ => ⟨S40x1024, .f32⟩
  | .hbm, ⟨7, _⟩ => ⟨S40x1024, .f32⟩
  | .hbm, ⟨8, _⟩ => ⟨S_, .f32⟩
  | .hbm, ⟨9, _⟩ => ⟨S40x1024, .f32⟩
  | .hbm, ⟨10, _⟩ => ⟨S40x1024, .f32⟩
  | .hbm, ⟨11, _⟩ => ⟨S40x1024, .f32⟩
  | .hbm, ⟨12, _⟩ => ⟨S4x6144x40, .f32⟩
  | .hbm, ⟨13, _⟩ => ⟨S4x40x6144, .f32⟩
  | .hbm, ⟨14, _⟩ => ⟨S4x1x6144, .f32⟩
  | .hbm, ⟨15, _⟩ => ⟨S4x40x6144, .f32⟩
  | .hbm, ⟨16, _⟩ => ⟨S4x40x6144, .f32⟩
  | _, _ => ⟨S40x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Compress.lean ====
abbrev S4x4096x512 : Shape := ⟨3, ![4, 4096, 512]⟩
abbrev S2x32x64 : Shape := ⟨3, ![2, 32, 64]⟩
abbrev S2x32x64x64 : Shape := ⟨4, ![2, 32, 64, 64]⟩
abbrev S2x32x1x64x64 : Shape := ⟨5, ![2, 32, 1, 64, 64]⟩
abbrev S2x32x2x64x64 : Shape := ⟨5, ![2, 32, 2, 64, 64]⟩
abbrev S2x2 : Shape := ⟨2, ![2, 2]⟩
abbrev S_ : Shape := ⟨0, ![]⟩
abbrev S2x32x2x64x1x64 : Shape := ⟨6, ![2, 32, 2, 64, 1, 64]⟩
abbrev S2x1x2x1 : Shape := ⟨4, ![2, 1, 2, 1]⟩
abbrev S1x1x2x1x2x1 : Shape := ⟨6, ![1, 1, 2, 1, 2, 1]⟩
abbrev S2x32x2x64x2x64 : Shape := ⟨6, ![2, 32, 2, 64, 2, 64]⟩
abbrev S2x32x128x128 : Shape := ⟨4, ![2, 32, 128, 128]⟩
abbrev S1x2x1x32x1x64 : Shape := ⟨6, ![1, 2, 1, 32, 1, 64]⟩
abbrev S1x2x1x32x2x64 : Shape := ⟨6, ![1, 2, 1, 32, 2, 64]⟩
abbrev S2x32x128 : Shape := ⟨3, ![2, 32, 128]⟩
abbrev S4x256x256 : Shape := ⟨3, ![4, 256, 256]⟩
abbrev S1x4096x128 : Shape := ⟨3, ![1, 4096, 128]⟩
abbrev S1x32x128 : Shape := ⟨3, ![1, 32, 128]⟩
abbrev S1x32x128x128 : Shape := ⟨4, ![1, 32, 128, 128]⟩
abbrev S1x256x128 : Shape := ⟨3, ![1, 256, 128]⟩
abbrev S256x128 : Shape := ⟨2, ![256, 128]⟩
abbrev S264x128 : Shape := ⟨2, ![264, 128]⟩
abbrev S1x1x128 : Shape := ⟨3, ![1, 1, 128]⟩
abbrev S1x128 : Shape := ⟨2, ![1, 128]⟩
abbrev S1x1x128x128 : Shape := ⟨4, ![1, 1, 128, 128]⟩
abbrev S128x128 : Shape := ⟨2, ![128, 128]⟩
abbrev S8x128 : Shape := ⟨2, ![8, 128]⟩

abbrev nBuf : Space → Nat
  | .hbm => 24
  | .vmem => 10
  | .smem => 0
  | _ => 0

abbrev bufTy : (tb : Table) → Fin (tcTables nBuf tb) → BufTy
  | .hbm, ⟨0, _⟩ => ⟨S4x4096x512, .f32⟩
  | .hbm, ⟨1, _⟩ => ⟨S2x32x64, .f32⟩
  | .hbm, ⟨2, _⟩ => ⟨S2x32x64x64, .f32⟩
  | .hbm, ⟨3, _⟩ => ⟨S2x32x1x64x64, .f32⟩
  | .hbm, ⟨4, _⟩ => ⟨S2x32x2x64x64, .f32⟩
  | .hbm, ⟨5, _⟩ => ⟨S2x2, .i32⟩
  | .hbm, ⟨6, _⟩ => ⟨S2x2, .i32⟩
  | .hbm, ⟨7, _⟩ => ⟨S_, .i32⟩
  | .hbm, ⟨8, _⟩ => ⟨S2x2, .i32⟩
  | .hbm, ⟨9, _⟩ => ⟨S2x2, .i32⟩
  | .hbm, ⟨10, _⟩ => ⟨S2x2, .i1⟩
  | .hbm, ⟨11, _⟩ => ⟨S2x2, .f32⟩
  | .hbm, ⟨12, _⟩ => ⟨S2x32x2x64x1x64, .f32⟩
  | .hbm, ⟨13, _⟩ => ⟨S2x1x2x1, .f32⟩
  | .hbm, ⟨14, _⟩ => ⟨S1x1x2x1x2x1, .f32⟩
  | .hbm, ⟨15, _⟩ => ⟨S2x32x2x64x2x64, .f32⟩
  | .hbm, ⟨16, _⟩ => ⟨S2x32x2x64x2x64, .f32⟩
  | .hbm, ⟨17, _⟩ => ⟨S2x32x2x64x2x64, .f32⟩
  | .hbm, ⟨18, _⟩ => ⟨S2x32x128x128, .f32⟩
  | .hbm, ⟨19, _⟩ => ⟨S2x32x128x128, .bf16⟩
  | .hbm, ⟨20, _⟩ => ⟨S1x2x1x32x1x64, .f32⟩
  | .hbm, ⟨21, _⟩ => ⟨S1x2x1x32x2x64, .f32⟩
  | .hbm, ⟨22, _⟩ => ⟨S2x32x128, .f32⟩
  | .hbm, ⟨23, _⟩ => ⟨S4x256x256, .f32⟩
  | .local _ .vmem, ⟨0, _⟩ => ⟨S1x4096x128, .f32⟩
  | .local _ .vmem, ⟨1, _⟩ => ⟨S1x4096x128, .f32⟩
  | .local _ .vmem, ⟨2, _⟩ => ⟨S1x32x128, .f32⟩
  | .local _ .vmem, ⟨3, _⟩ => ⟨S1x32x128, .f32⟩
  | .local _ .vmem, ⟨4, _⟩ => ⟨S1x32x128x128, .bf16⟩
  | .local _ .vmem, ⟨5, _⟩ => ⟨S1x32x128x128, .bf16⟩
  | .local _ .vmem, ⟨6, _⟩ => ⟨S1x256x128, .f32⟩
  | .local _ .vmem, ⟨7, _⟩ => ⟨S1x256x128, .f32⟩
  | .local _ .vmem, ⟨8, _⟩ => ⟨S256x128, .f32⟩
  | .local _ .vmem, ⟨9, _⟩ => ⟨S264x128, .f32⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x32x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== CompressReferenceIdeal.lean ====
abbrev S4x4096x512 : Shape := ⟨3, ![4, 4096, 512]⟩
abbrev S2x32x64 : Shape := ⟨3, ![2, 32, 64]⟩
abbrev S2x32x64x64 : Shape := ⟨4, ![2, 32, 64, 64]⟩
abbrev S4x4096x4x2x64 : Shape := ⟨5, ![4, 4096, 4, 2, 64]⟩
abbrev S4x4096x1x2x64 : Shape := ⟨5, ![4, 4096, 1, 2, 64]⟩
abbrev S4x4096x2x64 : Shape := ⟨4, ![4, 4096, 2, 64]⟩
abbrev S1x32x64 : Shape := ⟨3, ![1, 32, 64]⟩
abbrev S32x64 : Shape := ⟨2, ![32, 64]⟩
abbrev S1x32x64x64 : Shape := ⟨4, ![1, 32, 64, 64]⟩
abbrev S32x64x64 : Shape := ⟨3, ![32, 64, 64]⟩
abbrev S4x256x16x2x64 : Shape := ⟨5, ![4, 256, 16, 2, 64]⟩
abbrev S4x255x16x2x64 : Shape := ⟨5, ![4, 255, 16, 2, 64]⟩
abbrev S4x255x32x2x64 : Shape := ⟨5, ![4, 255, 32, 2, 64]⟩
abbrev S32x1x64 : Shape := ⟨3, ![32, 1, 64]⟩
abbrev S1x1x32x1x64 : Shape := ⟨5, ![1, 1, 32, 1, 64]⟩
abbrev S4x255x2x64 : Shape := ⟨4, ![4, 255, 2, 64]⟩
abbrev S4x1x16x2x64 : Shape := ⟨5, ![4, 1, 16, 2, 64]⟩
abbrev S16x64 : Shape := ⟨2, ![16, 64]⟩
abbrev S16x1x64 : Shape := ⟨3, ![16, 1, 64]⟩
abbrev S1x1x16x1x64 : Shape := ⟨5, ![1, 1, 16, 1, 64]⟩
abbrev S16x64x64 : Shape := ⟨3, ![16, 64, 64]⟩
abbrev S4x1x2x64 : Shape := ⟨4, ![4, 1, 2, 64]⟩
abbrev S4x256x2x64 : Shape := ⟨4, ![4, 256, 2, 64]⟩
abbrev S4x256x128 : Shape := ⟨3, ![4, 256, 128]⟩
abbrev S4x256x256 : Shape := ⟨3, ![4, 256, 256]⟩

abbrev nBuf : Space → Nat
  | .hbm => 55
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S2x32x64, .f32⟩
  | .hbm, ⟨2, _⟩ => ⟨S2x32x64x64, .f32⟩
  | .hbm, ⟨3, _⟩ => ⟨S4x4096x4x2x64, .f32⟩
  | .hbm, ⟨4, _⟩ => ⟨S4x4096x1x2x64, .f32⟩
  | .hbm, ⟨5, _⟩ => ⟨S4x4096x2x64, .f32⟩
  | .hbm, ⟨6, _⟩ => ⟨S1x32x64, .f32⟩
  | .hbm, ⟨7, _⟩ => ⟨S32x64, .f32⟩
  | .hbm, ⟨8, _⟩ => ⟨S1x32x64x64, .f32⟩
  | .hbm, ⟨9, _⟩ => ⟨S32x64x64, .f32⟩
  | .hbm, ⟨10, _⟩ => ⟨S4x256x16x2x64, .f32⟩
  | .hbm, ⟨11, _⟩ => ⟨S4x255x16x2x64, .f32⟩
  | .hbm, ⟨12, _⟩ => ⟨S4x255x16x2x64, .f32⟩
  | .hbm, ⟨13, _⟩ => ⟨S4x255x32x2x64, .f32⟩
  | .hbm, ⟨14, _⟩ => ⟨S32x1x64, .f32⟩
  | .hbm, ⟨15, _⟩ => ⟨S1x1x32x1x64, .f32⟩
  | .hbm, ⟨16, _⟩ => ⟨S4x255x32x2x64, .f32⟩
  | .hbm, ⟨17, _⟩ => ⟨S4x255x32x2x64, .f32⟩
  | .hbm, ⟨18, _⟩ => ⟨S4x255x2x64, .f32⟩
  | .hbm, ⟨19, _⟩ => ⟨S4x1x16x2x64, .f32⟩
  | .hbm, ⟨20, _⟩ => ⟨S16x64, .f32⟩
  | .hbm, ⟨21, _⟩ => ⟨S16x1x64, .f32⟩
  | .hbm, ⟨22, _⟩ => ⟨S1x1x16x1x64, .f32⟩
  | .hbm, ⟨23, _⟩ => ⟨S4x1x16x2x64, .f32⟩
  | .hbm, ⟨24, _⟩ => ⟨S4x1x16x2x64, .f32⟩
  | .hbm, ⟨25, _⟩ => ⟨S16x64x64, .f32⟩
  | .hbm, ⟨26, _⟩ => ⟨S4x1x2x64, .f32⟩
  | .hbm, ⟨27, _⟩ => ⟨S4x256x2x64, .f32⟩
  | .hbm, ⟨28, _⟩ => ⟨S4x256x128, .f32⟩
  | .hbm, ⟨29, _⟩ => ⟨S4x4096x1x2x64, .f32⟩
  | .hbm, ⟨30, _⟩ => ⟨S4x4096x2x64, .f32⟩
  | .hbm, ⟨31, _⟩ => ⟨S1x32x64, .f32⟩
  | .hbm, ⟨32, _⟩ => ⟨S32x64, .f32⟩
  | .hbm, ⟨33, _⟩ => ⟨S1x32x64x64, .f32⟩
  | .hbm, ⟨34, _⟩ => ⟨S32x64x64, .f32⟩
  | .hbm, ⟨35, _⟩ => ⟨S4x256x16x2x64, .f32⟩
  | .hbm, ⟨36, _⟩ => ⟨S4x255x16x2x64, .f32⟩
  | .hbm, ⟨37, _⟩ => ⟨S4x255x16x2x64, .f32⟩
  | .hbm, ⟨38, _⟩ => ⟨S4x255x32x2x64, .f32⟩
  | .hbm, ⟨39, _⟩ => ⟨S32x1x64, .f32⟩
  | .hbm, ⟨40, _⟩ => ⟨S1x1x32x1x64, .f32⟩
  | .hbm, ⟨41, _⟩ => ⟨S4x255x32x2x64, .f32⟩
  | .hbm, ⟨42, _⟩ => ⟨S4x255x32x2x64, .f32⟩
  | .hbm, ⟨43, _⟩ => ⟨S4x255x2x64, .f32⟩
  | .hbm, ⟨44, _⟩ => ⟨S4x1x16x2x64, .f32⟩
  | .hbm, ⟨45, _⟩ => ⟨S16x64, .f32⟩
  | .hbm, ⟨46, _⟩ => ⟨S16x1x64, .f32⟩
  | .hbm, ⟨47, _⟩ => ⟨S1x1x16x1x64, .f32⟩
  | .hbm, ⟨48, _⟩ => ⟨S4x1x16x2x64, .f32⟩
  | .hbm, ⟨49, _⟩ => ⟨S4x1x16x2x64, .f32⟩
  | .hbm, ⟨50, _⟩ => ⟨S16x64x64, .f32⟩
  | .hbm, ⟨51, _⟩ => ⟨S4x1x2x64, .f32⟩
  | .hbm, ⟨52, _⟩ => ⟨S4x256x2x64, .f32⟩
  | .hbm, ⟨53, _⟩ => ⟨S4x256x128, .f32⟩
  | .hbm, ⟨54, _⟩ => ⟨S4x256x256, .f32⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩

abbrev nD : Nat := 1
abbrev τ : Topo := Topo.v7x

variable {F : FTy → Type} [FloatOps F]
-- ==== Select.lean ====
abbrev S4x4096x512 : Shape := ⟨3, ![4, 4096, 512]⟩
abbrev S4x256x256 : Shape := ⟨3, ![4, 256, 256]⟩
abbrev S4x4096x128 : Shape := ⟨3, ![4, 4096, 128]⟩
abbrev S4x4096x256 : Shape := ⟨3, ![4, 4096, 256]⟩
abbrev S1x128x512 : Shape := ⟨3, ![1, 128, 512]⟩
abbrev S1x256x256 : Shape := ⟨3, ![1, 256, 256]⟩
abbrev S1x128x128 : Shape := ⟨3, ![1, 128, 128]⟩
abbrev S1x128x256 : Shape := ⟨3, ![1, 128, 256]⟩
abbrev S128x1 : Shape := ⟨2, ![128, 1]⟩
abbrev S1x256x128 : Shape := ⟨3, ![1, 256, 128]⟩
abbrev S256x128 : Shape := ⟨2, ![256, 128]⟩
abbrev S1x256 : Shape := ⟨2, ![1, 256]⟩
abbrev S128x256 : Shape := ⟨2, ![128, 256]⟩
abbrev S128x128 : Shape := ⟨2, ![128, 128]⟩
abbrev S1024x128 : Shape := ⟨2, ![1024, 128]⟩
abbrev S1024x256 : Shape := ⟨2, ![1024, 256]⟩
abbrev S128 : Shape := ⟨1, ![128]⟩
abbrev S1x128x1 : Shape := ⟨3, ![1, 128, 1]⟩
abbrev S128x512 : Shape := ⟨2, ![128, 512]⟩
abbrev S256x256 : Shape := ⟨2, ![256, 256]⟩
abbrev S1x128 : Shape := ⟨2, ![1, 128]⟩
abbrev S256x1 : Shape := ⟨2, ![256, 1]⟩
abbrev S8x128 : Shape := ⟨2, ![8, 128]⟩
abbrev S8x1 : Shape := ⟨2, ![8, 1]⟩
abbrev S64x128 : Shape := ⟨2, ![64, 128]⟩

abbrev nBuf : Space → Nat
  | .hbm => 5
  | .vmem => 10
  | .smem => 0
  | _ => 0

abbrev bufTy : (tb : Table) → Fin (tcTables nBuf tb) → BufTy
  | .hbm, ⟨0, _⟩ => ⟨S4x4096x512, .f32⟩
  | .hbm, ⟨1, _⟩ => ⟨S4x256x256, .f32⟩
  | .hbm, ⟨2, _⟩ => ⟨S4x4096x128, .f32⟩
  | .hbm, ⟨3, _⟩ => ⟨S4x4096x512, .f32⟩
  | .hbm, ⟨4, _⟩ => ⟨S4x4096x256, .bf16⟩
  | .local _ .vmem, ⟨0, _⟩ => ⟨S1x128x512, .f32⟩
  | .local _ .vmem, ⟨1, _⟩ => ⟨S1x128x512, .f32⟩
  | .local _ .vmem, ⟨2, _⟩ => ⟨S1x256x256, .f32⟩
  | .local _ .vmem, ⟨3, _⟩ => ⟨S1x256x256, .f32⟩
  | .local _ .vmem, ⟨4, _⟩ => ⟨S1x128x128, .f32⟩
  | .local _ .vmem, ⟨5, _⟩ => ⟨S1x128x128, .f32⟩
  | .local _ .vmem, ⟨6, _⟩ => ⟨S1x128x512, .f32⟩
  | .local _ .vmem, ⟨7, _⟩ => ⟨S1x128x512, .f32⟩
  | .local _ .vmem, ⟨8, _⟩ => ⟨S1x128x256, .bf16⟩
  | .local _ .vmem, ⟨9, _⟩ => ⟨S1x128x256, .bf16⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SelectReferenceIdeal.lean ====
abbrev S4x4096x512 : Shape := ⟨3, ![4, 4096, 512]⟩
abbrev S4x256x256 : Shape := ⟨3, ![4, 256, 256]⟩
abbrev S4x4096x128 : Shape := ⟨3, ![4, 4096, 128]⟩
abbrev S4x4096x2x4x64 : Shape := ⟨5, ![4, 4096, 2, 4, 64]⟩
abbrev S4x256x2x2x64 : Shape := ⟨5, ![4, 256, 2, 2, 64]⟩
abbrev S4096 : Shape := ⟨1, ![4096]⟩
abbrev S256 : Shape := ⟨1, ![256]⟩
abbrev S_ : Shape := ⟨0, ![]⟩
abbrev S4x256x1x2x64 : Shape := ⟨5, ![4, 256, 1, 2, 64]⟩
abbrev S4x256x2x64 : Shape := ⟨4, ![4, 256, 2, 64]⟩
abbrev S4x2x256x4096x4 : Shape := ⟨5, ![4, 2, 256, 4096, 4]⟩
abbrev S4x4096x2x4x256 : Shape := ⟨5, ![4, 4096, 2, 4, 256]⟩
abbrev S1x256 : Shape := ⟨2, ![1, 256]⟩
abbrev S4096x1 : Shape := ⟨2, ![4096, 1]⟩
abbrev S4096x256 : Shape := ⟨2, ![4096, 256]⟩
abbrev S1x4096x1x1x256 : Shape := ⟨5, ![1, 4096, 1, 1, 256]⟩
abbrev S4x4096x2x4 : Shape := ⟨4, ![4, 4096, 2, 4]⟩
abbrev S4x4096x2x4x1 : Shape := ⟨5, ![4, 4096, 2, 4, 1]⟩
abbrev S4x2x64x4096x4 : Shape := ⟨5, ![4, 2, 64, 4096, 4]⟩
abbrev S4x4096x8 : Shape := ⟨3, ![4, 4096, 8]⟩
abbrev S256x1 : Shape := ⟨2, ![256, 1]⟩
abbrev S64 : Shape := ⟨1, ![64]⟩
abbrev S1x64 : Shape := ⟨2, ![1, 64]⟩
abbrev S256x64 : Shape := ⟨2, ![256, 64]⟩
abbrev S4x4096x2x256 : Shape := ⟨4, ![4, 4096, 2, 256]⟩
abbrev S4x4096x2x64 : Shape := ⟨4, ![4, 4096, 2, 64]⟩
abbrev S4096x64 : Shape := ⟨2, ![4096, 64]⟩
abbrev S1x4096x1x64 : Shape := ⟨4, ![1, 4096, 1, 64]⟩
abbrev S4x4096x2x16 : Shape := ⟨4, ![4, 4096, 2, 16]⟩
abbrev S4x4096x2x16x1 : Shape := ⟨5, ![4, 4096, 2, 16, 1]⟩
abbrev S128 : Shape := ⟨1, ![128]⟩
abbrev S1x1x1x1x128 : Shape := ⟨5, ![1, 1, 1, 1, 128]⟩
abbrev S4x4096x2x16x128 : Shape := ⟨5, ![4, 4096, 2, 16, 128]⟩
abbrev S4x4096x2x128 : Shape := ⟨4, ![4, 4096, 2, 128]⟩
abbrev S4x4096x256 : Shape := ⟨3, ![4, 4096, 256]⟩

abbrev nBuf : Space → Nat
  | .hbm => 169
  | .vmem => 0
  | .smem => 0
  | _ => 0

abbrev hbmTy0_0 (i : Nat) : BufTy := match i % 128 with
  | 0 => ⟨S4x4096x512, .f32⟩
  | 1 => ⟨S4x256x256, .f32⟩
  | 2 => ⟨S4x4096x128, .f32⟩
  | 3 => ⟨S4x4096x2x4x64, .f32⟩
  | 4 => ⟨S4x256x2x2x64, .f32⟩
  | 5 => ⟨S4096, .i32⟩
  | 6 => ⟨S256, .i32⟩
  | 7 => ⟨S_, .i32⟩
  | 8 => ⟨S256, .i32⟩
  | 9 => ⟨S256, .i32⟩
  | 10 => ⟨S_, .i32⟩
  | 11 => ⟨S256, .i32⟩
  | 12 => ⟨S256, .i32⟩
  | 13 => ⟨S_, .i32⟩
  | 14 => ⟨S256, .i32⟩
  | 15 => ⟨S256, .i32⟩
  | 16 => ⟨S4x256x1x2x64, .f32⟩
  | 17 => ⟨S4x256x2x64, .f32⟩
  | 18 => ⟨S4x2x256x4096x4, .f32⟩
  | 19 => ⟨S4x4096x2x4x256, .f32⟩
  | 20 => ⟨S_, .f32⟩
  | 21 => ⟨S4x4096x2x4x256, .f32⟩
  | 22 => ⟨S4x4096x2x4x256, .f32⟩
  | 23 => ⟨S1x256, .i32⟩
  | 24 => ⟨S4096x1, .i32⟩
  | 25 => ⟨S4096x256, .i32⟩
  | 26 => ⟨S4096x256, .i32⟩
  | 27 => ⟨S4096x256, .i1⟩
  | 28 => ⟨S1x4096x1x1x256, .i1⟩
  | 29 => ⟨S_, .f32⟩
  | 30 => ⟨S_, .f32⟩
  | 31 => ⟨S4x4096x2x4x256, .i1⟩
  | 32 => ⟨S4x4096x2x4x256, .f32⟩
  | 33 => ⟨S4x4096x2x4x256, .f32⟩
  | 34 => ⟨S_, .f32⟩
  | 35 => ⟨S4x4096x2x4, .f32⟩
  | 36 => ⟨S4x4096x2x4x1, .f32⟩
  | 37 => ⟨S4x4096x2x4x256, .f32⟩
  | 38 => ⟨S4x4096x2x4x256, .f32⟩
  | 39 => ⟨S4x4096x2x4x256, .f32⟩
  | 40 => ⟨S_, .f32⟩
  | 41 => ⟨S_, .f32⟩
  | 42 => ⟨S4x4096x2x4x256, .i1⟩
  | 43 => ⟨S4x4096x2x4x256, .f32⟩
  | 44 => ⟨S4x4096x2x4x256, .f32⟩
  | 45 => ⟨S_, .f32⟩
  | 46 => ⟨S4x4096x2x4, .f32⟩
  | 47 => ⟨S4x4096x2x4x1, .f32⟩
  | 48 => ⟨S_, .f32⟩
  | 49 => ⟨S4x4096x2x4x1, .f32⟩
  | 50 => ⟨S4x4096x2x4x1, .f32⟩
  | 51 => ⟨S4x4096x2x4x256, .f32⟩
  | 52 => ⟨S4x4096x2x4x256, .f32⟩
  | 53 => ⟨S4x256x1x2x64, .f32⟩
  | 54 => ⟨S4x256x2x64, .f32⟩
  | 55 => ⟨S4x2x64x4096x4, .f32⟩
  | 56 => ⟨S4x4096x2x4x64, .f32⟩
  | 57 => ⟨S4x4096x8, .f32⟩
  | 58 => ⟨S4x4096x8, .f32⟩
  | 59 => ⟨S4x4096x8, .f32⟩
  | 60 => ⟨S_, .f32⟩
  | 61 => ⟨S4x4096x8, .f32⟩
  | 62 => ⟨S4x4096x8, .f32⟩
  | 63 => ⟨S_, .f32⟩
  | 64 => ⟨S4x4096x8, .f32⟩
  | 65 => ⟨S4x4096x8, .f32⟩
  | 66 => ⟨S4x4096x2x4, .f32⟩
  | 67 => ⟨S4x4096x2x4x1, .f32⟩
  | 68 => ⟨S256, .i32⟩
  | 69 => ⟨S256x1, .i32⟩
  | 70 => ⟨S_, .i32⟩
  | 71 => ⟨S256x1, .i32⟩
  | 72 => ⟨S256x1, .i32⟩
  | 73 => ⟨S64, .i32⟩
  | 74 => ⟨S1x64, .i32⟩
  | 75 => ⟨S_, .i32⟩
  | 76 => ⟨S1x64, .i32⟩
  | 77 => ⟨S1x64, .i32⟩
  | 78 => ⟨S_, .i32⟩
  | 79 => ⟨S1x64, .i32⟩
  | 80 => ⟨S1x64, .i32⟩
  | 81 => ⟨S256x64, .i32⟩
  | 82 => ⟨S256x64, .i32⟩
  | 83 => ⟨S256x64, .i1⟩
  | 84 => ⟨S_, .i32⟩
  | 85 => ⟨S256x1, .i32⟩
  | 86 => ⟨S256x1, .i32⟩
  | 87 => ⟨S256x64, .i32⟩
  | 88 => ⟨S256x64, .i32⟩
  | 89 => ⟨S256x64, .i1⟩
  | 90 => ⟨S256x64, .i1⟩
  | 91 => ⟨S256x64, .f32⟩
  | 92 => ⟨S_, .f32⟩
  | 93 => ⟨S4x4096x2x256, .f32⟩
  | 94 => ⟨S4x4096x2x64, .f32⟩
  | 95 => ⟨S_, .i32⟩
  | 96 => ⟨S_, .i32⟩
  | 97 => ⟨S4096, .i32⟩
  | 98 => ⟨S4096, .i32⟩
  | 99 => ⟨S4096, .i32⟩
  | 100 => ⟨S_, .i32⟩
  | 101 => ⟨S4096, .i32⟩
  | 102 => ⟨S4096, .i1⟩
  | 103 => ⟨S4096, .i32⟩
  | 104 => ⟨S4096, .i32⟩
  | 105 => ⟨S_, .i32⟩
  | 106 => ⟨S4096, .i32⟩
  | 107 => ⟨S4096, .i1⟩
  | 108 => ⟨S4096, .i1⟩
  | 109 => ⟨S_, .i32⟩
  | 110 => ⟨S4096, .i32⟩
  | 111 => ⟨S4096, .i32⟩
  | 112 => ⟨S4096, .i32⟩
  | 113 => ⟨S4096x1, .i32⟩
  | 114 => ⟨S64, .i32⟩
  | 115 => ⟨S1x64, .i32⟩
  | 116 => ⟨S_, .i32⟩
  | 117 => ⟨S1x64, .i32⟩
  | 118 => ⟨S1x64, .i1⟩
  | 119 => ⟨S4096x64, .i32⟩
  | 120 => ⟨S4096x64, .i32⟩
  | 121 => ⟨S4096x64, .i1⟩
  | 122 => ⟨S4096x64, .i1⟩
  | 123 => ⟨S4096x64, .i1⟩
  | 124 => ⟨S_, .i32⟩
  | 125 => ⟨S4096x1, .i32⟩
  | 126 => ⟨S4096x1, .i32⟩
  | 127 => ⟨S4096x64, .i32⟩
  | _ => ⟨S4x4096x512, .f32⟩

abbrev hbmTy0_1 (i : Nat) : BufTy := match i % 128 with
  | 0 => ⟨S4096x64, .i32⟩
  | 1 => ⟨S4096x64, .i1⟩
  | 2 => ⟨S4096x64, .i1⟩
  | 3 => ⟨S4096x64, .f32⟩
  | 4 => ⟨S1x4096x1x64, .f32⟩
  | 5 => ⟨S4096x64, .i32⟩
  | 6 => ⟨S4096x64, .i32⟩
  | 7 => ⟨S4096x64, .i1⟩
  | 8 => ⟨S1x4096x1x64, .i1⟩
  | 9 => ⟨S_, .f32⟩
  | 10 => ⟨S1x4096x1x64, .f32⟩
  | 11 => ⟨S1x4096x1x64, .f32⟩
  | 12 => ⟨S4x4096x2x64, .f32⟩
  | 13 => ⟨S4x4096x2x64, .f32⟩
  | 14 => ⟨S_, .f32⟩
  | 15 => ⟨S_, .f32⟩
  | 16 => ⟨S4x4096x2x64, .i1⟩
  | 17 => ⟨S4x4096x2x64, .f32⟩
  | 18 => ⟨S4x4096x2x64, .f32⟩
  | 19 => ⟨S4x4096x2x16, .f32⟩
  | 20 => ⟨S4x4096x2x16, .i32⟩
  | 21 => ⟨S4x4096x2x16x1, .i32⟩
  | 22 => ⟨S128, .i32⟩
  | 23 => ⟨S1x1x1x1x128, .i32⟩
  | 24 => ⟨S4x4096x2x16x128, .i32⟩
  | 25 => ⟨S4x4096x2x16x128, .i32⟩
  | 26 => ⟨S4x4096x2x16x128, .i1⟩
  | 27 => ⟨S_, .f32⟩
  | 28 => ⟨S4x4096x2x16, .f32⟩
  | 29 => ⟨S4x4096x2x16, .i1⟩
  | 30 => ⟨S4x4096x2x16x1, .i1⟩
  | 31 => ⟨S4x4096x2x16x128, .i1⟩
  | 32 => ⟨S4x4096x2x16x128, .i1⟩
  | 33 => ⟨S4x4096x2x16x128, .f32⟩
  | 34 => ⟨S_, .f32⟩
  | 35 => ⟨S4x4096x2x128, .f32⟩
  | 36 => ⟨S4x4096x2x4x64, .f32⟩
  | 37 => ⟨S4x4096x2x4x64, .f32⟩
  | 38 => ⟨S4x4096x512, .f32⟩
  | 39 => ⟨S4x4096x2x128, .bf16⟩
  | 40 => ⟨S4x4096x256, .bf16⟩
  | _ => ⟨S4x4096x512, .f32⟩

abbrev hbmTy (i : Nat) : BufTy := match i / 128 with
  | 0 => hbmTy0_0 i
  | 1 => hbmTy0_1 i
  | _ => ⟨S4x4096x512, .f32⟩

abbrev bufTy : (tb : Table) → Fin (tcTables nBuf tb) → BufTy
  | .hbm, ⟨i, _⟩ => hbmTy i
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_9 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_10 : Ref sig .tc := ⟨.hbm, 75, rfl⟩
abbrev main_v54 : Ref sig .tc := ⟨.hbm, 76, rfl⟩
abbrev main_v55 : Ref sig .tc := ⟨.hbm, 77, rfl⟩
abbrev main_c_11 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_12 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_13 : Ref sig .tc := ⟨.hbm, 92, rfl⟩
abbrev main_v68 : Ref sig .tc := ⟨.hbm, 93, rfl⟩
abbrev main_v69 : Ref sig .tc := ⟨.hbm, 94, rfl⟩
abbrev main_c_14 : Ref sig .tc := ⟨.hbm, 95, rfl⟩
abbrev main_call2_v0 : Ref sig .tc := ⟨.hbm, 96, rfl⟩
abbrev main_call2_v1 : Ref sig .tc := ⟨.hbm, 97, rfl⟩
abbrev main_call2_v2 : Ref sig .tc := ⟨.hbm, 98, rfl⟩
abbrev main_call2_v3 : Ref sig .tc := ⟨.hbm, 99, rfl⟩
abbrev main_call2_v4 : Ref sig .tc := ⟨.hbm, 100, rfl⟩
abbrev main_call2_v5 : Ref sig .tc := ⟨.hbm, 101, rfl⟩
abbrev main_call2_v6 : Ref sig .tc := ⟨.hbm, 102, rfl⟩
abbrev main_call2_v7 : Ref sig .tc := ⟨.hbm, 103, rfl⟩
abbrev main_call2_v8 : Ref sig .tc := ⟨.hbm, 104, rfl⟩
abbrev main_call2_c : Ref sig .tc := ⟨.hbm, 105, rfl⟩
abbrev main_call2_v9 : Ref sig .tc := ⟨.hbm, 106, rfl⟩
abbrev main_call2_v10 : Ref sig .tc := ⟨.hbm, 107, rfl⟩
abbrev main_call2_v11 : Ref sig .tc := ⟨.hbm, 108, rfl⟩
abbrev main_call2_c_0 : Ref sig .tc := ⟨.hbm, 109, rfl⟩
abbrev main_call2_v12 : Ref sig .tc := ⟨.hbm, 110, rfl⟩
abbrev main_call2_v13 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_c_15 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_c_16 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_cst_17 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_cst_18 : Ref sig .tc := ⟨.hbm, 142, rfl⟩
abbrev main_call3_v0 : Ref sig .tc := ⟨.hbm, 143, rfl⟩
abbrev main_call3_v1 : Ref sig .tc := ⟨.hbm, 144, rfl⟩
abbrev main_call3_v2 : Ref sig .tc := ⟨.hbm, 145, rfl⟩
abbrev main_v97 : Ref sig .tc := ⟨.hbm, 146, rfl⟩
abbrev main_values : Ref sig .tc := ⟨.hbm, 147, rfl⟩
abbrev main_indices : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_cst_19 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_cst_20 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩

abbrev nD : Nat := 1
abbrev τ : Topo := Topo.v7x

variable {F : FTy → Type} [FloatOps F]
-- ==== SampleWindow.lean ====
abbrev S32x8x512 : Shape := ⟨3, ![32, 8, 512]⟩
abbrev S32x256x640 : Shape := ⟨3, ![32, 256, 640]⟩
abbrev S32x8x128 : Shape := ⟨3, ![32, 8, 128]⟩
abbrev S1x8x512 : Shape := ⟨3, ![1, 8, 512]⟩
abbrev S1x256x640 : Shape := ⟨3, ![1, 256, 640]⟩
abbrev S1x8x128 : Shape := ⟨3, ![1, 8, 128]⟩
abbrev S1x640 : Shape := ⟨2, ![1, 640]⟩
abbrev S8x1 : Shape := ⟨2, ![8, 1]⟩
abbrev S64x1 : Shape := ⟨2, ![64, 1]⟩
abbrev S64x640 : Shape := ⟨2, ![64, 640]⟩
abbrev S8x128 : Shape := ⟨2, ![8, 128]⟩
abbrev S64x128 : Shape := ⟨2, ![64, 128]⟩
abbrev S1x128x640 : Shape := ⟨3, ![1, 128, 640]⟩
abbrev S128x640 : Shape := ⟨2, ![128, 640]⟩
abbrev S64 : Shape := ⟨1, ![64]⟩
abbrev S1x8x1 : Shape := ⟨3, ![1, 8, 1]⟩
abbrev S8x512 : Shape := ⟨2, ![8, 512]⟩

abbrev nBuf : Space → Nat
  | .hbm => 4
  | .vmem => 8
  | .smem => 0
  | _ => 0

abbrev bufTy : (tb : Table) → Fin (tcTables nBuf tb) → BufTy
  | .hbm, ⟨0, _⟩ => ⟨S32x8x512, .f32⟩
  | .hbm, ⟨1, _⟩ => ⟨S32x256x640, .f32⟩
  | .hbm, ⟨2, _⟩ => ⟨S32x8x128, .f32⟩
  | .hbm, ⟨3, _⟩ => ⟨S32x8x512, .f32⟩
  | .local _ .vmem, ⟨0, _⟩ => ⟨S1x8x512, .f32⟩
  | .local _ .vmem, ⟨1, _⟩ => ⟨S1x8x512, .f32⟩
  | .local _ .vmem, ⟨2, _⟩ => ⟨S1x256x640, .f32⟩
  | .local _ .vmem, ⟨3, _⟩ => ⟨S1x256x640, .f32⟩
  | .local _ .vmem, ⟨4, _⟩ => ⟨S1x8x128, .f32⟩
  | .local _ .vmem, ⟨5, _⟩ => ⟨S1x8x128, .f32⟩
  | .local _ .vmem, ⟨6, _⟩ => ⟨S1x8x512, .f32⟩
  | .local _ .vmem, ⟨7, _⟩ => ⟨S1x8x512, .f32⟩
  | _, _ => ⟨S32x8x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SampleWindowReferenceIdeal.lean ====
abbrev S32x8x512 : Shape := ⟨3, ![32, 8, 512]⟩
abbrev S32x256x640 : Shape := ⟨3, ![32, 256, 640]⟩
abbrev S32x8x128 : Shape := ⟨3, ![32, 8, 128]⟩
abbrev S32x8x2x4x64 : Shape := ⟨5, ![32, 8, 2, 4, 64]⟩
abbrev S32x640x256 : Shape := ⟨3, ![32, 640, 256]⟩
abbrev S32x640x2x2x64 : Shape := ⟨5, ![32, 640, 2, 2, 64]⟩
abbrev S8 : Shape := ⟨1, ![8]⟩
abbrev S_ : Shape := ⟨0, ![]⟩
abbrev S640 : Shape := ⟨1, ![640]⟩
abbrev S8x1 : Shape := ⟨2, ![8, 1]⟩
abbrev S1x640 : Shape := ⟨2, ![1, 640]⟩
abbrev S8x640 : Shape := ⟨2, ![8, 640]⟩
abbrev S1x8x1x1x640 : Shape := ⟨5, ![1, 8, 1, 1, 640]⟩
abbrev S32x640x1x2x64 : Shape := ⟨5, ![32, 640, 1, 2, 64]⟩
abbrev S32x640x2x64 : Shape := ⟨4, ![32, 640, 2, 64]⟩
abbrev S32x2x640x8x4 : Shape := ⟨5, ![32, 2, 640, 8, 4]⟩
abbrev S32x8x2x4x640 : Shape := ⟨5, ![32, 8, 2, 4, 640]⟩
abbrev S32x8x2x4 : Shape := ⟨4, ![32, 8, 2, 4]⟩
abbrev S32x8x2x4x1 : Shape := ⟨5, ![32, 8, 2, 4, 1]⟩
abbrev S32x2x64x8x4 : Shape := ⟨5, ![32, 2, 64, 8, 4]⟩
abbrev S32x8x8 : Shape := ⟨3, ![32, 8, 8]⟩

abbrev nBuf : Space → Nat
  | .hbm => 76
  | .vmem => 0
  | .smem => 0
  | _ => 0

abbrev bufTy : (tb : Table) → Fin (tcTables nBuf tb) → BufTy
  | .hbm, ⟨0, _⟩ => ⟨S32x8x512, .f32⟩
  | .hbm, ⟨1, _⟩ => ⟨S32x256x640, .f32⟩
  | .hbm, ⟨2, _⟩ => ⟨S32x8x128, .f32⟩
  | .hbm, ⟨3, _⟩ => ⟨S32x8x2x4x64, .f32⟩
  | .hbm, ⟨4, _⟩ => ⟨S32x640x256, .f32⟩
  | .hbm, ⟨5, _⟩ => ⟨S32x640x2x2x64, .f32⟩
  | .hbm, ⟨6, _⟩ => ⟨S8, .i32⟩
  | .hbm, ⟨7, _⟩ => ⟨S_, .i32⟩
  | .hbm, ⟨8, _⟩ => ⟨S8, .i32⟩
  | .hbm, ⟨9, _⟩ => ⟨S8, .i32⟩
  | .hbm, ⟨10, _⟩ => ⟨S640, .i32⟩
  | .hbm, ⟨11, _⟩ => ⟨S_, .i32⟩
  | .hbm, ⟨12, _⟩ => ⟨S640, .i32⟩
  | .hbm, ⟨13, _⟩ => ⟨S640, .i32⟩
  | .hbm, ⟨14, _⟩ => ⟨S8x1, .i32⟩
  | .hbm, ⟨15, _⟩ => ⟨S1x640, .i32⟩
  | .hbm, ⟨16, _⟩ => ⟨S8x640, .i32⟩
  | .hbm, ⟨17, _⟩ => ⟨S8x640, .i32⟩
  | .hbm, ⟨18, _⟩ => ⟨S8x640, .i32⟩
  | .hbm, ⟨19, _⟩ => ⟨S_, .i32⟩
  | .hbm, ⟨20, _⟩ => ⟨S8x640, .i32⟩
  | .hbm, ⟨21, _⟩ => ⟨S8x640, .i1⟩
  | .hbm, ⟨22, _⟩ => ⟨S_, .i32⟩
  | .hbm, ⟨23, _⟩ => ⟨S8x640, .i32⟩
  | .hbm, ⟨24, _⟩ => ⟨S8x640, .i1⟩
  | .hbm, ⟨25, _⟩ => ⟨S8x640, .i1⟩
  | .hbm, ⟨26, _⟩ => ⟨S1x8x1x1x640, .i1⟩
  | .hbm, ⟨27, _⟩ => ⟨S32x640x1x2x64, .f32⟩
  | .hbm, ⟨28, _⟩ => ⟨S32x640x2x64, .f32⟩
  | .hbm, ⟨29, _⟩ => ⟨S32x640x1x2x64, .f32⟩
  | .hbm, ⟨30, _⟩ => ⟨S32x640x2x64, .f32⟩
  | .hbm, ⟨31, _⟩ => ⟨S32x2x640x8x4, .f32⟩
  | .hbm, ⟨32, _⟩ => ⟨S32x8x2x4x640, .f32⟩
  | .hbm, ⟨33, _⟩ => ⟨S_, .f32⟩
  | .hbm, ⟨34, _⟩ => ⟨S32x8x2x4x640, .f32⟩
  | .hbm, ⟨35, _⟩ => ⟨S32x8x2x4x640, .f32⟩
  | .hbm, ⟨36, _⟩ => ⟨S_, .f32⟩
  | .hbm, ⟨37, _⟩ => ⟨S_, .f32⟩
  | .hbm, ⟨38, _⟩ => ⟨S32x8x2x4x640, .i1⟩
  | .hbm, ⟨39, _⟩ => ⟨S32x8x2x4x640, .f32⟩
  | .hbm, ⟨40, _⟩ => ⟨S32x8x2x4x640, .f32⟩
  | .hbm, ⟨41, _⟩ => ⟨S_, .f32⟩
  | .hbm, ⟨42, _⟩ => ⟨S32x8x2x4, .f32⟩
  | .hbm, ⟨43, _⟩ => ⟨S32x8x2x4x1, .f32⟩
  | .hbm, ⟨44, _⟩ => ⟨S32x8x2x4x640, .f32⟩
  | .hbm, ⟨45, _⟩ => ⟨S32x8x2x4x640, .f32⟩
  | .hbm, ⟨46, _⟩ => ⟨S32x8x2x4x640, .f32⟩
  | .hbm, ⟨47, _⟩ => ⟨S_, .f32⟩
  | .hbm, ⟨48, _⟩ => ⟨S_, .f32⟩
  | .hbm, ⟨49, _⟩ => ⟨S32x8x2x4x640, .i1⟩
  | .hbm, ⟨50, _⟩ => ⟨S32x8x2x4x640, .f32⟩
  | .hbm, ⟨51, _⟩ => ⟨S32x8x2x4x640, .f32⟩
  | .hbm, ⟨52, _⟩ => ⟨S_, .f32⟩
  | .hbm, ⟨53, _⟩ => ⟨S32x8x2x4, .f32⟩
  | .hbm, ⟨54, _⟩ => ⟨S32x8x2x4x1, .f32⟩
  | .hbm, ⟨55, _⟩ => ⟨S_, .f32⟩
  | .hbm, ⟨56, _⟩ => ⟨S32x8x2x4x1, .f32⟩
  | .hbm, ⟨57, _⟩ => ⟨S32x8x2x4x1, .f32⟩
  | .hbm, ⟨58, _⟩ => ⟨S32x8x2x4x640, .f32⟩
  | .hbm, ⟨59, _⟩ => ⟨S32x8x2x4x640, .f32⟩
  | .hbm, ⟨60, _⟩ => ⟨S32x2x64x8x4, .f32⟩
  | .hbm, ⟨61, _⟩ => ⟨S32x8x2x4x64, .f32⟩
  | .hbm, ⟨62, _⟩ => ⟨S32x8x8, .f32⟩
  | .hbm, ⟨63, _⟩ => ⟨S32x8x8, .f32⟩
  | .hbm, ⟨64, _⟩ => ⟨S32x8x8, .f32⟩
  | .hbm, ⟨65, _⟩ => ⟨S_, .f32⟩
  | .hbm, ⟨66, _⟩ => ⟨S32x8x8, .f32⟩
  | .hbm, ⟨67, _⟩ => ⟨S32x8x8, .f32⟩
  | .hbm, ⟨68, _⟩ => ⟨S_, .f32⟩
  | .hbm, ⟨69, _⟩ => ⟨S32x8x8, .f32⟩
  | .hbm, ⟨70, _⟩ => ⟨S32x8x8, .f32⟩
  | .hbm, ⟨71, _⟩ => ⟨S32x8x2x4, .f32⟩
  | .hbm, ⟨72, _⟩ => ⟨S32x8x2x4x1, .f32⟩
  | .hbm, ⟨73, _⟩ => ⟨S32x8x2x4x64, .f32⟩
  | .hbm, ⟨74, _⟩ => ⟨S32x8x2x4x64, .f32⟩
  | .hbm, ⟨75, _⟩ => ⟨S32x8x512, .f32⟩
  | _, _ => ⟨S32x8x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_1 : Ref sig .tc := ⟨.hbm, 19, rfl⟩
abbrev main_v14 : Ref sig .tc := ⟨.hbm, 20, rfl⟩
abbrev main_v15 : Ref sig .tc := ⟨.hbm, 21, rfl⟩
abbrev main_c_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_8 : Ref sig .tc := ⟨.hbm, 65, rfl⟩
abbrev main_v46 : Ref sig .tc := ⟨.hbm, 66, rfl⟩
abbrev main_v47 : Ref sig .tc := ⟨.hbm, 67, rfl⟩
abbrev main_cst_9 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== Proof.SoftmaxRow.lean ====
module

public import Idealize.ShloMosaic.Lib.Pointwise
public import Mathlib.Data.EReal.Inv

/-! One row of masked softmax attention over the extended reals: the weights, their bounds, and the two facts the
    kernels use — dividing after the sum over the keys is dividing before it, and keys that the mask excludes may be
    left out of the sum and of the maximum. -/

@[expose] public section
noncomputable section
namespace Cert.Proof.SoftmaxRow
open Idealize.ShloMosaic

/-- A sum times a nonnegative finite factor is the sum of the products. -/
theorem sum_mul_nonneg {ι : Type*} (S : Finset ι) (f : ι → EReal) {a : EReal} (h0 : 0 ≤ a) (ht : a ≠ ⊤) :
    (∑ i ∈ S, f i) * a = ∑ i ∈ S, f i * a := by
  classical
  induction S using Finset.induction_on with
  | empty => simp
  | insert i S hi ih => rw [Finset.sum_insert hi, Finset.sum_insert hi, EReal.right_distrib_of_nonneg_of_ne_top h0 ht, ih]

/-- A score under the mask: the score where the mask allows the key, the finite stand-in `lo` elsewhere. -/
def masked {n : ℕ} (lo : EReal) (p : Fin n → BitVec 1) (s : Fin n → EReal) (k : Fin n) : EReal :=
  Scalar.select (p k) (s k) lo

/-- The maximum of the masked scores of the row. -/
def rowMax {n : ℕ} (lo b : EReal) (p : Fin n → BitVec 1) (s : Fin n → EReal) : EReal :=
  Finset.fold max b (fun k => masked lo p s k) Finset.univ

/-- The softmax weight of a key before it is normalised; zero where the mask excludes the key. -/
def weight {n : ℕ} (lo b : EReal) (p : Fin n → BitVec 1) (s : Fin n → EReal) (k : Fin n) : EReal :=
  Scalar.select (p k) (Ideal.exp (masked lo p s k - rowMax lo b p s)) 0

theorem exp_nonneg (x : EReal) : 0 ≤ Ideal.exp x := by
  induction x with
  | bot => simp
  | top => simp
  | coe r => rw [Ideal.exp_coe]; exact_mod_cast (Real.exp_pos r).le

/-- The exponential of a score less a bound of it is at most one, at the infinities too. -/
theorem exp_sub_le_one {x y : EReal} (h : x ≤ y) : Ideal.exp (x - y) ≤ 1 := by
  induction x with
  | bot => simp
  | top =>
    have : y = ⊤ := top_le_iff.mp h
    subst this; simp
  | coe r =>
    induction y with
    | bot => exact absurd h (by simp)
    | top => simp
    | coe q =>
      rw [← EReal.coe_sub, Ideal.exp_coe]
      have : r - q ≤ 0 := by have := EReal.coe_le_coe_iff.mp h; linarith
      exact_mod_cast Real.exp_le_one_iff.mpr this

theorem masked_le_rowMax {n : ℕ} (lo b : EReal) (p : Fin n → BitVec 1) (s : Fin n → EReal) (k : Fin n) :
    masked lo p s k ≤ rowMax lo b p s :=
  (Finset.le_fold_max (masked lo p s k)).mpr (Or.inr ⟨k, Finset.mem_univ k, le_rfl⟩)

theorem weight_nonneg {n : ℕ} (lo b : EReal) (p : Fin n → BitVec 1) (s : Fin n → EReal) (k : Fin n) :
    0 ≤ weight lo b p s k := by
  unfold weight Scalar.select
  split
  · exact exp_nonneg _
  · exact le_rfl

theorem weight_le_one {n : ℕ} (lo b : EReal) (p : Fin n → BitVec 1) (s : Fin n → EReal) (k : Fin n) :
    weight lo b p s k ≤ 1 := by
  unfold weight Scalar.select
  split
  · exact exp_sub_le_one (masked_le_rowMax lo b p s k)
  · exact zero_le_one

/-- A finite sum of numbers between zero and one is not infinite. -/
theorem sum_ne_top {ι : Type*} (S : Finset ι) (f : ι → EReal) (h1 : ∀ i, f i ≤ 1) : (∑ i ∈ S, f i) ≠ ⊤ := by
  classical
  induction S using Finset.induction_on with
  | empty => simp
  | insert i S hi ih =>
    rw [Finset.sum_insert hi]
    exact EReal.add_ne_top (ne_top_of_le_ne_top (by decide) (h1 i)) ih

/-- A positive number below the top is a positive real. -/
theorem exists_real {x : EReal} (h0 : 0 < x) (ht : x ≠ ⊤) : ∃ r : ℝ, 0 < r ∧ x = (r : EReal) := by
  induction x with
  | bot => exact absurd h0 (by simp)
  | top => exact absurd rfl ht
  | coe r => exact ⟨r, by exact_mod_cast h0, rfl⟩

/-- Dividing a sum by a positive finite number divides each term. -/
theorem div_sum {ι : Type*} (S : Finset ι) (f : ι → EReal) {d : EReal} (h0 : 0 < d) (ht : d ≠ ⊤) :
    Ideal.div (∑ i ∈ S, f i) d = ∑ i ∈ S, Ideal.div (f i) d := by
  obtain ⟨r, hr, rfl⟩ := exists_real h0 ht
  simp only [Ideal.div_coe hr.ne']
  exact sum_mul_nonneg S f (by exact_mod_cast (one_div_pos.mpr hr).le) (EReal.coe_ne_top _)

theorem div_mul_right {x y d : EReal} (h0 : 0 < d) (ht : d ≠ ⊤) : Ideal.div (x * y) d = y * Ideal.div x d := by
  obtain ⟨r, hr, rfl⟩ := exists_real h0 ht
  rw [Ideal.div_coe hr.ne', Ideal.div_coe hr.ne']
  ac_rfl

/-- The sum of the weights raised to at least the positive `tiny`. -/
def denom {n : ℕ} (lo b tiny : EReal) (p : Fin n → BitVec 1) (s : Fin n → EReal) : EReal :=
  max (∑ k, weight lo b p s k) tiny

theorem denom_pos {n : ℕ} (lo b : EReal) {tiny : EReal} (ht : 0 < tiny) (p : Fin n → BitVec 1) (s : Fin n → EReal) :
    0 < denom lo b tiny p s := lt_of_lt_of_le ht (le_max_right _ _)

theorem denom_ne_top {n : ℕ} (lo b : EReal) {tiny : EReal} (ht : tiny ≠ ⊤) (p : Fin n → BitVec 1) (s : Fin n → EReal) :
    denom lo b tiny p s ≠ ⊤ := by
  unfold denom
  rcases max_choice (∑ k, weight lo b p s k) tiny with h | h <;> rw [h]
  · exact sum_ne_top _ _ (weight_le_one lo b p s)
  · exact ht

/-- Normalising after the sum over the keys is normalising each weight. -/
theorem normalise_after {n : ℕ} (lo b : EReal) {tiny : EReal} (h0 : 0 < tiny) (ht : tiny ≠ ⊤) (p : Fin n → BitVec 1)
    (s v : Fin n → EReal) :
    Ideal.div (∑ k, weight lo b p s k * v k) (denom lo b tiny p s)
      = ∑ k, v k * Ideal.div (weight lo b p s k) (denom lo b tiny p s) := by
  rw [div_sum _ _ (denom_pos lo b h0 p s) (denom_ne_top lo b ht p s)]
  exact Finset.sum_congr rfl fun k _ => div_mul_right (denom_pos lo b h0 p s) (denom_ne_top lo b ht p s)

section Slice
variable {n N : ℕ} (o : ℕ) (hn : o + n ≤ N)

/-- The key of the whole row at place `k` of the slice that begins at `o`. -/
def at' (k : Fin n) : Fin N := ⟨o + k.val, by omega⟩

/-- A sum whose terms vanish outside a slice is the sum over the slice. -/
theorem sum_slice (f : Fin N → EReal) (h : ∀ s : Fin N, ¬ (o ≤ s.val ∧ s.val < o + n) → f s = 0) :
    ∑ k : Fin n, f (at' o hn k) = ∑ s : Fin N, f s := by
  have hinj : Function.Injective (at' o hn) := fun a b hab => by
    have := congrArg Fin.val hab
    simp only [at'] at this
    exact Fin.ext (by omega)
  rw [← Finset.sum_image (s := Finset.univ) (g := at' o hn) (f := f) (fun a _ b _ hab => hinj hab)]
  refine Finset.sum_subset (Finset.subset_univ _) fun s _ hs => h s fun ⟨h1, h2⟩ => hs ?_
  exact Finset.mem_image.mpr ⟨⟨s.val - o, by omega⟩, Finset.mem_univ _, Fin.ext (by simp only [at']; omega)⟩

variable (lo b : EReal) (p : Fin N → BitVec 1) (s : Fin N → EReal)

/-- The maximum over a slice outside which the mask excludes every key, when it excludes a key of the slice as well. -/
theorem rowMax_slice (h : ∀ k : Fin N, ¬ (o ≤ k.val ∧ k.val < o + n) → p k = 0#1)
    (k₀ : Fin n) (hk₀ : p (at' o hn k₀) = 0#1) :
    rowMax lo b (fun k => p (at' o hn k)) (fun k => s (at' o hn k)) = rowMax lo b p s := by
  apply le_antisymm
  · refine (Finset.fold_max_le _).mpr ⟨(Finset.le_fold_max _).mpr (Or.inl le_rfl), fun k _ => ?_⟩
    exact masked_le_rowMax lo b p s (at' o hn k)
  · refine (Finset.fold_max_le _).mpr ⟨(Finset.le_fold_max _).mpr (Or.inl le_rfl), fun k _ => ?_⟩
    by_cases hk : o ≤ k.val ∧ k.val < o + n
    · have hk' : at' o hn (⟨k.val - o, by omega⟩ : Fin n) = k := Fin.ext (by simp only [at']; omega)
      refine le_trans (le_of_eq ?_) (masked_le_rowMax lo b _ _ (⟨k.val - o, by omega⟩ : Fin n))
      simp only [masked, hk']
    · refine le_trans (le_of_eq ?_) (masked_le_rowMax lo b _ _ k₀)
      simp only [masked, h k hk, hk₀, Scalar.select]
      rfl

/-- The weights on the slice are the row's weights there. -/
theorem weight_slice (h : ∀ k : Fin N, ¬ (o ≤ k.val ∧ k.val < o + n) → p k = 0#1)
    (k₀ : Fin n) (hk₀ : p (at' o hn k₀) = 0#1) (k : Fin n) :
    weight lo b (fun k => p (at' o hn k)) (fun k => s (at' o hn k)) k = weight lo b p s (at' o hn k) := by
  unfold weight
  rw [rowMax_slice o hn lo b p s h k₀ hk₀]
  rfl

theorem weight_eq_zero {k : Fin N} (h : p k = 0#1) : weight lo b p s k = 0 := by
  simp only [weight, h, Scalar.select]
  rfl

/-- ATTENTION ON A SLICE of the keys, normalised after the sum, is attention on all keys, normalised weight by weight. -/
theorem attend_slice {tiny : EReal} (h0 : 0 < tiny) (ht : tiny ≠ ⊤)
    (h : ∀ k : Fin N, ¬ (o ≤ k.val ∧ k.val < o + n) → p k = 0#1)
    (k₀ : Fin n) (hk₀ : p (at' o hn k₀) = 0#1) (v : Fin N → EReal) :
    Ideal.div (∑ k, weight lo b (fun k => p (at' o hn k)) (fun k => s (at' o hn k)) k * v (at' o hn k))
        (max (∑ k, weight lo b (fun k => p (at' o hn k)) (fun k => s (at' o hn k)) k) tiny)
      = ∑ k, v k * Ideal.div (weight lo b p s k) (max (∑ k, weight lo b p s k) tiny) := by
  simp only [weight_slice o hn lo b p s h k₀ hk₀]
  rw [sum_slice o hn (fun k => weight lo b p s k * v k) fun k hk => by rw [weight_eq_zero lo b p s (h k hk), zero_mul],
    sum_slice o hn (fun k => weight lo b p s k) fun k hk => weight_eq_zero lo b p s (h k hk)]
  exact normalise_after lo b h0 ht p s v
end Slice
end Cert.Proof.SoftmaxRow
end
-- ==== Proof.WindowScore.lean ====
module

public import proofs.«01_k».proof.Proof.Gen.WindowIdeal.Skeleton
public import proofs.«01_k».proof.Proof.Gen.WindowIdeal
public import proofs.«01_k».proof.Proof.SoftmaxRow

/-! The scores of one block of the sliding-window kernel: the kernel stacks the eight heads' queries, each in the half
    of the lanes where its key head lies and zero in the other half, and takes one product with the keys. Each head's
    scores are the products of its 64 query lanes with its key head's 64 lanes, scaled. -/

@[expose] public section
set_option maxRecDepth 16384
noncomputable section
namespace Cert.Proof.WindowScore
open Idealize.ShloMosaic Idealize.ShloMosaic.TcCoe Idealize.SL.Sem
open Cert.WindowIdeal Cert.WindowIdeal.Gen

theorem lane_low (a b : Fin 128 → EReal) :
    ∑ x : Fin 128, Scalar.select (IntOp.cmpi .slt (BitVec.ofNat 32 x.val) 64#32) (a x) 0 * b x
      = ∑ d : Fin 64, a ⟨d.val, by omega⟩ * b ⟨d.val, by omega⟩ := by
  have h : ∀ x : Fin 128, IntOp.cmpi .slt (BitVec.ofNat 32 x.val) 64#32 = BitVec.ofBool (decide (x.val < 64)) := by decide
  simp only [h]
  rw [Fin.sum_univ_two_halves 64 64 rfl]
  refine Eq.trans (congrArg₂ (· + ·) (Finset.sum_congr rfl fun d _ => ?_) (Finset.sum_eq_zero fun d _ => ?_)) (add_zero _)
  · rw [decide_eq_true d.isLt]; rfl
  · rw [decide_eq_false (by simp only []; omega)]; exact zero_mul _

theorem lane_low' (f : Fin 128 → EReal) :
    ∑ x : Fin 128, Scalar.select (IntOp.cmpi .slt (BitVec.ofNat 32 x.val) 64#32) (f x) 0
      = ∑ d : Fin 64, f ⟨d.val, by omega⟩ := by
  have h := lane_low f (fun _ => 1)
  simpa only [mul_one] using h

theorem lane_high (a b : Fin 128 → EReal) :
    ∑ x : Fin 128, Scalar.select (IntOp.cmpi .sge (BitVec.ofNat 32 x.val) 64#32) (a x) 0 * b x
      = ∑ d : Fin 64, a ⟨64 + d.val, by omega⟩ * b ⟨64 + d.val, by omega⟩ := by
  have h : ∀ x : Fin 128, IntOp.cmpi .sge (BitVec.ofNat 32 x.val) 64#32 = BitVec.ofBool (decide (64 ≤ x.val)) := by decide
  simp only [h]
  rw [Fin.sum_univ_two_halves 64 64 rfl]
  refine Eq.trans (congrArg₂ (· + ·) (Finset.sum_eq_zero fun d _ => ?_) (Finset.sum_congr rfl fun d _ => ?_)) (zero_add _)
  · rw [decide_eq_false (by simp only []; omega)]; exact zero_mul _
  · rw [decide_eq_true (by simp only []; omega)]; rfl

def eighth : EReal := Ideal.ofBits .f32 0x3E000000#32

theorem eighth_eq : eighth = ((1 / 8 : ℝ) : EReal) := by
  simp [eighth, Ideal.ofBits, Ideal.ieee, -EReal.coe_mul]; norm_num

/-- A scale applied to one factor of every product is the scale of the sum. -/
theorem scale_out (q k : Fin 64 → EReal) : ∑ d, q d * eighth * k d = (∑ d, k d * q d) * eighth := by
  have h0 : (0 : EReal) ≤ eighth := by rw [eighth_eq]; exact_mod_cast (by norm_num : (0:ℝ) ≤ 1/8)
  have ht : eighth ≠ ⊤ := by rw [eighth_eq]; exact EReal.coe_ne_top _
  rw [SoftmaxRow.sum_mul_nonneg _ _ h0 ht]
  exact Finset.sum_congr rfl fun d _ => by ac_rfl

/-- The scores of the stacked heads. -/
def scores (K : Vec Ideal S1x640x128 .f32) (q0 q1 q2 q3 : Vec Ideal S1x128x128 .f32) : FVec Ideal S1024x640 .f32 :=
  k0_pay15 (k0_pay1 K) (k0_pay6 (k0_pay4 q0) k0_pay5 (FloatOps.ofBits .f32 0x3E000000#32)) (k0_pay7 q0) (k0_pay8 q1)
    (k0_pay9 q1) (k0_pay10 q2) (k0_pay11 q2) (k0_pay12 q3) (k0_pay13 q3) k0_pay14 (FloatOps.ofBits .f32 0x3E000000#32)

variable (K : Vec Ideal S1x640x128 .f32) (q0 q1 q2 q3 : Vec Ideal S1x128x128 .f32) (r : Fin 128) (k : Fin 640)

set_option maxHeartbeats 1600000 in
theorem score0 : scores K q0 q1 q2 q3 (ix2 (⟨r.val, by omega⟩ : Fin 1024) k)
    = (∑ d : Fin 64, K (ix3 0 k ⟨d.val, by omega⟩) * q0 (ix3 0 r ⟨d.val, by omega⟩)) * eighth := by
  pointwise [scores, k0_pay15, k0_pay14, k0_pay13, k0_pay12, k0_pay11, k0_pay10, k0_pay9, k0_pay8, k0_pay7, k0_pay6,
    k0_pay5, k0_pay4, k0_pay1]
  try simp (disch := omega) only [dif_pos, dif_neg]
  refine (lane_low' _).trans (Eq.trans (Finset.sum_congr rfl fun d _ => ?_) (scale_out _ _))
  refine Ideal.mul_congr (Ideal.mul_congr (congrArg _ ?_) rfl) rfl
  exact (ix3_inj ..).2 ⟨rfl, Fin.ext (by first | rfl | omega | (simp only []; omega)), Fin.ext (by first | rfl | omega | (simp only []; omega))⟩

set_option maxHeartbeats 1600000 in
theorem score1 : scores K q0 q1 q2 q3 (ix2 (⟨128 + r.val, by omega⟩ : Fin 1024) k)
    = (∑ d : Fin 64, K (ix3 0 k ⟨d.val, by omega⟩) * q0 (ix3 0 r ⟨64 + d.val, by omega⟩)) * eighth := by
  pointwise [scores, k0_pay15, k0_pay14, k0_pay13, k0_pay12, k0_pay11, k0_pay10, k0_pay9, k0_pay8, k0_pay7, k0_pay6,
    k0_pay5, k0_pay4, k0_pay1]
  try simp (disch := omega) only [dif_pos, dif_neg]
  refine (lane_low' _).trans (Eq.trans (Finset.sum_congr rfl fun d _ => ?_) (scale_out _ _))
  refine Ideal.mul_congr (Ideal.mul_congr (congrArg _ ?_) rfl) rfl
  exact (ix3_inj ..).2 ⟨rfl, Fin.ext (by first | rfl | omega | (simp only []; omega)), Fin.ext (by first | rfl | omega | (simp only []; omega))⟩

set_option maxHeartbeats 1600000 in
theorem score2 : scores K q0 q1 q2 q3 (ix2 (⟨256 + r.val, by omega⟩ : Fin 1024) k)
    = (∑ d : Fin 64, K (ix3 0 k ⟨d.val, by omega⟩) * q1 (ix3 0 r ⟨d.val, by omega⟩)) * eighth := by
  pointwise [scores, k0_pay15, k0_pay14, k0_pay13, k0_pay12, k0_pay11, k0_pay10, k0_pay9, k0_pay8, k0_pay7, k0_pay6,
    k0_pay5, k0_pay4, k0_pay1]
  try simp (disch := omega) only [dif_pos, dif_neg]
  refine (lane_low _ _).trans (Eq.trans (Finset.sum_congr rfl fun d _ => ?_) (scale_out _ _))
  refine Ideal.mul_congr (Ideal.mul_congr (congrArg _ ?_) rfl) rfl
  exact (ix3_inj ..).2 ⟨rfl, Fin.ext (by first | rfl | omega | (simp only []; omega)), Fin.ext (by first | rfl | omega | (simp only []; omega))⟩

set_option maxHeartbeats 1600000 in
theorem score3 : scores K q0 q1 q2 q3 (ix2 (⟨384 + r.val, by omega⟩ : Fin 1024) k)
    = (∑ d : Fin 64, K (ix3 0 k ⟨d.val, by omega⟩) * q1 (ix3 0 r ⟨64 + d.val, by omega⟩)) * eighth := by
  pointwise [scores, k0_pay15, k0_pay14, k0_pay13, k0_pay12, k0_pay11, k0_pay10, k0_pay9, k0_pay8, k0_pay7, k0_pay6,
    k0_pay5, k0_pay4, k0_pay1]
  try simp (disch := omega) only [dif_pos, dif_neg]
  refine (lane_low _ _).trans (Eq.trans (Finset.sum_congr rfl fun d _ => ?_) (scale_out _ _))
  refine Ideal.mul_congr (Ideal.mul_congr (congrArg _ ?_) rfl) rfl
  exact (ix3_inj ..).2 ⟨rfl, Fin.ext (by first | rfl | omega | (simp only []; omega)), Fin.ext (by first | rfl | omega | (simp only []; omega))⟩

set_option maxHeartbeats 1600000 in
theorem score4 : scores K q0 q1 q2 q3 (ix2 (⟨512 + r.val, by omega⟩ : Fin 1024) k)
    = (∑ d : Fin 64, K (ix3 0 k ⟨64 + d.val, by omega⟩) * q2 (ix3 0 r ⟨d.val, by omega⟩)) * eighth := by
  pointwise [scores, k0_pay15, k0_pay14, k0_pay13, k0_pay12, k0_pay11, k0_pay10, k0_pay9, k0_pay8, k0_pay7, k0_pay6,
    k0_pay5, k0_pay4, k0_pay1]
  try simp (disch := omega) only [dif_pos, dif_neg]
  refine (lane_high _ _).trans (Eq.trans (Finset.sum_congr rfl fun d _ => ?_) (scale_out _ _))
  refine Ideal.mul_congr (Ideal.mul_congr (congrArg _ ?_) rfl) rfl
  exact (ix3_inj ..).2 ⟨rfl, Fin.ext (by first | rfl | omega | (simp only []; omega)), Fin.ext (by first | rfl | omega | (simp only []; omega))⟩

set_option maxHeartbeats 1600000 in
theorem score5 : scores K q0 q1 q2 q3 (ix2 (⟨640 + r.val, by omega⟩ : Fin 1024) k)
    = (∑ d : Fin 64, K (ix3 0 k ⟨64 + d.val, by omega⟩) * q2 (ix3 0 r ⟨64 + d.val, by omega⟩)) * eighth := by
  pointwise [scores, k0_pay15, k0_pay14, k0_pay13, k0_pay12, k0_pay11, k0_pay10, k0_pay9, k0_pay8, k0_pay7, k0_pay6,
    k0_pay5, k0_pay4, k0_pay1]
  try simp (disch := omega) only [dif_pos, dif_neg]
  refine (lane_high _ _).trans (Eq.trans (Finset.sum_congr rfl fun d _ => ?_) (scale_out _ _))
  refine Ideal.mul_congr (Ideal.mul_congr (congrArg _ ?_) rfl) rfl
  exact (ix3_inj ..).2 ⟨rfl, Fin.ext (by first | rfl | omega | (simp only []; omega)), Fin.ext (by first | rfl | omega | (simp only []; omega))⟩

set_option maxHeartbeats 1600000 in
theorem score6 : scores K q0 q1 q2 q3 (ix2 (⟨768 + r.val, by omega⟩ : Fin 1024) k)
    = (∑ d : Fin 64, K (ix3 0 k ⟨64 + d.val, by omega⟩) * q3 (ix3 0 r ⟨d.val, by omega⟩)) * eighth := by
  pointwise [scores, k0_pay15, k0_pay14, k0_pay13, k0_pay12, k0_pay11, k0_pay10, k0_pay9, k0_pay8, k0_pay7, k0_pay6,
    k0_pay5, k0_pay4, k0_pay1]
  try simp (disch := omega) only [dif_pos, dif_neg]
  refine (lane_high _ _).trans (Eq.trans (Finset.sum_congr rfl fun d _ => ?_) (scale_out _ _))
  refine Ideal.mul_congr (Ideal.mul_congr (congrArg _ ?_) rfl) rfl
  exact (ix3_inj ..).2 ⟨rfl, Fin.ext (by first | rfl | omega | (simp only []; omega)), Fin.ext (by first | rfl | omega | (simp only []; omega))⟩

set_option maxHeartbeats 1600000 in
theorem score7 : scores K q0 q1 q2 q3 (ix2 (⟨896 + r.val, by omega⟩ : Fin 1024) k)
    = (∑ d : Fin 64, K (ix3 0 k ⟨64 + d.val, by omega⟩) * q3 (ix3 0 r ⟨64 + d.val, by omega⟩)) * eighth := by
  pointwise [scores, k0_pay15, k0_pay14, k0_pay13, k0_pay12, k0_pay11, k0_pay10, k0_pay9, k0_pay8, k0_pay7, k0_pay6,
    k0_pay5, k0_pay4, k0_pay1]
  try simp (disch := omega) only [dif_pos, dif_neg]
  refine (lane_high _ _).trans (Eq.trans (Finset.sum_congr rfl fun d _ => ?_) (scale_out _ _))
  refine Ideal.mul_congr (Ideal.mul_congr (congrArg _ ?_) rfl) rfl
  exact (ix3_inj ..).2 ⟨rfl, Fin.ext (by first | rfl | omega | (simp only []; omega)), Fin.ext (by first | rfl | omega | (simp only []; omega))⟩

end Cert.Proof.WindowScore
end
-- ==== Proof.WindowStack.lean ====
module

public import proofs.«01_k».proof.Proof.WindowScore

/-! The softmax of one block of the sliding-window kernel: each head's weights over the slice of keys, the sum of the
    weights, and the product of the eight heads' stacked weights with the values. -/

@[expose] public section
set_option maxRecDepth 16384
noncomputable section
namespace Cert.Proof.WindowStack
open Idealize.ShloMosaic Idealize.ShloMosaic.TcCoe Idealize.SL.Sem
open Cert.WindowIdeal Cert.WindowIdeal.Gen Cert.Proof.WindowScore

/-- The finite stand-in of a masked score, the value a maximum starts from, and the least denominator. -/
def lo : EReal := Ideal.ofBits .f32 0xF149F2CA#32
def init : EReal := Ideal.ofBits .f32 0xFF800000#32
def tiny : EReal := Ideal.ofBits .f32 0x0DA24260#32

/-- The scale of the scores, as the kernel spells it. -/
abbrev c8 : Ideal .f32 := FloatOps.ofBits .f32 0x3E000000#32
/-- Zero, as the kernel spells it. -/
abbrev z0 : Ideal .f32 := FloatOps.ofBits .f32 0x00000000#32

variable (p : IVec S128x640 1) (K V : Vec Ideal S1x640x128 .f32) (q0 q1 q2 q3 : Vec Ideal S1x128x128 .f32)
variable (r : Fin 128)

/-- The weighted values of the stacked heads, not yet normalised. -/
def stacked : FVec Ideal S1024x128 .f32 :=
  k0_pay39 (k0_pay2 V) p (scores K q0 q1 q2 q3) (k0_pay18 (k0_pay1 K) p (k0_pay6 (k0_pay4 q0) k0_pay5 c8) (k0_pay7 q0) (k0_pay8 q1) (k0_pay9 q1) (k0_pay10 q2) (k0_pay11 q2) (k0_pay12 q3) (k0_pay13 q3) k0_pay14 c8) (k0_pay21 (k0_pay1 K) p (k0_pay6 (k0_pay4 q0) k0_pay5 c8) (k0_pay7 q0) (k0_pay8 q1) (k0_pay9 q1) (k0_pay10 q2) (k0_pay11 q2) (k0_pay12 q3) (k0_pay13 q3) k0_pay14 c8) (k0_pay25 p (k0_pay22 (k0_pay1 K) p (k0_pay6 (k0_pay4 q0) k0_pay5 c8) (k0_pay7 q0) (k0_pay8 q1) (k0_pay9 q1) (k0_pay10 q2) (k0_pay11 q2) (k0_pay12 q3) (k0_pay13 q3) k0_pay14 c8) z0)
    (k0_pay28 p (scores K q0 q1 q2 q3)) (k0_pay31 p (scores K q0 q1 q2 q3)) (k0_pay32 p (scores K q0 q1 q2 q3)) z0

section Stack
variable (v14 : FVec Ideal S640x128 .bf16) (S : FVec Ideal S1024x640 .f32) (a0 a1 a2 a3 a4 : FVec Ideal S128x640 .bf16)
  (s5 : FVec Ideal S128x640 .f32) (z : Ideal .f32)

theorem piece0 (x : Fin 128) : k0_pay39 v14 p S a0 a1 a2 a3 a4 s5 z (ix2 (⟨r.val, by omega⟩ : Fin 1024) x)
    = ∑ k : Fin 640, (a0) (ix2 r k) * v14 (ix2 k x) := by
  pointwise [k0_pay39]
  try simp (disch := omega) only [dif_pos, dif_neg]
  try exact Finset.sum_congr rfl fun k _ => Ideal.mul_congr (congrArg _ ((ix2_inj ..).2 ⟨Fin.ext (by first | rfl | omega | (simp only []; omega)), rfl⟩)) rfl

theorem piece1 (x : Fin 128) : k0_pay39 v14 p S a0 a1 a2 a3 a4 s5 z (ix2 (⟨128 + r.val, by omega⟩ : Fin 1024) x)
    = ∑ k : Fin 640, (a1) (ix2 r k) * v14 (ix2 k x) := by
  pointwise [k0_pay39]
  try simp (disch := omega) only [dif_pos, dif_neg]
  try exact Finset.sum_congr rfl fun k _ => Ideal.mul_congr (congrArg _ ((ix2_inj ..).2 ⟨Fin.ext (by first | rfl | omega | (simp only []; omega)), rfl⟩)) rfl

theorem piece2 (x : Fin 128) : k0_pay39 v14 p S a0 a1 a2 a3 a4 s5 z (ix2 (⟨256 + r.val, by omega⟩ : Fin 1024) x)
    = ∑ k : Fin 640, (a2) (ix2 r k) * v14 (ix2 k x) := by
  pointwise [k0_pay39]
  try simp (disch := omega) only [dif_pos, dif_neg]
  try exact Finset.sum_congr rfl fun k _ => Ideal.mul_congr (congrArg _ ((ix2_inj ..).2 ⟨Fin.ext (by first | rfl | omega | (simp only []; omega)), rfl⟩)) rfl

theorem piece3 (x : Fin 128) : k0_pay39 v14 p S a0 a1 a2 a3 a4 s5 z (ix2 (⟨384 + r.val, by omega⟩ : Fin 1024) x)
    = ∑ k : Fin 640, (a3) (ix2 r k) * v14 (ix2 k x) := by
  pointwise [k0_pay39]
  try simp (disch := omega) only [dif_pos, dif_neg]
  try exact Finset.sum_congr rfl fun k _ => Ideal.mul_congr (congrArg _ ((ix2_inj ..).2 ⟨Fin.ext (by first | rfl | omega | (simp only []; omega)), rfl⟩)) rfl

theorem piece4 (x : Fin 128) : k0_pay39 v14 p S a0 a1 a2 a3 a4 s5 z (ix2 (⟨512 + r.val, by omega⟩ : Fin 1024) x)
    = ∑ k : Fin 640, (a4) (ix2 r k) * v14 (ix2 k x) := by
  pointwise [k0_pay39]
  try simp (disch := omega) only [dif_pos, dif_neg]
  try exact Finset.sum_congr rfl fun k _ => Ideal.mul_congr (congrArg _ ((ix2_inj ..).2 ⟨Fin.ext (by first | rfl | omega | (simp only []; omega)), rfl⟩)) rfl

theorem piece5 (x : Fin 128) : k0_pay39 v14 p S a0 a1 a2 a3 a4 s5 z (ix2 (⟨640 + r.val, by omega⟩ : Fin 1024) x)
    = ∑ k : Fin 640, (k0_pay33 p s5 z) (ix2 r k) * v14 (ix2 k x) := by
  pointwise [k0_pay39]
  try simp (disch := omega) only [dif_pos, dif_neg]
  try exact Finset.sum_congr rfl fun k _ => Ideal.mul_congr (congrArg _ ((ix2_inj ..).2 ⟨Fin.ext (by first | rfl | omega | (simp only []; omega)), rfl⟩)) rfl

theorem piece6 (x : Fin 128) : k0_pay39 v14 p S a0 a1 a2 a3 a4 s5 z (ix2 (⟨768 + r.val, by omega⟩ : Fin 1024) x)
    = ∑ k : Fin 640, (k0_pay35 p S) (ix2 r k) * v14 (ix2 k x) := by
  pointwise [k0_pay39]
  try simp (disch := omega) only [dif_pos, dif_neg]
  try exact Finset.sum_congr rfl fun k _ => Ideal.mul_congr (congrArg _ ((ix2_inj ..).2 ⟨Fin.ext (by first | rfl | omega | (simp only []; omega)), rfl⟩)) rfl

theorem piece7 (x : Fin 128) : k0_pay39 v14 p S a0 a1 a2 a3 a4 s5 z (ix2 (⟨896 + r.val, by omega⟩ : Fin 1024) x)
    = ∑ k : Fin 640, (k0_pay37 p S) (ix2 r k) * v14 (ix2 k x) := by
  pointwise [k0_pay39]
  try simp (disch := omega) only [dif_pos, dif_neg]
  try exact Finset.sum_congr rfl fun k _ => Ideal.mul_congr (congrArg _ ((ix2_inj ..).2 ⟨Fin.ext (by first | rfl | omega | (simp only []; omega)), rfl⟩)) rfl
end Stack

theorem weight0 (k : Fin 640) : (k0_pay18 (k0_pay1 K) p (k0_pay6 (k0_pay4 q0) k0_pay5 c8) (k0_pay7 q0) (k0_pay8 q1) (k0_pay9 q1) (k0_pay10 q2) (k0_pay11 q2) (k0_pay12 q3) (k0_pay13 q3) k0_pay14 c8 : S128x640.Idx → EReal) (ix2 r k)
    = SoftmaxRow.weight lo init (fun k => p (ix2 r k)) (fun k => scores K q0 q1 q2 q3 (ix2 (⟨r.val, by omega⟩ : Fin 1024) k)) k := by
  pointwise [k0_pay18, k0_pay16]
  rfl

theorem den0 : (k0_pay17 (k0_pay1 K) p (k0_pay6 (k0_pay4 q0) k0_pay5 c8) (k0_pay7 q0) (k0_pay8 q1) (k0_pay9 q1) (k0_pay10 q2) (k0_pay11 q2) (k0_pay12 q3) (k0_pay13 q3) k0_pay14 c8 : S128x1.Idx → EReal) (ix2 r 0)
    = max (∑ k, SoftmaxRow.weight lo init (fun k => p (ix2 r k)) (fun k => scores K q0 q1 q2 q3 (ix2 (⟨r.val, by omega⟩ : Fin 1024) k)) k) tiny := by
  pointwise [k0_pay17, k0_pay16]
  rfl

theorem stacked0 (x : Fin 128) : stacked p K V q0 q1 q2 q3 (ix2 (⟨r.val, by omega⟩ : Fin 1024) x)
    = ∑ k, SoftmaxRow.weight lo init (fun k => p (ix2 r k)) (fun k => scores K q0 q1 q2 q3 (ix2 (⟨r.val, by omega⟩ : Fin 1024) k)) k
        * V (ix3 0 k x) := by
  refine (piece0 p r _ _ _ _ _ _ _ _ _ x).trans (Finset.sum_congr rfl fun k _ => Ideal.mul_congr (weight0 p K q0 q1 q2 q3 r k) ?_)
  pointwise [k0_pay2]

theorem weight1 (k : Fin 640) : (k0_pay21 (k0_pay1 K) p (k0_pay6 (k0_pay4 q0) k0_pay5 c8) (k0_pay7 q0) (k0_pay8 q1) (k0_pay9 q1) (k0_pay10 q2) (k0_pay11 q2) (k0_pay12 q3) (k0_pay13 q3) k0_pay14 c8 : S128x640.Idx → EReal) (ix2 r k)
    = SoftmaxRow.weight lo init (fun k => p (ix2 r k)) (fun k => scores K q0 q1 q2 q3 (ix2 (⟨128 + r.val, by omega⟩ : Fin 1024) k)) k := by
  pointwise [k0_pay21, k0_pay19]
  rfl

theorem den1 : (k0_pay20 (k0_pay1 K) p (k0_pay6 (k0_pay4 q0) k0_pay5 c8) (k0_pay7 q0) (k0_pay8 q1) (k0_pay9 q1) (k0_pay10 q2) (k0_pay11 q2) (k0_pay12 q3) (k0_pay13 q3) k0_pay14 c8 : S128x1.Idx → EReal) (ix2 r 0)
    = max (∑ k, SoftmaxRow.weight lo init (fun k => p (ix2 r k)) (fun k => scores K q0 q1 q2 q3 (ix2 (⟨128 + r.val, by omega⟩ : Fin 1024) k)) k) tiny := by
  pointwise [k0_pay20, k0_pay19]
  rfl

theorem stacked1 (x : Fin 128) : stacked p K V q0 q1 q2 q3 (ix2 (⟨128 + r.val, by omega⟩ : Fin 1024) x)
    = ∑ k, SoftmaxRow.weight lo init (fun k => p (ix2 r k)) (fun k => scores K q0 q1 q2 q3 (ix2 (⟨128 + r.val, by omega⟩ : Fin 1024) k)) k
        * V (ix3 0 k x) := by
  refine (piece1 p r _ _ _ _ _ _ _ _ _ x).trans (Finset.sum_congr rfl fun k _ => Ideal.mul_congr (weight1 p K q0 q1 q2 q3 r k) ?_)
  pointwise [k0_pay2]

theorem weight2 (k : Fin 640) : (k0_pay25 p (k0_pay22 (k0_pay1 K) p (k0_pay6 (k0_pay4 q0) k0_pay5 c8) (k0_pay7 q0) (k0_pay8 q1) (k0_pay9 q1) (k0_pay10 q2) (k0_pay11 q2) (k0_pay12 q3) (k0_pay13 q3) k0_pay14 c8) z0 : S128x640.Idx → EReal) (ix2 r k)
    = SoftmaxRow.weight lo init (fun k => p (ix2 r k)) (fun k => scores K q0 q1 q2 q3 (ix2 (⟨256 + r.val, by omega⟩ : Fin 1024) k)) k := by
  pointwise [k0_pay25, k0_pay23, k0_pay22]
  rfl

theorem den2 : (k0_pay24 p (k0_pay22 (k0_pay1 K) p (k0_pay6 (k0_pay4 q0) k0_pay5 c8) (k0_pay7 q0) (k0_pay8 q1) (k0_pay9 q1) (k0_pay10 q2) (k0_pay11 q2) (k0_pay12 q3) (k0_pay13 q3) k0_pay14 c8) z0 : S128x1.Idx → EReal) (ix2 r 0)
    = max (∑ k, SoftmaxRow.weight lo init (fun k => p (ix2 r k)) (fun k => scores K q0 q1 q2 q3 (ix2 (⟨256 + r.val, by omega⟩ : Fin 1024) k)) k) tiny := by
  pointwise [k0_pay24, k0_pay23, k0_pay22]
  rfl

theorem stacked2 (x : Fin 128) : stacked p K V q0 q1 q2 q3 (ix2 (⟨256 + r.val, by omega⟩ : Fin 1024) x)
    = ∑ k, SoftmaxRow.weight lo init (fun k => p (ix2 r k)) (fun k => scores K q0 q1 q2 q3 (ix2 (⟨256 + r.val, by omega⟩ : Fin 1024) k)) k
        * V (ix3 0 k x) := by
  refine (piece2 p r _ _ _ _ _ _ _ _ _ x).trans (Finset.sum_congr rfl fun k _ => Ideal.mul_congr (weight2 p K q0 q1 q2 q3 r k) ?_)
  pointwise [k0_pay2]

theorem weight3 (k : Fin 640) : (k0_pay28 p (scores K q0 q1 q2 q3) : S128x640.Idx → EReal) (ix2 r k)
    = SoftmaxRow.weight lo init (fun k => p (ix2 r k)) (fun k => scores K q0 q1 q2 q3 (ix2 (⟨384 + r.val, by omega⟩ : Fin 1024) k)) k := by
  pointwise [k0_pay28, k0_pay26]
  rfl

theorem den3 : (k0_pay27 p (scores K q0 q1 q2 q3) : S128x1.Idx → EReal) (ix2 r 0)
    = max (∑ k, SoftmaxRow.weight lo init (fun k => p (ix2 r k)) (fun k => scores K q0 q1 q2 q3 (ix2 (⟨384 + r.val, by omega⟩ : Fin 1024) k)) k) tiny := by
  pointwise [k0_pay27, k0_pay26]
  rfl

theorem stacked3 (x : Fin 128) : stacked p K V q0 q1 q2 q3 (ix2 (⟨384 + r.val, by omega⟩ : Fin 1024) x)
    = ∑ k, SoftmaxRow.weight lo init (fun k => p (ix2 r k)) (fun k => scores K q0 q1 q2 q3 (ix2 (⟨384 + r.val, by omega⟩ : Fin 1024) k)) k
        * V (ix3 0 k x) := by
  refine (piece3 p r _ _ _ _ _ _ _ _ _ x).trans (Finset.sum_congr rfl fun k _ => Ideal.mul_congr (weight3 p K q0 q1 q2 q3 r k) ?_)
  pointwise [k0_pay2]

theorem weight4 (k : Fin 640) : (k0_pay31 p (scores K q0 q1 q2 q3) : S128x640.Idx → EReal) (ix2 r k)
    = SoftmaxRow.weight lo init (fun k => p (ix2 r k)) (fun k => scores K q0 q1 q2 q3 (ix2 (⟨512 + r.val, by omega⟩ : Fin 1024) k)) k := by
  pointwise [k0_pay31, k0_pay29]
  rfl

theorem den4 : (k0_pay30 p (scores K q0 q1 q2 q3) : S128x1.Idx → EReal) (ix2 r 0)
    = max (∑ k, SoftmaxRow.weight lo init (fun k => p (ix2 r k)) (fun k => scores K q0 q1 q2 q3 (ix2 (⟨512 + r.val, by omega⟩ : Fin 1024) k)) k) tiny := by
  pointwise [k0_pay30, k0_pay29]
  rfl

theorem stacked4 (x : Fin 128) : stacked p K V q0 q1 q2 q3 (ix2 (⟨512 + r.val, by omega⟩ : Fin 1024) x)
    = ∑ k, SoftmaxRow.weight lo init (fun k => p (ix2 r k)) (fun k => scores K q0 q1 q2 q3 (ix2 (⟨512 + r.val, by omega⟩ : Fin 1024) k)) k
        * V (ix3 0 k x) := by
  refine (piece4 p r _ _ _ _ _ _ _ _ _ x).trans (Finset.sum_congr rfl fun k _ => Ideal.mul_congr (weight4 p K q0 q1 q2 q3 r k) ?_)
  pointwise [k0_pay2]

theorem weight5 (k : Fin 640) : (k0_pay33 p (k0_pay32 p (scores K q0 q1 q2 q3)) z0 : S128x640.Idx → EReal) (ix2 r k)
    = SoftmaxRow.weight lo init (fun k => p (ix2 r k)) (fun k => scores K q0 q1 q2 q3 (ix2 (⟨640 + r.val, by omega⟩ : Fin 1024) k)) k := by
  pointwise [k0_pay33, k0_pay32]
  rfl

theorem den5 : (k0_pay34 p (k0_pay32 p (scores K q0 q1 q2 q3)) z0 : S128x1.Idx → EReal) (ix2 r 0)
    = max (∑ k, SoftmaxRow.weight lo init (fun k => p (ix2 r k)) (fun k => scores K q0 q1 q2 q3 (ix2 (⟨640 + r.val, by omega⟩ : Fin 1024) k)) k) tiny := by
  pointwise [k0_pay34, k0_pay33, k0_pay32]
  rfl

theorem stacked5 (x : Fin 128) : stacked p K V q0 q1 q2 q3 (ix2 (⟨640 + r.val, by omega⟩ : Fin 1024) x)
    = ∑ k, SoftmaxRow.weight lo init (fun k => p (ix2 r k)) (fun k => scores K q0 q1 q2 q3 (ix2 (⟨640 + r.val, by omega⟩ : Fin 1024) k)) k
        * V (ix3 0 k x) := by
  refine (piece5 p r _ _ _ _ _ _ _ _ _ x).trans (Finset.sum_congr rfl fun k _ => Ideal.mul_congr (weight5 p K q0 q1 q2 q3 r k) ?_)
  pointwise [k0_pay2]

theorem weight6 (k : Fin 640) : (k0_pay35 p (scores K q0 q1 q2 q3) : S128x640.Idx → EReal) (ix2 r k)
    = SoftmaxRow.weight lo init (fun k => p (ix2 r k)) (fun k => scores K q0 q1 q2 q3 (ix2 (⟨768 + r.val, by omega⟩ : Fin 1024) k)) k := by
  pointwise [k0_pay35]
  rfl

theorem den6 : (k0_pay36 p (scores K q0 q1 q2 q3) : S128x1.Idx → EReal) (ix2 r 0)
    = max (∑ k, SoftmaxRow.weight lo init (fun k => p (ix2 r k)) (fun k => scores K q0 q1 q2 q3 (ix2 (⟨768 + r.val, by omega⟩ : Fin 1024) k)) k) tiny := by
  pointwise [k0_pay36, k0_pay35]
  rfl

theorem stacked6 (x : Fin 128) : stacked p K V q0 q1 q2 q3 (ix2 (⟨768 + r.val, by omega⟩ : Fin 1024) x)
    = ∑ k, SoftmaxRow.weight lo init (fun k => p (ix2 r k)) (fun k => scores K q0 q1 q2 q3 (ix2 (⟨768 + r.val, by omega⟩ : Fin 1024) k)) k
        * V (ix3 0 k x) := by
  refine (piece6 p r _ _ _ _ _ _ _ _ _ x).trans (Finset.sum_congr rfl fun k _ => Ideal.mul_congr (weight6 p K q0 q1 q2 q3 r k) ?_)
  pointwise [k0_pay2]

theorem weight7 (k : Fin 640) : (k0_pay37 p (scores K q0 q1 q2 q3) : S128x640.Idx → EReal) (ix2 r k)
    = SoftmaxRow.weight lo init (fun k => p (ix2 r k)) (fun k => scores K q0 q1 q2 q3 (ix2 (⟨896 + r.val, by omega⟩ : Fin 1024) k)) k := by
  pointwise [k0_pay37]
  rfl

theorem den7 : (k0_pay38 p (scores K q0 q1 q2 q3) : S128x1.Idx → EReal) (ix2 r 0)
    = max (∑ k, SoftmaxRow.weight lo init (fun k => p (ix2 r k)) (fun k => scores K q0 q1 q2 q3 (ix2 (⟨896 + r.val, by omega⟩ : Fin 1024) k)) k) tiny := by
  pointwise [k0_pay38, k0_pay37]
  rfl

theorem stacked7 (x : Fin 128) : stacked p K V q0 q1 q2 q3 (ix2 (⟨896 + r.val, by omega⟩ : Fin 1024) x)
    = ∑ k, SoftmaxRow.weight lo init (fun k => p (ix2 r k)) (fun k => scores K q0 q1 q2 q3 (ix2 (⟨896 + r.val, by omega⟩ : Fin 1024) k)) k
        * V (ix3 0 k x) := by
  refine (piece7 p r _ _ _ _ _ _ _ _ _ x).trans (Finset.sum_congr rfl fun k _ => Ideal.mul_congr (weight7 p K q0 q1 q2 q3 r k) ?_)
  pointwise [k0_pay2]

end Cert.Proof.WindowStack
end
-- ==== Proof.WindowHeads.lean ====
module

public import proofs.«01_k».proof.Proof.WindowStack

/-! What one grid point of the sliding-window kernel stores, head by head: each head's 64 output lanes are the softmax
    average of its key head's values over the slice of keys, times the head's gate. -/

@[expose] public section
set_option maxRecDepth 16384
noncomputable section
namespace Cert.Proof.WindowHeads
open Idealize.ShloMosaic Idealize.ShloMosaic.TcCoe Idealize.SL.Sem
open Cert.WindowIdeal Cert.WindowIdeal.Gen Cert.Proof.WindowScore Cert.Proof.WindowStack

theorem word_lt : ∀ n : Fin 512, IntOp.cmpi .slt (BitVec.ofNat 32 n.val) 64#32 = BitVec.ofBool (decide (n.val < 64)) := by
  decide +kernel

theorem pick_low {n : ℕ} (h : n < 64) (a b : EReal) :
    Scalar.select (IntOp.cmpi .slt (BitVec.ofNat 32 n) 64#32) a b = a := by
  rw [word_lt ⟨n, by omega⟩]
  simp only [h]; rfl

theorem pick_high {n : ℕ} (h : 64 ≤ n) (h' : n < 512) (a b : EReal) :
    Scalar.select (IntOp.cmpi .slt (BitVec.ofNat 32 n) 64#32) a b = b := by
  rw [word_lt ⟨n, h'⟩]
  simp only [show ¬ n < 64 by omega]; rfl

variable (p : IVec S128x640 1) (K V : Vec Ideal S1x640x128 .f32) (q0 q1 q2 q3 : Vec Ideal S1x128x128 .f32)
variable (g0 g1 g2 g3 g4 g5 g6 g7 : Vec Ideal S1x128x1 .f32) (r : Fin 128)

/-- The block the kernel stores. -/
def block : FVec Ideal S1x128x512 .f32 :=
  k0_pay50 (k0_pay38 p (scores K q0 q1 q2 q3)) (stacked p K V q0 q1 q2 q3)
    (k0_pay42 (k0_pay40 (k0_pay2 V) p (scores K q0 q1 q2 q3) (k0_pay17 (k0_pay1 K) p (k0_pay6 (k0_pay4 q0) k0_pay5 c8) (k0_pay7 q0) (k0_pay8 q1) (k0_pay9 q1) (k0_pay10 q2) (k0_pay11 q2) (k0_pay12 q3) (k0_pay13 q3) k0_pay14 c8) (k0_pay18 (k0_pay1 K) p (k0_pay6 (k0_pay4 q0) k0_pay5 c8) (k0_pay7 q0) (k0_pay8 q1) (k0_pay9 q1) (k0_pay10 q2) (k0_pay11 q2) (k0_pay12 q3) (k0_pay13 q3) k0_pay14 c8) (k0_pay21 (k0_pay1 K) p (k0_pay6 (k0_pay4 q0) k0_pay5 c8) (k0_pay7 q0) (k0_pay8 q1) (k0_pay9 q1) (k0_pay10 q2) (k0_pay11 q2) (k0_pay12 q3) (k0_pay13 q3) k0_pay14 c8)
      (k0_pay25 p (k0_pay22 (k0_pay1 K) p (k0_pay6 (k0_pay4 q0) k0_pay5 c8) (k0_pay7 q0) (k0_pay8 q1) (k0_pay9 q1) (k0_pay10 q2) (k0_pay11 q2) (k0_pay12 q3) (k0_pay13 q3) k0_pay14 c8) z0) (k0_pay28 p (scores K q0 q1 q2 q3)) (k0_pay31 p (scores K q0 q1 q2 q3))
      (k0_pay32 p (scores K q0 q1 q2 q3)) z0) (k0_pay41 g0))
    (k0_pay43 (k0_pay20 (k0_pay1 K) p (k0_pay6 (k0_pay4 q0) k0_pay5 c8) (k0_pay7 q0) (k0_pay8 q1) (k0_pay9 q1) (k0_pay10 q2) (k0_pay11 q2) (k0_pay12 q3) (k0_pay13 q3) k0_pay14 c8) (stacked p K V q0 q1 q2 q3) g1)
    (k0_pay44 (k0_pay24 p (k0_pay22 (k0_pay1 K) p (k0_pay6 (k0_pay4 q0) k0_pay5 c8) (k0_pay7 q0) (k0_pay8 q1) (k0_pay9 q1) (k0_pay10 q2) (k0_pay11 q2) (k0_pay12 q3) (k0_pay13 q3) k0_pay14 c8) z0) (stacked p K V q0 q1 q2 q3) g2)
    (k0_pay45 (k0_pay27 p (scores K q0 q1 q2 q3)) (stacked p K V q0 q1 q2 q3) g3)
    (k0_pay46 (k0_pay30 p (scores K q0 q1 q2 q3)) (stacked p K V q0 q1 q2 q3) g4)
    (k0_pay47 (k0_pay34 p (k0_pay32 p (scores K q0 q1 q2 q3)) z0) (stacked p K V q0 q1 q2 q3) g5)
    (k0_pay48 (stacked p K V q0 q1 q2 q3)) (k0_pay49 (k0_pay36 p (scores K q0 q1 q2 q3))) g6 g7

/-- A head's output lane: the normalised average of `v` under the weights of the scores `s`, gated. -/
def headOut {n : ℕ} (p : Fin n → BitVec 1) (s v : Fin n → EReal) (g : EReal) : EReal :=
  Ideal.div (∑ k, SoftmaxRow.weight lo init p s k * v k) (max (∑ k, SoftmaxRow.weight lo init p s k) tiny) * Ideal.logistic g

section Lanes
variable (W : FVec Ideal S1024x128 .f32) (D D7 : FVec Ideal S128x1 .f32) (G G7 : Vec Ideal S1x128x1 .f32)
  (o0 o1 o2 o3 o4 o5 o6 d6 : FVec Ideal S128x128 .f32)
  (v14 : FVec Ideal S640x128 .bf16) (S : FVec Ideal S1024x640 .f32) (a0 a1 a2 a3 a4 : FVec Ideal S128x640 .bf16)
  (s5 : FVec Ideal S128x640 .f32) (z : Ideal .f32)

theorem gated0 (x : Fin 128) : k0_pay42 (k0_pay40 v14 p S D a0 a1 a2 a3 a4 s5 z) (k0_pay41 G) (ix2 r x)
    = Ideal.div (k0_pay39 v14 p S a0 a1 a2 a3 a4 s5 z (ix2 (⟨r.val, by omega⟩ : Fin 1024) x)) (D (ix2 r 0))
      * Ideal.logistic (G (ix3 0 r 0)) := by
  pointwise [k0_pay42, k0_pay40, k0_pay41]

theorem gated1 (x : Fin 128) : k0_pay43 D W G (ix2 r x)
    = Ideal.div (W (ix2 (⟨128 + r.val, by omega⟩ : Fin 1024) x)) (D (ix2 r 0)) * Ideal.logistic (G (ix3 0 r 0)) := by
  pointwise [k0_pay43]

theorem gated2 (x : Fin 128) : k0_pay44 D W G (ix2 r x)
    = Ideal.div (W (ix2 (⟨256 + r.val, by omega⟩ : Fin 1024) x)) (D (ix2 r 0)) * Ideal.logistic (G (ix3 0 r 0)) := by
  pointwise [k0_pay44]

theorem gated3 (x : Fin 128) : k0_pay45 D W G (ix2 r x)
    = Ideal.div (W (ix2 (⟨384 + r.val, by omega⟩ : Fin 1024) x)) (D (ix2 r 0)) * Ideal.logistic (G (ix3 0 r 0)) := by
  pointwise [k0_pay45]

theorem gated4 (x : Fin 128) : k0_pay46 D W G (ix2 r x)
    = Ideal.div (W (ix2 (⟨512 + r.val, by omega⟩ : Fin 1024) x)) (D (ix2 r 0)) * Ideal.logistic (G (ix3 0 r 0)) := by
  pointwise [k0_pay46]

theorem gated5 (x : Fin 128) : k0_pay47 D W G (ix2 r x)
    = Ideal.div (W (ix2 (⟨640 + r.val, by omega⟩ : Fin 1024) x)) (D (ix2 r 0)) * Ideal.logistic (G (ix3 0 r 0)) := by
  pointwise [k0_pay47]

theorem lane0 (d : Fin 64) : k0_pay50 D7 W o0 o1 o2 o3 o4 o5 o6 d6 G G7 (ix3 0 r ⟨d.val, by omega⟩)
    = o0 (ix2 r (⟨d.val, by omega⟩ : Fin 128)) := by
  pointwise [k0_pay50]
  try simp (disch := omega) only [dif_pos, dif_neg, pick_low, pick_high]

theorem lane1 (d : Fin 64) : k0_pay50 D7 W o0 o1 o2 o3 o4 o5 o6 d6 G G7 (ix3 0 r ⟨64 + d.val, by omega⟩)
    = o1 (ix2 r (⟨d.val, by omega⟩ : Fin 128)) := by
  pointwise [k0_pay50]
  try simp (disch := omega) only [dif_pos, dif_neg, pick_low, pick_high]
  simp only [show (64 + d.val + 128 - 64) % 128 = d.val by omega]

theorem lane2 (d : Fin 64) : k0_pay50 D7 W o0 o1 o2 o3 o4 o5 o6 d6 G G7 (ix3 0 r ⟨128 + d.val, by omega⟩)
    = o2 (ix2 r (⟨d.val, by omega⟩ : Fin 128)) := by
  pointwise [k0_pay50]
  try simp (disch := omega) only [dif_pos, dif_neg, pick_low, pick_high]

theorem lane3 (d : Fin 64) : k0_pay50 D7 W o0 o1 o2 o3 o4 o5 o6 d6 G G7 (ix3 0 r ⟨192 + d.val, by omega⟩)
    = o3 (ix2 r (⟨d.val, by omega⟩ : Fin 128)) := by
  pointwise [k0_pay50]
  try simp (disch := omega) only [dif_pos, dif_neg, pick_low, pick_high]
  simp only [show (192 + d.val - 128 + 128 - 64) % 128 = d.val by omega]

theorem lane4 (d : Fin 64) : k0_pay50 D7 W o0 o1 o2 o3 o4 o5 o6 d6 G G7 (ix3 0 r ⟨256 + d.val, by omega⟩)
    = o4 (ix2 r (⟨64 + d.val, by omega⟩ : Fin 128)) := by
  pointwise [k0_pay50]
  try simp (disch := omega) only [dif_pos, dif_neg, pick_low, pick_high]
  simp only [show (256 + d.val - 128 - 128 + 128 - 64) % 128 = 64 + d.val by omega]

theorem lane5 (d : Fin 64) : k0_pay50 D7 W o0 o1 o2 o3 o4 o5 o6 d6 G G7 (ix3 0 r ⟨320 + d.val, by omega⟩)
    = o5 (ix2 r (⟨64 + d.val, by omega⟩ : Fin 128)) := by
  pointwise [k0_pay50]
  try simp (disch := omega) only [dif_pos, dif_neg, pick_low, pick_high]
  simp only [show 320 + d.val - 128 - 128 = 64 + d.val by omega]

theorem lane6 (d : Fin 64) : k0_pay50 D7 W o0 o1 o2 o3 o4 o5 o6 d6 G G7 (ix3 0 r ⟨384 + d.val, by omega⟩)
    = Ideal.div (o6 (ix2 r (⟨64 + d.val, by omega⟩ : Fin 128))) (d6 (ix2 r (⟨64 + d.val, by omega⟩ : Fin 128))) * Ideal.logistic (G (ix3 0 r 0)) := by
  pointwise [k0_pay50]
  try simp (disch := omega) only [dif_pos, dif_neg, pick_low, pick_high]
  simp only [show (384 + d.val - 128 - 128 - 128 + 128 - 64) % 128 = 64 + d.val by omega]

theorem lane7 (d : Fin 64) : k0_pay50 D7 W o0 o1 o2 o3 o4 o5 o6 d6 G G7 (ix3 0 r ⟨448 + d.val, by omega⟩)
    = Ideal.div (W (ix2 (⟨896 + r.val, by omega⟩ : Fin 1024) (⟨64 + d.val, by omega⟩ : Fin 128))) (D7 (ix2 r 0)) * Ideal.logistic (G7 (ix3 0 r 0)) := by
  pointwise [k0_pay50]
  try simp (disch := omega) only [dif_pos, dif_neg, pick_low, pick_high]
  simp only [show 448 + d.val - 128 - 128 - 128 = 64 + d.val by omega]

theorem row6 (x : Fin 128) : k0_pay48 W (ix2 r x) = W (ix2 (⟨768 + r.val, by omega⟩ : Fin 1024) x) := by
  pointwise [k0_pay48]

theorem wide6 (x : Fin 128) : k0_pay49 D (ix2 r x) = D (ix2 r 0) := by
  pointwise [k0_pay49]
end Lanes

theorem block0 (d : Fin 64) : block p K V q0 q1 q2 q3 g0 g1 g2 g3 g4 g5 g6 g7 (ix3 0 r ⟨d.val, by omega⟩)
    = headOut (fun k => p (ix2 r k)) (fun k => scores K q0 q1 q2 q3 (ix2 (⟨r.val, by omega⟩ : Fin 1024) k))
        (fun k => V (ix3 0 k ⟨d.val, by omega⟩)) (g0 (ix3 0 r 0)) := by
  refine (lane0 ..).trans ?_
  refine (gated0 ..).trans ?_
  exact Ideal.mul_congr (congrArg₂ Ideal.div (stacked0 p K V q0 q1 q2 q3 r ⟨d.val, by omega⟩) (den0 p K q0 q1 q2 q3 r)) rfl

theorem block1 (d : Fin 64) : block p K V q0 q1 q2 q3 g0 g1 g2 g3 g4 g5 g6 g7 (ix3 0 r ⟨64 + d.val, by omega⟩)
    = headOut (fun k => p (ix2 r k)) (fun k => scores K q0 q1 q2 q3 (ix2 (⟨128 + r.val, by omega⟩ : Fin 1024) k))
        (fun k => V (ix3 0 k ⟨d.val, by omega⟩)) (g1 (ix3 0 r 0)) := by
  refine (lane1 ..).trans ?_
  refine (gated1 ..).trans ?_
  exact Ideal.mul_congr (congrArg₂ Ideal.div (stacked1 p K V q0 q1 q2 q3 r ⟨d.val, by omega⟩) (den1 p K q0 q1 q2 q3 r)) rfl

theorem block2 (d : Fin 64) : block p K V q0 q1 q2 q3 g0 g1 g2 g3 g4 g5 g6 g7 (ix3 0 r ⟨128 + d.val, by omega⟩)
    = headOut (fun k => p (ix2 r k)) (fun k => scores K q0 q1 q2 q3 (ix2 (⟨256 + r.val, by omega⟩ : Fin 1024) k))
        (fun k => V (ix3 0 k ⟨d.val, by omega⟩)) (g2 (ix3 0 r 0)) := by
  refine (lane2 ..).trans ?_
  refine (gated2 ..).trans ?_
  exact Ideal.mul_congr (congrArg₂ Ideal.div (stacked2 p K V q0 q1 q2 q3 r ⟨d.val, by omega⟩) (den2 p K q0 q1 q2 q3 r)) rfl

theorem block3 (d : Fin 64) : block p K V q0 q1 q2 q3 g0 g1 g2 g3 g4 g5 g6 g7 (ix3 0 r ⟨192 + d.val, by omega⟩)
    = headOut (fun k => p (ix2 r k)) (fun k => scores K q0 q1 q2 q3 (ix2 (⟨384 + r.val, by omega⟩ : Fin 1024) k))
        (fun k => V (ix3 0 k ⟨d.val, by omega⟩)) (g3 (ix3 0 r 0)) := by
  refine (lane3 ..).trans ?_
  refine (gated3 ..).trans ?_
  exact Ideal.mul_congr (congrArg₂ Ideal.div (stacked3 p K V q0 q1 q2 q3 r ⟨d.val, by omega⟩) (den3 p K q0 q1 q2 q3 r)) rfl

theorem block4 (d : Fin 64) : block p K V q0 q1 q2 q3 g0 g1 g2 g3 g4 g5 g6 g7 (ix3 0 r ⟨256 + d.val, by omega⟩)
    = headOut (fun k => p (ix2 r k)) (fun k => scores K q0 q1 q2 q3 (ix2 (⟨512 + r.val, by omega⟩ : Fin 1024) k))
        (fun k => V (ix3 0 k ⟨64 + d.val, by omega⟩)) (g4 (ix3 0 r 0)) := by
  refine (lane4 ..).trans ?_
  refine (gated4 ..).trans ?_
  exact Ideal.mul_congr (congrArg₂ Ideal.div (stacked4 p K V q0 q1 q2 q3 r ⟨64 + d.val, by omega⟩) (den4 p K q0 q1 q2 q3 r)) rfl

theorem block5 (d : Fin 64) : block p K V q0 q1 q2 q3 g0 g1 g2 g3 g4 g5 g6 g7 (ix3 0 r ⟨320 + d.val, by omega⟩)
    = headOut (fun k => p (ix2 r k)) (fun k => scores K q0 q1 q2 q3 (ix2 (⟨640 + r.val, by omega⟩ : Fin 1024) k))
        (fun k => V (ix3 0 k ⟨64 + d.val, by omega⟩)) (g5 (ix3 0 r 0)) := by
  refine (lane5 ..).trans ?_
  refine (gated5 ..).trans ?_
  exact Ideal.mul_congr (congrArg₂ Ideal.div (stacked5 p K V q0 q1 q2 q3 r ⟨64 + d.val, by omega⟩) (den5 p K q0 q1 q2 q3 r)) rfl

theorem block6 (d : Fin 64) : block p K V q0 q1 q2 q3 g0 g1 g2 g3 g4 g5 g6 g7 (ix3 0 r ⟨384 + d.val, by omega⟩)
    = headOut (fun k => p (ix2 r k)) (fun k => scores K q0 q1 q2 q3 (ix2 (⟨768 + r.val, by omega⟩ : Fin 1024) k))
        (fun k => V (ix3 0 k ⟨64 + d.val, by omega⟩)) (g6 (ix3 0 r 0)) := by
  refine (lane6 ..).trans ?_
  exact Ideal.mul_congr (congrArg₂ Ideal.div ((row6 r _ _).trans (stacked6 p K V q0 q1 q2 q3 r ⟨64 + d.val, by omega⟩)) ((wide6 r _ _).trans (den6 p K q0 q1 q2 q3 r))) rfl

theorem block7 (d : Fin 64) : block p K V q0 q1 q2 q3 g0 g1 g2 g3 g4 g5 g6 g7 (ix3 0 r ⟨448 + d.val, by omega⟩)
    = headOut (fun k => p (ix2 r k)) (fun k => scores K q0 q1 q2 q3 (ix2 (⟨896 + r.val, by omega⟩ : Fin 1024) k))
        (fun k => V (ix3 0 k ⟨64 + d.val, by omega⟩)) (g7 (ix3 0 r 0)) := by
  refine (lane7 ..).trans ?_
  exact Ideal.mul_congr (congrArg₂ Ideal.div (stacked7 p K V q0 q1 q2 q3 r ⟨64 + d.val, by omega⟩) (den7 p K q0 q1 q2 q3 r)) rfl

end Cert.Proof.WindowHeads
end
-- ==== Proof.WindowMask.lean ====
module

public import proofs.«01_k».proof.Proof.Gen.WindowIdeal.Skeleton
public import proofs.«01_k».proof.Proof.Gen.WindowIdeal
public import Idealize.ShloMosaic.Lib.Pointwise
public import Idealize.ShloMosaic.Lib.WordCmp

/-! The sliding-window mask as a statement about positions, from the words the two programs compute it with. -/

@[expose] public section
set_option maxRecDepth 16384
noncomputable section
namespace Cert.Proof.WindowMask
open Idealize.ShloMosaic Idealize.ShloMosaic.TcCoe Idealize.SL.Sem
open Cert.WindowIdeal Cert.WindowIdeal.Gen

/-- Query `t` sees key `s`: not later than the query and fewer than 512 positions before it. -/
def near (t s : ℕ) : BitVec 1 := BitVec.ofBool (decide (s ≤ t ∧ t < s + 512))

theorem ofBool_and (a b : Bool) : IntOp.andi (BitVec.ofBool a) (BitVec.ofBool b) = BitVec.ofBool (a && b) := by
  cases a <;> cases b <;> rfl

theorem toInt_word {t : ℕ} (ht : t < 4096) : (BitVec.ofNat 32 t).toInt = t := by
  rw [BitVec.toInt_eq_toNat_cond, BitVec.toNat_ofNat]
  omega

theorem toInt_diff {t s : ℕ} (ht : t < 4096) (hs : s < 4096) :
    (BitVec.ofNat 32 t - BitVec.ofNat 32 s).toInt = (t : ℤ) - s := by
  rw [BitVec.toInt_sub, toInt_word ht, toInt_word hs]
  exact Int.bmod_eq_of_le (by omega) (by omega)

theorem diff_lt {t s : ℕ} (ht : t < 4096) (hs : s < 4096) :
    IntOp.cmpi .slt (IntOp.subi (BitVec.ofNat 32 t) (BitVec.ofNat 32 s)) 512#32 = BitVec.ofBool (decide (t < s + 512)) := by
  simp only [IntOp.cmpi, IntOp.subi, BitVec.slt, toInt_diff ht hs]
  congr 1
  apply decide_eq_decide.mpr
  rw [show (512#32).toInt = 512 from by decide]
  omega

theorem diff_ge {t s : ℕ} (ht : t < 4096) (hs : s < 4096) :
    IntOp.cmpi .sge (IntOp.subi (BitVec.ofNat 32 t) (BitVec.ofNat 32 s)) 0#32 = BitVec.ofBool (decide (s ≤ t)) := by
  simp only [IntOp.cmpi, IntOp.subi, BitVec.sle, toInt_diff ht hs]
  congr 1
  apply decide_eq_decide.mpr
  rw [show (0#32).toInt = 0 from by decide]
  omega

theorem word_le {t s : ℕ} (ht : t < 4096) (hs : s < 4096) :
    IntOp.cmpi .sle (BitVec.ofNat 32 s) (BitVec.ofNat 32 t) = BitVec.ofBool (decide (s ≤ t)) := by
  simp only [IntOp.cmpi, BitVec.sle, toInt_word ht, toInt_word hs]
  congr 1
  apply decide_eq_decide.mpr
  omega

theorem word_nonneg {s : ℕ} (hs : s < 4096) : IntOp.cmpi .sge (BitVec.ofNat 32 s) 0#32 = BitVec.ofBool true := by
  simp only [IntOp.cmpi, BitVec.sle, toInt_word hs]
  exact congrArg BitVec.ofBool (decide_eq_true (by rw [show (0#32).toInt = 0 from by decide]; omega))

/-- The reference's mask of query `t` and key `s`. -/
theorem ref_mask {t s : ℕ} (ht : t < 4096) (hs : s < 4096) :
    IntOp.andi (IntOp.cmpi .sge (IntOp.subi (BitVec.ofNat 32 t) (BitVec.ofNat 32 s)) 0#32)
      (IntOp.cmpi .slt (IntOp.subi (BitVec.ofNat 32 t) (BitVec.ofNat 32 s)) 512#32) = near t s := by
  rw [diff_lt ht hs, diff_ge ht hs, ofBool_and, near]
  congr 1
  simp

/-- Where the slice of keys of query block `i` begins. -/
theorem slice_start : ∀ i : Fin 32,
    Scalar.minsi (3456#32) (Scalar.maxsi (0#32)
      (Scalar.subi (Scalar.subi (Scalar.addi (0#32) (Scalar.muli (BitVec.ofNat 32 i.val) 128#32)) 0#32) 512#32))
      = BitVec.ofNat 32 (128 * i.val - 512) := by decide

theorem block_start : ∀ i : Fin 32, Scalar.addi (0#32) (Scalar.muli (BitVec.ofNat 32 i.val) 128#32)
      = BitVec.ofNat 32 (128 * i.val) := by decide

/-- The kernel's mask of row `r` of query block `i` and place `k` of its slice of keys. -/
theorem mask_at (i : grid0.Coords) (r : Fin 128) (k : Fin 640) :
    k0_pay3 i (ix2 r k) = near (128 * (i 1).val + r.val) (128 * (i 1).val - 512 + k.val) := by
  pointwise [k0_pay3]
  have hi : (i 1).val < 32 := (i 1).isLt
  obtain ⟨n, hn⟩ : ∃ n : Fin 32, n.val = (i 1).val := ⟨⟨(i 1).val, hi⟩, rfl⟩
  rw [← hn, slice_start n, block_start n]
  have e1 : IntOp.addi (BitVec.ofNat 32 (128 * n.val)) (BitVec.ofNat 32 r.val) = BitVec.ofNat 32 (128 * n.val + r.val) := by
    rw [IntOp.addi, BitVec.ofNat_add]
  have e2 : IntOp.addi (Scalar.addi (0#32) (BitVec.ofNat 32 (128 * n.val - 512))) (BitVec.ofNat 32 k.val)
      = BitVec.ofNat 32 (128 * n.val - 512 + k.val) := by
    rw [IntOp.addi, Scalar.addi, IntOp.addi, BitVec.zero_add, BitVec.ofNat_add]
  rw [e1, e2, word_le (by omega) (by omega), diff_lt (by omega) (by omega), word_nonneg (by omega), ofBool_and, ofBool_and, near]
  congr 1
  simp

/-- The slice begins at the block's first query less 512, or at the first key. -/
theorem off_at (i : grid0.Coords) : k0_off1 i = ![0, 128 * (i 1).val - 512, 0] := by
  have hi : (i 1).val < 32 := (i 1).isLt
  obtain ⟨n, hn⟩ : ∃ n : Fin 32, n.val = (i 1).val := ⟨⟨(i 1).val, hi⟩, rfl⟩
  unfold k0_off1
  simp only [← hn]
  rw [slice_start n]
  rw [show BitVec.toNat (Scalar.indexCast (BitVec.ofNat 32 (128 * n.val - 512))) = 128 * n.val - 512 from by
    simp only [Scalar.indexCast, BitVec.toNat_ofNat]; omega]

end Cert.Proof.WindowMask
end
-- ==== Proof.WindowSpec.lean ====
module

public import proofs.«01_k».proof.Proof.WindowStack
public import proofs.«01_k».proof.Proof.WindowMask

/-! What one head of the sliding-window attention is, as a formula over the three arguments. -/

@[expose] public section
set_option maxRecDepth 16384
noncomputable section
namespace Cert.Proof.WindowSpec
open Idealize.ShloMosaic Idealize.ShloMosaic.TcCoe
open Cert.WindowIdeal Cert.Proof.WindowScore Cert.Proof.WindowStack Cert.Proof.WindowMask

variable (q : FVec Ideal S4x4096x512 .f32) (kv : FVec Ideal S4x4096x256 .f32) (ms : FVec Ideal S4x4096x128 .f32)

/-- The score of key `k` for the query at position `t` of head `h`. -/
def score (b : Fin 4) (t : Fin 4096) (h : Fin 8) (k : Fin 4096) : EReal :=
  (∑ d : Fin 64, kv (ix3 b k ⟨64 * (h.val / 4) + d.val, by omega⟩) * q (ix3 b t ⟨64 * h.val + d.val, by omega⟩)) * eighth

/-- The weight of key `k`, before it is normalised. -/
def wt (b : Fin 4) (t : Fin 4096) (h : Fin 8) (k : Fin 4096) : EReal :=
  SoftmaxRow.weight lo init (fun k : Fin 4096 => near t.val k.val) (score q kv b t h) k

/-- Output lane `d` of head `h`: the values averaged by the normalised weights, times the head's gate. -/
def out (b : Fin 4) (t : Fin 4096) (h : Fin 8) (d : Fin 64) : EReal :=
  (∑ k : Fin 4096, kv (ix3 b k ⟨128 + 64 * (h.val / 4) + d.val, by omega⟩)
      * Ideal.div (wt q kv b t h k) (max (∑ k, wt q kv b t h k) tiny))
    * Ideal.logistic (ms (ix3 b t ⟨24 + h.val, by omega⟩))

/-- The whole result. -/
def result : FVec Ideal S4x4096x512 .f32 := fun i =>
  out q kv ms (i 0) (i 1) ⟨(i 2).val / 64, by have h : (i 2).val < 512 := (i 2).isLt; omega⟩ ⟨(i 2).val % 64, by omega⟩

theorem result_at (b : Fin 4) (t : Fin 4096) (h : Fin 8) (d : Fin 64) (e : 64 * h.val + d.val < 512) :
    result q kv ms (ix3 b t ⟨64 * h.val + d.val, e⟩) = out q kv ms b t h d := by
  have e1 : (64 * h.val + d.val) / 64 = h.val := by omega
  have e2 : (64 * h.val + d.val) % 64 = d.val := by omega
  show out q kv ms b t ⟨(64 * h.val + d.val) / 64, _⟩ ⟨(64 * h.val + d.val) % 64, _⟩ = _
  exact congrArg₂ (out q kv ms b t) (Fin.ext e1) (Fin.ext e2)

theorem tiny_pos : 0 < tiny ∧ tiny ≠ ⊤ := by
  have h : ∃ x : ℝ, 0 < x ∧ tiny = (x : EReal) := by
    refine ⟨_, ?_, by simp [tiny, Ideal.ofBits, Ideal.ieee, -EReal.coe_mul]; rfl⟩
    norm_num
  obtain ⟨x, hx, e⟩ := h
  rw [e]
  exact ⟨by exact_mod_cast hx, EReal.coe_ne_top _⟩

end Cert.Proof.WindowSpec
end
-- ==== Proof.WindowLocal.lean ====
module

public import proofs.«01_k».proof.Proof.WindowHeads
public import proofs.«01_k».proof.Proof.WindowSpec

/-! One head of one block, read against the whole arrays: a softmax over the slice of 640 keys is the softmax over all
    4096 keys, since every key outside the slice is masked. -/

@[expose] public section
set_option maxRecDepth 16384
noncomputable section
namespace Cert.Proof.WindowLocal
open Idealize.ShloMosaic Idealize.ShloMosaic.TcCoe
open Cert.WindowIdeal Cert.Proof.WindowScore Cert.Proof.WindowStack Cert.Proof.WindowMask Cert.Proof.WindowHeads

theorem near_false {t s : ℕ} (h : ¬ (s ≤ t ∧ t < s + 512)) : near t s = 0#1 := by
  unfold near
  rw [decide_eq_false h]; rfl

variable (q : FVec Ideal S4x4096x512 .f32) (kv : FVec Ideal S4x4096x256 .f32) (ms : FVec Ideal S4x4096x128 .f32)

/-- Block `i` of 128 queries reads the 640 keys that start at `128 i - 512`, or at zero. -/
theorem headOut_eq (i : ℕ) (hi : i < 32) (r : Fin 128) (b : Fin 4) (t : Fin 4096) (ht : t.val = 128 * i + r.val) (h : Fin 8)
    (d : Fin 64) (p : Fin 640 → BitVec 1) (s v : Fin 640 → EReal) (g : EReal)
    (hp : ∀ k, p k = near (128 * i + r.val) (128 * i - 512 + k.val))
    (hs : ∀ k : Fin 640, s k = WindowSpec.score q kv b t h ⟨128 * i - 512 + k.val, by omega⟩)
    (hv : ∀ k : Fin 640, v k = kv (ix3 b ⟨128 * i - 512 + k.val, by omega⟩ ⟨128 + 64 * (h.val / 4) + d.val, by omega⟩))
    (hg : g = ms (ix3 b t ⟨24 + h.val, by omega⟩)) :
    headOut p s v g = WindowSpec.out q kv ms b t h d := by
  have hn : 128 * i - 512 + 640 ≤ 4096 := by omega
  obtain rfl : p = fun k => (fun k : Fin 4096 => near t.val k.val) (SoftmaxRow.at' (128 * i - 512) hn k) :=
    funext fun k => (hp k).trans (congrArg (near · _) ht.symm)
  obtain rfl : s = fun k => WindowSpec.score q kv b t h (SoftmaxRow.at' (128 * i - 512) hn k) := funext hs
  obtain rfl : v = fun k => (fun k : Fin 4096 => kv (ix3 b k ⟨128 + 64 * (h.val / 4) + d.val, by omega⟩))
      (SoftmaxRow.at' (128 * i - 512) hn k) := funext hv
  subst hg
  refine congrArg (· * _) ?_
  refine SoftmaxRow.attend_slice (128 * i - 512) hn lo init (fun k : Fin 4096 => near t.val k.val)
    (WindowSpec.score q kv b t h) WindowSpec.tiny_pos.1 WindowSpec.tiny_pos.2 (fun k hk => near_false ?_)
    (if i < 4 then ⟨639, by omega⟩ else ⟨0, by omega⟩) (near_false ?_) _
  · have := r.isLt
    omega
  · have := r.isLt
    split
    · simp only [SoftmaxRow.at']; omega
    · simp only [SoftmaxRow.at']; omega

section Point
variable (p : IVec S128x640 1) (K V : Vec Ideal S1x640x128 .f32) (q0 q1 q2 q3 : Vec Ideal S1x128x128 .f32)
variable (g0 g1 g2 g3 g4 g5 g6 g7 : Vec Ideal S1x128x1 .f32)

theorem point0
    (r : Fin 128) (i : ℕ) (hi : i < 32) (b : Fin 4) (t : Fin 4096) (ht : t.val = 128 * i + r.val)
    (hp : ∀ k, p (ix2 r k) = near (128 * i + r.val) (128 * i - 512 + k.val))
    (hK : ∀ (k : Fin 640) (x : Fin 128), K (ix3 0 k x) = kv (ix3 b ⟨128 * i - 512 + k.val, by omega⟩ ⟨x.val, by omega⟩))
    (hV : ∀ (k : Fin 640) (x : Fin 128), V (ix3 0 k x) = kv (ix3 b ⟨128 * i - 512 + k.val, by omega⟩ ⟨128 + x.val, by omega⟩))
    (hq0 : ∀ x : Fin 128, q0 (ix3 0 r x) = q (ix3 b t ⟨x.val, by omega⟩))
    (hq1 : ∀ x : Fin 128, q1 (ix3 0 r x) = q (ix3 b t ⟨128 + x.val, by omega⟩))
    (hq2 : ∀ x : Fin 128, q2 (ix3 0 r x) = q (ix3 b t ⟨256 + x.val, by omega⟩))
    (hq3 : ∀ x : Fin 128, q3 (ix3 0 r x) = q (ix3 b t ⟨384 + x.val, by omega⟩))
    (hg0 : g0 (ix3 0 r 0) = ms (ix3 b t ⟨24, by omega⟩))
    (hg1 : g1 (ix3 0 r 0) = ms (ix3 b t ⟨25, by omega⟩))
    (hg2 : g2 (ix3 0 r 0) = ms (ix3 b t ⟨26, by omega⟩))
    (hg3 : g3 (ix3 0 r 0) = ms (ix3 b t ⟨27, by omega⟩))
    (hg4 : g4 (ix3 0 r 0) = ms (ix3 b t ⟨28, by omega⟩))
    (hg5 : g5 (ix3 0 r 0) = ms (ix3 b t ⟨29, by omega⟩))
    (hg6 : g6 (ix3 0 r 0) = ms (ix3 b t ⟨30, by omega⟩))
    (hg7 : g7 (ix3 0 r 0) = ms (ix3 b t ⟨31, by omega⟩))
    (d : Fin 64) :
    block p K V q0 q1 q2 q3 g0 g1 g2 g3 g4 g5 g6 g7 (ix3 0 r ⟨d.val, by omega⟩) = WindowSpec.out q kv ms b t 0 d := by
  refine (block0 p K V q0 q1 q2 q3 g0 g1 g2 g3 g4 g5 g6 g7 r d).trans
    (headOut_eq q kv ms i hi r b t ht 0 d _ _ _ _ hp (fun k => (score0 K q0 q1 q2 q3 r k).trans ?_) (fun k => ?_) hg0)
  · refine congrArg (· * eighth) (Finset.sum_congr rfl fun e _ => Ideal.mul_congr ((hK _ _).trans ?_) ((hq0 _).trans ?_))
    · exact congrArg kv ((ix3_inj ..).2 ⟨rfl, rfl, Fin.ext (by first | rfl | (simp; done) | (simp; omega))⟩)
    · exact congrArg q ((ix3_inj ..).2 ⟨rfl, rfl, Fin.ext (by first | rfl | (simp; done) | (simp; omega))⟩)
  · exact (hV _ _).trans (congrArg kv ((ix3_inj ..).2 ⟨rfl, rfl, Fin.ext (by first | rfl | (simp; done) | (simp; omega))⟩))

theorem point1
    (r : Fin 128) (i : ℕ) (hi : i < 32) (b : Fin 4) (t : Fin 4096) (ht : t.val = 128 * i + r.val)
    (hp : ∀ k, p (ix2 r k) = near (128 * i + r.val) (128 * i - 512 + k.val))
    (hK : ∀ (k : Fin 640) (x : Fin 128), K (ix3 0 k x) = kv (ix3 b ⟨128 * i - 512 + k.val, by omega⟩ ⟨x.val, by omega⟩))
    (hV : ∀ (k : Fin 640) (x : Fin 128), V (ix3 0 k x) = kv (ix3 b ⟨128 * i - 512 + k.val, by omega⟩ ⟨128 + x.val, by omega⟩))
    (hq0 : ∀ x : Fin 128, q0 (ix3 0 r x) = q (ix3 b t ⟨x.val, by omega⟩))
    (hq1 : ∀ x : Fin 128, q1 (ix3 0 r x) = q (ix3 b t ⟨128 + x.val, by omega⟩))
    (hq2 : ∀ x : Fin 128, q2 (ix3 0 r x) = q (ix3 b t ⟨256 + x.val, by omega⟩))
    (hq3 : ∀ x : Fin 128, q3 (ix3 0 r x) = q (ix3 b t ⟨384 + x.val, by omega⟩))
    (hg0 : g0 (ix3 0 r 0) = ms (ix3 b t ⟨24, by omega⟩))
    (hg1 : g1 (ix3 0 r 0) = ms (ix3 b t ⟨25, by omega⟩))
    (hg2 : g2 (ix3 0 r 0) = ms (ix3 b t ⟨26, by omega⟩))
    (hg3 : g3 (ix3 0 r 0) = ms (ix3 b t ⟨27, by omega⟩))
    (hg4 : g4 (ix3 0 r 0) = ms (ix3 b t ⟨28, by omega⟩))
    (hg5 : g5 (ix3 0 r 0) = ms (ix3 b t ⟨29, by omega⟩))
    (hg6 : g6 (ix3 0 r 0) = ms (ix3 b t ⟨30, by omega⟩))
    (hg7 : g7 (ix3 0 r 0) = ms (ix3 b t ⟨31, by omega⟩))
    (d : Fin 64) :
    block p K V q0 q1 q2 q3 g0 g1 g2 g3 g4 g5 g6 g7 (ix3 0 r ⟨64 + d.val, by omega⟩) = WindowSpec.out q kv ms b t 1 d := by
  refine (block1 p K V q0 q1 q2 q3 g0 g1 g2 g3 g4 g5 g6 g7 r d).trans
    (headOut_eq q kv ms i hi r b t ht 1 d _ _ _ _ hp (fun k => (score1 K q0 q1 q2 q3 r k).trans ?_) (fun k => ?_) hg1)
  · refine congrArg (· * eighth) (Finset.sum_congr rfl fun e _ => Ideal.mul_congr ((hK _ _).trans ?_) ((hq0 _).trans ?_))
    · exact congrArg kv ((ix3_inj ..).2 ⟨rfl, rfl, Fin.ext (by first | rfl | (simp; done) | (simp; omega))⟩)
    · exact congrArg q ((ix3_inj ..).2 ⟨rfl, rfl, Fin.ext (by first | rfl | (simp; done) | (simp; omega))⟩)
  · exact (hV _ _).trans (congrArg kv ((ix3_inj ..).2 ⟨rfl, rfl, Fin.ext (by first | rfl | (simp; done) | (simp; omega))⟩))

theorem point2
    (r : Fin 128) (i : ℕ) (hi : i < 32) (b : Fin 4) (t : Fin 4096) (ht : t.val = 128 * i + r.val)
    (hp : ∀ k, p (ix2 r k) = near (128 * i + r.val) (128 * i - 512 + k.val))
    (hK : ∀ (k : Fin 640) (x : Fin 128), K (ix3 0 k x) = kv (ix3 b ⟨128 * i - 512 + k.val, by omega⟩ ⟨x.val, by omega⟩))
    (hV : ∀ (k : Fin 640) (x : Fin 128), V (ix3 0 k x) = kv (ix3 b ⟨128 * i - 512 + k.val, by omega⟩ ⟨128 + x.val, by omega⟩))
    (hq0 : ∀ x : Fin 128, q0 (ix3 0 r x) = q (ix3 b t ⟨x.val, by omega⟩))
    (hq1 : ∀ x : Fin 128, q1 (ix3 0 r x) = q (ix3 b t ⟨128 + x.val, by omega⟩))
    (hq2 : ∀ x : Fin 128, q2 (ix3 0 r x) = q (ix3 b t ⟨256 + x.val, by omega⟩))
    (hq3 : ∀ x : Fin 128, q3 (ix3 0 r x) = q (ix3 b t ⟨384 + x.val, by omega⟩))
    (hg0 : g0 (ix3 0 r 0) = ms (ix3 b t ⟨24, by omega⟩))
    (hg1 : g1 (ix3 0 r 0) = ms (ix3 b t ⟨25, by omega⟩))
    (hg2 : g2 (ix3 0 r 0) = ms (ix3 b t ⟨26, by omega⟩))
    (hg3 : g3 (ix3 0 r 0) = ms (ix3 b t ⟨27, by omega⟩))
    (hg4 : g4 (ix3 0 r 0) = ms (ix3 b t ⟨28, by omega⟩))
    (hg5 : g5 (ix3 0 r 0) = ms (ix3 b t ⟨29, by omega⟩))
    (hg6 : g6 (ix3 0 r 0) = ms (ix3 b t ⟨30, by omega⟩))
    (hg7 : g7 (ix3 0 r 0) = ms (ix3 b t ⟨31, by omega⟩))
    (d : Fin 64) :
    block p K V q0 q1 q2 q3 g0 g1 g2 g3 g4 g5 g6 g7 (ix3 0 r ⟨128 + d.val, by omega⟩) = WindowSpec.out q kv ms b t 2 d := by
  refine (block2 p K V q0 q1 q2 q3 g0 g1 g2 g3 g4 g5 g6 g7 r d).trans
    (headOut_eq q kv ms i hi r b t ht 2 d _ _ _ _ hp (fun k => (score2 K q0 q1 q2 q3 r k).trans ?_) (fun k => ?_) hg2)
  · refine congrArg (· * eighth) (Finset.sum_congr rfl fun e _ => Ideal.mul_congr ((hK _ _).trans ?_) ((hq1 _).trans ?_))
    · exact congrArg kv ((ix3_inj ..).2 ⟨rfl, rfl, Fin.ext (by first | rfl | (simp; done) | (simp; omega))⟩)
    · exact congrArg q ((ix3_inj ..).2 ⟨rfl, rfl, Fin.ext (by first | rfl | (simp; done) | (simp; omega))⟩)
  · exact (hV _ _).trans (congrArg kv ((ix3_inj ..).2 ⟨rfl, rfl, Fin.ext (by first | rfl | (simp; done) | (simp; omega))⟩))

theorem point3
    (r : Fin 128) (i : ℕ) (hi : i < 32) (b : Fin 4) (t : Fin 4096) (ht : t.val = 128 * i + r.val)
    (hp : ∀ k, p (ix2 r k) = near (128 * i + r.val) (128 * i - 512 + k.val))
    (hK : ∀ (k : Fin 640) (x : Fin 128), K (ix3 0 k x) = kv (ix3 b ⟨128 * i - 512 + k.val, by omega⟩ ⟨x.val, by omega⟩))
    (hV : ∀ (k : Fin 640) (x : Fin 128), V (ix3 0 k x) = kv (ix3 b ⟨128 * i - 512 + k.val, by omega⟩ ⟨128 + x.val, by omega⟩))
    (hq0 : ∀ x : Fin 128, q0 (ix3 0 r x) = q (ix3 b t ⟨x.val, by omega⟩))
    (hq1 : ∀ x : Fin 128, q1 (ix3 0 r x) = q (ix3 b t ⟨128 + x.val, by omega⟩))
    (hq2 : ∀ x : Fin 128, q2 (ix3 0 r x) = q (ix3 b t ⟨256 + x.val, by omega⟩))
    (hq3 : ∀ x : Fin 128, q3 (ix3 0 r x) = q (ix3 b t ⟨384 + x.val, by omega⟩))
    (hg0 : g0 (ix3 0 r 0) = ms (ix3 b t ⟨24, by omega⟩))
    (hg1 : g1 (ix3 0 r 0) = ms (ix3 b t ⟨25, by omega⟩))
    (hg2 : g2 (ix3 0 r 0) = ms (ix3 b t ⟨26, by omega⟩))
    (hg3 : g3 (ix3 0 r 0) = ms (ix3 b t ⟨27, by omega⟩))
    (hg4 : g4 (ix3 0 r 0) = ms (ix3 b t ⟨28, by omega⟩))
    (hg5 : g5 (ix3 0 r 0) = ms (ix3 b t ⟨29, by omega⟩))
    (hg6 : g6 (ix3 0 r 0) = ms (ix3 b t ⟨30, by omega⟩))
    (hg7 : g7 (ix3 0 r 0) = ms (ix3 b t ⟨31, by omega⟩))
    (d : Fin 64) :
    block p K V q0 q1 q2 q3 g0 g1 g2 g3 g4 g5 g6 g7 (ix3 0 r ⟨192 + d.val, by omega⟩) = WindowSpec.out q kv ms b t 3 d := by
  refine (block3 p K V q0 q1 q2 q3 g0 g1 g2 g3 g4 g5 g6 g7 r d).trans
    (headOut_eq q kv ms i hi r b t ht 3 d _ _ _ _ hp (fun k => (score3 K q0 q1 q2 q3 r k).trans ?_) (fun k => ?_) hg3)
  · refine congrArg (· * eighth) (Finset.sum_congr rfl fun e _ => Ideal.mul_congr ((hK _ _).trans ?_) ((hq1 _).trans ?_))
    · exact congrArg kv ((ix3_inj ..).2 ⟨rfl, rfl, Fin.ext (by first | rfl | (simp; done) | (simp; omega))⟩)
    · exact congrArg q ((ix3_inj ..).2 ⟨rfl, rfl, Fin.ext (by first | rfl | (simp; done) | (simp; omega))⟩)
  · exact (hV _ _).trans (congrArg kv ((ix3_inj ..).2 ⟨rfl, rfl, Fin.ext (by first | rfl | (simp; done) | (simp; omega))⟩))

theorem point4
    (r : Fin 128) (i : ℕ) (hi : i < 32) (b : Fin 4) (t : Fin 4096) (ht : t.val = 128 * i + r.val)
    (hp : ∀ k, p (ix2 r k) = near (128 * i + r.val) (128 * i - 512 + k.val))
    (hK : ∀ (k : Fin 640) (x : Fin 128), K (ix3 0 k x) = kv (ix3 b ⟨128 * i - 512 + k.val, by omega⟩ ⟨x.val, by omega⟩))
    (hV : ∀ (k : Fin 640) (x : Fin 128), V (ix3 0 k x) = kv (ix3 b ⟨128 * i - 512 + k.val, by omega⟩ ⟨128 + x.val, by omega⟩))
    (hq0 : ∀ x : Fin 128, q0 (ix3 0 r x) = q (ix3 b t ⟨x.val, by omega⟩))
    (hq1 : ∀ x : Fin 128, q1 (ix3 0 r x) = q (ix3 b t ⟨128 + x.val, by omega⟩))
    (hq2 : ∀ x : Fin 128, q2 (ix3 0 r x) = q (ix3 b t ⟨256 + x.val, by omega⟩))
    (hq3 : ∀ x : Fin 128, q3 (ix3 0 r x) = q (ix3 b t ⟨384 + x.val, by omega⟩))
    (hg0 : g0 (ix3 0 r 0) = ms (ix3 b t ⟨24, by omega⟩))
    (hg1 : g1 (ix3 0 r 0) = ms (ix3 b t ⟨25, by omega⟩))
    (hg2 : g2 (ix3 0 r 0) = ms (ix3 b t ⟨26, by omega⟩))
    (hg3 : g3 (ix3 0 r 0) = ms (ix3 b t ⟨27, by omega⟩))
    (hg4 : g4 (ix3 0 r 0) = ms (ix3 b t ⟨28, by omega⟩))
    (hg5 : g5 (ix3 0 r 0) = ms (ix3 b t ⟨29, by omega⟩))
    (hg6 : g6 (ix3 0 r 0) = ms (ix3 b t ⟨30, by omega⟩))
    (hg7 : g7 (ix3 0 r 0) = ms (ix3 b t ⟨31, by omega⟩))
    (d : Fin 64) :
    block p K V q0 q1 q2 q3 g0 g1 g2 g3 g4 g5 g6 g7 (ix3 0 r ⟨256 + d.val, by omega⟩) = WindowSpec.out q kv ms b t 4 d := by
  refine (block4 p K V q0 q1 q2 q3 g0 g1 g2 g3 g4 g5 g6 g7 r d).trans
    (headOut_eq q kv ms i hi r b t ht 4 d _ _ _ _ hp (fun k => (score4 K q0 q1 q2 q3 r k).trans ?_) (fun k => ?_) hg4)
  · refine congrArg (· * eighth) (Finset.sum_congr rfl fun e _ => Ideal.mul_congr ((hK _ _).trans ?_) ((hq2 _).trans ?_))
    · exact congrArg kv ((ix3_inj ..).2 ⟨rfl, rfl, Fin.ext (by first | rfl | (simp; done) | (simp; omega))⟩)
    · exact congrArg q ((ix3_inj ..).2 ⟨rfl, rfl, Fin.ext (by first | rfl | (simp; done) | (simp; omega))⟩)
  · exact (hV _ _).trans (congrArg kv ((ix3_inj ..).2 ⟨rfl, rfl, Fin.ext (by first | rfl | (simp; done) | (simp; omega))⟩))

theorem point5
    (r : Fin 128) (i : ℕ) (hi : i < 32) (b : Fin 4) (t : Fin 4096) (ht : t.val = 128 * i + r.val)
    (hp : ∀ k, p (ix2 r k) = near (128 * i + r.val) (128 * i - 512 + k.val))
    (hK : ∀ (k : Fin 640) (x : Fin 128), K (ix3 0 k x) = kv (ix3 b ⟨128 * i - 512 + k.val, by omega⟩ ⟨x.val, by omega⟩))
    (hV : ∀ (k : Fin 640) (x : Fin 128), V (ix3 0 k x) = kv (ix3 b ⟨128 * i - 512 + k.val, by omega⟩ ⟨128 + x.val, by omega⟩))
    (hq0 : ∀ x : Fin 128, q0 (ix3 0 r x) = q (ix3 b t ⟨x.val, by omega⟩))
    (hq1 : ∀ x : Fin 128, q1 (ix3 0 r x) = q (ix3 b t ⟨128 + x.val, by omega⟩))
    (hq2 : ∀ x : Fin 128, q2 (ix3 0 r x) = q (ix3 b t ⟨256 + x.val, by omega⟩))
    (hq3 : ∀ x : Fin 128, q3 (ix3 0 r x) = q (ix3 b t ⟨384 + x.val, by omega⟩))
    (hg0 : g0 (ix3 0 r 0) = ms (ix3 b t ⟨24, by omega⟩))
    (hg1 : g1 (ix3 0 r 0) = ms (ix3 b t ⟨25, by omega⟩))
    (hg2 : g2 (ix3 0 r 0) = ms (ix3 b t ⟨26, by omega⟩))
    (hg3 : g3 (ix3 0 r 0) = ms (ix3 b t ⟨27, by omega⟩))
    (hg4 : g4 (ix3 0 r 0) = ms (ix3 b t ⟨28, by omega⟩))
    (hg5 : g5 (ix3 0 r 0) = ms (ix3 b t ⟨29, by omega⟩))
    (hg6 : g6 (ix3 0 r 0) = ms (ix3 b t ⟨30, by omega⟩))
    (hg7 : g7 (ix3 0 r 0) = ms (ix3 b t ⟨31, by omega⟩))
    (d : Fin 64) :
    block p K V q0 q1 q2 q3 g0 g1 g2 g3 g4 g5 g6 g7 (ix3 0 r ⟨320 + d.val, by omega⟩) = WindowSpec.out q kv ms b t 5 d := by
  refine (block5 p K V q0 q1 q2 q3 g0 g1 g2 g3 g4 g5 g6 g7 r d).trans
    (headOut_eq q kv ms i hi r b t ht 5 d _ _ _ _ hp (fun k => (score5 K q0 q1 q2 q3 r k).trans ?_) (fun k => ?_) hg5)
  · refine congrArg (· * eighth) (Finset.sum_congr rfl fun e _ => Ideal.mul_congr ((hK _ _).trans ?_) ((hq2 _).trans ?_))
    · exact congrArg kv ((ix3_inj ..).2 ⟨rfl, rfl, Fin.ext (by first | rfl | (simp; done) | (simp; omega))⟩)
    · exact congrArg q ((ix3_inj ..).2 ⟨rfl, rfl, Fin.ext (by first | rfl | (simp; done) | (simp; omega))⟩)
  · exact (hV _ _).trans (congrArg kv ((ix3_inj ..).2 ⟨rfl, rfl, Fin.ext (by first | rfl | (simp; done) | (simp; omega))⟩))

theorem point6
    (r : Fin 128) (i : ℕ) (hi : i < 32) (b : Fin 4) (t : Fin 4096) (ht : t.val = 128 * i + r.val)
    (hp : ∀ k, p (ix2 r k) = near (128 * i + r.val) (128 * i - 512 + k.val))
    (hK : ∀ (k : Fin 640) (x : Fin 128), K (ix3 0 k x) = kv (ix3 b ⟨128 * i - 512 + k.val, by omega⟩ ⟨x.val, by omega⟩))
    (hV : ∀ (k : Fin 640) (x : Fin 128), V (ix3 0 k x) = kv (ix3 b ⟨128 * i - 512 + k.val, by omega⟩ ⟨128 + x.val, by omega⟩))
    (hq0 : ∀ x : Fin 128, q0 (ix3 0 r x) = q (ix3 b t ⟨x.val, by omega⟩))
    (hq1 : ∀ x : Fin 128, q1 (ix3 0 r x) = q (ix3 b t ⟨128 + x.val, by omega⟩))
    (hq2 : ∀ x : Fin 128, q2 (ix3 0 r x) = q (ix3 b t ⟨256 + x.val, by omega⟩))
    (hq3 : ∀ x : Fin 128, q3 (ix3 0 r x) = q (ix3 b t ⟨384 + x.val, by omega⟩))
    (hg0 : g0 (ix3 0 r 0) = ms (ix3 b t ⟨24, by omega⟩))
    (hg1 : g1 (ix3 0 r 0) = ms (ix3 b t ⟨25, by omega⟩))
    (hg2 : g2 (ix3 0 r 0) = ms (ix3 b t ⟨26, by omega⟩))
    (hg3 : g3 (ix3 0 r 0) = ms (ix3 b t ⟨27, by omega⟩))
    (hg4 : g4 (ix3 0 r 0) = ms (ix3 b t ⟨28, by omega⟩))
    (hg5 : g5 (ix3 0 r 0) = ms (ix3 b t ⟨29, by omega⟩))
    (hg6 : g6 (ix3 0 r 0) = ms (ix3 b t ⟨30, by omega⟩))
    (hg7 : g7 (ix3 0 r 0) = ms (ix3 b t ⟨31, by omega⟩))
    (d : Fin 64) :
    block p K V q0 q1 q2 q3 g0 g1 g2 g3 g4 g5 g6 g7 (ix3 0 r ⟨384 + d.val, by omega⟩) = WindowSpec.out q kv ms b t 6 d := by
  refine (block6 p K V q0 q1 q2 q3 g0 g1 g2 g3 g4 g5 g6 g7 r d).trans
    (headOut_eq q kv ms i hi r b t ht 6 d _ _ _ _ hp (fun k => (score6 K q0 q1 q2 q3 r k).trans ?_) (fun k => ?_) hg6)
  · refine congrArg (· * eighth) (Finset.sum_congr rfl fun e _ => Ideal.mul_congr ((hK _ _).trans ?_) ((hq3 _).trans ?_))
    · exact congrArg kv ((ix3_inj ..).2 ⟨rfl, rfl, Fin.ext (by first | rfl | (simp; done) | (simp; omega))⟩)
    · exact congrArg q ((ix3_inj ..).2 ⟨rfl, rfl, Fin.ext (by first | rfl | (simp; done) | (simp; omega))⟩)
  · exact (hV _ _).trans (congrArg kv ((ix3_inj ..).2 ⟨rfl, rfl, Fin.ext (by first | rfl | (simp; done) | (simp; omega))⟩))

theorem point7
    (r : Fin 128) (i : ℕ) (hi : i < 32) (b : Fin 4) (t : Fin 4096) (ht : t.val = 128 * i + r.val)
    (hp : ∀ k, p (ix2 r k) = near (128 * i + r.val) (128 * i - 512 + k.val))
    (hK : ∀ (k : Fin 640) (x : Fin 128), K (ix3 0 k x) = kv (ix3 b ⟨128 * i - 512 + k.val, by omega⟩ ⟨x.val, by omega⟩))
    (hV : ∀ (k : Fin 640) (x : Fin 128), V (ix3 0 k x) = kv (ix3 b ⟨128 * i - 512 + k.val, by omega⟩ ⟨128 + x.val, by omega⟩))
    (hq0 : ∀ x : Fin 128, q0 (ix3 0 r x) = q (ix3 b t ⟨x.val, by omega⟩))
    (hq1 : ∀ x : Fin 128, q1 (ix3 0 r x) = q (ix3 b t ⟨128 + x.val, by omega⟩))
    (hq2 : ∀ x : Fin 128, q2 (ix3 0 r x) = q (ix3 b t ⟨256 + x.val, by omega⟩))
    (hq3 : ∀ x : Fin 128, q3 (ix3 0 r x) = q (ix3 b t ⟨384 + x.val, by omega⟩))
    (hg0 : g0 (ix3 0 r 0) = ms (ix3 b t ⟨24, by omega⟩))
    (hg1 : g1 (ix3 0 r 0) = ms (ix3 b t ⟨25, by omega⟩))
    (hg2 : g2 (ix3 0 r 0) = ms (ix3 b t ⟨26, by omega⟩))
    (hg3 : g3 (ix3 0 r 0) = ms (ix3 b t ⟨27, by omega⟩))
    (hg4 : g4 (ix3 0 r 0) = ms (ix3 b t ⟨28, by omega⟩))
    (hg5 : g5 (ix3 0 r 0) = ms (ix3 b t ⟨29, by omega⟩))
    (hg6 : g6 (ix3 0 r 0) = ms (ix3 b t ⟨30, by omega⟩))
    (hg7 : g7 (ix3 0 r 0) = ms (ix3 b t ⟨31, by omega⟩))
    (d : Fin 64) :
    block p K V q0 q1 q2 q3 g0 g1 g2 g3 g4 g5 g6 g7 (ix3 0 r ⟨448 + d.val, by omega⟩) = WindowSpec.out q kv ms b t 7 d := by
  refine (block7 p K V q0 q1 q2 q3 g0 g1 g2 g3 g4 g5 g6 g7 r d).trans
    (headOut_eq q kv ms i hi r b t ht 7 d _ _ _ _ hp (fun k => (score7 K q0 q1 q2 q3 r k).trans ?_) (fun k => ?_) hg7)
  · refine congrArg (· * eighth) (Finset.sum_congr rfl fun e _ => Ideal.mul_congr ((hK _ _).trans ?_) ((hq3 _).trans ?_))
    · exact congrArg kv ((ix3_inj ..).2 ⟨rfl, rfl, Fin.ext (by first | rfl | (simp; done) | (simp; omega))⟩)
    · exact congrArg q ((ix3_inj ..).2 ⟨rfl, rfl, Fin.ext (by first | rfl | (simp; done) | (simp; omega))⟩)
  · exact (hV _ _).trans (congrArg kv ((ix3_inj ..).2 ⟨rfl, rfl, Fin.ext (by first | rfl | (simp; done) | (simp; omega))⟩))

/-- One entry of the block the kernel stores is the formula's entry at the block's place. -/
theorem point
    (r : Fin 128) (i : ℕ) (hi : i < 32) (b : Fin 4) (t : Fin 4096) (ht : t.val = 128 * i + r.val)
    (hp : ∀ k, p (ix2 r k) = near (128 * i + r.val) (128 * i - 512 + k.val))
    (hK : ∀ (k : Fin 640) (x : Fin 128), K (ix3 0 k x) = kv (ix3 b ⟨128 * i - 512 + k.val, by omega⟩ ⟨x.val, by omega⟩))
    (hV : ∀ (k : Fin 640) (x : Fin 128), V (ix3 0 k x) = kv (ix3 b ⟨128 * i - 512 + k.val, by omega⟩ ⟨128 + x.val, by omega⟩))
    (hq0 : ∀ x : Fin 128, q0 (ix3 0 r x) = q (ix3 b t ⟨x.val, by omega⟩))
    (hq1 : ∀ x : Fin 128, q1 (ix3 0 r x) = q (ix3 b t ⟨128 + x.val, by omega⟩))
    (hq2 : ∀ x : Fin 128, q2 (ix3 0 r x) = q (ix3 b t ⟨256 + x.val, by omega⟩))
    (hq3 : ∀ x : Fin 128, q3 (ix3 0 r x) = q (ix3 b t ⟨384 + x.val, by omega⟩))
    (hg0 : g0 (ix3 0 r 0) = ms (ix3 b t ⟨24, by omega⟩))
    (hg1 : g1 (ix3 0 r 0) = ms (ix3 b t ⟨25, by omega⟩))
    (hg2 : g2 (ix3 0 r 0) = ms (ix3 b t ⟨26, by omega⟩))
    (hg3 : g3 (ix3 0 r 0) = ms (ix3 b t ⟨27, by omega⟩))
    (hg4 : g4 (ix3 0 r 0) = ms (ix3 b t ⟨28, by omega⟩))
    (hg5 : g5 (ix3 0 r 0) = ms (ix3 b t ⟨29, by omega⟩))
    (hg6 : g6 (ix3 0 r 0) = ms (ix3 b t ⟨30, by omega⟩))
    (hg7 : g7 (ix3 0 r 0) = ms (ix3 b t ⟨31, by omega⟩))
    (j : Fin 512) (j' : Fin 512) (hj : j'.val = j.val) :
    block p K V q0 q1 q2 q3 g0 g1 g2 g3 g4 g5 g6 g7 (ix3 0 r j) = WindowSpec.result q kv ms (ix3 b t j') := by
  obtain rfl : j' = j := Fin.ext hj
  obtain ⟨h, d, e⟩ : ∃ (h : Fin 8) (d : Fin 64), j'.val = 64 * h.val + d.val :=
    ⟨⟨j'.val / 64, by omega⟩, ⟨j'.val % 64, by omega⟩, by simp only []; omega⟩
  have hd : 64 * h.val + d.val < 512 := by omega
  rw [show j' = ⟨64 * h.val + d.val, hd⟩ from Fin.ext e, WindowSpec.result_at]
  clear e hj
  obtain ⟨n, hn⟩ := h
  match n, hn, hd with
  | 0, _, hd =>
    exact Eq.trans (congrArg _ ((ix3_inj ..).2 ⟨rfl, rfl, Fin.ext (by simp)⟩))
      (point0 q kv ms p K V q0 q1 q2 q3 g0 g1 g2 g3 g4 g5 g6 g7 r i hi b t ht hp hK hV hq0 hq1 hq2 hq3 hg0 hg1 hg2 hg3 hg4 hg5 hg6 hg7 d)
  | 1, _, hd =>
    exact Eq.trans (congrArg _ ((ix3_inj ..).2 ⟨rfl, rfl, Fin.ext (by simp)⟩))
      (point1 q kv ms p K V q0 q1 q2 q3 g0 g1 g2 g3 g4 g5 g6 g7 r i hi b t ht hp hK hV hq0 hq1 hq2 hq3 hg0 hg1 hg2 hg3 hg4 hg5 hg6 hg7 d)
  | 2, _, hd =>
    exact Eq.trans (congrArg _ ((ix3_inj ..).2 ⟨rfl, rfl, Fin.ext (by simp)⟩))
      (point2 q kv ms p K V q0 q1 q2 q3 g0 g1 g2 g3 g4 g5 g6 g7 r i hi b t ht hp hK hV hq0 hq1 hq2 hq3 hg0 hg1 hg2 hg3 hg4 hg5 hg6 hg7 d)
  | 3, _, hd =>
    exact Eq.trans (congrArg _ ((ix3_inj ..).2 ⟨rfl, rfl, Fin.ext (by simp)⟩))
      (point3 q kv ms p K V q0 q1 q2 q3 g0 g1 g2 g3 g4 g5 g6 g7 r i hi b t ht hp hK hV hq0 hq1 hq2 hq3 hg0 hg1 hg2 hg3 hg4 hg5 hg6 hg7 d)
  | 4, _, hd =>
    exact Eq.trans (congrArg _ ((ix3_inj ..).2 ⟨rfl, rfl, Fin.ext (by simp)⟩))
      (point4 q kv ms p K V q0 q1 q2 q3 g0 g1 g2 g3 g4 g5 g6 g7 r i hi b t ht hp hK hV hq0 hq1 hq2 hq3 hg0 hg1 hg2 hg3 hg4 hg5 hg6 hg7 d)
  | 5, _, hd =>
    exact Eq.trans (congrArg _ ((ix3_inj ..).2 ⟨rfl, rfl, Fin.ext (by simp)⟩))
      (point5 q kv ms p K V q0 q1 q2 q3 g0 g1 g2 g3 g4 g5 g6 g7 r i hi b t ht hp hK hV hq0 hq1 hq2 hq3 hg0 hg1 hg2 hg3 hg4 hg5 hg6 hg7 d)
  | 6, _, hd =>
    exact Eq.trans (congrArg _ ((ix3_inj ..).2 ⟨rfl, rfl, Fin.ext (by simp)⟩))
      (point6 q kv ms p K V q0 q1 q2 q3 g0 g1 g2 g3 g4 g5 g6 g7 r i hi b t ht hp hK hV hq0 hq1 hq2 hq3 hg0 hg1 hg2 hg3 hg4 hg5 hg6 hg7 d)
  | 7, _, hd =>
    exact Eq.trans (congrArg _ ((ix3_inj ..).2 ⟨rfl, rfl, Fin.ext (by simp)⟩))
      (point7 q kv ms p K V q0 q1 q2 q3 g0 g1 g2 g3 g4 g5 g6 g7 r i hi b t ht hp hK hV hq0 hq1 hq2 hq3 hg0 hg1 hg2 hg3 hg4 hg5 hg6 hg7 d)
end Point
end Cert.Proof.WindowLocal
end
-- ==== Proof.WindowArr.lean ====
module

public import proofs.«01_k».proof.Proof.Gen.WindowIdeal.Value
public import proofs.«01_k».proof.Proof.WindowLocal
public import Idealize.ShloMosaic.Lib.Pipeline.ValueKit

/-! The result array of the sliding-window kernel is the formula of WindowSpec. -/

@[expose] public section
set_option maxRecDepth 16384
noncomputable section
namespace Cert.Proof.WindowArr
open Idealize.ShloMosaic Idealize.ShloMosaic.TcCoe Idealize.SL.Sem
open Idealize.ShloMosaic.Pipeline (Dat)
open Cert.WindowIdeal Cert.WindowIdeal.Gen
variable (m : (ℓ : Loc nD τ sig) → Buf (Elt Ideal) ℓ)

theorem idx : ∀ t : Fin cfg0.N, win0_0.index t = ![t.val/32, t.val%32, 0] ∧ win0_1.index t = ![t.val/32, 0, 0]
   ∧ win0_2.index t = ![t.val/32, 0, 1] ∧ win0_3.index t = ![t.val/32, t.val%32, 0] ∧ win0_4.index t = ![t.val/32, t.val%32, 0]
   ∧ (grid0.coords t 1).val = t.val % 32 :=
  (by decide +kernel : ∀ t : Fin grid0.N, _)

theorem final (c : Dev nD) : (dats m 0 c).arrAt 4 (cfgs 0).N
    = WindowSpec.result (m ((c : Thread nD τ).loc main_arg0)) (m ((c : Thread nD τ).loc main_arg1))
        (m ((c : Thread nD τ).loc main_arg2)) := by
  refine (dats m 0 c).arrAt_eq_of_covers 4 _ (by decide +kernel) fun t _ y => ?_
  blk_simp
  rw [after0_4]
  unfold outsAt0
  frame_out
  obtain ⟨i0, i1, i2, i3, i4, ic⟩ := idx t
  obtain ⟨u, r, j, rfl⟩ : ∃ (u : Fin 1) (r : Fin 128) (j : Fin 512), y = ix3 u r j := ⟨y 0, y 1, y 2, eq_ix3 y⟩
  obtain rfl : u = 0 := Subsingleton.elim _ _
  have hN : t.val < 128 := t.isLt
  have hb : t.val / 32 < 4 := by omega
  have hi : t.val % 32 < 32 := by omega
  refine Eq.trans (show _ = WindowHeads.block (k0_pay3 (grid0.coords t)) _ _ _ _ _ _ _ _ _ _ _ _ _ _ _ from rfl) ?_
  have e : ((View.whole main_v0).slice (win0_4.rect t)).emb (ix3 0 r j)
      = ix3 (⟨t.val / 32, hb⟩ : Fin 4) (⟨128 * (t.val % 32) + r.val, by omega⟩ : Fin 4096) j := by
    blk_ext [iblk, V, idx t]
  rw [e]
  refine WindowLocal.point _ _ _ _ _ _ _ _ _ _ _ _ _ _ _ _ _ _ r (t.val % 32) hi _ _ rfl (fun k => ?_) (fun k x => ?_) (fun k x => ?_)
    (fun x => ?_) (fun x => ?_) (fun x => ?_) (fun x => ?_) ?_ ?_ ?_ ?_ ?_ ?_ ?_ ?_ j j rfl
  · exact (WindowMask.mask_at _ r k).trans (by rw [ic])
  all_goals pointwise
  all_goals blk_ext [iblk, V, idx t]
  all_goals rw [WindowMask.off_at, ic]
  all_goals simp
end Cert.Proof.WindowArr
end
-- ==== Proof.WindowRef.lean ====
module

public import proofs.«01_k».proof.Proof.Gen.WindowReferenceIdeal.Run
public import proofs.«01_k».proof.Proof.WindowSpec
public import Idealize.ShloMosaic.Lib.Pointwise

/-! The reference of the sliding-window attention computes the formula of WindowSpec. -/

@[expose] public section
set_option maxRecDepth 16384
noncomputable section
namespace Cert.Proof.WindowRef
open Idealize.ShloMosaic Idealize.ShloMosaic.TcCoe Idealize.SL.Sem
open Cert.WindowReferenceIdeal Cert.WindowReferenceIdeal.Value
open Cert.Proof.WindowStack (lo init tiny)
open Cert.Proof.WindowScore (eighth)
open Cert.Proof.WindowMask (near ref_mask)

theorem zero_word : Ideal.ofBits .f32 0x00000000#32 = 0 := by
  simp [Ideal.ofBits, Ideal.ieee]

set_option maxHeartbeats 8000000 in
theorem ref_apply (m : (ℓ : Loc nD τ sig) → Buf (Elt Ideal) ℓ) (c : Dev nD) (b : Fin 4) (t : Fin 4096) (h : Fin 8)
    (d : Fin 64) :
    ((res_main_v48 m c : FVec Ideal S4x4096x512 .f32) (ix3 b t ⟨64 * h.val + d.val, by omega⟩) : EReal)
      = WindowSpec.out (m ((c : Thread nD τ).loc main_arg0)) (m ((c : Thread nD τ).loc main_arg1))
          (m ((c : Thread nD τ).loc main_arg2)) b t h d := by
  pointwise [res_main_v48]
  have e1 : (64 * h.val + d.val) / 256 = h.val / 4 := by omega
  have e2 : (64 * h.val + d.val) / 64 % 4 = h.val % 4 := by omega
  have e3 : (64 * h.val + d.val) % 64 = d.val := by omega
  have e4 : h.val / 4 * 4 + h.val % 4 = h.val := by omega
  have e5 : ∀ x, h.val / 4 * 256 + h.val % 4 * 64 + x = 64 * h.val + x := by omega
  have e6 : ∀ x, 128 + h.val / 4 * 64 + x = 128 + 64 * (h.val / 4) + x := by omega
  have e7 : ∀ x, h.val / 4 * 64 + x = 64 * (h.val / 4) + x := by omega
  simp only [e1, e2, e3, e4, e5, e6, e7]
  simp only [ref_mask (Fin.isLt _) (Fin.isLt _)]
  have hz : (id (constant S_ .f32 0x00000000#32 : FVec Ideal S_ .f32) ix0 : EReal) = 0 := zero_word
  simp only [hz]
  exact mul_comm (G := EReal) _ _

/-- Every run of the reference ends with the formula's array as its result and with its arguments unchanged. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v48) = WindowSpec.result (m ((c.tc : Thread nD τ).loc main_arg0))
          (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (run m ρ)
  funext i
  obtain ⟨b, t, j, rfl⟩ : ∃ (a : Fin 4) (b : Fin 4096) (j : Fin 512), i = ix3 a b j := ⟨i 0, i 1, i 2, eq_ix3 i⟩
  have e : j = ⟨64 * (j.val / 64) + j.val % 64, by omega⟩ := Fin.ext (by simp only; omega)
  rw [e]
  exact (ref_apply m c b t ⟨j.val / 64, by omega⟩ ⟨j.val % 64, by omega⟩).trans (WindowSpec.result_at _ _ _ b t ⟨j.val / 64, by omega⟩ ⟨j.val % 64, by omega⟩ _).symm
end Cert.Proof.WindowRef
end
-- ==== Proof.MlpSpec.lean ====
module

public import proofs.«01_k».proof.Proof.Gen.MlpIdeal
public import Idealize.ShloMosaic.Lib.Pointwise

/-! What the gated squared-ReLU block of a layer is, as a formula over its arguments. -/

@[expose] public section
set_option maxRecDepth 16384
noncomputable section
namespace Cert.Proof.MlpSpec
open Idealize.ShloMosaic Idealize.ShloMosaic.TcCoe
open Cert.MlpIdeal

variable (x : FVec Ideal S16384x1024 .f32) (md : FVec Ideal S4x6x1024 .f32) (g : FVec Ideal S1024 .f32)
  (w1 : FVec Ideal S1024x4096 .bf16) (w2 : FVec Ideal S4096x1024 .bf16)

/-- Row `i` of the input, normalised by its root mean square, scaled and shifted by its batch's modulation. -/
def norm (i : Fin 16384) (k : Fin 1024) : EReal :=
  x (ix2 i k) * Ideal.rsqrt (Ideal.div (∑ j : Fin 1024, x (ix2 i j) * x (ix2 i j)) (Ideal.ofBits .f32 0x44800000#32)
      + Ideal.ofBits .f32 0x358637BD#32)
    * g (ix1 k) * (1 + md (ix3 ⟨i.val / 4096, by omega⟩ 4 k)) + md (ix3 ⟨i.val / 4096, by omega⟩ 3 k)

/-- Hidden unit `f` of row `i`: the positive part of its product, squared. -/
def hidden (i : Fin 16384) (f : Fin 4096) : EReal :=
  max (∑ k : Fin 1024, norm x md g i k * w1 (ix2 k f)) 0 * max (∑ k : Fin 1024, norm x md g i k * w1 (ix2 k f)) 0

/-- The share of the hidden units of tile `s` in entry `j` of row `i`. -/
def part (i : Fin 16384) (j : Fin 1024) (s : Fin 4) : EReal :=
  ∑ f : Fin 1024, hidden x md g w1 i ⟨1024 * s.val + f.val, by omega⟩ * w2 (ix2 ⟨1024 * s.val + f.val, by omega⟩ j)

/-- Entry `j` of row `i` of the block's contribution to the residual stream. -/
def inner (i : Fin 16384) (j : Fin 1024) : EReal := ∑ f : Fin 4096, hidden x md g w1 i f * w2 (ix2 f j)

theorem inner_eq (i : Fin 16384) (j : Fin 1024) : ∑ s : Fin 4, part x md g w1 w2 i j s = inner x md g w1 w2 i j := by
  unfold inner part
  rw [Fin.sum_univ_tiles 4 1024 rfl]
  refine Finset.sum_congr rfl fun s _ => Finset.sum_congr rfl fun f _ => ?_
  exact congrArg (fun u : Fin 4096 => hidden x md g w1 i u * w2 (ix2 u j)) (Fin.ext (by simp [Nat.mul_comm, Nat.add_comm]))

def out (i : Fin 16384) (j : Fin 1024) : EReal :=
  x (ix2 i j) + md (ix3 ⟨i.val / 4096, by omega⟩ 5 j) * inner x md g w1 w2 i j

/-- The whole result. -/
def result : FVec Ideal S16384x1024 .f32 := fun i => out x md g w1 w2 (i 0) (i 1)

/-- Entry `j` of row `i` of the result normalised by its row's root mean square and scaled, as after the last layer. -/
def last (fg : FVec Ideal S1024 .f32) (i : Fin 16384) (j : Fin 1024) : EReal :=
  out x md g w1 w2 i j * Ideal.rsqrt (Ideal.div (∑ k : Fin 1024, out x md g w1 w2 i k * out x md g w1 w2 i k)
      (Ideal.ofBits .f32 0x44800000#32) + Ideal.ofBits .f32 0x358637BD#32) * fg (ix1 j)

/-- The whole result after the last layer. -/
def lastResult (fg : FVec Ideal S1024 .f32) : FVec Ideal S16384x1024 .f32 := fun i => last x md g w1 w2 fg (i 0) (i 1)

end Cert.Proof.MlpSpec
end
-- ==== Proof.MlpArr.lean ====
module

public import proofs.«01_k».proof.Proof.Gen.MlpIdeal.Value
public import proofs.«01_k».proof.Proof.MlpSpec
public import Idealize.ShloMosaic.Lib.Pipeline.ValueKit
public import Idealize.ShloMosaic.Lib.Pipeline.ValueKit.Held
public import Idealize.ShloMosaic.Lib.Pipeline.ReadBack

/-! The result array of the gated squared-ReLU kernel: the normalised rows are written at the first of a row block's
    four grid points and held, the tiles of hidden units are added up over the four points. -/

@[expose] public section
set_option maxRecDepth 16384
noncomputable section
namespace Cert.Proof.MlpArr
open Idealize.ShloMosaic Idealize.ShloMosaic.TcCoe Idealize.SL.Sem
open Idealize.ShloMosaic.Pipeline (Dat)
open Cert.MlpIdeal Cert.MlpIdeal.Gen
variable (m : (ℓ : Loc nD τ sig) → Buf (Elt Ideal) ℓ)

theorem idx : ∀ t : Fin cfg0.N, win0_0.index t = ![t.val/4, 0] ∧ win0_1.index t = ![t.val/16, 0, 0]
   ∧ win0_2.index t = ![0, 0] ∧ win0_3.index t = ![0,0] ∧ win0_4.index t = ![0, t.val%4] ∧ win0_5.index t = ![t.val%4, 0]
   ∧ win0_6.index t = ![t.val/4, 0] :=
  (by decide +kernel : ∀ t : Fin grid0.N, _)

theorem pay3_at (h a b acc : Vec Ideal S1024x1024 .f32) (r j : Fin 1024) :
    k0_pay3 h a acc b (ix2 r j) = acc (ix2 r j) + ∑ f : Fin 1024, max (∑ k : Fin 1024, h (ix2 r k) * a (ix2 k f)) 0
      * max (∑ k : Fin 1024, h (ix2 r k) * a (ix2 k f)) 0 * b (ix2 f j) := by
  pointwise [k0_pay3]

theorem pay4_at (x y : Vec Ideal S1024x1024 .f32) (u : Vec Ideal S1x1x1024 .f32) (r j : Fin 1024) :
    k0_pay4 x u y (ix2 r j) = x (ix2 r j) + u (ix3 0 0 j) * y (ix2 r j) := by
  pointwise [k0_pay4]

/-- The normalised rows that point `t` works with. -/
def rows (c : Dev nD) (t : Fin cfg0.N) (i : S1024x1024.Idx) : EReal :=
  MlpSpec.norm (m ((c : Thread nD τ).loc main_arg0)) (m ((c : Thread nD τ).loc main_arg1)) (m ((c : Thread nD τ).loc main_arg2))
    ⟨1024 * (t.val / 4) + (i 0).val, by have h : (i 0).val < 1024 := (i 0).isLt; have : t.val < 64 := t.isLt; omega⟩ (i 1)

theorem rows_A (c : Dev nD) (t : Fin cfg0.N) (h0 : t.val % 4 = 0) (i : S1024x1024.Idx) :
    (outsAt0 m c t.val t.isLt).2.1 i = rows m c t i := by
  rw [outsAt0_A m c t h0 (by omega)]
  frame_out
  obtain ⟨r, k, rfl⟩ : ∃ (r k : Fin 1024), i = ix2 r k := ⟨i 0, i 1, eq_ix2 i⟩
  unfold rows MlpSpec.norm
  pointwise [k0_pay1]
  blk_point [iblk, V, idx t]

/-- At every point of a run the scratch holds the rows of the run's block. -/
theorem rows_held (c : Dev nD) (t : Fin cfg0.N) (i : S1024x1024.Idx) :
    (outsAt0 m c t.val t.isLt).2.1 i = rows m c t i := by
  rw [Pipeline.eq_of_write_hold_apply (fun n h => (outsAt0 m c n h).2.1) 4 (rows m c) (fun t h i => rows_A m c t h i)
    (fun t h i => by
      by_cases h3 : t.val % 4 = 3
      · rw [outsAt0_C m c t h h3]; rfl
      · rw [outsAt0_B m c t h h3]; rfl) t i]
  unfold rows
  simp only [show 4 * (t.val / 4) / 4 = t.val / 4 by omega]

/-- What point `t` adds to the sums. -/
def term (c : Dev nD) (t : Fin cfg0.N) (i : S1024x1024.Idx) : EReal :=
  MlpSpec.part (m ((c : Thread nD τ).loc main_arg0)) (m ((c : Thread nD τ).loc main_arg1)) (m ((c : Thread nD τ).loc main_arg2))
    (m ((c : Thread nD τ).loc main_arg4)) (m ((c : Thread nD τ).loc main_arg5))
    ⟨1024 * (t.val / 4) + (i 0).val, by have h : (i 0).val < 1024 := (i 0).isLt; have : t.val < 64 := t.isLt; omega⟩ (i 1)
    ⟨t.val % 4, by omega⟩

theorem blk4 (c : Dev nD) (t : Fin cfg0.N) (k f : Fin 1024) : iblk m c 4 t (ix2 k f)
    = m ((c : Thread nD τ).loc main_arg4) (ix2 k ⟨1024 * (t.val % 4) + f.val, by omega⟩) := by
  blk_ext [iblk, V, idx t]

theorem blk5 (c : Dev nD) (t : Fin cfg0.N) (f j : Fin 1024) : iblk m c 5 t (ix2 f j)
    = m ((c : Thread nD τ).loc main_arg5) (ix2 ⟨1024 * (t.val % 4) + f.val, by omega⟩ j) := by
  blk_ext [iblk, V, idx t]

theorem step (c : Dev nD) (t : Fin cfg0.N) (h acc : Vec Ideal S1024x1024 .f32) (hh : ∀ i, h i = rows m c t i) (r j : Fin 1024) :
    k0_pay3 h (iblk m c 4 t) acc (iblk m c 5 t) (ix2 r j) = acc (ix2 r j) + term m c t (ix2 r j) := by
  rw [pay3_at]
  unfold term MlpSpec.part
  refine congrArg (acc (ix2 r j) + ·) (Finset.sum_congr rfl fun f _ => ?_)
  have e : ∀ k : Fin 1024, h (ix2 r k) * iblk m c 4 t (ix2 k f) = rows m c t (ix2 r k)
      * m ((c : Thread nD τ).loc main_arg4) (ix2 k ⟨1024 * (t.val % 4) + f.val, by omega⟩) := fun k =>
    congrArg₂ (· * ·) (hh _) (blk4 m c t k f)
  simp only [e]
  exact congrArg (_ * ·) (blk5 m c t f j)

theorem sums (c : Dev nD) (t : Fin cfg0.N) (h3 : t.val % 4 = 3) (i : S1024x1024.Idx) :
    (outsAt0 m c t.val t.isLt).2.2 i = MlpSpec.inner (m ((c : Thread nD τ).loc main_arg0)) (m ((c : Thread nD τ).loc main_arg1))
      (m ((c : Thread nD τ).loc main_arg2)) (m ((c : Thread nD τ).loc main_arg4)) (m ((c : Thread nD τ).loc main_arg5))
      ⟨1024 * (t.val / 4) + (i 0).val, by have h : (i 0).val < 1024 := (i 0).isLt; have : t.val < 64 := t.isLt; omega⟩ (i 1) := by
  rw [Pipeline.eq_sum_fin_of_reset_step_apply_of_flush (fun n h => (outsAt0 m c n h).2.2) 4 (fun _ => (0 : EReal)) (term m c)
    (fun t h i => by
      have hr := fun i => rows_A m c t h i
      rw [outsAt0_A m c t h (by omega)] at hr ⊢
      frame_out at hr ⊢
      obtain ⟨r, k, rfl⟩ : ∃ (r k : Fin 1024), i = ix2 r k := ⟨i 0, i 1, eq_ix2 i⟩
      rw [step m c t _ _ hr]
      refine congrArg (· + _) ?_
      pointwise [k0_pay2])
    (fun t h i => by
      have hr : ∀ i, (outsAt0 m c (t.val - 1) (Nat.lt_of_le_of_lt (Nat.sub_le _ _) t.isLt)).2.1 i = rows m c t i := fun i =>
        (rows_held m c ⟨t.val - 1, Nat.lt_of_le_of_lt (Nat.sub_le _ _) t.isLt⟩ i).trans (by
          unfold rows
          simp only [show (t.val - 1) / 4 = t.val / 4 by omega])
      obtain ⟨r, k, rfl⟩ : ∃ (r k : Fin 1024), i = ix2 r k := ⟨i 0, i 1, eq_ix2 i⟩
      by_cases h3 : t.val % 4 = 3
      · rw [outsAt0_C m c t h h3]; frame_out; simp only [read_unread_whole]; exact step m c t _ _ hr r k
      · rw [outsAt0_B m c t h h3]; frame_out; simp only [read_unread_whole]; exact step m c t _ _ hr r k) t h3 i]
  refine (zero_add _).trans (Eq.trans (Finset.sum_congr rfl fun s _ => ?_) (MlpSpec.inner_eq ..))
  unfold term
  have e1 : (4 * (t.val / 4) + s.val) / 4 = t.val / 4 := by omega
  have e2 : (4 * (t.val / 4) + s.val) % 4 = s.val := by omega
  simp only [e1, e2]

theorem final (c : Dev nD) : (dats m 0 c).arrAt 6 (cfgs 0).N
    = MlpSpec.result (m ((c : Thread nD τ).loc main_arg0)) (m ((c : Thread nD τ).loc main_arg1))
      (m ((c : Thread nD τ).loc main_arg2)) (m ((c : Thread nD τ).loc main_arg4)) (m ((c : Thread nD τ).loc main_arg5)) := by
  refine (dats m 0 c).arrAt_eq_of_covers 6 _ (by decide +kernel) fun t hf y => ?_
  blk_simp
  rw [after0_6]
  have h3 : t.val % 4 = 3 := (flush0_6 t).mp hf
  have hs := sums m c t h3
  rw [outsAt0_C m c t (by omega) h3] at hs ⊢
  frame_out at hs ⊢
  obtain ⟨r, j, rfl⟩ : ∃ (r j : Fin 1024), y = ix2 r j := ⟨y 0, y 1, eq_ix2 y⟩
  have hN : t.val < 64 := t.isLt
  have e : ((View.whole main_v2).slice (win0_6.rect t)).emb (ix2 r j) = ix2 (⟨1024 * (t.val / 4) + r.val, by omega⟩ : Fin 16384) j := by
    blk_ext [iblk, V, idx t]
  rw [e, pay4_at, hs]
  refine congrArg₂ (· + ·) ?_ (congrArg₂ (· * ·) ?_ rfl)
  · blk_ext [iblk, V, idx t]
  · pointwise
    blk_ext [iblk, V, idx t]
end Cert.Proof.MlpArr
end
-- ==== Proof.MlpRef.lean ====
module

public import proofs.«01_k».proof.Proof.Gen.MlpReferenceIdeal.Run
public import proofs.«01_k».proof.Proof.MlpSpec
public import Idealize.ShloMosaic.Lib.Pointwise

/-! The reference of the gated squared-ReLU block computes the formula of MlpSpec. -/

@[expose] public section
set_option maxRecDepth 16384
noncomputable section
namespace Cert.Proof.MlpRef
open Idealize.ShloMosaic Idealize.ShloMosaic.TcCoe Idealize.SL.Sem
open Cert.MlpReferenceIdeal Cert.MlpReferenceIdeal.Value Cert.MlpReferenceIdeal.Gen

/-- The reference's result as the operations compose it. -/
def composed (x : FVec Ideal S16384x1024 .f32) (md : FVec Ideal S4x6x1024 .f32) (g : FVec Ideal S1024 .f32)
    (w1 : FVec Ideal S1024x4096 .bf16) (w2 : FVec Ideal S4096x1024 .bf16) : FVec Ideal S16384x1024 .f32 :=
  shapeCast S16384x1024 (addf (shapeCast S4x4096x1024 x shapeCasts_S16384x1024_S4x4096x1024) (mulf (broadcastInDim S4x4096x1024 ![0, 1,
    2] bcast_S4x1x1024_S4x4096x1024_0_1_2 (extractStridedSlice S4x1x1024 ![0, 5, 0] md slices_S4x6x1024_S4x1x1024_0_5_0))
    (Host.dotGeneral dot_S4x4096x4096_S4096x1024_S4x4096x1024_2_0_01_1_n_n none (mulf (maximumf (Host.dotGeneral
    dot_S4x4096x1024_S1024x4096_S4x4096x4096_2_0_01_1_n_n none (addf (mulf (mulf (mulf (shapeCast S4x4096x1024 x shapeCasts_S16384x1024_S4x4096x1024)
    (broadcastInDim S4x4096x1024 ![0, 1, 2] bcast_S4x4096x1_S4x4096x1024_0_1_2 (Host.rsqrt (addf (Host.divf (broadcastInDim
    S4x4096x1 ![0, 1] bcast_S4x4096_S4x4096x1_0_1 (Host.reduceAdd (mulf (shapeCast S4x4096x1024 x shapeCasts_S16384x1024_S4x4096x1024)
    (shapeCast S4x4096x1024 x shapeCasts_S16384x1024_S4x4096x1024)) (constant S_ .f32 0x00000000#32) reducesTo_S4x4096x1024_S4x4096_d2
    h_S_)) (broadcastInDim S4x4096x1 ![] bcast_S_S4x4096x1 (constant S_ .f32 0x44800000#32))) (broadcastInDim S4x4096x1
    ![] bcast_S_S4x4096x1 (constant S_ .f32 0x358637BD#32)))))) (broadcastInDim S4x4096x1024 ![0, 1, 2] bcast_S1x1x1024_S4x4096x1024_0_1_2
    (broadcastInDim S1x1x1024 ![2] bcast_S1024_S1x1x1024_2 g))) (broadcastInDim S4x4096x1024 ![0, 1, 2] bcast_S4x1x1024_S4x4096x1024_0_1_2
    (addf (broadcastInDim S4x1x1024 ![] bcast_S_S4x1x1024 (constant S_ .f32 0x3F800000#32)) (extractStridedSlice
    S4x1x1024 ![0, 4, 0] md slices_S4x6x1024_S4x1x1024_0_4_0)))) (broadcastInDim S4x4096x1024 ![0, 1, 2] bcast_S4x1x1024_S4x4096x1024_0_1_2
    (extractStridedSlice S4x1x1024 ![0, 3, 0] md slices_S4x6x1024_S4x1x1024_0_3_0))) (extf .f32 w1 bitsLt_bf16_f32))
    (broadcastInDim S4x4096x4096 ![] bcast_S_S4x4096x4096 (constant S_ .f32 0x00000000#32))) (maximumf (Host.dotGeneral
    dot_S4x4096x1024_S1024x4096_S4x4096x4096_2_0_01_1_n_n none (addf (mulf (mulf (mulf (shapeCast S4x4096x1024 x shapeCasts_S16384x1024_S4x4096x1024)
    (broadcastInDim S4x4096x1024 ![0, 1, 2] bcast_S4x4096x1_S4x4096x1024_0_1_2 (Host.rsqrt (addf (Host.divf (broadcastInDim
    S4x4096x1 ![0, 1] bcast_S4x4096_S4x4096x1_0_1 (Host.reduceAdd (mulf (shapeCast S4x4096x1024 x shapeCasts_S16384x1024_S4x4096x1024)
    (shapeCast S4x4096x1024 x shapeCasts_S16384x1024_S4x4096x1024)) (constant S_ .f32 0x00000000#32) reducesTo_S4x4096x1024_S4x4096_d2
    h_S_)) (broadcastInDim S4x4096x1 ![] bcast_S_S4x4096x1 (constant S_ .f32 0x44800000#32))) (broadcastInDim S4x4096x1
    ![] bcast_S_S4x4096x1 (constant S_ .f32 0x358637BD#32)))))) (broadcastInDim S4x4096x1024 ![0, 1, 2] bcast_S1x1x1024_S4x4096x1024_0_1_2
    (broadcastInDim S1x1x1024 ![2] bcast_S1024_S1x1x1024_2 g))) (broadcastInDim S4x4096x1024 ![0, 1, 2] bcast_S4x1x1024_S4x4096x1024_0_1_2
    (addf (broadcastInDim S4x1x1024 ![] bcast_S_S4x1x1024 (constant S_ .f32 0x3F800000#32)) (extractStridedSlice
    S4x1x1024 ![0, 4, 0] md slices_S4x6x1024_S4x1x1024_0_4_0)))) (broadcastInDim S4x4096x1024 ![0, 1, 2] bcast_S4x1x1024_S4x4096x1024_0_1_2
    (extractStridedSlice S4x1x1024 ![0, 3, 0] md slices_S4x6x1024_S4x1x1024_0_3_0))) (extf .f32 w1 bitsLt_bf16_f32))
    (broadcastInDim S4x4096x4096 ![] bcast_S_S4x4096x4096 (constant S_ .f32 0x00000000#32)))) (extf .f32 w2 bitsLt_bf16_f32))))
    shapeCasts_S4x4096x1024_S16384x1024

set_option maxHeartbeats 4000000 in
theorem composed_eq (x : FVec Ideal S16384x1024 .f32) (md : FVec Ideal S4x6x1024 .f32) (g : FVec Ideal S1024 .f32)
    (w1 : FVec Ideal S1024x4096 .bf16) (w2 : FVec Ideal S4096x1024 .bf16) (i : Fin 16384) (j : Fin 1024) :
    (composed x md g w1 w2 (ix2 i j) : EReal) = MlpSpec.out x md g w1 w2 i j := by
  pointwise [composed]
  rfl

set_option maxHeartbeats 8000000 in
/-- Every run of the reference ends with the formula's array as its result and with its arguments unchanged. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v32) = MlpSpec.result (m ((c.tc : Thread nD τ).loc main_arg0))
          (m ((c.tc : Thread nD τ).loc main_arg1)) (m ((c.tc : Thread nD τ).loc main_arg2))
          (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ⟨(h c).1.trans ?_, (h c).2⟩) (run m ρ)
  funext i
  obtain ⟨i, j, rfl⟩ : ∃ (a : Fin 16384) (b : Fin 1024), i = ix2 a b := ⟨i 0, i 1, eq_ix2 i⟩
  exact composed_eq _ _ _ _ _ i j
end Cert.Proof.MlpRef
end
-- ==== Proof.MlpLastArr.lean ====
module

public import proofs.«01_k».proof.Proof.Gen.MlpLastIdeal.Value
public import proofs.«01_k».proof.Proof.MlpSpec
public import Idealize.ShloMosaic.Lib.Pipeline.ValueKit
public import Idealize.ShloMosaic.Lib.Pipeline.ValueKit.Held
public import Idealize.ShloMosaic.Lib.Pipeline.ReadBack

/-! The result array of the gated squared-ReLU kernel of the last layer, with the final norm: the normalised rows are written at the first of a row block's
    four grid points and held, the tiles of hidden units are added up over the four points. -/

@[expose] public section
set_option maxRecDepth 16384
noncomputable section
namespace Cert.Proof.MlpLastArr
open Idealize.ShloMosaic Idealize.ShloMosaic.TcCoe Idealize.SL.Sem
open Idealize.ShloMosaic.Pipeline (Dat)
open Cert.MlpLastIdeal Cert.MlpLastIdeal.Gen
variable (m : (ℓ : Loc nD τ sig) → Buf (Elt Ideal) ℓ)

theorem idx : ∀ t : Fin cfg0.N, win0_0.index t = ![t.val/4, 0] ∧ win0_1.index t = ![t.val/16, 0, 0]
   ∧ win0_2.index t = ![0, 0] ∧ win0_3.index t = ![0,0] ∧ win0_4.index t = ![0, t.val%4] ∧ win0_5.index t = ![t.val%4, 0]
   ∧ win0_6.index t = ![t.val/4, 0] :=
  (by decide +kernel : ∀ t : Fin grid0.N, _)

theorem pay3_at (h a b acc : Vec Ideal S1024x1024 .f32) (r j : Fin 1024) :
    k0_pay3 h a acc b (ix2 r j) = acc (ix2 r j) + ∑ f : Fin 1024, max (∑ k : Fin 1024, h (ix2 r k) * a (ix2 k f)) 0
      * max (∑ k : Fin 1024, h (ix2 r k) * a (ix2 k f)) 0 * b (ix2 f j) := by
  pointwise [k0_pay3]

theorem pay4_at (x y : Vec Ideal S1024x1024 .f32) (u : Vec Ideal S1x1x1024 .f32) (g : Vec Ideal S1x1024 .f32) (r j : Fin 1024)
    (f : Fin 1024 → EReal) (hf : ∀ k, (x (ix2 r k) + u (ix3 0 0 k) * y (ix2 r k) : EReal) = f k) :
    (k0_pay4 x u y g (ix2 r j) : EReal) = f j * Ideal.rsqrt (Ideal.div (∑ k : Fin 1024, f k * f k)
        (Ideal.ofBits .f32 0x44800000#32) + Ideal.ofBits .f32 0x358637BD#32) * g (ix2 0 j) := by
  simp only [← hf]
  pointwise [k0_pay4]

/-- The normalised rows that point `t` works with. -/
def rows (c : Dev nD) (t : Fin cfg0.N) (i : S1024x1024.Idx) : EReal :=
  MlpSpec.norm (m ((c : Thread nD τ).loc main_arg0)) (m ((c : Thread nD τ).loc main_arg1)) (m ((c : Thread nD τ).loc main_arg2))
    ⟨1024 * (t.val / 4) + (i 0).val, by have h : (i 0).val < 1024 := (i 0).isLt; have : t.val < 64 := t.isLt; omega⟩ (i 1)

theorem rows_A (c : Dev nD) (t : Fin cfg0.N) (h0 : t.val % 4 = 0) (i : S1024x1024.Idx) :
    (outsAt0 m c t.val t.isLt).2.1 i = rows m c t i := by
  rw [outsAt0_A m c t h0 (by omega)]
  frame_out
  obtain ⟨r, k, rfl⟩ : ∃ (r k : Fin 1024), i = ix2 r k := ⟨i 0, i 1, eq_ix2 i⟩
  unfold rows MlpSpec.norm
  pointwise [k0_pay1]
  blk_point [iblk, V, idx t]

/-- At every point of a run the scratch holds the rows of the run's block. -/
theorem rows_held (c : Dev nD) (t : Fin cfg0.N) (i : S1024x1024.Idx) :
    (outsAt0 m c t.val t.isLt).2.1 i = rows m c t i := by
  rw [Pipeline.eq_of_write_hold_apply (fun n h => (outsAt0 m c n h).2.1) 4 (rows m c) (fun t h i => rows_A m c t h i)
    (fun t h i => by
      by_cases h3 : t.val % 4 = 3
      · rw [outsAt0_C m c t h h3]; rfl
      · rw [outsAt0_B m c t h h3]; rfl) t i]
  unfold rows
  simp only [show 4 * (t.val / 4) / 4 = t.val / 4 by omega]

/-- What point `t` adds to the sums. -/
def term (c : Dev nD) (t : Fin cfg0.N) (i : S1024x1024.Idx) : EReal :=
  MlpSpec.part (m ((c : Thread nD τ).loc main_arg0)) (m ((c : Thread nD τ).loc main_arg1)) (m ((c : Thread nD τ).loc main_arg2))
    (m ((c : Thread nD τ).loc main_arg4)) (m ((c : Thread nD τ).loc main_arg5))
    ⟨1024 * (t.val / 4) + (i 0).val, by have h : (i 0).val < 1024 := (i 0).isLt; have : t.val < 64 := t.isLt; omega⟩ (i 1)
    ⟨t.val % 4, by omega⟩

theorem blk4 (c : Dev nD) (t : Fin cfg0.N) (k f : Fin 1024) : iblk m c 4 t (ix2 k f)
    = m ((c : Thread nD τ).loc main_arg4) (ix2 k ⟨1024 * (t.val % 4) + f.val, by omega⟩) := by
  blk_ext [iblk, V, idx t]

theorem blk5 (c : Dev nD) (t : Fin cfg0.N) (f j : Fin 1024) : iblk m c 5 t (ix2 f j)
    = m ((c : Thread nD τ).loc main_arg5) (ix2 ⟨1024 * (t.val % 4) + f.val, by omega⟩ j) := by
  blk_ext [iblk, V, idx t]

theorem step (c : Dev nD) (t : Fin cfg0.N) (h acc : Vec Ideal S1024x1024 .f32) (hh : ∀ i, h i = rows m c t i) (r j : Fin 1024) :
    k0_pay3 h (iblk m c 4 t) acc (iblk m c 5 t) (ix2 r j) = acc (ix2 r j) + term m c t (ix2 r j) := by
  rw [pay3_at]
  unfold term MlpSpec.part
  refine congrArg (acc (ix2 r j) + ·) (Finset.sum_congr rfl fun f _ => ?_)
  have e : ∀ k : Fin 1024, h (ix2 r k) * iblk m c 4 t (ix2 k f) = rows m c t (ix2 r k)
      * m ((c : Thread nD τ).loc main_arg4) (ix2 k ⟨1024 * (t.val % 4) + f.val, by omega⟩) := fun k =>
    congrArg₂ (· * ·) (hh _) (blk4 m c t k f)
  simp only [e]
  exact congrArg (_ * ·) (blk5 m c t f j)

theorem sums (c : Dev nD) (t : Fin cfg0.N) (h3 : t.val % 4 = 3) (i : S1024x1024.Idx) :
    (outsAt0 m c t.val t.isLt).2.2 i = MlpSpec.inner (m ((c : Thread nD τ).loc main_arg0)) (m ((c : Thread nD τ).loc main_arg1))
      (m ((c : Thread nD τ).loc main_arg2)) (m ((c : Thread nD τ).loc main_arg4)) (m ((c : Thread nD τ).loc main_arg5))
      ⟨1024 * (t.val / 4) + (i 0).val, by have h : (i 0).val < 1024 := (i 0).isLt; have : t.val < 64 := t.isLt; omega⟩ (i 1) := by
  rw [Pipeline.eq_sum_fin_of_reset_step_apply_of_flush (fun n h => (outsAt0 m c n h).2.2) 4 (fun _ => (0 : EReal)) (term m c)
    (fun t h i => by
      have hr := fun i => rows_A m c t h i
      rw [outsAt0_A m c t h (by omega)] at hr ⊢
      frame_out at hr ⊢
      obtain ⟨r, k, rfl⟩ : ∃ (r k : Fin 1024), i = ix2 r k := ⟨i 0, i 1, eq_ix2 i⟩
      rw [step m c t _ _ hr]
      refine congrArg (· + _) ?_
      pointwise [k0_pay2])
    (fun t h i => by
      have hr : ∀ i, (outsAt0 m c (t.val - 1) (Nat.lt_of_le_of_lt (Nat.sub_le _ _) t.isLt)).2.1 i = rows m c t i := fun i =>
        (rows_held m c ⟨t.val - 1, Nat.lt_of_le_of_lt (Nat.sub_le _ _) t.isLt⟩ i).trans (by
          unfold rows
          simp only [show (t.val - 1) / 4 = t.val / 4 by omega])
      obtain ⟨r, k, rfl⟩ : ∃ (r k : Fin 1024), i = ix2 r k := ⟨i 0, i 1, eq_ix2 i⟩
      by_cases h3 : t.val % 4 = 3
      · rw [outsAt0_C m c t h h3]; frame_out; simp only [read_unread_whole]; exact step m c t _ _ hr r k
      · rw [outsAt0_B m c t h h3]; frame_out; simp only [read_unread_whole]; exact step m c t _ _ hr r k) t h3 i]
  refine (zero_add _).trans (Eq.trans (Finset.sum_congr rfl fun s _ => ?_) (MlpSpec.inner_eq ..))
  unfold term
  have e1 : (4 * (t.val / 4) + s.val) / 4 = t.val / 4 := by omega
  have e2 : (4 * (t.val / 4) + s.val) % 4 = s.val := by omega
  simp only [e1, e2]

/-- Entry `j` of row `r` of a row block after the residual addition. -/
theorem entry (c : Dev nD) (t : Fin cfg0.N) (r j : Fin 1024) (x y : Vec Ideal S1024x1024 .f32) (u : Vec Ideal S1x1x1024 .f32)
    (hx : x = iblk m c 0 t) (hu : u = View.ld (iblk m c 1 t) (Rect.unit ![0, 5, 0] ![1, 1, 1024] inb_S1x6x1024_S1x1x1024_0_5_0))
    (hs : ∀ i : S1024x1024.Idx, y i = MlpSpec.inner (m ((c : Thread nD τ).loc main_arg0)) (m ((c : Thread nD τ).loc main_arg1))
      (m ((c : Thread nD τ).loc main_arg2)) (m ((c : Thread nD τ).loc main_arg4)) (m ((c : Thread nD τ).loc main_arg5))
      ⟨1024 * (t.val / 4) + (i 0).val, by have h : (i 0).val < 1024 := (i 0).isLt; have : t.val < 64 := t.isLt; omega⟩ (i 1)) :
    (x (ix2 r j) + u (ix3 0 0 j) * y (ix2 r j) : EReal)
      = MlpSpec.out (m ((c : Thread nD τ).loc main_arg0)) (m ((c : Thread nD τ).loc main_arg1))
      (m ((c : Thread nD τ).loc main_arg2)) (m ((c : Thread nD τ).loc main_arg4)) (m ((c : Thread nD τ).loc main_arg5))
      ⟨1024 * (t.val / 4) + r.val, by have : t.val < 64 := t.isLt; omega⟩ j := by
  have hN : t.val < 64 := t.isLt
  unfold MlpSpec.out
  rw [hs, hx, hu]
  refine congrArg₂ (· + ·) ?_ (congrArg₂ (· * ·) ?_ rfl)
  · blk_ext [iblk, V, idx t]
  · pointwise
    blk_ext [iblk, V, idx t]

theorem final (c : Dev nD) : (dats m 0 c).arrAt 6 (cfgs 0).N
    = MlpSpec.lastResult (m ((c : Thread nD τ).loc main_arg0)) (m ((c : Thread nD τ).loc main_arg1))
      (m ((c : Thread nD τ).loc main_arg2)) (m ((c : Thread nD τ).loc main_arg4)) (m ((c : Thread nD τ).loc main_arg5))
      (m ((c : Thread nD τ).loc main_arg3)) := by
  refine (dats m 0 c).arrAt_eq_of_covers 6 _ (by decide +kernel) fun t hf y => ?_
  blk_simp
  rw [after0_6]
  have h3 : t.val % 4 = 3 := (flush0_6 t).mp hf
  have hs := sums m c t h3
  rw [outsAt0_C m c t (by omega) h3] at hs ⊢
  frame_out at hs ⊢
  obtain ⟨r, j, rfl⟩ : ∃ (r j : Fin 1024), y = ix2 r j := ⟨y 0, y 1, eq_ix2 y⟩
  have hN : t.val < 64 := t.isLt
  have e : ((View.whole main_v2).slice (win0_6.rect t)).emb (ix2 r j) = ix2 (⟨1024 * (t.val / 4) + r.val, by omega⟩ : Fin 16384) j := by
    blk_ext [iblk, V, idx t]
  rw [e]
  refine (pay4_at _ _ _ _ r j _ (fun k => entry m c t r k _ _ _ rfl rfl hs)).trans ?_
  show _ = MlpSpec.last _ _ _ _ _ _ _ _
  unfold MlpSpec.last
  refine congrArg₂ (· * ·) rfl ?_
  blk_point [iblk, V, idx t]
end Cert.Proof.MlpLastArr
end
-- ==== Proof.MlpLastRef.lean ====
module

public import proofs.«01_k».proof.Proof.Gen.MlpLastReferenceIdeal.Run
public import proofs.«01_k».proof.Proof.MlpRef

/-! The reference of the last layer's gated squared-ReLU block, with the final norm, computes the formula of MlpSpec. -/

@[expose] public section
set_option maxRecDepth 16384
noncomputable section
namespace Cert.Proof.MlpLastRef
open Idealize.ShloMosaic Idealize.ShloMosaic.TcCoe Idealize.SL.Sem
open Cert.MlpLastReferenceIdeal Cert.MlpLastReferenceIdeal.Value Cert.MlpLastReferenceIdeal.Gen

/-- The final norm as the reference's operations compose it. -/
def normed (y : FVec Ideal S16384x1024 .f32) (fg : FVec Ideal S1024 .f32) : FVec Ideal S16384x1024 .f32 :=
  mulf (mulf y (broadcastInDim S16384x1024 ![0, 1] bcast_S16384x1_S16384x1024_0_1 (Host.rsqrt (addf (Host.divf
    (broadcastInDim S16384x1 ![0] bcast_S16384_S16384x1_0 (Host.reduceAdd (mulf y y) (constant S_ .f32 0x00000000#32)
      reducesTo_S16384x1024_S16384_d1 h_S_)) (broadcastInDim S16384x1 ![] bcast_S_S16384x1 (constant S_ .f32 0x44800000#32)))
    (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 fg))

theorem normed_at (y : FVec Ideal S16384x1024 .f32) (fg : FVec Ideal S1024 .f32) (i : Fin 16384) (f : Fin 1024 → EReal)
    (hf : ∀ k, (y (ix2 i k) : EReal) = f k) (j : Fin 1024) :
    (normed y fg (ix2 i j) : EReal) = f j * Ideal.rsqrt (Ideal.div (∑ k : Fin 1024, f k * f k)
        (Ideal.ofBits .f32 0x44800000#32) + Ideal.ofBits .f32 0x358637BD#32) * fg (ix1 j) := by
  simp only [← hf]
  pointwise [normed]

/-- The result of the reference is the final norm of the block's result. -/
theorem result_eq (m : (ℓ : Loc nD τ sig) → Buf (Elt Ideal) ℓ) (c : Dev nD) :
    res_main_v45 m c = normed (MlpRef.composed (m ((c.tc : Thread nD τ).loc main_arg0)) (m ((c.tc : Thread nD τ).loc main_arg1))
      (m ((c.tc : Thread nD τ).loc main_arg2)) (m ((c.tc : Thread nD τ).loc main_arg4)) (m ((c.tc : Thread nD τ).loc main_arg5)))
      (m ((c.tc : Thread nD τ).loc main_arg3)) := rfl

/-- Every run of the reference ends with the formula's array as its result and with its arguments unchanged. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v45) = MlpSpec.lastResult (m ((c.tc : Thread nD τ).loc main_arg0))
          (m ((c.tc : Thread nD τ).loc main_arg1)) (m ((c.tc : Thread nD τ).loc main_arg2))
          (m ((c.tc : Thread nD τ).loc main_arg4)) (m ((c.tc : Thread nD τ).loc main_arg5)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ⟨((h c).1.trans (result_eq m c)).trans ?_, (h c).2⟩) (run m ρ)
  funext i
  obtain ⟨i, j, rfl⟩ : ∃ (a : Fin 16384) (b : Fin 1024), i = ix2 a b := ⟨i 0, i 1, eq_ix2 i⟩
  exact normed_at _ _ i _ (fun k => MlpRef.composed_eq _ _ _ _ _ i k) j
end Cert.Proof.MlpLastRef
end
-- ==== Proof.InSpec.lean ====
module

public import Idealize.ShloMosaic.Lib.Pointwise

/-! The input projection of a layer as a formula: the normalised, modulated rows times a weight, plus a bias. -/

@[expose] public section
set_option maxRecDepth 16384
noncomputable section
namespace Cert.Proof.InSpec
open Idealize.ShloMosaic Idealize.ShloMosaic.TcCoe

variable (x : FVec Ideal ⟨2, ![16384, 1024]⟩ .f32) (md : FVec Ideal ⟨3, ![4, 6, 1024]⟩ .f32) (g : FVec Ideal ⟨1, ![1024]⟩ .f32)

/-- Row `i` of the input, normalised by its root mean square, scaled and shifted by its batch's modulation. -/
def norm (i : Fin 16384) (k : Fin 1024) : EReal :=
  x (ix2 i k) * Ideal.rsqrt (Ideal.div (∑ j : Fin 1024, x (ix2 i j) * x (ix2 i j)) (Ideal.ofBits .f32 0x44800000#32)
      + Ideal.ofBits .f32 0x358637BD#32)
    * g (ix1 k) * (1 + md (ix3 ⟨i.val / 4096, by omega⟩ 1 k)) + md (ix3 ⟨i.val / 4096, by omega⟩ 0 k)

/-- Column `j` of the projection of row `i`. -/
def out {W : Nat} (w : FVec Ideal ⟨2, ![1024, W]⟩ .bf16) (b : FVec Ideal ⟨1, ![W]⟩ .f32) (i : Fin 16384) (j : Fin W) : EReal :=
  ∑ k : Fin 1024, norm x md g i k * w (ix2 k j) + b (ix1 j)

/-- The columns `o`, …, `o + n - 1` of the projection, as an array. -/
def cols {W : Nat} (w : FVec Ideal ⟨2, ![1024, W]⟩ .bf16) (b : FVec Ideal ⟨1, ![W]⟩ .f32) (o n : Nat) (h : o + n ≤ W) :
    FVec Ideal ⟨2, ![16384, n]⟩ .f32 := fun i =>
  out x md g w b (i 0) ⟨o + (i 1).val, by have h : (i 1).val < n := (i 1).isLt; omega⟩

end Cert.Proof.InSpec
end
-- ==== Proof.InEvenArr.lean ====
module

public import proofs.«01_k».proof.Proof.Gen.InEvenIdeal.Value
public import proofs.«01_k».proof.Proof.InSpec
public import Idealize.ShloMosaic.Lib.Pipeline.ValueKit
public import Idealize.ShloMosaic.Lib.Pipeline.ReadBack

/-! The result arrays of the input projection of an even layer. -/

@[expose] public section
set_option maxRecDepth 16384
noncomputable section
namespace Cert.Proof.InEvenArr
open Idealize.ShloMosaic Idealize.ShloMosaic.TcCoe Idealize.SL.Sem
open Idealize.ShloMosaic.Pipeline (Dat)
open Cert.InEvenIdeal Cert.InEvenIdeal.Gen
variable (m : (ℓ : Loc nD τ sig) → Buf (Elt Ideal) ℓ)

theorem idx : ∀ t : Fin cfg0.N, win0_0.index t = ![t.val, 0] ∧ win0_1.index t = ![t.val/8, 0, 0]
   ∧ win0_2.index t = ![0, 0] ∧ win0_3.index t = ![0,0] ∧ win0_4.index t = ![0, 0] ∧ win0_5.index t = ![t.val, 0]
   ∧ win0_6.index t = ![t.val, 0] ∧ win0_7.index t = ![t.val, 0] ∧ win0_8.index t = ![t.val, 0] ∧ win0_9.index t = ![t.val, 0]
   ∧ win0_10.index t = ![t.val, 0] ∧ win0_11.index t = ![t.val, 0] ∧ win0_12.index t = ![t.val, 0] :=
  (by decide +kernel : ∀ t : Fin grid0.N, _)

/-- The normalised rows of point `t`, from its blocks. -/
theorem rows (c : Dev nD) (t : Fin cfg0.N) (r : Fin 512) (k : Fin 1024) :
    (k0_pay2 (iblk m c 0 t) (iblk m c 2 t)
      (View.ld (iblk m c 1 t) (Rect.unit ![0, 0, 0] ![1, 1, 1024] inb_S1x6x1024_S1x1x1024_0_0_0))
      (View.ld (iblk m c 1 t) (Rect.unit ![0, 1, 0] ![1, 1, 1024] inb_S1x6x1024_S1x1x1024_0_1_0)) (ix2 r k) : EReal)
    = InSpec.norm (m ((c : Thread nD τ).loc main_arg0)) (m ((c : Thread nD τ).loc main_arg1))
      (m ((c : Thread nD τ).loc main_arg2)) ⟨512 * t.val + r.val, by have : t.val < 32 := t.isLt; omega⟩ k := by
  have hN : t.val < 32 := t.isLt
  have e : (512 * t.val + r.val) / 4096 = t.val / 8 := by omega
  unfold InSpec.norm
  simp only [e]
  pointwise [k0_pay2]
  blk_point [iblk, V, idx t]

/-- A product of the rows with columns of the weight, with the bias added, is the projection's entry. -/
theorem entry (c : Dev nD) (t : Fin cfg0.N) (r : Fin 512) (h w : Fin 1024 → EReal) (b : EReal) (j : Fin 2816)
    (hh : ∀ k, h k = InSpec.norm (m ((c : Thread nD τ).loc main_arg0)) (m ((c : Thread nD τ).loc main_arg1))
      (m ((c : Thread nD τ).loc main_arg2)) ⟨512 * t.val + r.val, by have : t.val < 32 := t.isLt; omega⟩ k)
    (hw : ∀ k, w k = m ((c : Thread nD τ).loc main_arg3) (ix2 k j)) (hb : b = m ((c : Thread nD τ).loc main_arg4) (ix1 j)) :
    ∑ k : Fin 1024, h k * w k + b = InSpec.out (m ((c : Thread nD τ).loc main_arg0)) (m ((c : Thread nD τ).loc main_arg1))
      (m ((c : Thread nD τ).loc main_arg2)) (m ((c : Thread nD τ).loc main_arg3)) (m ((c : Thread nD τ).loc main_arg4))
      ⟨512 * t.val + r.val, by have : t.val < 32 := t.isLt; omega⟩ j := by
  unfold InSpec.out
  rw [hb]
  exact congrArg (· + _) (Finset.sum_congr rfl fun k _ => congrArg₂ (· * ·) (hh k) (hw k))

theorem bias (c : Dev nD) (t : Fin cfg0.N) (j : Fin 2816) :
    (iblk m c 4 t (ix2 0 j) : EReal) = m ((c : Thread nD τ).loc main_arg4) (ix1 j) := by
  blk_point [iblk, V, idx t]

theorem pay5_at (h : Vec Ideal S512x1024 .bf16) (w : Vec Ideal S1024x512 .bf16) (b : Vec Ideal S1x512 .f32) (r j : Fin 512) :
    (k0_pay5 (k0_pay3 h w) (k0_pay4 b) (ix2 r j) : EReal) = ∑ k : Fin 1024, h (ix2 r k) * w (ix2 k j) + b (ix2 0 j) := by
  pointwise [k0_pay5, k0_pay3, k0_pay4]
theorem pay6_at (h : Vec Ideal S512x1024 .bf16) (w : Vec Ideal S1024x512 .bf16) (b : Vec Ideal S1x512 .f32) (r j : Fin 512) :
    (k0_pay6 h w b (ix2 r j) : EReal) = ∑ k : Fin 1024, h (ix2 r k) * w (ix2 k j) + b (ix2 0 j) := by
  pointwise [k0_pay6]
theorem pay8_at (h : Vec Ideal S512x1024 .bf16) (w : Vec Ideal S1024x512 .bf16) (b : Vec Ideal S1x512 .f32) (r j : Fin 512) :
    (k0_pay8 h w b (ix2 r j) : EReal) = ∑ k : Fin 1024, h (ix2 r k) * w (ix2 k j) + b (ix2 0 j) := pay6_at h w b r j
theorem pay10_at (h : Vec Ideal S512x1024 .bf16) (w : Vec Ideal S1024x512 .bf16) (b : Vec Ideal S1x512 .f32) (r j : Fin 512) :
    (k0_pay10 h w b (ix2 r j) : EReal) = ∑ k : Fin 1024, h (ix2 r k) * w (ix2 k j) + b (ix2 0 j) := pay6_at h w b r j
theorem pay7_at (h : Vec Ideal S512x1024 .bf16) (w : Vec Ideal S1024x256 .bf16) (b : Vec Ideal S1x256 .f32) (r : Fin 512) (j : Fin 256) :
    (k0_pay7 h w b (ix2 r j) : EReal) = ∑ k : Fin 1024, h (ix2 r k) * w (ix2 k j) + b (ix2 0 j) := by
  pointwise [k0_pay7]
theorem pay9_at (h : Vec Ideal S512x1024 .bf16) (w : Vec Ideal S1024x256 .bf16) (b : Vec Ideal S1x256 .f32) (r : Fin 512) (j : Fin 256) :
    (k0_pay9 h w b (ix2 r j) : EReal) = ∑ k : Fin 1024, h (ix2 r k) * w (ix2 k j) + b (ix2 0 j) := pay7_at h w b r j
theorem pay11_at (h : Vec Ideal S512x1024 .bf16) (w : Vec Ideal S1024x128 .bf16) (b : Vec Ideal S1x128 .f32) (r : Fin 512) (j : Fin 64) :
    (k0_pay11 h w b (ix2 r j) : EReal) = ∑ k : Fin 1024, h (ix2 r k) * w (ix2 k ⟨j.val, by omega⟩) + b (ix2 0 ⟨j.val, by omega⟩) := by
  pointwise [k0_pay11]
theorem pay1_at (h : Vec Ideal S512x1024 .bf16) (w : Vec Ideal S1024x128 .bf16) (b : Vec Ideal S1x128 .f32) (r : Fin 512) (j : Fin 128) :
    (k0_pay1 h w b (ix2 r j) : EReal) = ∑ k : Fin 1024, h (ix2 r k) * w (ix2 k j) + b (ix2 0 j) := by
  pointwise [k0_pay1]

/-- The columns `o`, …, `o + n - 1` of the projection of the arguments. -/
abbrev cols (c : Dev nD) (o n : Nat) (h : o + n ≤ 2816) : FVec Ideal ⟨2, ![16384, n]⟩ .f32 :=
  InSpec.cols (m ((c : Thread nD τ).loc main_arg0)) (m ((c : Thread nD τ).loc main_arg1))
    (m ((c : Thread nD τ).loc main_arg2)) (m ((c : Thread nD τ).loc main_arg3)) (m ((c : Thread nD τ).loc main_arg4)) o n h

theorem final5 (c : Dev nD) : (dats m 0 c).arrAt 5 (cfgs 0).N = cols m c 0 512 (by decide) := by
  refine (dats m 0 c).arrAt_eq_of_covers 5 _ (by decide +kernel) fun t _ y => ?_
  blk_simp
  rw [after0_5]
  unfold outsAt0
  frame_out
  obtain ⟨r, j, rfl⟩ : ∃ (r : Fin 512) (j : Fin 512), y = ix2 r j := ⟨y 0, y 1, eq_ix2 y⟩
  have hN : t.val < 32 := t.isLt
  have e : ((View.whole main_v2_0).slice (win0_5.rect t)).emb (ix2 r j) = ix2 (⟨512 * t.val + r.val, by omega⟩ : Fin 16384) j := by
    blk_ext [iblk, V, idx t]
  rw [e, pay5_at]
  refine entry m c t r _ _ _ ⟨0 + j.val, by omega⟩ (rows m c t r) (fun k => ?_) ?_
  · pointwise
    blk_ext [iblk, V, idx t]
  · pointwise
    exact bias m c t _

theorem final6 (c : Dev nD) : (dats m 0 c).arrAt 6 (cfgs 0).N = cols m c 512 512 (by decide) := by
  refine (dats m 0 c).arrAt_eq_of_covers 6 _ (by decide +kernel) fun t _ y => ?_
  blk_simp
  rw [after0_6]
  unfold outsAt0
  frame_out
  obtain ⟨r, j, rfl⟩ : ∃ (r : Fin 512) (j : Fin 512), y = ix2 r j := ⟨y 0, y 1, eq_ix2 y⟩
  have hN : t.val < 32 := t.isLt
  have e : ((View.whole main_v2_1).slice (win0_6.rect t)).emb (ix2 r j) = ix2 (⟨512 * t.val + r.val, by omega⟩ : Fin 16384) j := by
    blk_ext [iblk, V, idx t]
  rw [e, pay6_at]
  refine entry m c t r _ _ _ ⟨512 + j.val, by omega⟩ (rows m c t r) (fun k => ?_) ?_
  · pointwise
    blk_ext [iblk, V, idx t]
  · pointwise
    exact bias m c t _

theorem final7 (c : Dev nD) : (dats m 0 c).arrAt 7 (cfgs 0).N = cols m c 1024 256 (by decide) := by
  refine (dats m 0 c).arrAt_eq_of_covers 7 _ (by decide +kernel) fun t _ y => ?_
  blk_simp
  rw [after0_7]
  unfold outsAt0
  frame_out
  obtain ⟨r, j, rfl⟩ : ∃ (r : Fin 512) (j : Fin 256), y = ix2 r j := ⟨y 0, y 1, eq_ix2 y⟩
  have hN : t.val < 32 := t.isLt
  have e : ((View.whole main_v2_2).slice (win0_7.rect t)).emb (ix2 r j) = ix2 (⟨512 * t.val + r.val, by omega⟩ : Fin 16384) j := by
    blk_ext [iblk, V, idx t]
  rw [e, pay7_at]
  refine entry m c t r _ _ _ ⟨1024 + j.val, by omega⟩ (rows m c t r) (fun k => ?_) ?_
  · pointwise
    blk_ext [iblk, V, idx t]
  · pointwise
    exact bias m c t _

theorem final8 (c : Dev nD) : (dats m 0 c).arrAt 8 (cfgs 0).N = cols m c 1280 512 (by decide) := by
  refine (dats m 0 c).arrAt_eq_of_covers 8 _ (by decide +kernel) fun t _ y => ?_
  blk_simp
  rw [after0_8]
  unfold outsAt0
  frame_out
  obtain ⟨r, j, rfl⟩ : ∃ (r : Fin 512) (j : Fin 512), y = ix2 r j := ⟨y 0, y 1, eq_ix2 y⟩
  have hN : t.val < 32 := t.isLt
  have e : ((View.whole main_v2_3).slice (win0_8.rect t)).emb (ix2 r j) = ix2 (⟨512 * t.val + r.val, by omega⟩ : Fin 16384) j := by
    blk_ext [iblk, V, idx t]
  rw [e, pay8_at]
  refine entry m c t r _ _ _ ⟨1280 + j.val, by omega⟩ (rows m c t r) (fun k => ?_) ?_
  · pointwise
    blk_ext [iblk, V, idx t]
  · pointwise
    exact bias m c t _

theorem final9 (c : Dev nD) : (dats m 0 c).arrAt 9 (cfgs 0).N = cols m c 1792 256 (by decide) := by
  refine (dats m 0 c).arrAt_eq_of_covers 9 _ (by decide +kernel) fun t _ y => ?_
  blk_simp
  rw [after0_9]
  unfold outsAt0
  frame_out
  obtain ⟨r, j, rfl⟩ : ∃ (r : Fin 512) (j : Fin 256), y = ix2 r j := ⟨y 0, y 1, eq_ix2 y⟩
  have hN : t.val < 32 := t.isLt
  have e : ((View.whole main_v2_4).slice (win0_9.rect t)).emb (ix2 r j) = ix2 (⟨512 * t.val + r.val, by omega⟩ : Fin 16384) j := by
    blk_ext [iblk, V, idx t]
  rw [e, pay9_at]
  refine entry m c t r _ _ _ ⟨1792 + j.val, by omega⟩ (rows m c t r) (fun k => ?_) ?_
  · pointwise
    blk_ext [iblk, V, idx t]
  · pointwise
    exact bias m c t _

theorem final10 (c : Dev nD) : (dats m 0 c).arrAt 10 (cfgs 0).N = cols m c 2048 512 (by decide) := by
  refine (dats m 0 c).arrAt_eq_of_covers 10 _ (by decide +kernel) fun t _ y => ?_
  blk_simp
  rw [after0_10]
  unfold outsAt0
  frame_out
  obtain ⟨r, j, rfl⟩ : ∃ (r : Fin 512) (j : Fin 512), y = ix2 r j := ⟨y 0, y 1, eq_ix2 y⟩
  have hN : t.val < 32 := t.isLt
  have e : ((View.whole main_v2_5).slice (win0_10.rect t)).emb (ix2 r j) = ix2 (⟨512 * t.val + r.val, by omega⟩ : Fin 16384) j := by
    blk_ext [iblk, V, idx t]
  rw [e, pay10_at]
  refine entry m c t r _ _ _ ⟨2048 + j.val, by omega⟩ (rows m c t r) (fun k => ?_) ?_
  · pointwise
    blk_ext [iblk, V, idx t]
  · pointwise
    exact bias m c t _

theorem final11 (c : Dev nD) : (dats m 0 c).arrAt 11 (cfgs 0).N = cols m c 2560 64 (by decide) := by
  refine (dats m 0 c).arrAt_eq_of_covers 11 _ (by decide +kernel) fun t _ y => ?_
  blk_simp
  rw [after0_11]
  unfold outsAt0
  frame_out
  obtain ⟨r, j, rfl⟩ : ∃ (r : Fin 512) (j : Fin 64), y = ix2 r j := ⟨y 0, y 1, eq_ix2 y⟩
  have hN : t.val < 32 := t.isLt
  have e : ((View.whole main_v2_6).slice (win0_11.rect t)).emb (ix2 r j) = ix2 (⟨512 * t.val + r.val, by omega⟩ : Fin 16384) j := by
    blk_ext [iblk, V, idx t]
  rw [e, pay11_at]
  refine entry m c t r _ _ _ ⟨2560 + j.val, by omega⟩ (rows m c t r) (fun k => ?_) ?_
  · pointwise
    blk_ext [iblk, V, idx t]
  · pointwise
    exact bias m c t _

theorem final12 (c : Dev nD) : (dats m 0 c).arrAt 12 (cfgs 0).N = cols m c 2688 128 (by decide) := by
  refine (dats m 0 c).arrAt_eq_of_covers 12 _ (by decide +kernel) fun t _ y => ?_
  blk_simp
  rw [after0_12]
  unfold outsAt0
  frame_out
  obtain ⟨r, j, rfl⟩ : ∃ (r : Fin 512) (j : Fin 128), y = ix2 r j := ⟨y 0, y 1, eq_ix2 y⟩
  have hN : t.val < 32 := t.isLt
  have e : ((View.whole main_v2_7).slice (win0_12.rect t)).emb (ix2 r j) = ix2 (⟨512 * t.val + r.val, by omega⟩ : Fin 16384) j := by
    blk_ext [iblk, V, idx t]
  rw [e, pay1_at]
  refine entry m c t r _ _ _ ⟨2688 + j.val, by omega⟩ (rows m c t r) (fun k => ?_) ?_
  · pointwise
    blk_ext [iblk, V, idx t]
  · pointwise
    exact bias m c t _

end Cert.Proof.InEvenArr
end
-- ==== Proof.InEvenRef.lean ====
module

public import proofs.«01_k».proof.Proof.Gen.InEvenReferenceIdeal.Run
public import proofs.«01_k».proof.Proof.InSpec
public import Idealize.ShloMosaic.Lib.Pointwise

/-! The reference of the input projection of an even layer computes the formula of InSpec. -/

@[expose] public section
set_option maxRecDepth 16384
noncomputable section
namespace Cert.Proof.InEvenRef
open Idealize.ShloMosaic Idealize.ShloMosaic.TcCoe Idealize.SL.Sem
open Cert.InEvenReferenceIdeal Cert.InEvenReferenceIdeal.Value Cert.InEvenReferenceIdeal.Gen

/-- The whole projection as the reference's operations compose it. -/
def composed (x : FVec Ideal S16384x1024 .f32) (md : FVec Ideal S4x6x1024 .f32) (g : FVec Ideal S1024 .f32)
    (w : FVec Ideal S1024x2816 .bf16) (b : FVec Ideal S2816 .f32) : FVec Ideal S16384x2816 .f32 :=
  shapeCast S16384x2816 (addf (Host.dotGeneral dot_S4x4096x1024_S1024x2816_S4x4096x2816_2_0_01_1_n_n none
    (addf (mulf (mulf (mulf (shapeCast S4x4096x1024 x shapeCasts_S16384x1024_S4x4096x1024)
      (broadcastInDim S4x4096x1024 ![0, 1, 2] bcast_S4x4096x1_S4x4096x1024_0_1_2 (Host.rsqrt (addf (Host.divf
        (broadcastInDim S4x4096x1 ![0, 1] bcast_S4x4096_S4x4096x1_0_1 (Host.reduceAdd
          (mulf (shapeCast S4x4096x1024 x shapeCasts_S16384x1024_S4x4096x1024) (shapeCast S4x4096x1024 x shapeCasts_S16384x1024_S4x4096x1024))
          (constant S_ .f32 0x00000000#32) reducesTo_S4x4096x1024_S4x4096_d2 h_S_))
        (broadcastInDim S4x4096x1 ![] bcast_S_S4x4096x1 (constant S_ .f32 0x44800000#32)))
        (broadcastInDim S4x4096x1 ![] bcast_S_S4x4096x1 (constant S_ .f32 0x358637BD#32))))))
      (broadcastInDim S4x4096x1024 ![0, 1, 2] bcast_S1x1x1024_S4x4096x1024_0_1_2 (broadcastInDim S1x1x1024 ![2] bcast_S1024_S1x1x1024_2 g)))
      (broadcastInDim S4x4096x1024 ![0, 1, 2] bcast_S4x1x1024_S4x4096x1024_0_1_2
        (addf (broadcastInDim S4x1x1024 ![] bcast_S_S4x1x1024 (constant S_ .f32 0x3F800000#32))
          (extractStridedSlice S4x1x1024 ![0, 1, 0] md slices_S4x6x1024_S4x1x1024_0_1_0))))
      (broadcastInDim S4x4096x1024 ![0, 1, 2] bcast_S4x1x1024_S4x4096x1024_0_1_2
        (extractStridedSlice S4x1x1024 ![0, 0, 0] md slices_S4x6x1024_S4x1x1024_0_0_0)))
    (extf .f32 w bitsLt_bf16_f32))
    (broadcastInDim S4x4096x2816 ![0, 1, 2] bcast_S1x1x2816_S4x4096x2816_0_1_2 (broadcastInDim S1x1x2816 ![2] bcast_S2816_S1x1x2816_2 b)))
    shapeCasts_S4x4096x2816_S16384x2816

set_option maxHeartbeats 4000000 in
theorem composed_eq (x : FVec Ideal S16384x1024 .f32) (md : FVec Ideal S4x6x1024 .f32) (g : FVec Ideal S1024 .f32)
    (w : FVec Ideal S1024x2816 .bf16) (b : FVec Ideal S2816 .f32) (i : Fin 16384) (j : Fin 2816) :
    (composed x md g w b (ix2 i j) : EReal) = InSpec.out x md g w b i j := by
  pointwise [composed]
  rfl

/-- A slice of the columns of the projection. -/
theorem slice_eq (x : FVec Ideal S16384x1024 .f32) (md : FVec Ideal S4x6x1024 .f32) (g : FVec Ideal S1024 .f32)
    (w : FVec Ideal S1024x2816 .bf16) (b : FVec Ideal S2816 .f32) (o n : Nat) (h : o + n ≤ 2816)
    (hs : S16384x2816.Slices ![0, o] ⟨2, ![16384, n]⟩) :
    (extractStridedSlice ⟨2, ![16384, n]⟩ ![0, o] (composed x md g w b) hs : FVec Ideal ⟨2, ![16384, n]⟩ .f32)
      = InSpec.cols x md g w b o n h := by
  funext i
  obtain ⟨i, j, rfl⟩ : ∃ (a : Fin 16384) (b : Fin n), i = ix2 a b := ⟨i 0, i 1, eq_ix2 i⟩
  refine Eq.trans ?_ (composed_eq x md g w b i ⟨o + j.val, by omega⟩)
  pointwise

abbrev cols (m : (ℓ : Loc nD τ sig) → Buf (Elt Ideal) ℓ) (c : Dev nD) (o n : Nat) (h : o + n ≤ 2816) : FVec Ideal ⟨2, ![16384, n]⟩ .f32 :=
  InSpec.cols (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) o n h

set_option maxHeartbeats 8000000 in
/-- Every run of the reference ends with the formula's columns as its results and with its arguments unchanged. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v28) = cols m c 0 512 (by decide)
      ∧ r.2.mem ((c.tc : Thread nD τ).loc main_v29) = cols m c 512 512 (by decide)
      ∧ r.2.mem ((c.tc : Thread nD τ).loc main_v30) = cols m c 1024 256 (by decide)
      ∧ r.2.mem ((c.tc : Thread nD τ).loc main_v31) = cols m c 1280 512 (by decide)
      ∧ r.2.mem ((c.tc : Thread nD τ).loc main_v32) = cols m c 1792 256 (by decide)
      ∧ r.2.mem ((c.tc : Thread nD τ).loc main_v33) = cols m c 2048 512 (by decide)
      ∧ r.2.mem ((c.tc : Thread nD τ).loc main_v34) = cols m c 2560 64 (by decide)
      ∧ r.2.mem ((c.tc : Thread nD τ).loc main_v36) = cols m c 2688 128 (by decide)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (run m ρ)
  obtain ⟨h0, h1, h2, h3, h4, h5, h6, h7, hr⟩ := h c
  exact ⟨h0.trans (slice_eq _ _ _ _ _ 0 512 (by decide) _), h1.trans (slice_eq _ _ _ _ _ 512 512 (by decide) _),
    h2.trans (slice_eq _ _ _ _ _ 1024 256 (by decide) _), h3.trans (slice_eq _ _ _ _ _ 1280 512 (by decide) _),
    h4.trans (slice_eq _ _ _ _ _ 1792 256 (by decide) _), h5.trans (slice_eq _ _ _ _ _ 2048 512 (by decide) _),
    h6.trans (slice_eq _ _ _ _ _ 2560 64 (by decide) _), h7.trans (slice_eq _ _ _ _ _ 2688 128 (by decide) _), hr⟩
end Cert.Proof.InEvenRef
end
-- ==== Proof.InOddArr.lean ====
module

public import proofs.«01_k».proof.Proof.Gen.InOddIdeal.Value
public import proofs.«01_k».proof.Proof.InSpec
public import Idealize.ShloMosaic.Lib.Pipeline.ValueKit
public import Idealize.ShloMosaic.Lib.Pipeline.ReadBack

/-! The result arrays of the input projection of an odd layer. -/

@[expose] public section
set_option maxRecDepth 16384
noncomputable section
namespace Cert.Proof.InOddArr
open Idealize.ShloMosaic Idealize.ShloMosaic.TcCoe Idealize.SL.Sem
open Idealize.ShloMosaic.Pipeline (Dat)
open Cert.InOddIdeal Cert.InOddIdeal.Gen
variable (m : (ℓ : Loc nD τ sig) → Buf (Elt Ideal) ℓ)

theorem idx : ∀ t : Fin cfg0.N, win0_0.index t = ![t.val, 0] ∧ win0_1.index t = ![t.val/8, 0, 0]
   ∧ win0_2.index t = ![0, 0] ∧ win0_3.index t = ![0,0] ∧ win0_4.index t = ![0, 0] ∧ win0_5.index t = ![t.val, 0]
   ∧ win0_6.index t = ![t.val, 0] ∧ win0_7.index t = ![t.val, 0] ∧ win0_8.index t = ![t.val, 0] ∧ win0_9.index t = ![t.val, 0]
   ∧ win0_10.index t = ![t.val, 0] :=
  (by decide +kernel : ∀ t : Fin grid0.N, _)

/-- The normalised rows of point `t`, from its blocks. -/
theorem rows (c : Dev nD) (t : Fin cfg0.N) (r : Fin 512) (k : Fin 1024) :
    (k0_pay3 (iblk m c 0 t) (iblk m c 2 t)
      (View.ld (iblk m c 1 t) (Rect.unit ![0, 0, 0] ![1, 1, 1024] inb_S1x6x1024_S1x1x1024_0_0_0))
      (View.ld (iblk m c 1 t) (Rect.unit ![0, 1, 0] ![1, 1, 1024] inb_S1x6x1024_S1x1x1024_0_1_0)) (ix2 r k) : EReal)
    = InSpec.norm (m ((c : Thread nD τ).loc main_arg0)) (m ((c : Thread nD τ).loc main_arg1))
      (m ((c : Thread nD τ).loc main_arg2)) ⟨512 * t.val + r.val, by have : t.val < 32 := t.isLt; omega⟩ k := by
  have hN : t.val < 32 := t.isLt
  have e : (512 * t.val + r.val) / 4096 = t.val / 8 := by omega
  unfold InSpec.norm
  simp only [e]
  pointwise [k0_pay3]
  blk_point [iblk, V, idx t]

/-- A product of the rows with columns of the weight, with the bias added, is the projection's entry. -/
theorem entry (c : Dev nD) (t : Fin cfg0.N) (r : Fin 512) (h w : Fin 1024 → EReal) (b : EReal) (j : Fin 2432)
    (hh : ∀ k, h k = InSpec.norm (m ((c : Thread nD τ).loc main_arg0)) (m ((c : Thread nD τ).loc main_arg1))
      (m ((c : Thread nD τ).loc main_arg2)) ⟨512 * t.val + r.val, by have : t.val < 32 := t.isLt; omega⟩ k)
    (hw : ∀ k, w k = m ((c : Thread nD τ).loc main_arg3) (ix2 k j)) (hb : b = m ((c : Thread nD τ).loc main_arg4) (ix1 j)) :
    ∑ k : Fin 1024, h k * w k + b = InSpec.out (m ((c : Thread nD τ).loc main_arg0)) (m ((c : Thread nD τ).loc main_arg1))
      (m ((c : Thread nD τ).loc main_arg2)) (m ((c : Thread nD τ).loc main_arg3)) (m ((c : Thread nD τ).loc main_arg4))
      ⟨512 * t.val + r.val, by have : t.val < 32 := t.isLt; omega⟩ j := by
  unfold InSpec.out
  rw [hb]
  exact congrArg (· + _) (Finset.sum_congr rfl fun k _ => congrArg₂ (· * ·) (hh k) (hw k))

theorem bias (c : Dev nD) (t : Fin cfg0.N) (j : Fin 2432) :
    (iblk m c 4 t (ix2 0 j) : EReal) = m ((c : Thread nD τ).loc main_arg4) (ix1 j) := by
  blk_point [iblk, V, idx t]

theorem pay6_at (h : Vec Ideal S512x1024 .bf16) (w : Vec Ideal S1024x512 .bf16) (b : Vec Ideal S1x512 .f32) (r : Fin 512) (j : Fin 512) :
    (k0_pay6 (k0_pay4 h w) (k0_pay5 b) (ix2 r j) : EReal) = ∑ k : Fin 1024, h (ix2 r k) * w (ix2 k j) + b (ix2 0 j) := by
  pointwise [k0_pay6, k0_pay4, k0_pay5]
theorem pay7_at (h : Vec Ideal S512x1024 .bf16) (w : Vec Ideal S1024x512 .bf16) (b : Vec Ideal S1x512 .f32) (r : Fin 512) (j : Fin 512) :
    (k0_pay7 h w b (ix2 r j) : EReal) = ∑ k : Fin 1024, h (ix2 r k) * w (ix2 k j) + b (ix2 0 j) := by
  pointwise [k0_pay7]
theorem pay8_at (h : Vec Ideal S512x1024 .bf16) (w : Vec Ideal S1024x512 .bf16) (b : Vec Ideal S1x512 .f32) (r : Fin 512) (j : Fin 512) :
    (k0_pay8 h w b (ix2 r j) : EReal) = ∑ k : Fin 1024, h (ix2 r k) * w (ix2 k j) + b (ix2 0 j) := pay7_at h w b r j
theorem pay9_at (h : Vec Ideal S512x1024 .bf16) (w : Vec Ideal S1024x512 .bf16) (b : Vec Ideal S1x512 .f32) (r : Fin 512) (j : Fin 512) :
    (k0_pay9 h w b (ix2 r j) : EReal) = ∑ k : Fin 1024, h (ix2 r k) * w (ix2 k j) + b (ix2 0 j) := pay7_at h w b r j
theorem pay1_at (h : Vec Ideal S512x1024 .bf16) (w : Vec Ideal S1024x256 .bf16) (b : Vec Ideal S1x256 .f32) (r : Fin 512) (j : Fin 256) :
    (k0_pay1 h w b (ix2 r j) : EReal) = ∑ k : Fin 1024, h (ix2 r k) * w (ix2 k j) + b (ix2 0 j) := by
  pointwise [k0_pay1]
theorem pay2_at (h : Vec Ideal S512x1024 .bf16) (w : Vec Ideal S1024x128 .bf16) (b : Vec Ideal S1x128 .f32) (r : Fin 512) (j : Fin 128) :
    (k0_pay2 h w b (ix2 r j) : EReal) = ∑ k : Fin 1024, h (ix2 r k) * w (ix2 k j) + b (ix2 0 j) := by
  pointwise [k0_pay2]

/-- The columns `o`, …, `o + n - 1` of the projection of the arguments. -/
abbrev cols (c : Dev nD) (o n : Nat) (h : o + n ≤ 2432) : FVec Ideal ⟨2, ![16384, n]⟩ .f32 :=
  InSpec.cols (m ((c : Thread nD τ).loc main_arg0)) (m ((c : Thread nD τ).loc main_arg1))
    (m ((c : Thread nD τ).loc main_arg2)) (m ((c : Thread nD τ).loc main_arg3)) (m ((c : Thread nD τ).loc main_arg4)) o n h

theorem final5 (c : Dev nD) : (dats m 0 c).arrAt 5 (cfgs 0).N = cols m c 0 512 (by decide) := by
  refine (dats m 0 c).arrAt_eq_of_covers 5 _ (by decide +kernel) fun t _ y => ?_
  blk_simp
  rw [after0_5]
  unfold outsAt0
  frame_out
  obtain ⟨r, j, rfl⟩ : ∃ (r : Fin 512) (j : Fin 512), y = ix2 r j := ⟨y 0, y 1, eq_ix2 y⟩
  have hN : t.val < 32 := t.isLt
  have e : ((View.whole main_v2_0).slice (win0_5.rect t)).emb (ix2 r j) = ix2 (⟨512 * t.val + r.val, by omega⟩ : Fin 16384) j := by
    blk_ext [iblk, V, idx t]
  rw [e, pay6_at]
  refine entry m c t r _ _ _ ⟨0 + j.val, by omega⟩ (rows m c t r) (fun k => ?_) ?_
  · pointwise
    blk_ext [iblk, V, idx t]
  · pointwise
    exact bias m c t _

theorem final6 (c : Dev nD) : (dats m 0 c).arrAt 6 (cfgs 0).N = cols m c 512 512 (by decide) := by
  refine (dats m 0 c).arrAt_eq_of_covers 6 _ (by decide +kernel) fun t _ y => ?_
  blk_simp
  rw [after0_6]
  unfold outsAt0
  frame_out
  obtain ⟨r, j, rfl⟩ : ∃ (r : Fin 512) (j : Fin 512), y = ix2 r j := ⟨y 0, y 1, eq_ix2 y⟩
  have hN : t.val < 32 := t.isLt
  have e : ((View.whole main_v2_1).slice (win0_6.rect t)).emb (ix2 r j) = ix2 (⟨512 * t.val + r.val, by omega⟩ : Fin 16384) j := by
    blk_ext [iblk, V, idx t]
  rw [e, pay7_at]
  refine entry m c t r _ _ _ ⟨512 + j.val, by omega⟩ (rows m c t r) (fun k => ?_) ?_
  · pointwise
    blk_ext [iblk, V, idx t]
  · pointwise
    exact bias m c t _

theorem final7 (c : Dev nD) : (dats m 0 c).arrAt 7 (cfgs 0).N = cols m c 1024 512 (by decide) := by
  refine (dats m 0 c).arrAt_eq_of_covers 7 _ (by decide +kernel) fun t _ y => ?_
  blk_simp
  rw [after0_7]
  unfold outsAt0
  frame_out
  obtain ⟨r, j, rfl⟩ : ∃ (r : Fin 512) (j : Fin 512), y = ix2 r j := ⟨y 0, y 1, eq_ix2 y⟩
  have hN : t.val < 32 := t.isLt
  have e : ((View.whole main_v2_2).slice (win0_7.rect t)).emb (ix2 r j) = ix2 (⟨512 * t.val + r.val, by omega⟩ : Fin 16384) j := by
    blk_ext [iblk, V, idx t]
  rw [e, pay8_at]
  refine entry m c t r _ _ _ ⟨1024 + j.val, by omega⟩ (rows m c t r) (fun k => ?_) ?_
  · pointwise
    blk_ext [iblk, V, idx t]
  · pointwise
    exact bias m c t _

theorem final8 (c : Dev nD) : (dats m 0 c).arrAt 8 (cfgs 0).N = cols m c 1536 512 (by decide) := by
  refine (dats m 0 c).arrAt_eq_of_covers 8 _ (by decide +kernel) fun t _ y => ?_
  blk_simp
  rw [after0_8]
  unfold outsAt0
  frame_out
  obtain ⟨r, j, rfl⟩ : ∃ (r : Fin 512) (j : Fin 512), y = ix2 r j := ⟨y 0, y 1, eq_ix2 y⟩
  have hN : t.val < 32 := t.isLt
  have e : ((View.whole main_v2_3).slice (win0_8.rect t)).emb (ix2 r j) = ix2 (⟨512 * t.val + r.val, by omega⟩ : Fin 16384) j := by
    blk_ext [iblk, V, idx t]
  rw [e, pay9_at]
  refine entry m c t r _ _ _ ⟨1536 + j.val, by omega⟩ (rows m c t r) (fun k => ?_) ?_
  · pointwise
    blk_ext [iblk, V, idx t]
  · pointwise
    exact bias m c t _

theorem final9 (c : Dev nD) : (dats m 0 c).arrAt 9 (cfgs 0).N = cols m c 2048 256 (by decide) := by
  refine (dats m 0 c).arrAt_eq_of_covers 9 _ (by decide +kernel) fun t _ y => ?_
  blk_simp
  rw [after0_9]
  unfold outsAt0
  frame_out
  obtain ⟨r, j, rfl⟩ : ∃ (r : Fin 512) (j : Fin 256), y = ix2 r j := ⟨y 0, y 1, eq_ix2 y⟩
  have hN : t.val < 32 := t.isLt
  have e : ((View.whole main_v2_4).slice (win0_9.rect t)).emb (ix2 r j) = ix2 (⟨512 * t.val + r.val, by omega⟩ : Fin 16384) j := by
    blk_ext [iblk, V, idx t]
  rw [e, pay1_at]
  refine entry m c t r _ _ _ ⟨2048 + j.val, by omega⟩ (rows m c t r) (fun k => ?_) ?_
  · pointwise
    blk_ext [iblk, V, idx t]
  · pointwise
    exact bias m c t _

theorem final10 (c : Dev nD) : (dats m 0 c).arrAt 10 (cfgs 0).N = cols m c 2304 128 (by decide) := by
  refine (dats m 0 c).arrAt_eq_of_covers 10 _ (by decide +kernel) fun t _ y => ?_
  blk_simp
  rw [after0_10]
  unfold outsAt0
  frame_out
  obtain ⟨r, j, rfl⟩ : ∃ (r : Fin 512) (j : Fin 128), y = ix2 r j := ⟨y 0, y 1, eq_ix2 y⟩
  have hN : t.val < 32 := t.isLt
  have e : ((View.whole main_v2_5).slice (win0_10.rect t)).emb (ix2 r j) = ix2 (⟨512 * t.val + r.val, by omega⟩ : Fin 16384) j := by
    blk_ext [iblk, V, idx t]
  rw [e, pay2_at]
  refine entry m c t r _ _ _ ⟨2304 + j.val, by omega⟩ (rows m c t r) (fun k => ?_) ?_
  · pointwise
    blk_ext [iblk, V, idx t]
  · pointwise
    exact bias m c t _

end Cert.Proof.InOddArr
end
-- ==== Proof.InOddRef.lean ====
module

public import proofs.«01_k».proof.Proof.Gen.InOddReferenceIdeal.Run
public import proofs.«01_k».proof.Proof.InSpec
public import Idealize.ShloMosaic.Lib.Pointwise

/-! The reference of the input projection of an odd layer computes the formula of InSpec. -/

@[expose] public section
set_option maxRecDepth 16384
noncomputable section
namespace Cert.Proof.InOddRef
open Idealize.ShloMosaic Idealize.ShloMosaic.TcCoe Idealize.SL.Sem
open Cert.InOddReferenceIdeal Cert.InOddReferenceIdeal.Value Cert.InOddReferenceIdeal.Gen

/-- The whole projection as the reference's operations compose it. -/
def composed (x : FVec Ideal S16384x1024 .f32) (md : FVec Ideal S4x6x1024 .f32) (g : FVec Ideal S1024 .f32)
    (w : FVec Ideal S1024x2432 .bf16) (b : FVec Ideal S2432 .f32) : FVec Ideal S16384x2432 .f32 :=
  shapeCast S16384x2432 (addf (Host.dotGeneral dot_S4x4096x1024_S1024x2432_S4x4096x2432_2_0_01_1_n_n none
    (addf (mulf (mulf (mulf (shapeCast S4x4096x1024 x shapeCasts_S16384x1024_S4x4096x1024)
      (broadcastInDim S4x4096x1024 ![0, 1, 2] bcast_S4x4096x1_S4x4096x1024_0_1_2 (Host.rsqrt (addf (Host.divf
        (broadcastInDim S4x4096x1 ![0, 1] bcast_S4x4096_S4x4096x1_0_1 (Host.reduceAdd
          (mulf (shapeCast S4x4096x1024 x shapeCasts_S16384x1024_S4x4096x1024) (shapeCast S4x4096x1024 x shapeCasts_S16384x1024_S4x4096x1024))
          (constant S_ .f32 0x00000000#32) reducesTo_S4x4096x1024_S4x4096_d2 h_S_))
        (broadcastInDim S4x4096x1 ![] bcast_S_S4x4096x1 (constant S_ .f32 0x44800000#32)))
        (broadcastInDim S4x4096x1 ![] bcast_S_S4x4096x1 (constant S_ .f32 0x358637BD#32))))))
      (broadcastInDim S4x4096x1024 ![0, 1, 2] bcast_S1x1x1024_S4x4096x1024_0_1_2 (broadcastInDim S1x1x1024 ![2] bcast_S1024_S1x1x1024_2 g)))
      (broadcastInDim S4x4096x1024 ![0, 1, 2] bcast_S4x1x1024_S4x4096x1024_0_1_2
        (addf (broadcastInDim S4x1x1024 ![] bcast_S_S4x1x1024 (constant S_ .f32 0x3F800000#32))
          (extractStridedSlice S4x1x1024 ![0, 1, 0] md slices_S4x6x1024_S4x1x1024_0_1_0))))
      (broadcastInDim S4x4096x1024 ![0, 1, 2] bcast_S4x1x1024_S4x4096x1024_0_1_2
        (extractStridedSlice S4x1x1024 ![0, 0, 0] md slices_S4x6x1024_S4x1x1024_0_0_0)))
    (extf .f32 w bitsLt_bf16_f32))
    (broadcastInDim S4x4096x2432 ![0, 1, 2] bcast_S1x1x2432_S4x4096x2432_0_1_2 (broadcastInDim S1x1x2432 ![2] bcast_S2432_S1x1x2432_2 b)))
    shapeCasts_S4x4096x2432_S16384x2432

set_option maxHeartbeats 4000000 in
theorem composed_eq (x : FVec Ideal S16384x1024 .f32) (md : FVec Ideal S4x6x1024 .f32) (g : FVec Ideal S1024 .f32)
    (w : FVec Ideal S1024x2432 .bf16) (b : FVec Ideal S2432 .f32) (i : Fin 16384) (j : Fin 2432) :
    (composed x md g w b (ix2 i j) : EReal) = InSpec.out x md g w b i j := by
  pointwise [composed]
  rfl

/-- A slice of the columns of the projection. -/
theorem slice_eq (x : FVec Ideal S16384x1024 .f32) (md : FVec Ideal S4x6x1024 .f32) (g : FVec Ideal S1024 .f32)
    (w : FVec Ideal S1024x2432 .bf16) (b : FVec Ideal S2432 .f32) (o n : Nat) (h : o + n ≤ 2432)
    (hs : S16384x2432.Slices ![0, o] ⟨2, ![16384, n]⟩) :
    (extractStridedSlice ⟨2, ![16384, n]⟩ ![0, o] (composed x md g w b) hs : FVec Ideal ⟨2, ![16384, n]⟩ .f32)
      = InSpec.cols x md g w b o n h := by
  funext i
  obtain ⟨i, j, rfl⟩ : ∃ (a : Fin 16384) (b : Fin n), i = ix2 a b := ⟨i 0, i 1, eq_ix2 i⟩
  refine Eq.trans ?_ (composed_eq x md g w b i ⟨o + j.val, by omega⟩)
  pointwise

abbrev cols (m : (ℓ : Loc nD τ sig) → Buf (Elt Ideal) ℓ) (c : Dev nD) (o n : Nat) (h : o + n ≤ 2432) : FVec Ideal ⟨2, ![16384, n]⟩ .f32 :=
  InSpec.cols (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) o n h

set_option maxHeartbeats 8000000 in
/-- Every run of the reference ends with the formula's columns as its results and with its arguments unchanged. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v28) = cols m c 0 512 (by decide)
      ∧ r.2.mem ((c.tc : Thread nD τ).loc main_v29) = cols m c 512 512 (by decide)
      ∧ r.2.mem ((c.tc : Thread nD τ).loc main_v30) = cols m c 1024 512 (by decide)
      ∧ r.2.mem ((c.tc : Thread nD τ).loc main_v31) = cols m c 1536 512 (by decide)
      ∧ r.2.mem ((c.tc : Thread nD τ).loc main_v32) = cols m c 2048 256 (by decide)
      ∧ r.2.mem ((c.tc : Thread nD τ).loc main_v33) = cols m c 2304 128 (by decide)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (run m ρ)
  obtain ⟨h0, h1, h2, h3, h4, h5, hr⟩ := h c
  exact ⟨h0.trans (slice_eq _ _ _ _ _ 0 512 (by decide) _), h1.trans (slice_eq _ _ _ _ _ 512 512 (by decide) _),
    h2.trans (slice_eq _ _ _ _ _ 1024 512 (by decide) _), h3.trans (slice_eq _ _ _ _ _ 1536 512 (by decide) _),
    h4.trans (slice_eq _ _ _ _ _ 2048 256 (by decide) _), h5.trans (slice_eq _ _ _ _ _ 2304 128 (by decide) _), hr⟩
end Cert.Proof.InOddRef
end
-- ==== Proof.OutSpec.lean ====
module

public import Idealize.ShloMosaic.Lib.Pointwise

/-! The output projection of a layer as a formula: two halves of the heads' outputs times the two halves of a weight,
    scaled by the batch's gate and added to the residual stream. -/

@[expose] public section
set_option maxRecDepth 16384
noncomputable section
namespace Cert.Proof.OutSpec
open Idealize.ShloMosaic Idealize.ShloMosaic.TcCoe

/-- Entry `j` of row `i` of the result; `a` and `b` are the two halves of the heads' outputs. -/
def out (a b : Fin 16384 → Fin 512 → EReal) (x : FVec Ideal ⟨2, ![16384, 1024]⟩ .f32) (md : FVec Ideal ⟨3, ![4, 6, 1024]⟩ .f32)
    (w : FVec Ideal ⟨2, ![1024, 1024]⟩ .bf16) (i : Fin 16384) (j : Fin 1024) : EReal :=
  x (ix2 i j) + md (ix3 ⟨i.val / 4096, by omega⟩ 2 j) *
    (∑ k : Fin 512, a i k * w (ix2 ⟨k.val, by omega⟩ j) + ∑ k : Fin 512, b i k * w (ix2 ⟨512 + k.val, by omega⟩ j))

/-- The whole result. -/
def result (a b : Fin 16384 → Fin 512 → EReal) (x : FVec Ideal ⟨2, ![16384, 1024]⟩ .f32) (md : FVec Ideal ⟨3, ![4, 6, 1024]⟩ .f32)
    (w : FVec Ideal ⟨2, ![1024, 1024]⟩ .bf16) : FVec Ideal ⟨2, ![16384, 1024]⟩ .f32 := fun i => out a b x md w (i 0) (i 1)

/-- The sum of three arrays of heads' outputs, entry by entry. -/
def sum3 (a b c : FVec Ideal ⟨2, ![16384, 512]⟩ .f32) (i : Fin 16384) (k : Fin 512) : EReal := a (ix2 i k) + b (ix2 i k) + c (ix2 i k)

end Cert.Proof.OutSpec
end
-- ==== Proof.OutEvenArr.lean ====
module

public import proofs.«01_k».proof.Proof.Gen.OutEvenIdeal.Value
public import proofs.«01_k».proof.Proof.OutSpec
public import Idealize.ShloMosaic.Lib.Pipeline.ValueKit

/-! The result array of the output projection of an even layer. -/

@[expose] public section
set_option maxRecDepth 16384
noncomputable section
namespace Cert.Proof.OutEvenArr
open Idealize.ShloMosaic Idealize.ShloMosaic.TcCoe Idealize.SL.Sem
open Idealize.ShloMosaic.Pipeline (Dat)
open Cert.OutEvenIdeal Cert.OutEvenIdeal.Gen
variable (m : (ℓ : Loc nD τ sig) → Buf (Elt Ideal) ℓ)

theorem idx : ∀ t : Fin cfg0.N, win0_0.index t = ![t.val, 0] ∧ win0_1.index t = ![t.val, 0]
   ∧ win0_2.index t = ![t.val, 0] ∧ win0_3.index t = ![t.val, 0] ∧ win0_4.index t = ![t.val, 0] ∧ win0_5.index t = ![t.val/8, 0, 0]
   ∧ win0_6.index t = ![0, 0] ∧ win0_7.index t = ![t.val, 0] :=
  (by decide +kernel : ∀ t : Fin grid0.N, _)

theorem pay1_at (a a1 a2 b : Vec Ideal S512x512 .f32) (u v : Vec Ideal S512x1024 .bf16) (x : Vec Ideal S512x1024 .f32)
    (d : Vec Ideal S1x1x1024 .f32) (r : Fin 512) (j : Fin 1024) :
    (k0_pay1 a a1 a2 u b v x d (ix2 r j) : EReal) = x (ix2 r j) + d (ix3 0 0 j)
      * (∑ k : Fin 512, (a (ix2 r k) + a1 (ix2 r k) + a2 (ix2 r k)) * u (ix2 k j) + ∑ k : Fin 512, b (ix2 r k) * v (ix2 k j)) := by
  pointwise [k0_pay1]

theorem final (c : Dev nD) : (dats m 0 c).arrAt 7 (cfgs 0).N
    = OutSpec.result (OutSpec.sum3 (m ((c : Thread nD τ).loc main_arg0)) (m ((c : Thread nD τ).loc main_arg1)) (m ((c : Thread nD τ).loc main_arg2)))
      (fun i k => m ((c : Thread nD τ).loc main_arg3) (ix2 i k))
      (m ((c : Thread nD τ).loc main_arg4)) (m ((c : Thread nD τ).loc main_arg5)) (m ((c : Thread nD τ).loc main_arg6)) := by
  refine (dats m 0 c).arrAt_eq_of_covers 7 _ (by decide +kernel) fun t _ y => ?_
  blk_simp
  rw [after0_7]
  frame_out
  obtain ⟨r, j, rfl⟩ : ∃ (r : Fin 512) (j : Fin 1024), y = ix2 r j := ⟨y 0, y 1, eq_ix2 y⟩
  have hN : t.val < 32 := t.isLt
  have e : ((View.whole main_v0).slice (win0_7.rect t)).emb (ix2 r j) = ix2 (⟨512 * t.val + r.val, by omega⟩ : Fin 16384) j := by
    blk_ext [iblk, V, idx t]
  have e' : (512 * t.val + r.val) / 4096 = t.val / 8 := by omega
  rw [e, pay1_at]
  show _ = OutSpec.out _ _ _ _ _ _ _
  unfold OutSpec.out
  simp only [e']
  refine congrArg₂ (· + ·) ?_ (congrArg₂ (· * ·) ?_ (congrArg₂ (· + ·)
    (Finset.sum_congr rfl fun k _ => congrArg₂ (· * ·) (congrArg₂ (· + ·) (congrArg₂ (· + ·) ?_ ?_) ?_) ?_)
    (Finset.sum_congr rfl fun k _ => congrArg₂ (· * ·) ?_ ?_)))
  · blk_ext [iblk, V, idx t]
  · pointwise
    blk_ext [iblk, V, idx t]
  · blk_ext [iblk, V, idx t]
  · blk_ext [iblk, V, idx t]
  · blk_ext [iblk, V, idx t]
  · pointwise
    blk_ext [iblk, V, idx t]
  · blk_ext [iblk, V, idx t]
  · pointwise
    blk_ext [iblk, V, idx t]
end Cert.Proof.OutEvenArr
end
-- ==== Proof.OutEvenRef.lean ====
module

public import proofs.«01_k».proof.Proof.Gen.OutEvenReferenceIdeal.Run
public import proofs.«01_k».proof.Proof.OutSpec
public import Idealize.ShloMosaic.Lib.Pointwise

/-! The reference of the output projection of an even layer computes the formula of OutSpec. -/

@[expose] public section
set_option maxRecDepth 16384
noncomputable section
namespace Cert.Proof.OutEvenRef
open Idealize.ShloMosaic Idealize.ShloMosaic.TcCoe Idealize.SL.Sem
open Cert.OutEvenReferenceIdeal Cert.OutEvenReferenceIdeal.Value Cert.OutEvenReferenceIdeal.Gen

/-- The reference's result as its operations compose it. -/
def composed (a a1 a2 b : FVec Ideal S16384x512 .f32) (x : FVec Ideal S16384x1024 .f32) (md : FVec Ideal S4x6x1024 .f32)
    (w : FVec Ideal S1024x1024 .bf16) : FVec Ideal S16384x1024 .f32 :=
  shapeCast S16384x1024 (addf (shapeCast S4x4096x1024 x shapeCasts_S16384x1024_S4x4096x1024)
    (mulf (broadcastInDim S4x4096x1024 ![0, 1, 2] bcast_S4x1x1024_S4x4096x1024_0_1_2
      (extractStridedSlice S4x1x1024 ![0, 2, 0] md slices_S4x6x1024_S4x1x1024_0_2_0))
      (shapeCast S4x4096x1024 (Host.dotGeneral dot_S16384x1024_S1024x1024_S16384x1024_1_0_0_1_n_n none
        (concatenate S16384x1024 1 [⟨S16384x512, addf (addf a a1) a2⟩, ⟨S16384x512, b⟩] concatenates_S16384x512_S16384x512_S16384x1024_d1 : FVec Ideal S16384x1024 .f32)
        (extf .f32 w bitsLt_bf16_f32)) shapeCasts_S16384x1024_S4x4096x1024))) shapeCasts_S4x4096x1024_S16384x1024

theorem composed_eq (a a1 a2 b : FVec Ideal S16384x512 .f32) (x : FVec Ideal S16384x1024 .f32) (md : FVec Ideal S4x6x1024 .f32)
    (w : FVec Ideal S1024x1024 .bf16) (i : Fin 16384) (j : Fin 1024) :
    (composed a a1 a2 b x md w (ix2 i j) : EReal) = OutSpec.out (OutSpec.sum3 a a1 a2) (fun i k => b (ix2 i k)) x md w i j := by
  pointwise [composed]
  rfl

/-- Every run of the reference ends with the formula's array as its result and with its arguments unchanged. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v11) = OutSpec.result (OutSpec.sum3 (m ((c.tc : Thread nD τ).loc main_arg0))
          (m ((c.tc : Thread nD τ).loc main_arg1)) (m ((c.tc : Thread nD τ).loc main_arg2)))
        (fun i k => m ((c.tc : Thread nD τ).loc main_arg3) (ix2 i k)) (m ((c.tc : Thread nD τ).loc main_arg4))
        (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ⟨(h c).1.trans ?_, (h c).2⟩) (run m ρ)
  funext i
  obtain ⟨i, j, rfl⟩ : ∃ (a : Fin 16384) (b : Fin 1024), i = ix2 a b := ⟨i 0, i 1, eq_ix2 i⟩
  exact composed_eq _ _ _ _ _ _ _ i j
end Cert.Proof.OutEvenRef
end
-- ==== Proof.OutOddArr.lean ====
module

public import proofs.«01_k».proof.Proof.Gen.OutOddIdeal.Value
public import proofs.«01_k».proof.Proof.OutSpec
public import Idealize.ShloMosaic.Lib.Pipeline.ValueKit

/-! The result array of the output projection of an odd layer. -/

@[expose] public section
set_option maxRecDepth 16384
noncomputable section
namespace Cert.Proof.OutOddArr
open Idealize.ShloMosaic Idealize.ShloMosaic.TcCoe Idealize.SL.Sem
open Idealize.ShloMosaic.Pipeline (Dat)
open Cert.OutOddIdeal Cert.OutOddIdeal.Gen
variable (m : (ℓ : Loc nD τ sig) → Buf (Elt Ideal) ℓ)

theorem idx : ∀ t : Fin cfg0.N, win0_0.index t = ![t.val, 0] ∧ win0_1.index t = ![t.val, 0]
   ∧ win0_2.index t = ![t.val, 0] ∧ win0_3.index t = ![t.val/8, 0, 0] ∧ win0_4.index t = ![0, 0] ∧ win0_5.index t = ![t.val, 0] :=
  (by decide +kernel : ∀ t : Fin grid0.N, _)

theorem pay1_at (a b : Vec Ideal S512x512 .f32) (u v : Vec Ideal S512x1024 .bf16) (x : Vec Ideal S512x1024 .f32)
    (d : Vec Ideal S1x1x1024 .f32) (r : Fin 512) (j : Fin 1024) :
    (k0_pay1 a u b v x d (ix2 r j) : EReal) = x (ix2 r j) + d (ix3 0 0 j)
      * (∑ k : Fin 512, a (ix2 r k) * u (ix2 k j) + ∑ k : Fin 512, b (ix2 r k) * v (ix2 k j)) := by
  pointwise [k0_pay1]

theorem final (c : Dev nD) : (dats m 0 c).arrAt 5 (cfgs 0).N
    = OutSpec.result (fun i k => m ((c : Thread nD τ).loc main_arg0) (ix2 i k)) (fun i k => m ((c : Thread nD τ).loc main_arg1) (ix2 i k))
      (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  frame_out
  obtain ⟨r, j, rfl⟩ : ∃ (r : Fin 512) (j : Fin 1024), y = ix2 r j := ⟨y 0, y 1, eq_ix2 y⟩
  have hN : t.val < 32 := t.isLt
  have e : ((View.whole main_v0).slice (win0_5.rect t)).emb (ix2 r j) = ix2 (⟨512 * t.val + r.val, by omega⟩ : Fin 16384) j := by
    blk_ext [iblk, V, idx t]
  have e' : (512 * t.val + r.val) / 4096 = t.val / 8 := by omega
  rw [e, pay1_at]
  show _ = OutSpec.out _ _ _ _ _ _ _
  unfold OutSpec.out
  simp only [e']
  refine congrArg₂ (· + ·) ?_ (congrArg₂ (· * ·) ?_ (congrArg₂ (· + ·)
    (Finset.sum_congr rfl fun k _ => congrArg₂ (· * ·) ?_ ?_) (Finset.sum_congr rfl fun k _ => congrArg₂ (· * ·) ?_ ?_)))
  · blk_ext [iblk, V, idx t]
  · pointwise
    blk_ext [iblk, V, idx t]
  · blk_ext [iblk, V, idx t]
  · pointwise
    blk_ext [iblk, V, idx t]
  · blk_ext [iblk, V, idx t]
  · pointwise
    blk_ext [iblk, V, idx t]
end Cert.Proof.OutOddArr
end
-- ==== Proof.OutOddRef.lean ====
module

public import proofs.«01_k».proof.Proof.Gen.OutOddReferenceIdeal.Run
public import proofs.«01_k».proof.Proof.OutSpec
public import Idealize.ShloMosaic.Lib.Pointwise

/-! The reference of the output projection of an odd layer computes the formula of OutSpec. -/

@[expose] public section
set_option maxRecDepth 16384
noncomputable section
namespace Cert.Proof.OutOddRef
open Idealize.ShloMosaic Idealize.ShloMosaic.TcCoe Idealize.SL.Sem
open Cert.OutOddReferenceIdeal Cert.OutOddReferenceIdeal.Value Cert.OutOddReferenceIdeal.Gen

/-- The reference's result as its operations compose it. -/
def composed (a b : FVec Ideal S16384x512 .f32) (x : FVec Ideal S16384x1024 .f32) (md : FVec Ideal S4x6x1024 .f32)
    (w : FVec Ideal S1024x1024 .bf16) : FVec Ideal S16384x1024 .f32 :=
  shapeCast S16384x1024 (addf (shapeCast S4x4096x1024 x shapeCasts_S16384x1024_S4x4096x1024)
    (mulf (broadcastInDim S4x4096x1024 ![0, 1, 2] bcast_S4x1x1024_S4x4096x1024_0_1_2
      (extractStridedSlice S4x1x1024 ![0, 2, 0] md slices_S4x6x1024_S4x1x1024_0_2_0))
      (shapeCast S4x4096x1024 (Host.dotGeneral dot_S16384x1024_S1024x1024_S16384x1024_1_0_0_1_n_n none
        (concatenate S16384x1024 1 [⟨S16384x512, a⟩, ⟨S16384x512, b⟩] concatenates_S16384x512_S16384x512_S16384x1024_d1 : FVec Ideal S16384x1024 .f32)
        (extf .f32 w bitsLt_bf16_f32)) shapeCasts_S16384x1024_S4x4096x1024))) shapeCasts_S4x4096x1024_S16384x1024

theorem composed_eq (a b : FVec Ideal S16384x512 .f32) (x : FVec Ideal S16384x1024 .f32) (md : FVec Ideal S4x6x1024 .f32)
    (w : FVec Ideal S1024x1024 .bf16) (i : Fin 16384) (j : Fin 1024) :
    (composed a b x md w (ix2 i j) : EReal) = OutSpec.out (fun i k => a (ix2 i k)) (fun i k => b (ix2 i k)) x md w i j := by
  pointwise [composed]
  rfl

/-- Every run of the reference ends with the formula's array as its result and with its arguments unchanged. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v9) = OutSpec.result (fun i k => m ((c.tc : Thread nD τ).loc main_arg0) (ix2 i k))
        (fun i k => m ((c.tc : Thread nD τ).loc main_arg1) (ix2 i k)) (m ((c.tc : Thread nD τ).loc main_arg2))
        (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans ?_, (h c).2⟩) (run m ρ)
  funext i
  obtain ⟨i, j, rfl⟩ : ∃ (a : Fin 16384) (b : Fin 1024), i = ix2 a b := ⟨i 0, i 1, eq_ix2 i⟩
  exact composed_eq _ _ _ _ _ i j
end Cert.Proof.OutOddRef
end
-- ==== Proof.AdaSpec.lean ====
module

public import Idealize.ShloMosaic.Lib.Pointwise

/-! The modulation of every layer as a formula: the SiLU of the condition rows times a layer's weight, plus its bias. -/

@[expose] public section
set_option maxRecDepth 16384
noncomputable section
namespace Cert.Proof.AdaSpec
open Idealize.ShloMosaic Idealize.ShloMosaic.TcCoe

/-- Entry `j` of the modulation of condition row `r` in layer `l`. -/
def out (x : FVec Ideal ⟨2, ![40, 1024]⟩ .f32) (w : FVec Ideal ⟨3, ![4, 1024, 6144]⟩ .f32) (b : FVec Ideal ⟨2, ![4, 6144]⟩ .f32)
    (l : Fin 4) (r : Fin 40) (j : Fin 6144) : EReal :=
  ∑ k : Fin 1024, (x (ix2 r k) * Ideal.logistic (x (ix2 r k))) * w (ix3 l k j) + b (ix2 l j)

/-- The whole result. -/
def result (x : FVec Ideal ⟨2, ![40, 1024]⟩ .f32) (w : FVec Ideal ⟨3, ![4, 1024, 6144]⟩ .f32) (b : FVec Ideal ⟨2, ![4, 6144]⟩ .f32) :
    FVec Ideal ⟨3, ![4, 40, 6144]⟩ .f32 := fun i => out x w b (i 0) (i 1) (i 2)

end Cert.Proof.AdaSpec
end
-- ==== Proof.AdaArr.lean ====
module

public import proofs.«01_k».proof.Proof.Gen.AdaIdeal.Value
public import proofs.«01_k».proof.Proof.AdaSpec
public import Idealize.ShloMosaic.Lib.Pipeline.ValueKit

/-! The result array of the modulation. -/

@[expose] public section
set_option maxRecDepth 16384
noncomputable section
namespace Cert.Proof.AdaArr
open Idealize.ShloMosaic Idealize.ShloMosaic.TcCoe Idealize.SL.Sem
open Idealize.ShloMosaic.Pipeline (Dat)
open Cert.AdaIdeal Cert.AdaIdeal.Gen
variable (m : (ℓ : Loc nD τ sig) → Buf (Elt Ideal) ℓ)

theorem idx : ∀ t : Fin cfg0.N, win0_0.index t = ![0, 0] ∧ win0_1.index t = ![t.val / 4, 0, t.val % 4]
   ∧ win0_2.index t = ![t.val / 4, 0, t.val % 4] ∧ win0_3.index t = ![t.val / 4, 0, t.val % 4] :=
  (by decide +kernel : ∀ t : Fin grid0.N, _)

theorem pay1_at (x : Vec Ideal S40x1024 .f32) (w : Vec Ideal S1x1024x1536 .bf16) (b : Vec Ideal S1x1x1536 .f32) (r : Fin 40) (j : Fin 1536) :
    (k0_pay1 x w b (ix3 0 r j) : EReal) = ∑ k : Fin 1024, (x (ix2 r k) * Ideal.logistic (x (ix2 r k))) * w (ix3 0 k j) + b (ix3 0 0 j) := by
  pointwise [k0_pay1]

theorem bias (c : Dev nD) (t : Fin cfg0.N) (j : Fin 1536) : (iblk m c 2 t (ix3 0 0 j) : EReal)
    = m ((c : Thread nD τ).loc main_arg2) (ix2 ⟨t.val / 4, by have : t.val < 16 := t.isLt; omega⟩ ⟨1536 * (t.val % 4) + j.val, by omega⟩) := by
  have hN : t.val < 16 := t.isLt
  blk_point [iblk, V, idx t]

theorem weight (c : Dev nD) (t : Fin cfg0.N) (k : Fin 1024) (j : Fin 1536) : (iblk m c 1 t (ix3 0 k j) : EReal)
    = m ((c : Thread nD τ).loc main_arg1) (ix3 ⟨t.val / 4, by have : t.val < 16 := t.isLt; omega⟩ k ⟨1536 * (t.val % 4) + j.val, by omega⟩) := by
  have hN : t.val < 16 := t.isLt
  blk_point [iblk, V, idx t]

theorem final (c : Dev nD) : (dats m 0 c).arrAt 3 (cfgs 0).N
    = AdaSpec.result (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  obtain ⟨r, j, rfl⟩ : ∃ (r : Fin 40) (j : Fin 1536), y = ix3 0 r j := ⟨y 1, y 2, by
    rw [eq_ix3 y]; exact congrArg (ix3 · (y 1) (y 2)) (Subsingleton.elim (α := Fin 1) _ _)⟩
  have hN : t.val < 16 := t.isLt
  have e : ((View.whole main_v2).slice (win0_3.rect t)).emb (ix3 0 r j)
      = ix3 (⟨t.val / 4, by omega⟩ : Fin 4) r (⟨1536 * (t.val % 4) + j.val, by omega⟩ : Fin 6144) := by
    blk_ext [iblk, V, idx t]
  rw [e, pay1_at]
  show _ = AdaSpec.out _ _ _ _ _ _
  unfold AdaSpec.out
  have hx : iblk m c 0 t = m ((c : Thread nD τ).loc main_arg0) := by
    funext i
    blk_ext [iblk, V, idx t]
  rw [hx]
  exact congrArg₂ (· + ·) (Finset.sum_congr rfl fun k _ => congrArg₂ (· * ·) rfl (weight m c t k j)) (bias m c t j)
end Cert.Proof.AdaArr
end
-- ==== Proof.AdaRef.lean ====
module

public import proofs.«01_k».proof.Proof.Gen.AdaReferenceIdeal.Run
public import proofs.«01_k».proof.Proof.AdaSpec
public import Idealize.ShloMosaic.Lib.Pointwise

/-! The reference of the modulation computes the formula of AdaSpec. -/

@[expose] public section
set_option maxRecDepth 16384
noncomputable section
namespace Cert.Proof.AdaRef
open Idealize.ShloMosaic Idealize.ShloMosaic.TcCoe Idealize.SL.Sem
open Cert.AdaReferenceIdeal Cert.AdaReferenceIdeal.Value Cert.AdaReferenceIdeal.Gen

/-- The reference's result as its operations compose it. -/
def composed (x : FVec Ideal S40x1024 .f32) (w : FVec Ideal S4x1024x6144 .f32) (b : FVec Ideal S4x6144 .f32) : FVec Ideal S4x40x6144 .f32 :=
  addf (transpose S4x40x6144 [0, 2, 1] (Host.dotGeneral dot_S4x1024x6144_S40x1024_S4x6144x40_1_1_02_0_n_n none w
    (mulf x (Host.divf (broadcastInDim S40x1024 ![] bcast_S_S40x1024 (constant S_ .f32 0x3F800000#32))
      (addf (broadcastInDim S40x1024 ![] bcast_S_S40x1024 (constant S_ .f32 0x3F800000#32)) (Host.exp (Host.negf x))))))
    transposes_S4x6144x40_S4x40x6144_0_2_1)
    (broadcastInDim S4x40x6144 ![0, 1, 2] bcast_S4x1x6144_S4x40x6144_0_1_2 (broadcastInDim S4x1x6144 ![0, 2] bcast_S4x6144_S4x1x6144_0_2 b))

theorem composed_eq (x : FVec Ideal S40x1024 .f32) (w : FVec Ideal S4x1024x6144 .f32) (b : FVec Ideal S4x6144 .f32)
    (l : Fin 4) (r : Fin 40) (j : Fin 6144) : (composed x w b (ix3 l r j) : EReal) = AdaSpec.out x w b l r j := by
  unfold AdaSpec.out
  pointwise [composed]
  exact congrArg (· + _) (Finset.sum_congr rfl fun k _ => mul_comm _ _)

/-- Every run of the reference ends with the formula's array as its result and with its arguments unchanged. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = AdaSpec.result (m ((c.tc : Thread nD τ).loc main_arg0))
        (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (run m ρ)
  funext i
  obtain ⟨l, r, j, rfl⟩ : ∃ (a : Fin 4) (b : Fin 40) (d : Fin 6144), i = ix3 a b d := ⟨i 0, i 1, i 2, eq_ix3 i⟩
  exact composed_eq _ _ _ l r j
end Cert.Proof.AdaRef
end
-- ==== Proof.CompressSpec.lean ====
module

public import Idealize.ShloMosaic.Lib.Pointwise

/-! The compressed keys and values as a formula. Two blocks of columns (keys, values) of two heads of 64 columns; row `n` joins what
    rows `16 n … 16 n + 15` give with the first half of the position's vectors and weights and what the next 16 rows give with the
    second half. The last row has no next rows. -/

@[expose] public section
set_option maxRecDepth 16384
noncomputable section
namespace Cert.Proof.CompressSpec
open Idealize.ShloMosaic Idealize.ShloMosaic.TcCoe
variable (x : FVec Ideal ⟨3, ![4, 4096, 512]⟩ .f32) (pe : FVec Ideal ⟨3, ![2, 32, 64]⟩ .f32) (w : FVec Ideal ⟨4, ![2, 32, 64, 64]⟩ .f32)

/-- What the 16 rows from row `16 n` give with half `o` of the positions: batch `b`, keys or values `p`, head `h`, column `e`. -/
def part (b : Fin 4) (p o : Fin 2) (n : Fin 256) (h : Fin 2) (e : Fin 64) : EReal :=
  ∑ l : Fin 16, ∑ d : Fin 64, (x (ix3 b ⟨16 * n.val + l.val, by omega⟩ ⟨128 * p.val + (64 * h.val + d.val), by omega⟩)
    + pe (ix3 p ⟨16 * o.val + l.val, by omega⟩ d)) * w (ix4 p ⟨16 * o.val + l.val, by omega⟩ d e)

/-- One entry of the result. -/
def out (b : Fin 4) (n : Fin 256) (p h : Fin 2) (e : Fin 64) : EReal :=
  part x pe w b p 0 n h e + if hn : n.val + 1 < 256 then part x pe w b p 1 ⟨n.val + 1, hn⟩ h e else 0

/-- The whole result. -/
def result : FVec Ideal ⟨3, ![4, 256, 256]⟩ .f32 := fun i =>
  out x pe w (i 0) (i 1) ⟨(i 2).val / 128, by have : (i 2).val < 256 := (i 2).isLt; omega⟩
    ⟨(i 2).val % 128 / 64, by omega⟩ ⟨(i 2).val % 64, by omega⟩

/-- The weight of row `k` repeated along the diagonal for the two heads. -/
def diag (p : Fin 2) (k : Fin 32) (d j : Fin 128) : EReal :=
  w (ix4 p k ⟨d.val % 64, by omega⟩ ⟨j.val % 64, by omega⟩) * if d.val / 64 = j.val / 64 then 1 else 0

theorem sum128 (f : Fin 128 → EReal) :
    ∑ d : Fin 128, f d = ∑ d : Fin 64, f ⟨d.val, by omega⟩ + ∑ d : Fin 64, f ⟨64 + d.val, by omega⟩ :=
  Fin.sum_univ_add (a := 64) (b := 64) f

theorem sum16 (f : Fin 16 → EReal) : f 0 + f 1 + f 2 + f 3 + f 4 + f 5 + f 6 + f 7 + f 8 + f 9 + f 10 + f 11 + f 12 + f 13 + f 14 + f 15
    = ∑ l, f l := by
  simp only [Fin.sum_univ_castSucc, Fin.sum_univ_zero, zero_add]
  rfl

/-- A product of 128 columns with the repeated weight is one of the 64 columns of the head. -/
theorem head (a : Fin 128 → EReal) (p : Fin 2) (k : Fin 32) (j : Fin 128) :
    ∑ d : Fin 128, a d * diag w p k d j
    = ∑ d : Fin 64, a ⟨64 * (j.val / 64) + d.val, by omega⟩ * w (ix4 p k d ⟨j.val % 64, by omega⟩) := by
  have first (d : Fin 64) : diag w p k ⟨d.val, by omega⟩ j = w (ix4 p k d ⟨j.val % 64, by omega⟩) * if 0 = j.val / 64 then 1 else 0 := by
    unfold diag
    have e1 : d.val % 64 = d.val := by omega
    have e2 : d.val / 64 = 0 := by omega
    simp only [e1, e2]
  have second (d : Fin 64) : diag w p k ⟨64 + d.val, by omega⟩ j = w (ix4 p k d ⟨j.val % 64, by omega⟩) * if 1 = j.val / 64 then 1 else 0 := by
    unfold diag
    have e1 : (64 + d.val) % 64 = d.val := by omega
    have e2 : (64 + d.val) / 64 = 1 := by omega
    simp only [e1, e2]
  rw [sum128]
  simp only [first, second]
  rcases (by omega : j.val / 64 = 0 ∨ j.val / 64 = 1) with h | h
  · simp [h]
  · simp [h]

/-- The product at row offset `l`. -/
def term (X : FVec Ideal ⟨3, ![1, 4096, 128]⟩ .f32) (P : FVec Ideal ⟨3, ![1, 32, 128]⟩ .f32) (W : FVec Ideal ⟨4, ![1, 32, 128, 128]⟩ .bf16)
    (o : Fin 2) (n : Fin 256) (j : Fin 128) (l : Fin 16) : EReal :=
  ∑ d : Fin 128, ((X (ix3 0 ⟨l.val + 16 * n.val, by omega⟩ d) : EReal) + P (ix3 0 ⟨16 * o.val + l.val, by omega⟩ d))
    * W (ix4 0 ⟨16 * o.val + l.val, by omega⟩ d j)

/-- The sum over 16 row offsets of products with the repeated weights is the formula's part. -/
theorem accum (X : FVec Ideal ⟨3, ![1, 4096, 128]⟩ .f32) (P : FVec Ideal ⟨3, ![1, 32, 128]⟩ .f32) (W : FVec Ideal ⟨4, ![1, 32, 128, 128]⟩ .bf16)
    (b : Fin 4) (p o : Fin 2) (n : Fin 256) (j : Fin 128)
    (hX : ∀ (k : Fin 4096) (d : Fin 128), (X (ix3 0 k d) : EReal) = x (ix3 b k ⟨128 * p.val + d.val, by omega⟩))
    (hP : ∀ (k : Fin 32) (d : Fin 128), (P (ix3 0 k d) : EReal) = pe (ix3 p k ⟨d.val % 64, by omega⟩))
    (hW : ∀ (k : Fin 32) (d j : Fin 128), (W (ix4 0 k d j) : EReal) = diag w p k d j) :
    term X P W o n j 0 + term X P W o n j 1 + term X P W o n j 2 + term X P W o n j 3 + term X P W o n j 4 + term X P W o n j 5 + term X P W o n j 6 + term X P W o n j 7
    + term X P W o n j 8 + term X P W o n j 9 + term X P W o n j 10 + term X P W o n j 11 + term X P W o n j 12 + term X P W o n j 13 + term X P W o n j 14 + term X P W o n j 15
    = part x pe w b p o n ⟨j.val / 64, by omega⟩ ⟨j.val % 64, by omega⟩ := by
  rw [sum16]
  refine Finset.sum_congr rfl fun l _ => ?_
  unfold term
  simp only [hX, hP, hW]
  rw [head]
  refine Finset.sum_congr rfl fun d _ => ?_
  have e : (64 * (j.val / 64) + d.val) % 64 = d.val := by omega
  have e' : l.val + 16 * n.val = 16 * n.val + l.val := by omega
  simp only [e, e']

end Cert.Proof.CompressSpec
end
-- ==== Proof.CompressArr.lean ====
module

public import proofs.«01_k».proof.Proof.Gen.CompressIdeal.Value
public import proofs.«01_k».proof.Proof.CompressSpec
public import Idealize.ShloMosaic.Lib.Pipeline.ValueKit
public import Idealize.ShloMosaic.Lib.Pipeline.ReadBack
public import Idealize.ShloMosaic.Lib.WholeRead

/-! The result array of the compression. -/

@[expose] public section
set_option maxRecDepth 16384
noncomputable section
namespace Cert.Proof.CompressArr
open Idealize.ShloMosaic Idealize.ShloMosaic.TcCoe Idealize.SL.Sem
open Idealize.ShloMosaic.Pipeline (Dat)
open Cert.CompressIdeal Cert.CompressIdeal.Gen
variable (m : (ℓ : Loc nD τ sig) → Buf (Elt Ideal) ℓ)

theorem idx : ∀ t : Fin cfg0.N, win0_0.index t = ![t.val / 2, 0, t.val % 2] ∧ win0_1.index t = ![t.val % 2, 0, 0]
   ∧ win0_2.index t = ![t.val % 2, 0, 0, 0] ∧ win0_3.index t = ![t.val / 2, 0, t.val % 2] :=
  (by decide +kernel : ∀ t : Fin grid0.N, _)

theorem rows (c : Dev nD) (t : Fin cfg0.N) (k : Fin 4096) (j : Fin 128) : (iblk m c 0 t (ix3 0 k j) : EReal)
    = m ((c : Thread nD τ).loc main_arg0) (ix3 ⟨t.val / 2, by have : t.val < 8 := t.isLt; omega⟩ k ⟨128 * (t.val % 2) + j.val, by omega⟩) := by
  have hN : t.val < 8 := t.isLt
  blk_point [iblk, V, idx t]

theorem positions (c : Dev nD) (t : Fin cfg0.N) (k : Fin 32) (j : Fin 128) : (iblk m c 1 t (ix3 0 k j) : EReal)
    = m ((c : Thread nD τ).loc main_arg1) (ix3 ⟨t.val % 2, by omega⟩ k ⟨j.val % 64, by omega⟩) := by
  have hN : t.val < 8 := t.isLt
  blk_point [iblk, V, idx t]

/-- An entry of the 2 × 2 identity. -/
theorem eye (a b : Nat) (ha : a < 2) (hb : b < 2) :
    (FloatOps.uitofp (F := Ideal) .f32 (IntOp.cmpi .eq (IntOp.addi (BitVec.ofNat 32 a) 0#32) (BitVec.ofNat 32 b)) : EReal)
    = if a = b then 1 else 0 := by
  interval_cases a <;> interval_cases b <;> simp [IntOp.cmpi, IntOp.addi, FloatOps.uitofp]

theorem weights (c : Dev nD) (t : Fin cfg0.N) (k : Fin 32) (d j : Fin 128) : (iblk m c 2 t (ix4 0 k d j) : EReal)
    = CompressSpec.diag (m ((c : Thread nD τ).loc main_arg2)) ⟨t.val % 2, by omega⟩ k d j := by
  have hN : t.val < 8 := t.isLt
  have hp : t.val % 2 < 2 := by omega
  unfold CompressSpec.diag
  rw [← eye _ _ (by omega) (by omega)]
  have e : ((View.whole main_v15).slice (win0_2.rect t)).emb (ix4 0 k d j) = ix4 (⟨t.val % 2, hp⟩ : Fin 2) k d j := by
    blk_ext [iblk, V, idx t]
  show V m c main_v15 (((View.whole main_v15).slice (win0_2.rect t)).emb (ix4 0 k d j)) = _
  rw [e]
  entry_read
  pointwise

/-- The index a strided load reads. -/
theorem stride (o : Nat) (h) (n : Fin 256) (d : Fin 128) :
    (LoadRect.mk ![0, o, 0] ![1, 256, 128] ![1, 16, 1] h : LoadRect S1x4096x128).idx (ix3 0 n d)
    = ix3 0 ⟨o + 16 * n.val, LoadRect.coord_lt (LoadRect.mk ![0, o, 0] ![1, 256, 128] ![1, 16, 1] h : LoadRect S1x4096x128) 1 n.isLt⟩ d := by
  funext a
  match a with
  | 0 => exact Fin.ext rfl
  | 1 => exact Fin.ext rfl
  | 2 => exact Fin.ext ((Nat.zero_add _).trans (Nat.one_mul _))

/-- Row `n + 1` of a scratch that holds 256 rows and 8 rows after them. -/
theorem next (u : Vec Ideal S8x128 .f32) (v : Vec Ideal S256x128 .f32) (h1 h2 h3) (n : Fin 256) (j : Fin 128) :
    View.canon (Val := Elt Ideal) (s := S264x128) (e := .f32)
      [⟨Rect.unit ![256, 0] ![8, 128] h1, u⟩, ⟨Rect.unit ![0, 0] ![256, 128] h2, v⟩]
      ((Rect.unit (s := S264x128) ![1, 0] ![256, 128] h3).toLoadRect.idx (ix2 n j))
    = if hn : n.val + 1 < 256 then v (ix2 ⟨n.val + 1, hn⟩ j) else u (ix2 0 j) := by
  split
  · rename_i hn
    rw [View.canon_cons_of_not_mem]
    · have e : (Rect.unit (s := S264x128) ![1, 0] ![256, 128] h3).toLoadRect.idx (ix2 n j)
          = (Rect.unit (s := S264x128) ![0, 0] ![256, 128] h2).emb (ix2 ⟨n.val + 1, hn⟩ j) := by
        funext a
        match a with
        | 0 => exact Fin.ext (show 1 + 1 * n.val = 0 + 1 * (n.val + 1) by omega)
        | 1 => exact Fin.ext rfl
      rw [e]
      exact View.canon_cons_emb _ _ _ _
    · intro hm
      obtain ⟨k, hk, e⟩ := (LoadRect.mem_set _).1 hm 0
      have e' : 1 + 1 * n.val = 256 + 1 * k := e
      omega
  · rename_i hn
    have e : (Rect.unit (s := S264x128) ![1, 0] ![256, 128] h3).toLoadRect.idx (ix2 n j)
        = (Rect.unit (s := S264x128) ![256, 0] ![8, 128] h1).emb (ix2 0 j) := by
      funext a
      match a with
      | 0 => exact Fin.ext (show 1 + 1 * n.val = 256 + 1 * 0 by omega)
      | 1 => exact Fin.ext rfl
    rw [e]
    exact View.canon_cons_emb _ _ _ _

set_option maxHeartbeats 1000000 in
theorem final (c : Dev nD) : (dats m 0 c).arrAt 3 (cfgs 0).N
    = CompressSpec.result (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  unfold outsAt0
  frame_out
  obtain ⟨n, j, rfl⟩ : ∃ (n : Fin 256) (j : Fin 128), y = ix3 0 n j := ⟨y 1, y 2, by
    rw [eq_ix3 y]; exact congrArg (ix3 · (y 1) (y 2)) (Subsingleton.elim (α := Fin 1) _ _)⟩
  have hN : t.val < 8 := t.isLt
  have hp : t.val % 2 < 2 := by omega
  have e : ((View.whole main_v19).slice (win0_3.rect t)).emb (ix3 0 n j)
      = ix3 (⟨t.val / 2, by omega⟩ : Fin 4) n (⟨128 * (t.val % 2) + j.val, by omega⟩ : Fin 256) := by
    blk_ext [iblk, V, idx t]
  have e1 : (⟨(128 * (t.val % 2) + j.val) / 128, by omega⟩ : Fin 2) = ⟨t.val % 2, hp⟩ :=
    Fin.ext (show (128 * (t.val % 2) + j.val) / 128 = t.val % 2 by omega)
  have e2 : (⟨(128 * (t.val % 2) + j.val) % 128 / 64, by omega⟩ : Fin 2) = ⟨j.val / 64, by omega⟩ :=
    Fin.ext (show (128 * (t.val % 2) + j.val) % 128 / 64 = j.val / 64 by omega)
  have e3 : (⟨(128 * (t.val % 2) + j.val) % 64, by omega⟩ : Fin 64) = ⟨j.val % 64, by omega⟩ :=
    Fin.ext (show (128 * (t.val % 2) + j.val) % 64 = j.val % 64 by omega)
  rw [e]
  show _ = CompressSpec.out _ _ _ ⟨t.val / 2, _⟩ n ⟨(128 * (t.val % 2) + j.val) / 128, _⟩ ⟨(128 * (t.val % 2) + j.val) % 128 / 64, _⟩
    ⟨(128 * (t.val % 2) + j.val) % 64, _⟩
  rw [e1, e2, e3]
  unfold CompressSpec.out
  pointwise [k0_pay1]
  rw [View.readCov_eq_canon']
  refine congrArg₂ (· + ·) ?_ ((next _ _ _ _ _ n j).trans (dite_congr rfl (fun hn => ?_) fun hn => ?_))
  · pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45]
    simp only [Memref.IsWhole.readAt_unread, stride]
    refine Eq.trans ?_ (CompressSpec.accum _ _ _ (iblk m c 0 t) (iblk m c 1 t) (iblk m c 2 t) ⟨t.val / 2, by omega⟩ ⟨t.val % 2, hp⟩ 0 n j
      (rows m c t) (positions m c t) (weights m c t))
    refine congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_) ?_) ?_) ?_) ?_) ?_) ?_) ?_) ?_
    all_goals rfl
  · pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45]
    simp only [Memref.IsWhole.readAt_unread, stride]
    refine Eq.trans ?_ (CompressSpec.accum _ _ _ (iblk m c 0 t) (iblk m c 1 t) (iblk m c 2 t) ⟨t.val / 2, by omega⟩ ⟨t.val % 2, hp⟩ 1 ⟨n.val + 1, hn⟩ j
      (rows m c t) (positions m c t) (weights m c t))
    refine congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_) ?_) ?_) ?_) ?_) ?_) ?_) ?_) ?_
    all_goals rfl
  · pointwise [k0_pay46]
end Cert.Proof.CompressArr
end
-- ==== Proof.CompressRef.lean ====
module

public import proofs.«01_k».proof.Proof.Gen.CompressReferenceIdeal.Run
public import proofs.«01_k».proof.Proof.CompressSpec
public import Idealize.ShloMosaic.Lib.Pointwise

/-! The reference of the compression computes the formula of CompressSpec. -/

@[expose] public section
set_option maxRecDepth 16384
noncomputable section
namespace Cert.Proof.CompressRef
open Idealize.ShloMosaic Idealize.ShloMosaic.TcCoe Idealize.SL.Sem
open Cert.CompressReferenceIdeal Cert.CompressReferenceIdeal.Value Cert.CompressReferenceIdeal.Gen

/-- The rows of keys or of values in groups of 16. -/
def groups (kv : FVec Ideal S4x4096x1x2x64 .f32) : FVec Ideal S4x256x16x2x64 .f32 :=
  shapeCast _ (shapeCast _ kv shapeCasts_S4x4096x1x2x64_S4x4096x2x64) shapeCasts_S4x4096x2x64_S4x256x16x2x64

/-- The first 255 rows of the result. -/
def whole (g : FVec Ideal S4x256x16x2x64 .f32) (pe : FVec Ideal S32x64 .f32) (w : FVec Ideal S32x64x64 .f32) : FVec Ideal S4x255x2x64 .f32 :=
  Host.dotGeneral dot_S4x255x32x2x64_S32x64x64_S4x255x2x64_42_10_013_2_n_n none (addf
    (concatenate S4x255x32x2x64 2 [⟨S4x255x16x2x64, extractStridedSlice S4x255x16x2x64 ![0, 0, 0, 0, 0] g slices_S4x256x16x2x64_S4x255x16x2x64_0_0_0_0_0⟩,
        ⟨S4x255x16x2x64, extractStridedSlice S4x255x16x2x64 ![0, 1, 0, 0, 0] g slices_S4x256x16x2x64_S4x255x16x2x64_0_1_0_0_0⟩]
      concatenates_S4x255x16x2x64_S4x255x16x2x64_S4x255x32x2x64_d2 : FVec Ideal S4x255x32x2x64 .f32)
    (broadcastInDim S4x255x32x2x64 ![0, 1, 2, 3, 4] bcast_S1x1x32x1x64_S4x255x32x2x64_0_1_2_3_4
      (broadcastInDim S1x1x32x1x64 ![2, 3, 4] bcast_S32x1x64_S1x1x32x1x64_2_3_4 (broadcastInDim S32x1x64 ![0, 2] bcast_S32x64_S32x1x64_0_2 pe)))) w

/-- The last row of the result. -/
def last (g : FVec Ideal S4x256x16x2x64 .f32) (pe : FVec Ideal S32x64 .f32) (w : FVec Ideal S32x64x64 .f32) : FVec Ideal S4x1x2x64 .f32 :=
  Host.dotGeneral dot_S4x1x16x2x64_S16x64x64_S4x1x2x64_42_10_013_2_n_n none (addf
    (extractStridedSlice S4x1x16x2x64 ![0, 255, 0, 0, 0] g slices_S4x256x16x2x64_S4x1x16x2x64_0_255_0_0_0)
    (broadcastInDim S4x1x16x2x64 ![0, 1, 2, 3, 4] bcast_S1x1x16x1x64_S4x1x16x2x64_0_1_2_3_4
      (broadcastInDim S1x1x16x1x64 ![2, 3, 4] bcast_S16x1x64_S1x1x16x1x64_2_3_4 (broadcastInDim S16x1x64 ![0, 2] bcast_S16x64_S16x1x64_0_2
        (extractStridedSlice S16x64 ![0, 0] pe slices_S32x64_S16x64_0_0)))))
    (extractStridedSlice S16x64x64 ![0, 0, 0] w slices_S32x64x64_S16x64x64_0_0_0)

/-- Keys or values compressed. -/
def joined (g : FVec Ideal S4x256x16x2x64 .f32) (pe : FVec Ideal S32x64 .f32) (w : FVec Ideal S32x64x64 .f32) : FVec Ideal S4x256x128 .f32 :=
  shapeCast _ (concatenate S4x256x2x64 1 [⟨S4x255x2x64, whole g pe w⟩, ⟨S4x1x2x64, last g pe w⟩]
    concatenates_S4x255x2x64_S4x1x2x64_S4x256x2x64_d1 : FVec Ideal S4x256x2x64 .f32) shapeCasts_S4x256x2x64_S4x256x128

/-- The reference's result as its operations compose it. -/
def composed (x : FVec Ideal S4x4096x512 .f32) (pe : FVec Ideal S2x32x64 .f32) (w : FVec Ideal S2x32x64x64 .f32) : FVec Ideal S4x256x256 .f32 :=
  concatenate S4x256x256 2 [⟨S4x256x128, joined
      (groups (extractStridedSlice S4x4096x1x2x64 ![0, 0, 0, 0, 0] (shapeCast _ x shapeCasts_S4x4096x512_S4x4096x4x2x64) slices_S4x4096x4x2x64_S4x4096x1x2x64_0_0_0_0_0))
      (shapeCast _ (extractStridedSlice S1x32x64 ![0, 0, 0] pe slices_S2x32x64_S1x32x64_0_0_0) shapeCasts_S1x32x64_S32x64)
      (shapeCast _ (extractStridedSlice S1x32x64x64 ![0, 0, 0, 0] w slices_S2x32x64x64_S1x32x64x64_0_0_0_0) shapeCasts_S1x32x64x64_S32x64x64)⟩,
    ⟨S4x256x128, joined
      (groups (extractStridedSlice S4x4096x1x2x64 ![0, 0, 1, 0, 0] (shapeCast _ x shapeCasts_S4x4096x512_S4x4096x4x2x64) slices_S4x4096x4x2x64_S4x4096x1x2x64_0_0_1_0_0))
      (shapeCast _ (extractStridedSlice S1x32x64 ![1, 0, 0] pe slices_S2x32x64_S1x32x64_1_0_0) shapeCasts_S1x32x64_S32x64)
      (shapeCast _ (extractStridedSlice S1x32x64x64 ![1, 0, 0, 0] w slices_S2x32x64x64_S1x32x64x64_1_0_0_0) shapeCasts_S1x32x64x64_S32x64x64)⟩]
    concatenates_S4x256x128_S4x256x128_S4x256x256_d2

/-- What 16 rows of a group give with half `o` of the positions. -/
def half (g : FVec Ideal S4x256x16x2x64 .f32) (pe : FVec Ideal S32x64 .f32) (w : FVec Ideal S32x64x64 .f32) (o : Fin 2)
    (b : Fin 4) (n : Fin 256) (h : Fin 2) (e : Fin 64) : EReal :=
  ∑ l : Fin 16, ∑ d : Fin 64, (g (ix5 b n l h d) + pe (ix2 ⟨16 * o.val + l.val, by omega⟩ d)) * w (ix3 ⟨16 * o.val + l.val, by omega⟩ d e)

theorem whole_eq (g : FVec Ideal S4x256x16x2x64 .f32) (pe : FVec Ideal S32x64 .f32) (w : FVec Ideal S32x64x64 .f32)
    (b : Fin 4) (n : Fin 255) (h : Fin 2) (e : Fin 64) : (whole g pe w (ix4 b n h e) : EReal)
    = half g pe w 0 b ⟨n.val, by omega⟩ h e + half g pe w 1 b ⟨n.val + 1, by omega⟩ h e := by
  unfold half
  pointwise [whole]
  rw [Finset.sum_add_distrib, Finset.sum_comm]
  refine congrArg₂ (· + ·) rfl ?_
  rw [Finset.sum_comm]
  simp only [Nat.add_comm 1 n.val]

theorem last_eq (g : FVec Ideal S4x256x16x2x64 .f32) (pe : FVec Ideal S32x64 .f32) (w : FVec Ideal S32x64x64 .f32)
    (b : Fin 4) (h : Fin 2) (e : Fin 64) : (last g pe w (ix4 b 0 h e) : EReal) = half g pe w 0 b 255 h e := by
  unfold half
  pointwise [last]
  exact Finset.sum_comm

theorem joined_eq (g : FVec Ideal S4x256x16x2x64 .f32) (pe : FVec Ideal S32x64 .f32) (w : FVec Ideal S32x64x64 .f32)
    (b : Fin 4) (n : Fin 256) (c : Fin 128) : (joined g pe w (ix3 b n c) : EReal)
    = half g pe w 0 b n ⟨c.val / 64, by omega⟩ ⟨c.val % 64, by omega⟩
      + if hn : n.val + 1 < 256 then half g pe w 1 b ⟨n.val + 1, hn⟩ ⟨c.val / 64, by omega⟩ ⟨c.val % 64, by omega⟩ else 0 := by
  pointwise [joined]
  by_cases h : n.val < 255
  · rw [dif_pos h, dif_pos (by omega : n.val + 1 < 256)]
    exact whole_eq g pe w b ⟨n.val, h⟩ _ _
  · obtain rfl : n = 255 := Fin.ext (show n.val = 255 by omega)
    rw [dif_neg h, dif_neg (by decide), add_zero]
    exact last_eq g pe w b _ _

/-- The keys. -/
theorem keys_eq (x : FVec Ideal S4x4096x512 .f32) (pe : FVec Ideal S2x32x64 .f32) (w : FVec Ideal S2x32x64x64 .f32)
    (b : Fin 4) (o : Fin 2) (n : Fin 256) (h : Fin 2) (e : Fin 64) :
    half (groups (extractStridedSlice S4x4096x1x2x64 ![0, 0, 0, 0, 0] (shapeCast _ x shapeCasts_S4x4096x512_S4x4096x4x2x64) slices_S4x4096x4x2x64_S4x4096x1x2x64_0_0_0_0_0))
      (shapeCast _ (extractStridedSlice S1x32x64 ![0, 0, 0] pe slices_S2x32x64_S1x32x64_0_0_0) shapeCasts_S1x32x64_S32x64)
      (shapeCast _ (extractStridedSlice S1x32x64x64 ![0, 0, 0, 0] w slices_S2x32x64x64_S1x32x64x64_0_0_0_0) shapeCasts_S1x32x64x64_S32x64x64) o b n h e
    = CompressSpec.part x pe w b 0 o n h e := by
  unfold half CompressSpec.part
  refine Finset.sum_congr rfl fun l _ => Finset.sum_congr rfl fun d _ => ?_
  pointwise [groups]
  simp only [Nat.mul_comm 16 n.val, Nat.mul_comm 64 h.val]

/-- The values. -/
theorem values_eq (x : FVec Ideal S4x4096x512 .f32) (pe : FVec Ideal S2x32x64 .f32) (w : FVec Ideal S2x32x64x64 .f32)
    (b : Fin 4) (o : Fin 2) (n : Fin 256) (h : Fin 2) (e : Fin 64) :
    half (groups (extractStridedSlice S4x4096x1x2x64 ![0, 0, 1, 0, 0] (shapeCast _ x shapeCasts_S4x4096x512_S4x4096x4x2x64) slices_S4x4096x4x2x64_S4x4096x1x2x64_0_0_1_0_0))
      (shapeCast _ (extractStridedSlice S1x32x64 ![1, 0, 0] pe slices_S2x32x64_S1x32x64_1_0_0) shapeCasts_S1x32x64_S32x64)
      (shapeCast _ (extractStridedSlice S1x32x64x64 ![1, 0, 0, 0] w slices_S2x32x64x64_S1x32x64x64_1_0_0_0) shapeCasts_S1x32x64x64_S32x64x64) o b n h e
    = CompressSpec.part x pe w b 1 o n h e := by
  unfold half CompressSpec.part
  refine Finset.sum_congr rfl fun l _ => Finset.sum_congr rfl fun d _ => ?_
  pointwise [groups]
  simp only [Nat.mul_comm 16 n.val, Nat.mul_comm 64 h.val, Nat.add_assoc]

theorem composed_eq (x : FVec Ideal S4x4096x512 .f32) (pe : FVec Ideal S2x32x64 .f32) (w : FVec Ideal S2x32x64x64 .f32)
    (b : Fin 4) (n j : Fin 256) : (composed x pe w (ix3 b n j) : EReal) = CompressSpec.out x pe w b n
      ⟨j.val / 128, by omega⟩ ⟨j.val % 128 / 64, by omega⟩ ⟨j.val % 64, by omega⟩ := by
  unfold CompressSpec.out
  pointwise [composed]
  simp only [joined_eq, keys_eq, values_eq]
  by_cases h : j.val < 128
  · have e1 : (⟨j.val / 128, by omega⟩ : Fin 2) = 0 := Fin.ext (show j.val / 128 = 0 by omega)
    have e2 : j.val % 128 / 64 = j.val / 64 := by omega
    rw [dif_pos h, e1]
    simp only [e2]
  · have e1 : (⟨j.val / 128, by omega⟩ : Fin 2) = 1 := Fin.ext (show j.val / 128 = 1 by omega)
    have e2 : j.val % 128 / 64 = (j.val - 128) / 64 := by omega
    have e3 : j.val % 64 = (j.val - 128) % 64 := by omega
    rw [dif_neg h, e1]
    simp only [e2, e3]

/-- Every run of the reference ends with the formula's array as its result and with its arguments unchanged. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v51) = CompressSpec.result (m ((c.tc : Thread nD τ).loc main_arg0))
        (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (run m ρ)
  have hc : res_main_v51 m c = composed (m ((c.tc : Thread nD τ).loc main_arg0)) (m ((c.tc : Thread nD τ).loc main_arg1))
    (m ((c.tc : Thread nD τ).loc main_arg2)) := rfl
  rw [hc]
  funext i
  obtain ⟨b, n, j, rfl⟩ : ∃ (a : Fin 4) (b : Fin 256) (d : Fin 256), i = ix3 a b d := ⟨i 0, i 1, i 2, eq_ix3 i⟩
  exact composed_eq _ _ _ b n j
end Cert.Proof.CompressRef
end
-- ==== Proof.SelectSpec.lean ====
module

public import proofs.«01_k».proof.Proof.Gen.SelectIdeal
public import proofs.«01_k».proof.Proof.WindowSpec

/-! What one head of the compressed attention is, as a formula over the three arguments. -/

@[expose] public section
set_option maxRecDepth 16384
noncomputable section
namespace Cert.Proof.SelectSpec
open Idealize.ShloMosaic Idealize.ShloMosaic.TcCoe Idealize.SL.Sem
open Cert.SelectIdeal Cert.Proof.WindowScore Cert.Proof.WindowStack

/-- Whether the compressed key `k`, which stands for the positions from `16 k` to `16 k + 31`, has ended at position `t`. -/
def ended (t k : ℕ) : BitVec 1 := BitVec.ofBool (decide (16 * k + 31 ≤ t))

variable (q : FVec Ideal S4x4096x512 .f32) (kv : FVec Ideal S4x256x256 .f32) (ms : FVec Ideal S4x4096x128 .f32)

/-- The score of compressed key `k` for the query at position `t` of head `h`. -/
def score (b : Fin 4) (t : Fin 4096) (h : Fin 8) (k : Fin 256) : EReal :=
  (∑ d : Fin 64, kv (ix3 b k ⟨64 * (h.val / 4) + d.val, by omega⟩) * q (ix3 b t ⟨64 * h.val + d.val, by omega⟩)) * eighth

/-- A head's output lane from its mask, its scores, its values and its gate. -/
def headOut {n : ℕ} (p : Fin n → BitVec 1) (s v : Fin n → EReal) (g : EReal) : EReal :=
  (∑ k, Ideal.div (SoftmaxRow.weight lo init p s k) (max (∑ k, SoftmaxRow.weight lo init p s k) tiny) * v k)
    * Ideal.logistic g

/-- Output lane `d` of head `h`: the values averaged by the normalised weights, times the head's gate. -/
def out (b : Fin 4) (t : Fin 4096) (h : Fin 8) (d : Fin 64) : EReal :=
  headOut (fun k : Fin 256 => ended t.val k.val) (score q kv b t h)
    (fun k => kv (ix3 b k ⟨128 + 64 * (h.val / 4) + d.val, by omega⟩)) (ms (ix3 b t ⟨8 + h.val, by omega⟩))

/-- The whole attention result. -/
def result : FVec Ideal S4x4096x512 .f32 := fun i =>
  out q kv ms (i 0) (i 1) ⟨(i 2).val / 64, by have h : (i 2).val < 512 := (i 2).isLt; omega⟩ ⟨(i 2).val % 64, by omega⟩

theorem result_at (b : Fin 4) (t : Fin 4096) (h : Fin 8) (d : Fin 64) (e : 64 * h.val + d.val < 512) :
    result q kv ms (ix3 b t ⟨64 * h.val + d.val, e⟩) = out q kv ms b t h d := by
  have e1 : (64 * h.val + d.val) / 64 = h.val := by omega
  have e2 : (64 * h.val + d.val) % 64 = d.val := by omega
  show out q kv ms b t ⟨(64 * h.val + d.val) / 64, _⟩ ⟨(64 * h.val + d.val) % 64, _⟩ = _
  exact congrArg₂ (out q kv ms b t) (Fin.ext e1) (Fin.ext e2)

end Cert.Proof.SelectSpec
end
-- ==== Proof.SelectScore.lean ====
module

public import proofs.«01_k».proof.Proof.Gen.SelectIdeal.Skeleton
public import proofs.«01_k».proof.Proof.SelectSpec

/-! The scores of one block of the compressed attention: the eight heads' queries are stacked, each in the half of the
    lanes where its key head lies, and one product with the compressed keys gives every head's scores. -/

@[expose] public section
set_option maxRecDepth 16384
noncomputable section
namespace Cert.Proof.SelectScore
open Idealize.ShloMosaic Idealize.ShloMosaic.TcCoe Idealize.SL.Sem
open Cert.SelectIdeal Cert.SelectIdeal.Gen Cert.Proof.WindowScore

/-- The numbers of the lanes. -/
abbrev lanes : IVec S128x128 32 := iota .tc S128x128 32 [1] Gen.iota_S128x128_d1_w32

/-- The scores of the stacked heads. -/
def scores (K : Vec Ideal S1x256x128 .f32) (q0 q1 q2 q3 : Vec Ideal S1x128x128 .f32) : FVec Ideal S1024x256 .f32 :=
  k0_pay16 (k0_pay5 K) (k0_pay8 q0) (k0_pay10 (k0_pay9 q0) lanes) (k0_pay11 q1) (k0_pay12 q1) k0_pay13 (k0_pay14 q2)
    k0_pay15 q2 q3 q3

variable (K : Vec Ideal S1x256x128 .f32) (q0 q1 q2 q3 : Vec Ideal S1x128x128 .f32) (r : Fin 128) (k : Fin 256)

set_option maxHeartbeats 1600000 in
theorem score0 : scores K q0 q1 q2 q3 (ix2 (⟨r.val, by omega⟩ : Fin 1024) k)
    = (∑ d : Fin 64, K (ix3 0 k ⟨d.val, by omega⟩) * q0 (ix3 0 r ⟨d.val, by omega⟩)) * eighth := by
  pointwise [scores, k0_pay16, k0_pay15, k0_pay14, k0_pay13, k0_pay12, k0_pay11, k0_pay10, k0_pay9, k0_pay8, k0_pay5]
  try simp (disch := omega) only [dif_pos, dif_neg]
  refine (lane_low' _).trans (Eq.trans (Finset.sum_congr rfl fun d _ => ?_) (scale_out _ _))
  refine Ideal.mul_congr (Ideal.mul_congr (congrArg _ ?_) rfl) rfl
  exact (ix3_inj ..).2 ⟨rfl, Fin.ext (by first | rfl | omega | (simp only []; omega)), Fin.ext (by first | rfl | omega | (simp only []; omega))⟩

set_option maxHeartbeats 1600000 in
theorem score1 : scores K q0 q1 q2 q3 (ix2 (⟨128 + r.val, by omega⟩ : Fin 1024) k)
    = (∑ d : Fin 64, K (ix3 0 k ⟨d.val, by omega⟩) * q0 (ix3 0 r ⟨64 + d.val, by omega⟩)) * eighth := by
  pointwise [scores, k0_pay16, k0_pay15, k0_pay14, k0_pay13, k0_pay12, k0_pay11, k0_pay10, k0_pay9, k0_pay8, k0_pay5]
  try simp (disch := omega) only [dif_pos, dif_neg]
  refine (lane_low' _).trans (Eq.trans (Finset.sum_congr rfl fun d _ => ?_) (scale_out _ _))
  refine Ideal.mul_congr (Ideal.mul_congr (congrArg _ ?_) rfl) rfl
  exact (ix3_inj ..).2 ⟨rfl, Fin.ext (by first | rfl | omega | (simp only []; omega)), Fin.ext (by first | rfl | omega | (simp only []; omega))⟩

set_option maxHeartbeats 1600000 in
theorem score2 : scores K q0 q1 q2 q3 (ix2 (⟨256 + r.val, by omega⟩ : Fin 1024) k)
    = (∑ d : Fin 64, K (ix3 0 k ⟨d.val, by omega⟩) * q1 (ix3 0 r ⟨d.val, by omega⟩)) * eighth := by
  pointwise [scores, k0_pay16, k0_pay15, k0_pay14, k0_pay13, k0_pay12, k0_pay11, k0_pay10, k0_pay9, k0_pay8, k0_pay5]
  try simp (disch := omega) only [dif_pos, dif_neg]
  refine (lane_low _ _).trans (Eq.trans (Finset.sum_congr rfl fun d _ => ?_) (scale_out _ _))
  refine Ideal.mul_congr (Ideal.mul_congr (congrArg _ ?_) rfl) rfl
  exact (ix3_inj ..).2 ⟨rfl, Fin.ext (by first | rfl | omega | (simp only []; omega)), Fin.ext (by first | rfl | omega | (simp only []; omega))⟩

set_option maxHeartbeats 1600000 in
theorem score3 : scores K q0 q1 q2 q3 (ix2 (⟨384 + r.val, by omega⟩ : Fin 1024) k)
    = (∑ d : Fin 64, K (ix3 0 k ⟨d.val, by omega⟩) * q1 (ix3 0 r ⟨64 + d.val, by omega⟩)) * eighth := by
  pointwise [scores, k0_pay16, k0_pay15, k0_pay14, k0_pay13, k0_pay12, k0_pay11, k0_pay10, k0_pay9, k0_pay8, k0_pay5]
  try simp (disch := omega) only [dif_pos, dif_neg]
  refine (lane_low _ _).trans (Eq.trans (Finset.sum_congr rfl fun d _ => ?_) (scale_out _ _))
  refine Ideal.mul_congr (Ideal.mul_congr (congrArg _ ?_) rfl) rfl
  exact (ix3_inj ..).2 ⟨rfl, Fin.ext (by first | rfl | omega | (simp only []; omega)), Fin.ext (by first | rfl | omega | (simp only []; omega))⟩

set_option maxHeartbeats 1600000 in
theorem score4 : scores K q0 q1 q2 q3 (ix2 (⟨512 + r.val, by omega⟩ : Fin 1024) k)
    = (∑ d : Fin 64, K (ix3 0 k ⟨64 + d.val, by omega⟩) * q2 (ix3 0 r ⟨d.val, by omega⟩)) * eighth := by
  pointwise [scores, k0_pay16, k0_pay15, k0_pay14, k0_pay13, k0_pay12, k0_pay11, k0_pay10, k0_pay9, k0_pay8, k0_pay5]
  try simp (disch := omega) only [dif_pos, dif_neg]
  refine (lane_high _ _).trans (Eq.trans (Finset.sum_congr rfl fun d _ => ?_) (scale_out _ _))
  refine Ideal.mul_congr (Ideal.mul_congr (congrArg _ ?_) rfl) rfl
  exact (ix3_inj ..).2 ⟨rfl, Fin.ext (by first | rfl | omega | (simp only []; omega)), Fin.ext (by first | rfl | omega | (simp only []; omega))⟩

set_option maxHeartbeats 1600000 in
theorem score5 : scores K q0 q1 q2 q3 (ix2 (⟨640 + r.val, by omega⟩ : Fin 1024) k)
    = (∑ d : Fin 64, K (ix3 0 k ⟨64 + d.val, by omega⟩) * q2 (ix3 0 r ⟨64 + d.val, by omega⟩)) * eighth := by
  pointwise [scores, k0_pay16, k0_pay15, k0_pay14, k0_pay13, k0_pay12, k0_pay11, k0_pay10, k0_pay9, k0_pay8, k0_pay5]
  try simp (disch := omega) only [dif_pos, dif_neg]
  refine (lane_high _ _).trans (Eq.trans (Finset.sum_congr rfl fun d _ => ?_) (scale_out _ _))
  refine Ideal.mul_congr (Ideal.mul_congr (congrArg _ ?_) rfl) rfl
  exact (ix3_inj ..).2 ⟨rfl, Fin.ext (by first | rfl | omega | (simp only []; omega)), Fin.ext (by first | rfl | omega | (simp only []; omega))⟩

set_option maxHeartbeats 1600000 in
theorem score6 : scores K q0 q1 q2 q3 (ix2 (⟨768 + r.val, by omega⟩ : Fin 1024) k)
    = (∑ d : Fin 64, K (ix3 0 k ⟨64 + d.val, by omega⟩) * q3 (ix3 0 r ⟨d.val, by omega⟩)) * eighth := by
  pointwise [scores, k0_pay16, k0_pay15, k0_pay14, k0_pay13, k0_pay12, k0_pay11, k0_pay10, k0_pay9, k0_pay8, k0_pay5]
  try simp (disch := omega) only [dif_pos, dif_neg]
  refine (lane_high _ _).trans (Eq.trans (Finset.sum_congr rfl fun d _ => ?_) (scale_out _ _))
  refine Ideal.mul_congr (Ideal.mul_congr (congrArg _ ?_) rfl) rfl
  exact (ix3_inj ..).2 ⟨rfl, Fin.ext (by first | rfl | omega | (simp only []; omega)), Fin.ext (by first | rfl | omega | (simp only []; omega))⟩

set_option maxHeartbeats 1600000 in
theorem score7 : scores K q0 q1 q2 q3 (ix2 (⟨896 + r.val, by omega⟩ : Fin 1024) k)
    = (∑ d : Fin 64, K (ix3 0 k ⟨64 + d.val, by omega⟩) * q3 (ix3 0 r ⟨64 + d.val, by omega⟩)) * eighth := by
  pointwise [scores, k0_pay16, k0_pay15, k0_pay14, k0_pay13, k0_pay12, k0_pay11, k0_pay10, k0_pay9, k0_pay8, k0_pay5]
  try simp (disch := omega) only [dif_pos, dif_neg]
  refine (lane_high _ _).trans (Eq.trans (Finset.sum_congr rfl fun d _ => ?_) (scale_out _ _))
  refine Ideal.mul_congr (Ideal.mul_congr (congrArg _ ?_) rfl) rfl
  exact (ix3_inj ..).2 ⟨rfl, Fin.ext (by first | rfl | omega | (simp only []; omega)), Fin.ext (by first | rfl | omega | (simp only []; omega))⟩

end Cert.Proof.SelectScore
end
-- ==== Proof.SelectHeads.lean ====
module

public import proofs.«01_k».proof.Proof.SelectScore
public import proofs.«01_k».proof.Proof.WindowHeads

/-! What one grid point of the compressed attention stores, head by head: each head's 64 output lanes are its key head's
    compressed values averaged by the normalised weights, times the head's gate. -/

@[expose] public section
set_option maxRecDepth 16384
noncomputable section
namespace Cert.Proof.SelectHeads
open Idealize.ShloMosaic Idealize.ShloMosaic.TcCoe Idealize.SL.Sem
open Cert.SelectIdeal Cert.SelectIdeal.Gen Cert.Proof.SelectScore Cert.Proof.SelectSpec
open Cert.Proof.WindowStack (lo init tiny)
open Cert.Proof.WindowHeads (pick_low pick_high)

/-- The normalised weight of key `k`. -/
def share {n : ℕ} (p : Fin n → BitVec 1) (s : Fin n → EReal) (k : Fin n) : EReal :=
  Ideal.div (SoftmaxRow.weight lo init p s k) (max (∑ k, SoftmaxRow.weight lo init p s k) tiny)

section Pieces
variable (p : IVec S128x256 1) (S : FVec Ideal S1024x256 .f32) (v10 : FVec Ideal S256x128 .bf16)
  (a0 a1 a2 a3 a4 : FVec Ideal S128x256 .bf16) (e5 z5 : FVec Ideal S128x256 .f32)
  (W : FVec Ideal S1024x128 .f32) (G G7 : Vec Ideal S1x128x1 .f32) (o0 o1 o2 o3 o4 o5 o6 : FVec Ideal S128x128 .f32)
  (g6 : FVec Ideal S128x1 .f32) (r : Fin 128)

theorem piece0 (x : Fin 128) : k0_pay38 v10 p S a0 a1 a2 a3 a4 e5 z5 (ix2 (⟨r.val, by omega⟩ : Fin 1024) x)
    = ∑ k : Fin 256, (a0) (ix2 r k) * v10 (ix2 k x) := by
  pointwise [k0_pay38]
  try simp (disch := omega) only [dif_pos, dif_neg]
  try exact Finset.sum_congr rfl fun k _ => Ideal.mul_congr (congrArg _ ((ix2_inj ..).2 ⟨Fin.ext (by first | rfl | omega | (simp only []; omega)), rfl⟩)) rfl

theorem piece1 (x : Fin 128) : k0_pay38 v10 p S a0 a1 a2 a3 a4 e5 z5 (ix2 (⟨128 + r.val, by omega⟩ : Fin 1024) x)
    = ∑ k : Fin 256, (a1) (ix2 r k) * v10 (ix2 k x) := by
  pointwise [k0_pay38]
  try simp (disch := omega) only [dif_pos, dif_neg]
  try exact Finset.sum_congr rfl fun k _ => Ideal.mul_congr (congrArg _ ((ix2_inj ..).2 ⟨Fin.ext (by first | rfl | omega | (simp only []; omega)), rfl⟩)) rfl

theorem piece2 (x : Fin 128) : k0_pay38 v10 p S a0 a1 a2 a3 a4 e5 z5 (ix2 (⟨256 + r.val, by omega⟩ : Fin 1024) x)
    = ∑ k : Fin 256, (a2) (ix2 r k) * v10 (ix2 k x) := by
  pointwise [k0_pay38]
  try simp (disch := omega) only [dif_pos, dif_neg]
  try exact Finset.sum_congr rfl fun k _ => Ideal.mul_congr (congrArg _ ((ix2_inj ..).2 ⟨Fin.ext (by first | rfl | omega | (simp only []; omega)), rfl⟩)) rfl

theorem piece3 (x : Fin 128) : k0_pay38 v10 p S a0 a1 a2 a3 a4 e5 z5 (ix2 (⟨384 + r.val, by omega⟩ : Fin 1024) x)
    = ∑ k : Fin 256, (a3) (ix2 r k) * v10 (ix2 k x) := by
  pointwise [k0_pay38]
  try simp (disch := omega) only [dif_pos, dif_neg]
  try exact Finset.sum_congr rfl fun k _ => Ideal.mul_congr (congrArg _ ((ix2_inj ..).2 ⟨Fin.ext (by first | rfl | omega | (simp only []; omega)), rfl⟩)) rfl

theorem piece4 (x : Fin 128) : k0_pay38 v10 p S a0 a1 a2 a3 a4 e5 z5 (ix2 (⟨512 + r.val, by omega⟩ : Fin 1024) x)
    = ∑ k : Fin 256, (a4) (ix2 r k) * v10 (ix2 k x) := by
  pointwise [k0_pay38]
  try simp (disch := omega) only [dif_pos, dif_neg]
  try exact Finset.sum_congr rfl fun k _ => Ideal.mul_congr (congrArg _ ((ix2_inj ..).2 ⟨Fin.ext (by first | rfl | omega | (simp only []; omega)), rfl⟩)) rfl

theorem piece5 (x : Fin 128) : k0_pay38 v10 p S a0 a1 a2 a3 a4 e5 z5 (ix2 (⟨640 + r.val, by omega⟩ : Fin 1024) x)
    = ∑ k : Fin 256, (k0_pay34 p e5 z5) (ix2 r k) * v10 (ix2 k x) := by
  pointwise [k0_pay38]
  try simp (disch := omega) only [dif_pos, dif_neg]
  try exact Finset.sum_congr rfl fun k _ => Ideal.mul_congr (congrArg _ ((ix2_inj ..).2 ⟨Fin.ext (by first | rfl | omega | (simp only []; omega)), rfl⟩)) rfl

theorem piece6 (x : Fin 128) : k0_pay38 v10 p S a0 a1 a2 a3 a4 e5 z5 (ix2 (⟨768 + r.val, by omega⟩ : Fin 1024) x)
    = ∑ k : Fin 256, (k0_pay35 p S) (ix2 r k) * v10 (ix2 k x) := by
  pointwise [k0_pay38]
  try simp (disch := omega) only [dif_pos, dif_neg]
  try exact Finset.sum_congr rfl fun k _ => Ideal.mul_congr (congrArg _ ((ix2_inj ..).2 ⟨Fin.ext (by first | rfl | omega | (simp only []; omega)), rfl⟩)) rfl

theorem piece7 (x : Fin 128) : k0_pay38 v10 p S a0 a1 a2 a3 a4 e5 z5 (ix2 (⟨896 + r.val, by omega⟩ : Fin 1024) x)
    = ∑ k : Fin 256, (k0_pay36 p S) (ix2 r k) * v10 (ix2 k x) := by
  pointwise [k0_pay38]
  try simp (disch := omega) only [dif_pos, dif_neg]
  try exact Finset.sum_congr rfl fun k _ => Ideal.mul_congr (congrArg _ ((ix2_inj ..).2 ⟨Fin.ext (by first | rfl | omega | (simp only []; omega)), rfl⟩)) rfl

theorem gated0 (x : Fin 128) : k0_pay39 W G (ix2 r x)
    = W (ix2 (⟨r.val, by omega⟩ : Fin 1024) x) * Ideal.logistic (G (ix3 0 r 0)) := by
  pointwise [k0_pay39]

theorem gated1 (x : Fin 128) : k0_pay40 W G (ix2 r x)
    = W (ix2 (⟨128 + r.val, by omega⟩ : Fin 1024) x) * Ideal.logistic (G (ix3 0 r 0)) := by
  pointwise [k0_pay40]

theorem gated2 (x : Fin 128) : k0_pay41 W G (ix2 r x)
    = W (ix2 (⟨256 + r.val, by omega⟩ : Fin 1024) x) * Ideal.logistic (G (ix3 0 r 0)) := by
  pointwise [k0_pay41]

theorem gated3 (x : Fin 128) : k0_pay42 W G (ix2 r x)
    = W (ix2 (⟨384 + r.val, by omega⟩ : Fin 1024) x) * Ideal.logistic (G (ix3 0 r 0)) := by
  pointwise [k0_pay42]

theorem gated4 (x : Fin 128) : k0_pay43 W G (ix2 r x)
    = W (ix2 (⟨512 + r.val, by omega⟩ : Fin 1024) x) * Ideal.logistic (G (ix3 0 r 0)) := by
  pointwise [k0_pay43]

theorem gated5 (x : Fin 128) : k0_pay44 W G (ix2 r x)
    = W (ix2 (⟨640 + r.val, by omega⟩ : Fin 1024) x) * Ideal.logistic (G (ix3 0 r 0)) := by
  pointwise [k0_pay44]

theorem row6 (x : Fin 128) : k0_pay45 W (ix2 r x) = W (ix2 (⟨768 + r.val, by omega⟩ : Fin 1024) x) := by
  pointwise [k0_pay45]

theorem gate6 : k0_pay46 G (ix2 r 0) = G (ix3 0 r 0) := by
  pointwise [k0_pay46]

theorem lane0 (d : Fin 64) : k0_pay47 W o0 o1 o2 o3 o4 o5 o6 g6 G7 (ix3 0 r ⟨d.val, by omega⟩)
    = o0 (ix2 r (⟨d.val, by omega⟩ : Fin 128)) := by
  pointwise [k0_pay47]
  try simp (disch := omega) only [dif_pos, dif_neg, pick_low, pick_high]

theorem lane1 (d : Fin 64) : k0_pay47 W o0 o1 o2 o3 o4 o5 o6 g6 G7 (ix3 0 r ⟨64 + d.val, by omega⟩)
    = o1 (ix2 r (⟨d.val, by omega⟩ : Fin 128)) := by
  pointwise [k0_pay47]
  try simp (disch := omega) only [dif_pos, dif_neg, pick_low, pick_high]
  simp only [show (64 + d.val + 128 - 64) % 128 = d.val by omega]

theorem lane2 (d : Fin 64) : k0_pay47 W o0 o1 o2 o3 o4 o5 o6 g6 G7 (ix3 0 r ⟨128 + d.val, by omega⟩)
    = o2 (ix2 r (⟨d.val, by omega⟩ : Fin 128)) := by
  pointwise [k0_pay47]
  try simp (disch := omega) only [dif_pos, dif_neg, pick_low, pick_high]

theorem lane3 (d : Fin 64) : k0_pay47 W o0 o1 o2 o3 o4 o5 o6 g6 G7 (ix3 0 r ⟨192 + d.val, by omega⟩)
    = o3 (ix2 r (⟨d.val, by omega⟩ : Fin 128)) := by
  pointwise [k0_pay47]
  try simp (disch := omega) only [dif_pos, dif_neg, pick_low, pick_high]
  simp only [show (192 + d.val - 128 + 128 - 64) % 128 = d.val by omega]

theorem lane4 (d : Fin 64) : k0_pay47 W o0 o1 o2 o3 o4 o5 o6 g6 G7 (ix3 0 r ⟨256 + d.val, by omega⟩)
    = o4 (ix2 r (⟨64 + d.val, by omega⟩ : Fin 128)) := by
  pointwise [k0_pay47]
  try simp (disch := omega) only [dif_pos, dif_neg, pick_low, pick_high]
  simp only [show (256 + d.val - 128 - 128 + 128 - 64) % 128 = 64 + d.val by omega]

theorem lane5 (d : Fin 64) : k0_pay47 W o0 o1 o2 o3 o4 o5 o6 g6 G7 (ix3 0 r ⟨320 + d.val, by omega⟩)
    = o5 (ix2 r (⟨64 + d.val, by omega⟩ : Fin 128)) := by
  pointwise [k0_pay47]
  try simp (disch := omega) only [dif_pos, dif_neg, pick_low, pick_high]
  simp only [show 320 + d.val - 128 - 128 = 64 + d.val by omega]

theorem lane6 (d : Fin 64) : k0_pay47 W o0 o1 o2 o3 o4 o5 o6 g6 G7 (ix3 0 r ⟨384 + d.val, by omega⟩)
    = o6 (ix2 r (⟨64 + d.val, by omega⟩ : Fin 128)) * Ideal.logistic (g6 (ix2 r 0)) := by
  pointwise [k0_pay47]
  try simp (disch := omega) only [dif_pos, dif_neg, pick_low, pick_high]
  simp only [show (384 + d.val - 128 - 128 - 128 + 128 - 64) % 128 = 64 + d.val by omega]

theorem lane7 (d : Fin 64) : k0_pay47 W o0 o1 o2 o3 o4 o5 o6 g6 G7 (ix3 0 r ⟨448 + d.val, by omega⟩)
    = W (ix2 (⟨896 + r.val, by omega⟩ : Fin 1024) (⟨64 + d.val, by omega⟩ : Fin 128)) * Ideal.logistic (G7 (ix3 0 r 0)) := by
  pointwise [k0_pay47]
  try simp (disch := omega) only [dif_pos, dif_neg, pick_low, pick_high]
  simp only [show 448 + d.val - 128 - 128 - 128 = 64 + d.val by omega]
end Pieces

section Block
variable (p : IVec S128x256 1) (K V : Vec Ideal S1x256x128 .f32) (q0 q1 q2 q3 : Vec Ideal S1x128x128 .f32)
variable (g0 g1 g2 g3 g4 g5 g6 g7 : Vec Ideal S1x128x1 .f32) (r : Fin 128)

/-- The first head's masked scores. -/
def first : FVec Ideal S128x256 .f32 :=
  k0_pay17 (k0_pay5 K) p (k0_pay8 q0) (k0_pay10 (k0_pay9 q0) lanes) (k0_pay11 q1) (k0_pay12 q1) k0_pay13 (k0_pay14 q2)
    k0_pay15 q2 q3 q3

/-- The weighted values of the stacked heads. -/
def stacked : FVec Ideal S1024x128 .f32 :=
  k0_pay38 (k0_pay6 V) p (scores K q0 q1 q2 q3) (k0_pay19 p (first p K q0 q1 q2 q3)) (k0_pay21 p (scores K q0 q1 q2 q3))
    (k0_pay26 (k0_pay23 p (scores K q0 q1 q2 q3)) (k0_pay24 p (scores K q0 q1 q2 q3))) (k0_pay28 p (scores K q0 q1 q2 q3))
    (k0_pay31 p (scores K q0 q1 q2 q3)) (k0_pay32 p (scores K q0 q1 q2 q3)) k0_pay33

/-- The block the kernel stores. -/
def block : FVec Ideal S1x128x512 .f32 :=
  k0_pay47 (stacked p K V q0 q1 q2 q3) (k0_pay39 (stacked p K V q0 q1 q2 q3) g0) (k0_pay40 (stacked p K V q0 q1 q2 q3) g1)
    (k0_pay41 (stacked p K V q0 q1 q2 q3) g2) (k0_pay42 (stacked p K V q0 q1 q2 q3) g3)
    (k0_pay43 (stacked p K V q0 q1 q2 q3) g4) (k0_pay44 (stacked p K V q0 q1 q2 q3) g5)
    (k0_pay45 (stacked p K V q0 q1 q2 q3)) (k0_pay46 g6) g7

theorem share0 (k : Fin 256) : (k0_pay19 p (first p K q0 q1 q2 q3) : S128x256.Idx → EReal) (ix2 r k)
    = share (fun k => p (ix2 r k)) (fun k => scores K q0 q1 q2 q3 (ix2 (⟨r.val, by omega⟩ : Fin 1024) k)) k := by
  pointwise [k0_pay19, k0_pay18, first, k0_pay17]
  rfl

theorem stacked0 (x : Fin 128) : stacked p K V q0 q1 q2 q3 (ix2 (⟨r.val, by omega⟩ : Fin 1024) x)
    = ∑ k, share (fun k => p (ix2 r k)) (fun k => scores K q0 q1 q2 q3 (ix2 (⟨r.val, by omega⟩ : Fin 1024) k)) k * V (ix3 0 k x) := by
  refine (piece0 p _ _ _ _ _ _ _ _ _ r x).trans (Finset.sum_congr rfl fun k _ => Ideal.mul_congr (share0 p K q0 q1 q2 q3 r k) ?_)
  pointwise [k0_pay6]

theorem block0 (d : Fin 64) : block p K V q0 q1 q2 q3 g0 g1 g2 g3 g4 g5 g6 g7 (ix3 0 r ⟨d.val, by omega⟩)
    = headOut (fun k => p (ix2 r k)) (fun k => scores K q0 q1 q2 q3 (ix2 (⟨r.val, by omega⟩ : Fin 1024) k))
        (fun k => V (ix3 0 k ⟨d.val, by omega⟩)) (g0 (ix3 0 r 0)) := by
  refine (lane0 ..).trans ?_
  refine (gated0 ..).trans ?_
  exact congrArg (· * _) (stacked0 p K V q0 q1 q2 q3 r ⟨d.val, by omega⟩)

theorem share1 (k : Fin 256) : (k0_pay21 p (scores K q0 q1 q2 q3) : S128x256.Idx → EReal) (ix2 r k)
    = share (fun k => p (ix2 r k)) (fun k => scores K q0 q1 q2 q3 (ix2 (⟨128 + r.val, by omega⟩ : Fin 1024) k)) k := by
  pointwise [k0_pay21, k0_pay20]
  rfl

theorem stacked1 (x : Fin 128) : stacked p K V q0 q1 q2 q3 (ix2 (⟨128 + r.val, by omega⟩ : Fin 1024) x)
    = ∑ k, share (fun k => p (ix2 r k)) (fun k => scores K q0 q1 q2 q3 (ix2 (⟨128 + r.val, by omega⟩ : Fin 1024) k)) k * V (ix3 0 k x) := by
  refine (piece1 p _ _ _ _ _ _ _ _ _ r x).trans (Finset.sum_congr rfl fun k _ => Ideal.mul_congr (share1 p K q0 q1 q2 q3 r k) ?_)
  pointwise [k0_pay6]

theorem block1 (d : Fin 64) : block p K V q0 q1 q2 q3 g0 g1 g2 g3 g4 g5 g6 g7 (ix3 0 r ⟨64 + d.val, by omega⟩)
    = headOut (fun k => p (ix2 r k)) (fun k => scores K q0 q1 q2 q3 (ix2 (⟨128 + r.val, by omega⟩ : Fin 1024) k))
        (fun k => V (ix3 0 k ⟨d.val, by omega⟩)) (g1 (ix3 0 r 0)) := by
  refine (lane1 ..).trans ?_
  refine (gated1 ..).trans ?_
  exact congrArg (· * _) (stacked1 p K V q0 q1 q2 q3 r ⟨d.val, by omega⟩)

theorem share2 (k : Fin 256) : (k0_pay26 (k0_pay23 p (scores K q0 q1 q2 q3)) (k0_pay24 p (scores K q0 q1 q2 q3)) : S128x256.Idx → EReal) (ix2 r k)
    = share (fun k => p (ix2 r k)) (fun k => scores K q0 q1 q2 q3 (ix2 (⟨256 + r.val, by omega⟩ : Fin 1024) k)) k := by
  pointwise [k0_pay26, k0_pay25, k0_pay24, k0_pay23]
  rfl

theorem stacked2 (x : Fin 128) : stacked p K V q0 q1 q2 q3 (ix2 (⟨256 + r.val, by omega⟩ : Fin 1024) x)
    = ∑ k, share (fun k => p (ix2 r k)) (fun k => scores K q0 q1 q2 q3 (ix2 (⟨256 + r.val, by omega⟩ : Fin 1024) k)) k * V (ix3 0 k x) := by
  refine (piece2 p _ _ _ _ _ _ _ _ _ r x).trans (Finset.sum_congr rfl fun k _ => Ideal.mul_congr (share2 p K q0 q1 q2 q3 r k) ?_)
  pointwise [k0_pay6]

theorem block2 (d : Fin 64) : block p K V q0 q1 q2 q3 g0 g1 g2 g3 g4 g5 g6 g7 (ix3 0 r ⟨128 + d.val, by omega⟩)
    = headOut (fun k => p (ix2 r k)) (fun k => scores K q0 q1 q2 q3 (ix2 (⟨256 + r.val, by omega⟩ : Fin 1024) k))
        (fun k => V (ix3 0 k ⟨d.val, by omega⟩)) (g2 (ix3 0 r 0)) := by
  refine (lane2 ..).trans ?_
  refine (gated2 ..).trans ?_
  exact congrArg (· * _) (stacked2 p K V q0 q1 q2 q3 r ⟨d.val, by omega⟩)

theorem share3 (k : Fin 256) : (k0_pay28 p (scores K q0 q1 q2 q3) : S128x256.Idx → EReal) (ix2 r k)
    = share (fun k => p (ix2 r k)) (fun k => scores K q0 q1 q2 q3 (ix2 (⟨384 + r.val, by omega⟩ : Fin 1024) k)) k := by
  pointwise [k0_pay28, k0_pay27]
  rfl

theorem stacked3 (x : Fin 128) : stacked p K V q0 q1 q2 q3 (ix2 (⟨384 + r.val, by omega⟩ : Fin 1024) x)
    = ∑ k, share (fun k => p (ix2 r k)) (fun k => scores K q0 q1 q2 q3 (ix2 (⟨384 + r.val, by omega⟩ : Fin 1024) k)) k * V (ix3 0 k x) := by
  refine (piece3 p _ _ _ _ _ _ _ _ _ r x).trans (Finset.sum_congr rfl fun k _ => Ideal.mul_congr (share3 p K q0 q1 q2 q3 r k) ?_)
  pointwise [k0_pay6]

theorem block3 (d : Fin 64) : block p K V q0 q1 q2 q3 g0 g1 g2 g3 g4 g5 g6 g7 (ix3 0 r ⟨192 + d.val, by omega⟩)
    = headOut (fun k => p (ix2 r k)) (fun k => scores K q0 q1 q2 q3 (ix2 (⟨384 + r.val, by omega⟩ : Fin 1024) k))
        (fun k => V (ix3 0 k ⟨d.val, by omega⟩)) (g3 (ix3 0 r 0)) := by
  refine (lane3 ..).trans ?_
  refine (gated3 ..).trans ?_
  exact congrArg (· * _) (stacked3 p K V q0 q1 q2 q3 r ⟨d.val, by omega⟩)

theorem share4 (k : Fin 256) : (k0_pay31 p (scores K q0 q1 q2 q3) : S128x256.Idx → EReal) (ix2 r k)
    = share (fun k => p (ix2 r k)) (fun k => scores K q0 q1 q2 q3 (ix2 (⟨512 + r.val, by omega⟩ : Fin 1024) k)) k := by
  pointwise [k0_pay31, k0_pay30]
  rfl

theorem stacked4 (x : Fin 128) : stacked p K V q0 q1 q2 q3 (ix2 (⟨512 + r.val, by omega⟩ : Fin 1024) x)
    = ∑ k, share (fun k => p (ix2 r k)) (fun k => scores K q0 q1 q2 q3 (ix2 (⟨512 + r.val, by omega⟩ : Fin 1024) k)) k * V (ix3 0 k x) := by
  refine (piece4 p _ _ _ _ _ _ _ _ _ r x).trans (Finset.sum_congr rfl fun k _ => Ideal.mul_congr (share4 p K q0 q1 q2 q3 r k) ?_)
  pointwise [k0_pay6]

theorem block4 (d : Fin 64) : block p K V q0 q1 q2 q3 g0 g1 g2 g3 g4 g5 g6 g7 (ix3 0 r ⟨256 + d.val, by omega⟩)
    = headOut (fun k => p (ix2 r k)) (fun k => scores K q0 q1 q2 q3 (ix2 (⟨512 + r.val, by omega⟩ : Fin 1024) k))
        (fun k => V (ix3 0 k ⟨64 + d.val, by omega⟩)) (g4 (ix3 0 r 0)) := by
  refine (lane4 ..).trans ?_
  refine (gated4 ..).trans ?_
  exact congrArg (· * _) (stacked4 p K V q0 q1 q2 q3 r ⟨64 + d.val, by omega⟩)

theorem share5 (k : Fin 256) : (k0_pay34 p (k0_pay32 p (scores K q0 q1 q2 q3)) k0_pay33 : S128x256.Idx → EReal) (ix2 r k)
    = share (fun k => p (ix2 r k)) (fun k => scores K q0 q1 q2 q3 (ix2 (⟨640 + r.val, by omega⟩ : Fin 1024) k)) k := by
  pointwise [k0_pay34, k0_pay33, k0_pay32]
  rfl

theorem stacked5 (x : Fin 128) : stacked p K V q0 q1 q2 q3 (ix2 (⟨640 + r.val, by omega⟩ : Fin 1024) x)
    = ∑ k, share (fun k => p (ix2 r k)) (fun k => scores K q0 q1 q2 q3 (ix2 (⟨640 + r.val, by omega⟩ : Fin 1024) k)) k * V (ix3 0 k x) := by
  refine (piece5 p _ _ _ _ _ _ _ _ _ r x).trans (Finset.sum_congr rfl fun k _ => Ideal.mul_congr (share5 p K q0 q1 q2 q3 r k) ?_)
  pointwise [k0_pay6]

theorem block5 (d : Fin 64) : block p K V q0 q1 q2 q3 g0 g1 g2 g3 g4 g5 g6 g7 (ix3 0 r ⟨320 + d.val, by omega⟩)
    = headOut (fun k => p (ix2 r k)) (fun k => scores K q0 q1 q2 q3 (ix2 (⟨640 + r.val, by omega⟩ : Fin 1024) k))
        (fun k => V (ix3 0 k ⟨64 + d.val, by omega⟩)) (g5 (ix3 0 r 0)) := by
  refine (lane5 ..).trans ?_
  refine (gated5 ..).trans ?_
  exact congrArg (· * _) (stacked5 p K V q0 q1 q2 q3 r ⟨64 + d.val, by omega⟩)

theorem share6 (k : Fin 256) : (k0_pay35 p (scores K q0 q1 q2 q3) : S128x256.Idx → EReal) (ix2 r k)
    = share (fun k => p (ix2 r k)) (fun k => scores K q0 q1 q2 q3 (ix2 (⟨768 + r.val, by omega⟩ : Fin 1024) k)) k := by
  pointwise [k0_pay35]
  rfl

theorem stacked6 (x : Fin 128) : stacked p K V q0 q1 q2 q3 (ix2 (⟨768 + r.val, by omega⟩ : Fin 1024) x)
    = ∑ k, share (fun k => p (ix2 r k)) (fun k => scores K q0 q1 q2 q3 (ix2 (⟨768 + r.val, by omega⟩ : Fin 1024) k)) k * V (ix3 0 k x) := by
  refine (piece6 p _ _ _ _ _ _ _ _ _ r x).trans (Finset.sum_congr rfl fun k _ => Ideal.mul_congr (share6 p K q0 q1 q2 q3 r k) ?_)
  pointwise [k0_pay6]

theorem block6 (d : Fin 64) : block p K V q0 q1 q2 q3 g0 g1 g2 g3 g4 g5 g6 g7 (ix3 0 r ⟨384 + d.val, by omega⟩)
    = headOut (fun k => p (ix2 r k)) (fun k => scores K q0 q1 q2 q3 (ix2 (⟨768 + r.val, by omega⟩ : Fin 1024) k))
        (fun k => V (ix3 0 k ⟨64 + d.val, by omega⟩)) (g6 (ix3 0 r 0)) := by
  refine (lane6 ..).trans ?_
  exact congrArg₂ (· * ·) ((row6 _ r _).trans (stacked6 p K V q0 q1 q2 q3 r ⟨64 + d.val, by omega⟩)) (congrArg Ideal.logistic (gate6 g6 r))

theorem share7 (k : Fin 256) : (k0_pay36 p (scores K q0 q1 q2 q3) : S128x256.Idx → EReal) (ix2 r k)
    = share (fun k => p (ix2 r k)) (fun k => scores K q0 q1 q2 q3 (ix2 (⟨896 + r.val, by omega⟩ : Fin 1024) k)) k := by
  pointwise [k0_pay36]
  rfl

theorem stacked7 (x : Fin 128) : stacked p K V q0 q1 q2 q3 (ix2 (⟨896 + r.val, by omega⟩ : Fin 1024) x)
    = ∑ k, share (fun k => p (ix2 r k)) (fun k => scores K q0 q1 q2 q3 (ix2 (⟨896 + r.val, by omega⟩ : Fin 1024) k)) k * V (ix3 0 k x) := by
  refine (piece7 p _ _ _ _ _ _ _ _ _ r x).trans (Finset.sum_congr rfl fun k _ => Ideal.mul_congr (share7 p K q0 q1 q2 q3 r k) ?_)
  pointwise [k0_pay6]

theorem block7 (d : Fin 64) : block p K V q0 q1 q2 q3 g0 g1 g2 g3 g4 g5 g6 g7 (ix3 0 r ⟨448 + d.val, by omega⟩)
    = headOut (fun k => p (ix2 r k)) (fun k => scores K q0 q1 q2 q3 (ix2 (⟨896 + r.val, by omega⟩ : Fin 1024) k))
        (fun k => V (ix3 0 k ⟨64 + d.val, by omega⟩)) (g7 (ix3 0 r 0)) := by
  refine (lane7 ..).trans ?_
  exact congrArg (· * _) (stacked7 p K V q0 q1 q2 q3 r ⟨64 + d.val, by omega⟩)
end Block
end Cert.Proof.SelectHeads
end
-- ==== Proof.SelectLocal.lean ====
module

public import proofs.«01_k».proof.Proof.SelectHeads

/-! One block of the compressed attention, read against the whole arrays. -/

@[expose] public section
set_option maxRecDepth 16384
noncomputable section
namespace Cert.Proof.SelectLocal
open Idealize.ShloMosaic Idealize.ShloMosaic.TcCoe Idealize.SL.Sem
open Cert.SelectIdeal Cert.Proof.SelectSpec Cert.Proof.SelectHeads Cert.Proof.SelectScore

variable (q : FVec Ideal S4x4096x512 .f32) (kv : FVec Ideal S4x256x256 .f32) (ms : FVec Ideal S4x4096x128 .f32)
variable (p : IVec S128x256 1) (K V : Vec Ideal S1x256x128 .f32) (q0 q1 q2 q3 : Vec Ideal S1x128x128 .f32)
variable (g0 g1 g2 g3 g4 g5 g6 g7 : Vec Ideal S1x128x1 .f32) (r : Fin 128) (b : Fin 4) (t : Fin 4096)

/-- One head is its formula once its mask, scores, values and gate are the arrays'. -/
theorem headOut_eq (h : Fin 8) (d : Fin 64) (p' : Fin 256 → BitVec 1) (s v : Fin 256 → EReal) (g : EReal)
    (hp : ∀ k, p' k = ended t.val k.val) (hs : ∀ k, s k = score q kv b t h k)
    (hv : ∀ k, v k = kv (ix3 b k ⟨128 + 64 * (h.val / 4) + d.val, by omega⟩)) (hg : g = ms (ix3 b t ⟨8 + h.val, by omega⟩)) :
    headOut p' s v g = out q kv ms b t h d := by
  obtain rfl : p' = fun k : Fin 256 => ended t.val k.val := funext hp
  obtain rfl : s = score q kv b t h := funext hs
  obtain rfl : v = fun k => kv (ix3 b k ⟨128 + 64 * (h.val / 4) + d.val, by omega⟩) := funext hv
  rw [hg]; rfl

/-- The scores of one head from the blocks' entries. -/
theorem score_eq (h : Fin 8) (k : Fin 256) (x y : Fin 64 → EReal)
    (hx : ∀ d : Fin 64, x d = kv (ix3 b k ⟨64 * (h.val / 4) + d.val, by omega⟩))
    (hy : ∀ d : Fin 64, y d = q (ix3 b t ⟨64 * h.val + d.val, by omega⟩)) :
    (∑ d, x d * y d) * WindowScore.eighth = score q kv b t h k :=
  congrArg (· * WindowScore.eighth) (Finset.sum_congr rfl fun d _ => Ideal.mul_congr (hx d) (hy d))

theorem point0
    (hp : ∀ k, p (ix2 r k) = ended t.val k.val)
  (hK : ∀ (k : Fin 256) (x : Fin 128), K (ix3 0 k x) = kv (ix3 b k ⟨x.val, by omega⟩))
  (hV : ∀ (k : Fin 256) (x : Fin 128), V (ix3 0 k x) = kv (ix3 b k ⟨128 + x.val, by omega⟩))
  (hq0 : ∀ x : Fin 128, q0 (ix3 0 r x) = q (ix3 b t ⟨x.val, by omega⟩))
  (hq1 : ∀ x : Fin 128, q1 (ix3 0 r x) = q (ix3 b t ⟨128 + x.val, by omega⟩))
  (hq2 : ∀ x : Fin 128, q2 (ix3 0 r x) = q (ix3 b t ⟨256 + x.val, by omega⟩))
  (hq3 : ∀ x : Fin 128, q3 (ix3 0 r x) = q (ix3 b t ⟨384 + x.val, by omega⟩))
  (hg0 : g0 (ix3 0 r 0) = ms (ix3 b t (8 : Fin 128)))
  (hg1 : g1 (ix3 0 r 0) = ms (ix3 b t (9 : Fin 128)))
  (hg2 : g2 (ix3 0 r 0) = ms (ix3 b t (10 : Fin 128)))
  (hg3 : g3 (ix3 0 r 0) = ms (ix3 b t (11 : Fin 128)))
  (hg4 : g4 (ix3 0 r 0) = ms (ix3 b t (12 : Fin 128)))
  (hg5 : g5 (ix3 0 r 0) = ms (ix3 b t (13 : Fin 128)))
  (hg6 : g6 (ix3 0 r 0) = ms (ix3 b t (14 : Fin 128)))
  (hg7 : g7 (ix3 0 r 0) = ms (ix3 b t (15 : Fin 128)))
    (d : Fin 64) : block p K V q0 q1 q2 q3 g0 g1 g2 g3 g4 g5 g6 g7 (ix3 0 r ⟨d.val, by omega⟩)
    = out q kv ms b t 0 d := by
  refine (block0 p K V q0 q1 q2 q3 g0 g1 g2 g3 g4 g5 g6 g7 r d).trans
    (headOut_eq q kv ms b t 0 d _ _ _ _ hp (fun k => (score0 K q0 q1 q2 q3 r k).trans
      (score_eq q kv b t 0 k _ _ (fun e => (hK _ _).trans ?_) (fun e => (hq0 _).trans ?_)))
      (fun k => (hV _ _).trans ?_) hg0)
  · exact congrArg kv ((ix3_inj ..).2 ⟨rfl, rfl, Fin.ext (by first | rfl | (simp; done) | (simp; omega))⟩)
  · exact congrArg q ((ix3_inj ..).2 ⟨rfl, rfl, Fin.ext (by first | rfl | (simp; done) | (simp; omega))⟩)
  · exact congrArg kv ((ix3_inj ..).2 ⟨rfl, rfl, Fin.ext (by first | rfl | (simp; done) | (simp; omega))⟩)

theorem point1
    (hp : ∀ k, p (ix2 r k) = ended t.val k.val)
  (hK : ∀ (k : Fin 256) (x : Fin 128), K (ix3 0 k x) = kv (ix3 b k ⟨x.val, by omega⟩))
  (hV : ∀ (k : Fin 256) (x : Fin 128), V (ix3 0 k x) = kv (ix3 b k ⟨128 + x.val, by omega⟩))
  (hq0 : ∀ x : Fin 128, q0 (ix3 0 r x) = q (ix3 b t ⟨x.val, by omega⟩))
  (hq1 : ∀ x : Fin 128, q1 (ix3 0 r x) = q (ix3 b t ⟨128 + x.val, by omega⟩))
  (hq2 : ∀ x : Fin 128, q2 (ix3 0 r x) = q (ix3 b t ⟨256 + x.val, by omega⟩))
  (hq3 : ∀ x : Fin 128, q3 (ix3 0 r x) = q (ix3 b t ⟨384 + x.val, by omega⟩))
  (hg0 : g0 (ix3 0 r 0) = ms (ix3 b t (8 : Fin 128)))
  (hg1 : g1 (ix3 0 r 0) = ms (ix3 b t (9 : Fin 128)))
  (hg2 : g2 (ix3 0 r 0) = ms (ix3 b t (10 : Fin 128)))
  (hg3 : g3 (ix3 0 r 0) = ms (ix3 b t (11 : Fin 128)))
  (hg4 : g4 (ix3 0 r 0) = ms (ix3 b t (12 : Fin 128)))
  (hg5 : g5 (ix3 0 r 0) = ms (ix3 b t (13 : Fin 128)))
  (hg6 : g6 (ix3 0 r 0) = ms (ix3 b t (14 : Fin 128)))
  (hg7 : g7 (ix3 0 r 0) = ms (ix3 b t (15 : Fin 128)))
    (d : Fin 64) : block p K V q0 q1 q2 q3 g0 g1 g2 g3 g4 g5 g6 g7 (ix3 0 r ⟨64 + d.val, by omega⟩)
    = out q kv ms b t 1 d := by
  refine (block1 p K V q0 q1 q2 q3 g0 g1 g2 g3 g4 g5 g6 g7 r d).trans
    (headOut_eq q kv ms b t 1 d _ _ _ _ hp (fun k => (score1 K q0 q1 q2 q3 r k).trans
      (score_eq q kv b t 1 k _ _ (fun e => (hK _ _).trans ?_) (fun e => (hq0 _).trans ?_)))
      (fun k => (hV _ _).trans ?_) hg1)
  · exact congrArg kv ((ix3_inj ..).2 ⟨rfl, rfl, Fin.ext (by first | rfl | (simp; done) | (simp; omega))⟩)
  · exact congrArg q ((ix3_inj ..).2 ⟨rfl, rfl, Fin.ext (by first | rfl | (simp; done) | (simp; omega))⟩)
  · exact congrArg kv ((ix3_inj ..).2 ⟨rfl, rfl, Fin.ext (by first | rfl | (simp; done) | (simp; omega))⟩)

theorem point2
    (hp : ∀ k, p (ix2 r k) = ended t.val k.val)
  (hK : ∀ (k : Fin 256) (x : Fin 128), K (ix3 0 k x) = kv (ix3 b k ⟨x.val, by omega⟩))
  (hV : ∀ (k : Fin 256) (x : Fin 128), V (ix3 0 k x) = kv (ix3 b k ⟨128 + x.val, by omega⟩))
  (hq0 : ∀ x : Fin 128, q0 (ix3 0 r x) = q (ix3 b t ⟨x.val, by omega⟩))
  (hq1 : ∀ x : Fin 128, q1 (ix3 0 r x) = q (ix3 b t ⟨128 + x.val, by omega⟩))
  (hq2 : ∀ x : Fin 128, q2 (ix3 0 r x) = q (ix3 b t ⟨256 + x.val, by omega⟩))
  (hq3 : ∀ x : Fin 128, q3 (ix3 0 r x) = q (ix3 b t ⟨384 + x.val, by omega⟩))
  (hg0 : g0 (ix3 0 r 0) = ms (ix3 b t (8 : Fin 128)))
  (hg1 : g1 (ix3 0 r 0) = ms (ix3 b t (9 : Fin 128)))
  (hg2 : g2 (ix3 0 r 0) = ms (ix3 b t (10 : Fin 128)))
  (hg3 : g3 (ix3 0 r 0) = ms (ix3 b t (11 : Fin 128)))
  (hg4 : g4 (ix3 0 r 0) = ms (ix3 b t (12 : Fin 128)))
  (hg5 : g5 (ix3 0 r 0) = ms (ix3 b t (13 : Fin 128)))
  (hg6 : g6 (ix3 0 r 0) = ms (ix3 b t (14 : Fin 128)))
  (hg7 : g7 (ix3 0 r 0) = ms (ix3 b t (15 : Fin 128)))
    (d : Fin 64) : block p K V q0 q1 q2 q3 g0 g1 g2 g3 g4 g5 g6 g7 (ix3 0 r ⟨128 + d.val, by omega⟩)
    = out q kv ms b t 2 d := by
  refine (block2 p K V q0 q1 q2 q3 g0 g1 g2 g3 g4 g5 g6 g7 r d).trans
    (headOut_eq q kv ms b t 2 d _ _ _ _ hp (fun k => (score2 K q0 q1 q2 q3 r k).trans
      (score_eq q kv b t 2 k _ _ (fun e => (hK _ _).trans ?_) (fun e => (hq1 _).trans ?_)))
      (fun k => (hV _ _).trans ?_) hg2)
  · exact congrArg kv ((ix3_inj ..).2 ⟨rfl, rfl, Fin.ext (by first | rfl | (simp; done) | (simp; omega))⟩)
  · exact congrArg q ((ix3_inj ..).2 ⟨rfl, rfl, Fin.ext (by first | rfl | (simp; done) | (simp; omega))⟩)
  · exact congrArg kv ((ix3_inj ..).2 ⟨rfl, rfl, Fin.ext (by first | rfl | (simp; done) | (simp; omega))⟩)

theorem point3
    (hp : ∀ k, p (ix2 r k) = ended t.val k.val)
  (hK : ∀ (k : Fin 256) (x : Fin 128), K (ix3 0 k x) = kv (ix3 b k ⟨x.val, by omega⟩))
  (hV : ∀ (k : Fin 256) (x : Fin 128), V (ix3 0 k x) = kv (ix3 b k ⟨128 + x.val, by omega⟩))
  (hq0 : ∀ x : Fin 128, q0 (ix3 0 r x) = q (ix3 b t ⟨x.val, by omega⟩))
  (hq1 : ∀ x : Fin 128, q1 (ix3 0 r x) = q (ix3 b t ⟨128 + x.val, by omega⟩))
  (hq2 : ∀ x : Fin 128, q2 (ix3 0 r x) = q (ix3 b t ⟨256 + x.val, by omega⟩))
  (hq3 : ∀ x : Fin 128, q3 (ix3 0 r x) = q (ix3 b t ⟨384 + x.val, by omega⟩))
  (hg0 : g0 (ix3 0 r 0) = ms (ix3 b t (8 : Fin 128)))
  (hg1 : g1 (ix3 0 r 0) = ms (ix3 b t (9 : Fin 128)))
  (hg2 : g2 (ix3 0 r 0) = ms (ix3 b t (10 : Fin 128)))
  (hg3 : g3 (ix3 0 r 0) = ms (ix3 b t (11 : Fin 128)))
  (hg4 : g4 (ix3 0 r 0) = ms (ix3 b t (12 : Fin 128)))
  (hg5 : g5 (ix3 0 r 0) = ms (ix3 b t (13 : Fin 128)))
  (hg6 : g6 (ix3 0 r 0) = ms (ix3 b t (14 : Fin 128)))
  (hg7 : g7 (ix3 0 r 0) = ms (ix3 b t (15 : Fin 128)))
    (d : Fin 64) : block p K V q0 q1 q2 q3 g0 g1 g2 g3 g4 g5 g6 g7 (ix3 0 r ⟨192 + d.val, by omega⟩)
    = out q kv ms b t 3 d := by
  refine (block3 p K V q0 q1 q2 q3 g0 g1 g2 g3 g4 g5 g6 g7 r d).trans
    (headOut_eq q kv ms b t 3 d _ _ _ _ hp (fun k => (score3 K q0 q1 q2 q3 r k).trans
      (score_eq q kv b t 3 k _ _ (fun e => (hK _ _).trans ?_) (fun e => (hq1 _).trans ?_)))
      (fun k => (hV _ _).trans ?_) hg3)
  · exact congrArg kv ((ix3_inj ..).2 ⟨rfl, rfl, Fin.ext (by first | rfl | (simp; done) | (simp; omega))⟩)
  · exact congrArg q ((ix3_inj ..).2 ⟨rfl, rfl, Fin.ext (by first | rfl | (simp; done) | (simp; omega))⟩)
  · exact congrArg kv ((ix3_inj ..).2 ⟨rfl, rfl, Fin.ext (by first | rfl | (simp; done) | (simp; omega))⟩)

theorem point4
    (hp : ∀ k, p (ix2 r k) = ended t.val k.val)
  (hK : ∀ (k : Fin 256) (x : Fin 128), K (ix3 0 k x) = kv (ix3 b k ⟨x.val, by omega⟩))
  (hV : ∀ (k : Fin 256) (x : Fin 128), V (ix3 0 k x) = kv (ix3 b k ⟨128 + x.val, by omega⟩))
  (hq0 : ∀ x : Fin 128, q0 (ix3 0 r x) = q (ix3 b t ⟨x.val, by omega⟩))
  (hq1 : ∀ x : Fin 128, q1 (ix3 0 r x) = q (ix3 b t ⟨128 + x.val, by omega⟩))
  (hq2 : ∀ x : Fin 128, q2 (ix3 0 r x) = q (ix3 b t ⟨256 + x.val, by omega⟩))
  (hq3 : ∀ x : Fin 128, q3 (ix3 0 r x) = q (ix3 b t ⟨384 + x.val, by omega⟩))
  (hg0 : g0 (ix3 0 r 0) = ms (ix3 b t (8 : Fin 128)))
  (hg1 : g1 (ix3 0 r 0) = ms (ix3 b t (9 : Fin 128)))
  (hg2 : g2 (ix3 0 r 0) = ms (ix3 b t (10 : Fin 128)))
  (hg3 : g3 (ix3 0 r 0) = ms (ix3 b t (11 : Fin 128)))
  (hg4 : g4 (ix3 0 r 0) = ms (ix3 b t (12 : Fin 128)))
  (hg5 : g5 (ix3 0 r 0) = ms (ix3 b t (13 : Fin 128)))
  (hg6 : g6 (ix3 0 r 0) = ms (ix3 b t (14 : Fin 128)))
  (hg7 : g7 (ix3 0 r 0) = ms (ix3 b t (15 : Fin 128)))
    (d : Fin 64) : block p K V q0 q1 q2 q3 g0 g1 g2 g3 g4 g5 g6 g7 (ix3 0 r ⟨256 + d.val, by omega⟩)
    = out q kv ms b t 4 d := by
  refine (block4 p K V q0 q1 q2 q3 g0 g1 g2 g3 g4 g5 g6 g7 r d).trans
    (headOut_eq q kv ms b t 4 d _ _ _ _ hp (fun k => (score4 K q0 q1 q2 q3 r k).trans
      (score_eq q kv b t 4 k _ _ (fun e => (hK _ _).trans ?_) (fun e => (hq2 _).trans ?_)))
      (fun k => (hV _ _).trans ?_) hg4)
  · exact congrArg kv ((ix3_inj ..).2 ⟨rfl, rfl, Fin.ext (by first | rfl | (simp; done) | (simp; omega))⟩)
  · exact congrArg q ((ix3_inj ..).2 ⟨rfl, rfl, Fin.ext (by first | rfl | (simp; done) | (simp; omega))⟩)
  · exact congrArg kv ((ix3_inj ..).2 ⟨rfl, rfl, Fin.ext (by first | rfl | (simp; done) | (simp; omega))⟩)

theorem point5
    (hp : ∀ k, p (ix2 r k) = ended t.val k.val)
  (hK : ∀ (k : Fin 256) (x : Fin 128), K (ix3 0 k x) = kv (ix3 b k ⟨x.val, by omega⟩))
  (hV : ∀ (k : Fin 256) (x : Fin 128), V (ix3 0 k x) = kv (ix3 b k ⟨128 + x.val, by omega⟩))
  (hq0 : ∀ x : Fin 128, q0 (ix3 0 r x) = q (ix3 b t ⟨x.val, by omega⟩))
  (hq1 : ∀ x : Fin 128, q1 (ix3 0 r x) = q (ix3 b t ⟨128 + x.val, by omega⟩))
  (hq2 : ∀ x : Fin 128, q2 (ix3 0 r x) = q (ix3 b t ⟨256 + x.val, by omega⟩))
  (hq3 : ∀ x : Fin 128, q3 (ix3 0 r x) = q (ix3 b t ⟨384 + x.val, by omega⟩))
  (hg0 : g0 (ix3 0 r 0) = ms (ix3 b t (8 : Fin 128)))
  (hg1 : g1 (ix3 0 r 0) = ms (ix3 b t (9 : Fin 128)))
  (hg2 : g2 (ix3 0 r 0) = ms (ix3 b t (10 : Fin 128)))
  (hg3 : g3 (ix3 0 r 0) = ms (ix3 b t (11 : Fin 128)))
  (hg4 : g4 (ix3 0 r 0) = ms (ix3 b t (12 : Fin 128)))
  (hg5 : g5 (ix3 0 r 0) = ms (ix3 b t (13 : Fin 128)))
  (hg6 : g6 (ix3 0 r 0) = ms (ix3 b t (14 : Fin 128)))
  (hg7 : g7 (ix3 0 r 0) = ms (ix3 b t (15 : Fin 128)))
    (d : Fin 64) : block p K V q0 q1 q2 q3 g0 g1 g2 g3 g4 g5 g6 g7 (ix3 0 r ⟨320 + d.val, by omega⟩)
    = out q kv ms b t 5 d := by
  refine (block5 p K V q0 q1 q2 q3 g0 g1 g2 g3 g4 g5 g6 g7 r d).trans
    (headOut_eq q kv ms b t 5 d _ _ _ _ hp (fun k => (score5 K q0 q1 q2 q3 r k).trans
      (score_eq q kv b t 5 k _ _ (fun e => (hK _ _).trans ?_) (fun e => (hq2 _).trans ?_)))
      (fun k => (hV _ _).trans ?_) hg5)
  · exact congrArg kv ((ix3_inj ..).2 ⟨rfl, rfl, Fin.ext (by first | rfl | (simp; done) | (simp; omega))⟩)
  · exact congrArg q ((ix3_inj ..).2 ⟨rfl, rfl, Fin.ext (by first | rfl | (simp; done) | (simp; omega))⟩)
  · exact congrArg kv ((ix3_inj ..).2 ⟨rfl, rfl, Fin.ext (by first | rfl | (simp; done) | (simp; omega))⟩)

theorem point6
    (hp : ∀ k, p (ix2 r k) = ended t.val k.val)
  (hK : ∀ (k : Fin 256) (x : Fin 128), K (ix3 0 k x) = kv (ix3 b k ⟨x.val, by omega⟩))
  (hV : ∀ (k : Fin 256) (x : Fin 128), V (ix3 0 k x) = kv (ix3 b k ⟨128 + x.val, by omega⟩))
  (hq0 : ∀ x : Fin 128, q0 (ix3 0 r x) = q (ix3 b t ⟨x.val, by omega⟩))
  (hq1 : ∀ x : Fin 128, q1 (ix3 0 r x) = q (ix3 b t ⟨128 + x.val, by omega⟩))
  (hq2 : ∀ x : Fin 128, q2 (ix3 0 r x) = q (ix3 b t ⟨256 + x.val, by omega⟩))
  (hq3 : ∀ x : Fin 128, q3 (ix3 0 r x) = q (ix3 b t ⟨384 + x.val, by omega⟩))
  (hg0 : g0 (ix3 0 r 0) = ms (ix3 b t (8 : Fin 128)))
  (hg1 : g1 (ix3 0 r 0) = ms (ix3 b t (9 : Fin 128)))
  (hg2 : g2 (ix3 0 r 0) = ms (ix3 b t (10 : Fin 128)))
  (hg3 : g3 (ix3 0 r 0) = ms (ix3 b t (11 : Fin 128)))
  (hg4 : g4 (ix3 0 r 0) = ms (ix3 b t (12 : Fin 128)))
  (hg5 : g5 (ix3 0 r 0) = ms (ix3 b t (13 : Fin 128)))
  (hg6 : g6 (ix3 0 r 0) = ms (ix3 b t (14 : Fin 128)))
  (hg7 : g7 (ix3 0 r 0) = ms (ix3 b t (15 : Fin 128)))
    (d : Fin 64) : block p K V q0 q1 q2 q3 g0 g1 g2 g3 g4 g5 g6 g7 (ix3 0 r ⟨384 + d.val, by omega⟩)
    = out q kv ms b t 6 d := by
  refine (block6 p K V q0 q1 q2 q3 g0 g1 g2 g3 g4 g5 g6 g7 r d).trans
    (headOut_eq q kv ms b t 6 d _ _ _ _ hp (fun k => (score6 K q0 q1 q2 q3 r k).trans
      (score_eq q kv b t 6 k _ _ (fun e => (hK _ _).trans ?_) (fun e => (hq3 _).trans ?_)))
      (fun k => (hV _ _).trans ?_) hg6)
  · exact congrArg kv ((ix3_inj ..).2 ⟨rfl, rfl, Fin.ext (by first | rfl | (simp; done) | (simp; omega))⟩)
  · exact congrArg q ((ix3_inj ..).2 ⟨rfl, rfl, Fin.ext (by first | rfl | (simp; done) | (simp; omega))⟩)
  · exact congrArg kv ((ix3_inj ..).2 ⟨rfl, rfl, Fin.ext (by first | rfl | (simp; done) | (simp; omega))⟩)

theorem point7
    (hp : ∀ k, p (ix2 r k) = ended t.val k.val)
  (hK : ∀ (k : Fin 256) (x : Fin 128), K (ix3 0 k x) = kv (ix3 b k ⟨x.val, by omega⟩))
  (hV : ∀ (k : Fin 256) (x : Fin 128), V (ix3 0 k x) = kv (ix3 b k ⟨128 + x.val, by omega⟩))
  (hq0 : ∀ x : Fin 128, q0 (ix3 0 r x) = q (ix3 b t ⟨x.val, by omega⟩))
  (hq1 : ∀ x : Fin 128, q1 (ix3 0 r x) = q (ix3 b t ⟨128 + x.val, by omega⟩))
  (hq2 : ∀ x : Fin 128, q2 (ix3 0 r x) = q (ix3 b t ⟨256 + x.val, by omega⟩))
  (hq3 : ∀ x : Fin 128, q3 (ix3 0 r x) = q (ix3 b t ⟨384 + x.val, by omega⟩))
  (hg0 : g0 (ix3 0 r 0) = ms (ix3 b t (8 : Fin 128)))
  (hg1 : g1 (ix3 0 r 0) = ms (ix3 b t (9 : Fin 128)))
  (hg2 : g2 (ix3 0 r 0) = ms (ix3 b t (10 : Fin 128)))
  (hg3 : g3 (ix3 0 r 0) = ms (ix3 b t (11 : Fin 128)))
  (hg4 : g4 (ix3 0 r 0) = ms (ix3 b t (12 : Fin 128)))
  (hg5 : g5 (ix3 0 r 0) = ms (ix3 b t (13 : Fin 128)))
  (hg6 : g6 (ix3 0 r 0) = ms (ix3 b t (14 : Fin 128)))
  (hg7 : g7 (ix3 0 r 0) = ms (ix3 b t (15 : Fin 128)))
    (d : Fin 64) : block p K V q0 q1 q2 q3 g0 g1 g2 g3 g4 g5 g6 g7 (ix3 0 r ⟨448 + d.val, by omega⟩)
    = out q kv ms b t 7 d := by
  refine (block7 p K V q0 q1 q2 q3 g0 g1 g2 g3 g4 g5 g6 g7 r d).trans
    (headOut_eq q kv ms b t 7 d _ _ _ _ hp (fun k => (score7 K q0 q1 q2 q3 r k).trans
      (score_eq q kv b t 7 k _ _ (fun e => (hK _ _).trans ?_) (fun e => (hq3 _).trans ?_)))
      (fun k => (hV _ _).trans ?_) hg7)
  · exact congrArg kv ((ix3_inj ..).2 ⟨rfl, rfl, Fin.ext (by first | rfl | (simp; done) | (simp; omega))⟩)
  · exact congrArg q ((ix3_inj ..).2 ⟨rfl, rfl, Fin.ext (by first | rfl | (simp; done) | (simp; omega))⟩)
  · exact congrArg kv ((ix3_inj ..).2 ⟨rfl, rfl, Fin.ext (by first | rfl | (simp; done) | (simp; omega))⟩)

/-- Lane `j` of row `r` of the block is the result's entry. -/
theorem point
    (hp : ∀ k, p (ix2 r k) = ended t.val k.val)
  (hK : ∀ (k : Fin 256) (x : Fin 128), K (ix3 0 k x) = kv (ix3 b k ⟨x.val, by omega⟩))
  (hV : ∀ (k : Fin 256) (x : Fin 128), V (ix3 0 k x) = kv (ix3 b k ⟨128 + x.val, by omega⟩))
  (hq0 : ∀ x : Fin 128, q0 (ix3 0 r x) = q (ix3 b t ⟨x.val, by omega⟩))
  (hq1 : ∀ x : Fin 128, q1 (ix3 0 r x) = q (ix3 b t ⟨128 + x.val, by omega⟩))
  (hq2 : ∀ x : Fin 128, q2 (ix3 0 r x) = q (ix3 b t ⟨256 + x.val, by omega⟩))
  (hq3 : ∀ x : Fin 128, q3 (ix3 0 r x) = q (ix3 b t ⟨384 + x.val, by omega⟩))
  (hg0 : g0 (ix3 0 r 0) = ms (ix3 b t (8 : Fin 128)))
  (hg1 : g1 (ix3 0 r 0) = ms (ix3 b t (9 : Fin 128)))
  (hg2 : g2 (ix3 0 r 0) = ms (ix3 b t (10 : Fin 128)))
  (hg3 : g3 (ix3 0 r 0) = ms (ix3 b t (11 : Fin 128)))
  (hg4 : g4 (ix3 0 r 0) = ms (ix3 b t (12 : Fin 128)))
  (hg5 : g5 (ix3 0 r 0) = ms (ix3 b t (13 : Fin 128)))
  (hg6 : g6 (ix3 0 r 0) = ms (ix3 b t (14 : Fin 128)))
  (hg7 : g7 (ix3 0 r 0) = ms (ix3 b t (15 : Fin 128)))
    (j : Fin 512) : block p K V q0 q1 q2 q3 g0 g1 g2 g3 g4 g5 g6 g7 (ix3 0 r j) = result q kv ms (ix3 b t j) := by
  obtain ⟨h, d, hd, rfl⟩ : ∃ (h : Fin 8) (d : Fin 64) (hd : 64 * h.val + d.val < 512), j = ⟨64 * h.val + d.val, hd⟩ :=
    ⟨⟨j.val / 64, by omega⟩, ⟨j.val % 64, by omega⟩, by simp only; omega, Fin.ext (by simp only; omega)⟩
  rw [result_at]
  match h, hd with
  | 0, _ =>
    exact Eq.trans (congrArg _ ((ix3_inj ..).2 ⟨rfl, rfl, Fin.ext (by simp)⟩))
      (point0 q kv ms p K V q0 q1 q2 q3 g0 g1 g2 g3 g4 g5 g6 g7 r b t hp hK hV hq0 hq1 hq2 hq3 hg0 hg1 hg2 hg3 hg4 hg5 hg6 hg7 d)
  | 1, _ =>
    exact Eq.trans (congrArg _ ((ix3_inj ..).2 ⟨rfl, rfl, Fin.ext (by simp)⟩))
      (point1 q kv ms p K V q0 q1 q2 q3 g0 g1 g2 g3 g4 g5 g6 g7 r b t hp hK hV hq0 hq1 hq2 hq3 hg0 hg1 hg2 hg3 hg4 hg5 hg6 hg7 d)
  | 2, _ =>
    exact Eq.trans (congrArg _ ((ix3_inj ..).2 ⟨rfl, rfl, Fin.ext (by simp)⟩))
      (point2 q kv ms p K V q0 q1 q2 q3 g0 g1 g2 g3 g4 g5 g6 g7 r b t hp hK hV hq0 hq1 hq2 hq3 hg0 hg1 hg2 hg3 hg4 hg5 hg6 hg7 d)
  | 3, _ =>
    exact Eq.trans (congrArg _ ((ix3_inj ..).2 ⟨rfl, rfl, Fin.ext (by simp)⟩))
      (point3 q kv ms p K V q0 q1 q2 q3 g0 g1 g2 g3 g4 g5 g6 g7 r b t hp hK hV hq0 hq1 hq2 hq3 hg0 hg1 hg2 hg3 hg4 hg5 hg6 hg7 d)
  | 4, _ =>
    exact Eq.trans (congrArg _ ((ix3_inj ..).2 ⟨rfl, rfl, Fin.ext (by simp)⟩))
      (point4 q kv ms p K V q0 q1 q2 q3 g0 g1 g2 g3 g4 g5 g6 g7 r b t hp hK hV hq0 hq1 hq2 hq3 hg0 hg1 hg2 hg3 hg4 hg5 hg6 hg7 d)
  | 5, _ =>
    exact Eq.trans (congrArg _ ((ix3_inj ..).2 ⟨rfl, rfl, Fin.ext (by simp)⟩))
      (point5 q kv ms p K V q0 q1 q2 q3 g0 g1 g2 g3 g4 g5 g6 g7 r b t hp hK hV hq0 hq1 hq2 hq3 hg0 hg1 hg2 hg3 hg4 hg5 hg6 hg7 d)
  | 6, _ =>
    exact Eq.trans (congrArg _ ((ix3_inj ..).2 ⟨rfl, rfl, Fin.ext (by simp)⟩))
      (point6 q kv ms p K V q0 q1 q2 q3 g0 g1 g2 g3 g4 g5 g6 g7 r b t hp hK hV hq0 hq1 hq2 hq3 hg0 hg1 hg2 hg3 hg4 hg5 hg6 hg7 d)
  | 7, _ =>
    exact Eq.trans (congrArg _ ((ix3_inj ..).2 ⟨rfl, rfl, Fin.ext (by simp)⟩))
      (point7 q kv ms p K V q0 q1 q2 q3 g0 g1 g2 g3 g4 g5 g6 g7 r b t hp hK hV hq0 hq1 hq2 hq3 hg0 hg1 hg2 hg3 hg4 hg5 hg6 hg7 d)
end Cert.Proof.SelectLocal
end
-- ==== Proof.SelectMask.lean ====
module

public import proofs.«01_k».proof.Proof.Gen.SelectIdeal.Skeleton
public import proofs.«01_k».proof.Proof.SelectSpec

/-! The compressed attention's mask as a statement about positions, from the words the two programs compute it with. -/

@[expose] public section
set_option maxRecDepth 16384
noncomputable section
namespace Cert.Proof.SelectMask
open Idealize.ShloMosaic Idealize.ShloMosaic.TcCoe Idealize.SL.Sem
open Cert.SelectIdeal Cert.SelectIdeal.Gen Cert.Proof.SelectSpec

theorem toInt_word {t : ℕ} (ht : t < 8192) : (BitVec.ofNat 32 t).toInt = t := by
  rw [BitVec.toInt_eq_toNat_cond, BitVec.toNat_ofNat]
  omega

theorem word_le {t s : ℕ} (ht : t < 8192) (hs : s < 8192) :
    IntOp.cmpi .sle (BitVec.ofNat 32 s) (BitVec.ofNat 32 t) = BitVec.ofBool (decide (s ≤ t)) := by
  simp only [IntOp.cmpi, BitVec.sle, toInt_word ht, toInt_word hs]
  congr 1
  exact decide_eq_decide.mpr Int.ofNat_le

theorem word_lt {k : ℕ} (hk : k < 8192) : IntOp.cmpi .slt (BitVec.ofNat 32 k) 255#32 = BitVec.ofBool (decide (k < 255)) := by
  simp only [IntOp.cmpi, BitVec.slt, toInt_word hk]
  congr 1
  rw [show (255#32).toInt = 255 from by decide]
  apply decide_eq_decide.mpr
  omega

/-- The last position compressed key `k` stands for. -/
theorem last_of (k : ℕ) : IntOp.addi (IntOp.muli (BitVec.ofNat 32 k) 16#32) 31#32 = BitVec.ofNat 32 (16 * k + 31) := by
  rw [IntOp.addi, IntOp.muli, BitVec.ofNat_add, BitVec.ofNat_mul, BitVec.mul_comm]

/-- The same, as the block's start plus its length less one. -/
theorem last_of' (k : ℕ) : IntOp.subi (IntOp.addi (IntOp.muli (BitVec.ofNat 32 k) 16#32) 32#32) 1#32
    = BitVec.ofNat 32 (16 * k + 31) := by
  rw [← last_of, IntOp.subi, IntOp.addi, IntOp.addi, BitVec.sub_eq_add_neg, BitVec.add_assoc]
  rfl

/-- The reference's mask of query `t` and compressed key `k`. -/
theorem ref_mask {t k : ℕ} (ht : t < 4096) (hk : k < 256) :
    IntOp.cmpi .sle (IntOp.subi (IntOp.addi (IntOp.muli (BitVec.ofNat 32 k) 16#32) 32#32) 1#32) (BitVec.ofNat 32 t) = ended t k := by
  rw [last_of', word_le (by omega) (by omega)]
  rfl

/-- The kernel's mask of row `r` of its query block and compressed key `k`: that no query sees the last row follows from
    the row's end. -/
theorem mask_at (i : grid0.Coords) (r : Fin 128) (k : Fin 256) :
    k0_pay7 i (ix2 r k) = ended (128 * (i 1).val + r.val) k.val := by
  pointwise [k0_pay7, k0_pay4]
  have hi : (i 1).val < 32 := (i 1).isLt
  obtain ⟨n, hn⟩ : ∃ n : Fin 32, n.val = (i 1).val := ⟨⟨(i 1).val, hi⟩, rfl⟩
  rw [← hn, WindowMask.block_start n]
  have e1 : IntOp.addi (BitVec.ofNat 32 (128 * n.val)) (BitVec.ofNat 32 r.val) = BitVec.ofNat 32 (128 * n.val + r.val) := by
    rw [IntOp.addi, BitVec.ofNat_add]
  rw [e1, last_of, word_le (by omega) (by omega), word_lt (by omega), WindowMask.ofBool_and, ended, ← Bool.decide_and]
  congr 1
  apply decide_eq_decide.mpr
  omega

end Cert.Proof.SelectMask
end
-- ==== Proof.SelectArr.lean ====
module

public import proofs.«01_k».proof.Proof.Gen.SelectIdeal.Value
public import proofs.«01_k».proof.Proof.SelectLocal
public import proofs.«01_k».proof.Proof.SelectMask
public import Idealize.ShloMosaic.Lib.Pipeline.ValueKit

/-! The attention result of the compressed attention is the formula of SelectSpec. -/

@[expose] public section
set_option maxRecDepth 16384
noncomputable section
namespace Cert.Proof.SelectArr
open Idealize.ShloMosaic Idealize.ShloMosaic.TcCoe Idealize.SL.Sem
open Idealize.ShloMosaic.Pipeline (Dat)
open Cert.SelectIdeal Cert.SelectIdeal.Gen
variable (m : (ℓ : Loc nD τ sig) → Buf (Elt Ideal) ℓ)

theorem idx : ∀ t : Fin cfg0.N, win0_0.index t = ![t.val/32, t.val%32, 0] ∧ win0_1.index t = ![t.val/32, 0, 0]
   ∧ win0_2.index t = ![t.val/32, t.val%32, 0] ∧ win0_3.index t = ![t.val/32, t.val%32, 0]
   ∧ (grid0.coords t 1).val = t.val % 32 :=
  (by decide +kernel : ∀ t : Fin grid0.N, _)

theorem final (c : Dev nD) : (dats m 0 c).arrAt 3 (cfgs 0).N
    = SelectSpec.result (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]
  frame_out
  obtain ⟨i0, i1, i2, i3, ic⟩ := idx t
  obtain ⟨u, r, j, rfl⟩ : ∃ (u : Fin 1) (r : Fin 128) (j : Fin 512), y = ix3 u r j := ⟨y 0, y 1, y 2, eq_ix3 y⟩
  obtain rfl : u = 0 := Subsingleton.elim _ _
  have hN : t.val < 128 := t.isLt
  have hb : t.val / 32 < 4 := by omega
  have hi : t.val % 32 < 32 := by omega
  refine Eq.trans (show _ = SelectHeads.block (k0_pay7 (grid0.coords t)) (View.ld (iblk m c 1 t) r0_0) (View.ld (iblk m c 1 t) r0_1)
    (View.ld (iblk m c 0 t) r0_2) (View.ld (iblk m c 0 t) r0_3) (View.ld (iblk m c 0 t) r0_4) (View.ld (iblk m c 0 t) r0_5)
    (View.ld (iblk m c 2 t) r0_6) (View.ld (iblk m c 2 t) r0_7) (View.ld (iblk m c 2 t) r0_8) (View.ld (iblk m c 2 t) r0_9)
    (View.ld (iblk m c 2 t) r0_10) (View.ld (iblk m c 2 t) r0_11) (View.ld (iblk m c 2 t) r0_12) (View.ld (iblk m c 2 t) r0_13)
    (ix3 0 r j) from rfl) ?_
  have e : ((View.whole main_v0_0).slice (win0_3.rect t)).emb (ix3 0 r j)
      = ix3 (⟨t.val / 32, hb⟩ : Fin 4) (⟨128 * (t.val % 32) + r.val, by omega⟩ : Fin 4096) j := by
    blk_ext [iblk, V, idx t]
  rw [e]
  refine SelectLocal.point _ _ _ _ _ _ _ _ _ _ _ _ _ _ _ _ _ _ r _ _ (fun k => ?_) (fun k x => ?_) (fun k x => ?_)
    (fun x => ?_) (fun x => ?_) (fun x => ?_) (fun x => ?_) ?_ ?_ ?_ ?_ ?_ ?_ ?_ ?_ j
  · exact (SelectMask.mask_at _ r k).trans (by rw [ic])
  all_goals pointwise
  all_goals blk_ext [iblk, V, idx t]
end Cert.Proof.SelectArr
end
-- ==== Proof.SelectRef.lean ====
module

public import proofs.«01_k».proof.Proof.Gen.SelectReferenceIdeal.Run
public import proofs.«01_k».proof.Proof.SelectMask
public import proofs.«01_k».proof.Proof.WindowRef

/-! The reference of the compressed attention computes the formula of SelectSpec as its attention result. -/

@[expose] public section
set_option maxRecDepth 16384
noncomputable section
namespace Cert.Proof.SelectRef
open Idealize.ShloMosaic Idealize.ShloMosaic.TcCoe Idealize.SL.Sem
open Cert.SelectReferenceIdeal Cert.SelectReferenceIdeal.Value

set_option maxHeartbeats 8000000 in
theorem ref_apply (m : (ℓ : Loc nD τ sig) → Buf (Elt Ideal) ℓ) (c : Dev nD) (b : Fin 4) (t : Fin 4096) (h : Fin 8)
    (d : Fin 64) :
    ((res_main_v113 m c : FVec Ideal S4x4096x512 .f32) (ix3 b t ⟨64 * h.val + d.val, by omega⟩) : EReal)
      = SelectSpec.out (m ((c : Thread nD τ).loc main_arg0)) (m ((c : Thread nD τ).loc main_arg1))
          (m ((c : Thread nD τ).loc main_arg2)) b t h d := by
  pointwise [res_main_v113]
  have e1 : (64 * h.val + d.val) / 256 = h.val / 4 := by omega
  have e2 : (64 * h.val + d.val) / 64 % 4 = h.val % 4 := by omega
  have e3 : (64 * h.val + d.val) % 64 = d.val := by omega
  have e4 : h.val / 4 * 4 + h.val % 4 = h.val := by omega
  have e5 : ∀ x, h.val / 4 * 256 + h.val % 4 * 64 + x = 64 * h.val + x := by omega
  have e6 : ∀ x, 128 + h.val / 4 * 64 + x = 128 + 64 * (h.val / 4) + x := by omega
  have e7 : ∀ x, h.val / 4 * 64 + x = 64 * (h.val / 4) + x := by omega
  simp only [e1, e2, e3, e4, e5, e6, e7]
  simp only [SelectMask.ref_mask (Fin.isLt _) (Fin.isLt _)]
  have hz : (id (constant S_ .f32 0x00000000#32 : FVec Ideal S_ .f32) ix0 : EReal) = 0 := WindowRef.zero_word
  simp only [hz]
  refine (mul_comm (G := EReal) _ _).trans (congrArg (· * _) (Finset.sum_congr rfl fun k _ => ?_))
  exact mul_comm (G := EReal) _ _

/-- Every run of the reference ends with the formula's array as its attention result and with its arguments unchanged. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v113) = SelectSpec.result (m ((c.tc : Thread nD τ).loc main_arg0))
          (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2.2⟩) (run m ρ)
  funext i
  obtain ⟨b, t, j, rfl⟩ : ∃ (a : Fin 4) (b : Fin 4096) (j : Fin 512), i = ix3 a b j := ⟨i 0, i 1, i 2, eq_ix3 i⟩
  have e : j = ⟨64 * (j.val / 64) + j.val % 64, by omega⟩ := Fin.ext (by simp only; omega)
  rw [e]
  exact (ref_apply m c b t ⟨j.val / 64, by omega⟩ ⟨j.val % 64, by omega⟩).trans (SelectSpec.result_at _ _ _ b t ⟨j.val / 64, by omega⟩ ⟨j.val % 64, by omega⟩ _).symm
end Cert.Proof.SelectRef
end
-- ==== Proof.SampleSpec.lean ====
module

public import proofs.«01_k».proof.Proof.Gen.SampleWindowIdeal
public import proofs.«01_k».proof.Proof.WindowSpec

/-! What one head of the sample tokens' sliding-window attention is, as a formula over the three arguments. The keys and
    values lie along the last axis: column `k` is position `7680 + k`, and row `t` asks from position `8192 + t`. -/

@[expose] public section
set_option maxRecDepth 16384
noncomputable section
namespace Cert.Proof.SampleSpec
open Idealize.ShloMosaic Idealize.ShloMosaic.TcCoe Idealize.SL.Sem
open Cert.SampleWindowIdeal Cert.Proof.WindowScore Cert.Proof.WindowStack Cert.Proof.WindowMask

/-- The mask of row `t` and column `k`. -/
def near' (t : Fin 8) (k : Fin 640) : BitVec 1 := near (8192 + t.val) (7680 + k.val)

/-- The same from the words the kernel computes. -/
theorem near_kernel : ∀ (t : Fin 8) (k : Fin 640),
    IntOp.andi (IntOp.andi (IntOp.cmpi .sle (IntOp.addi 7680#32 (BitVec.ofNat 32 k.val)) (IntOp.addi 8192#32 (BitVec.ofNat 32 t.val)))
      (IntOp.cmpi .slt (IntOp.subi (IntOp.addi 8192#32 (BitVec.ofNat 32 t.val)) (IntOp.addi 7680#32 (BitVec.ofNat 32 k.val))) 512#32))
      (IntOp.cmpi .sge (IntOp.addi 7680#32 (BitVec.ofNat 32 k.val)) 0#32) = near' t k := by decide +kernel

/-- The same from the words the reference computes. -/
theorem near_reference : ∀ (t : Fin 8) (k : Fin 640),
    IntOp.andi (IntOp.cmpi .sge (IntOp.subi (IntOp.addi 8192#32 (BitVec.ofNat 32 t.val)) (IntOp.addi 7680#32 (BitVec.ofNat 32 k.val))) 0#32)
      (IntOp.cmpi .slt (IntOp.subi (IntOp.addi 8192#32 (BitVec.ofNat 32 t.val)) (IntOp.addi 7680#32 (BitVec.ofNat 32 k.val))) 512#32)
      = near' t k := by decide +kernel

variable (q : FVec Ideal S32x8x512 .f32) (kv : FVec Ideal S32x256x640 .f32) (ms : FVec Ideal S32x8x128 .f32)

/-- The score of column `k` for row `t` of head `h`. -/
def score (b : Fin 32) (t : Fin 8) (h : Fin 8) (k : Fin 640) : EReal :=
  (∑ d : Fin 64, kv (ix3 b ⟨64 * (h.val / 4) + d.val, by omega⟩ k) * q (ix3 b t ⟨64 * h.val + d.val, by omega⟩)) * eighth

/-- The weight of column `k`, before it is normalised. -/
def wt (b : Fin 32) (t : Fin 8) (h : Fin 8) (k : Fin 640) : EReal :=
  SoftmaxRow.weight lo init (near' t) (score q kv b t h) k

/-- Output lane `d` of head `h`: the values averaged by the normalised weights, times the head's gate. -/
def out (b : Fin 32) (t : Fin 8) (h : Fin 8) (d : Fin 64) : EReal :=
  (∑ k : Fin 640, kv (ix3 b ⟨128 + 64 * (h.val / 4) + d.val, by omega⟩ k)
      * Ideal.div (wt q kv b t h k) (max (∑ k, wt q kv b t h k) tiny))
    * Ideal.logistic (ms (ix3 b t ⟨24 + h.val, by omega⟩))

/-- The whole result. -/
def result : FVec Ideal S32x8x512 .f32 := fun i =>
  out q kv ms (i 0) (i 1) ⟨(i 2).val / 64, by have h : (i 2).val < 512 := (i 2).isLt; omega⟩ ⟨(i 2).val % 64, by omega⟩

theorem result_at (b : Fin 32) (t : Fin 8) (h : Fin 8) (d : Fin 64) (e : 64 * h.val + d.val < 512) :
    result q kv ms (ix3 b t ⟨64 * h.val + d.val, e⟩) = out q kv ms b t h d := by
  have e1 : (64 * h.val + d.val) / 64 = h.val := by omega
  have e2 : (64 * h.val + d.val) % 64 = d.val := by omega
  show out q kv ms b t ⟨(64 * h.val + d.val) / 64, _⟩ ⟨(64 * h.val + d.val) % 64, _⟩ = _
  exact congrArg₂ (out q kv ms b t) (Fin.ext e1) (Fin.ext e2)

end Cert.Proof.SampleSpec
end
-- ==== Proof.SampleHeads.lean ====
module

public import proofs.«01_k».proof.Proof.Gen.SampleWindowIdeal.Skeleton
public import proofs.«01_k».proof.Proof.SampleSpec
public import proofs.«01_k».proof.Proof.WindowHeads

/-! What one sequence's grid point of the sample tokens' window attention stores. The eight heads' rows of queries are
    stacked into 64 rows, which share one softmax over the 640 columns. -/

@[expose] public section
set_option maxRecDepth 16384
noncomputable section
namespace Cert.Proof.SampleHeads
open Idealize.ShloMosaic Idealize.ShloMosaic.TcCoe Idealize.SL.Sem
open Cert.SampleWindowIdeal Cert.SampleWindowIdeal.Gen Cert.Proof.WindowScore Cert.Proof.SampleSpec
open Cert.Proof.WindowStack (lo init tiny)
open Cert.Proof.WindowHeads (pick_low pick_high headOut)

/-- Eight rows of queries, scaled and kept in the upper lanes. -/
def upper (m : IVec S8x128 1) (x : FVec Ideal S8x128 .f32) : FVec Ideal S8x128 .bf16 :=
  truncf .bf16 (select m (mulf x (broadcast S8x128 (Scalar.ofBits .f32 0x3E000000#32 : Ideal .f32)))
    (broadcast S8x128 (Scalar.ofBits .f32 0x00000000#32 : Ideal .f32))) bitsLt_bf16_f32

variable (p : IVec S64x640 1) (K V : Vec Ideal S1x128x640 .f32) (q0 q1 q2 q3 : Vec Ideal S1x8x128 .f32)

/-- The scores of the stacked heads. -/
def scores : FVec Ideal S64x640 .f32 :=
  matmul dot_S64x128_S128x640_S64x640_1_0_0_1_n_n none
    (concatenate S64x128 0 [⟨S8x128, k0_pay3 q0⟩, ⟨S8x128, k0_pay4 q0⟩, ⟨S8x128, k0_pay5 q1⟩, ⟨S8x128, k0_pay6 q1⟩,
      ⟨S8x128, k0_pay7 q2⟩, ⟨S8x128, upper k0_pay9 (k0_pay8 q2)⟩,
      ⟨S8x128, upper k0_pay9 (dynamicRotate 1 64#32 none (k0_pay8 q3) rotates_S8x128_d1)⟩, ⟨S8x128, upper k0_pay9 (k0_pay8 q3)⟩]
      concatenates_S8x128_S8x128_S8x128_S8x128_S8x128_S8x128_S8x128_S8x128_S64x128_d0)
    (truncf .bf16 (shapeCast S128x640 K shapeCasts_S1x128x640_S128x640 : FVec Ideal S128x640 .f32) bitsLt_bf16_f32)
    (constant S64x640 .f32 0x00000000#32)

/-- The exponentials of masked scores less their row's maximum. -/
def exps (S : FVec Ideal S64x640 .f32) : FVec Ideal S64x640 .f32 :=
  exp (subf (select p S (broadcast S64x640 (Scalar.ofBits .f32 0xF149F2CA#32 : Ideal .f32)))
    (broadcastTo S64x640 (shapeCast S64x1 (multiReduction .maximumf [1] S64
      (select p S (broadcast S64x640 (Scalar.ofBits .f32 0xF149F2CA#32 : Ideal .f32))) 0xFF800000#32 reduces_S64x640_S64 (.inl rfl) rfl)
      shapeCasts_S64_S64x1) broadcasts_S64x1_S64x640))

/-- The kernel's exponentials are those of its scores. -/
theorem exps_eq : k0_pay10 p (k0_pay3 q0) (k0_pay4 q0) (k0_pay5 q1) (k0_pay6 q1) (k0_pay7 q2) (k0_pay8 q2) k0_pay9 q3 q3 K
    = exps p (scores K q0 q1 q2 q3) := rfl

theorem select_mul (c : BitVec 1) (a b : EReal) : (Scalar.select c (a * b) 0 : EReal) = Scalar.select c a 0 * b := by
  unfold Scalar.select
  split
  · rfl
  · exact (zero_mul b).symm

/-- The averages of the values over the stacked rows. -/
def means (S : FVec Ideal S64x640 .f32) : FVec Ideal S64x128 .f32 :=
  k0_pay11 p (exps p S) (Scalar.ofBits .f32 0x00000000#32) V

theorem means_at (S : FVec Ideal S64x640 .f32) (R : Fin 64) (x : Fin 128) : means p V S (ix2 R x)
    = Ideal.div (∑ k, SoftmaxRow.weight lo init (fun k => p (ix2 R k)) (fun k => S (ix2 R k)) k * V (ix3 0 x k))
        (max (∑ k, SoftmaxRow.weight lo init (fun k => p (ix2 R k)) (fun k => S (ix2 R k)) k) tiny) := by
  pointwise [means, k0_pay11, exps]
  exact congrArg₂ Ideal.div (Finset.sum_congr rfl fun k _ => select_mul _ _ _) rfl

variable (r : Fin 8)

section Scores
variable (k : Fin 640)

theorem mask0 : k0_pay2 (ix2 (⟨r.val, by omega⟩ : Fin 64) k) = near' r k := by
  pointwise [k0_pay2]
  try simp (disch := omega) only [dif_pos, dif_neg]
  exact near_kernel r k

set_option maxHeartbeats 1600000 in
theorem score0 : scores K q0 q1 q2 q3 (ix2 (⟨r.val, by omega⟩ : Fin 64) k)
    = (∑ d : Fin 64, K (ix3 0 ⟨d.val, by omega⟩ k) * q0 (ix3 0 r ⟨d.val, by omega⟩)) * eighth := by
  pointwise [scores, upper, k0_pay9, k0_pay8, k0_pay7, k0_pay6, k0_pay5, k0_pay4, k0_pay3]
  try simp (disch := omega) only [dif_pos, dif_neg]
  refine (lane_low' _).trans (Eq.trans (Finset.sum_congr rfl fun d _ => ?_) (scale_out _ _))
  refine Ideal.mul_congr (Ideal.mul_congr (congrArg _ ?_) rfl) rfl
  exact (ix3_inj ..).2 ⟨rfl, Fin.ext (by first | rfl | omega | (simp only []; omega)), Fin.ext (by first | rfl | omega | (simp only []; omega))⟩

theorem mask1 : k0_pay2 (ix2 (⟨8 + r.val, by omega⟩ : Fin 64) k) = near' r k := by
  pointwise [k0_pay2]
  try simp (disch := omega) only [dif_pos, dif_neg]
  try simp only [show 8 + r.val - 8 = r.val by omega]
  exact near_kernel r k

set_option maxHeartbeats 1600000 in
theorem score1 : scores K q0 q1 q2 q3 (ix2 (⟨8 + r.val, by omega⟩ : Fin 64) k)
    = (∑ d : Fin 64, K (ix3 0 ⟨d.val, by omega⟩ k) * q0 (ix3 0 r ⟨64 + d.val, by omega⟩)) * eighth := by
  pointwise [scores, upper, k0_pay9, k0_pay8, k0_pay7, k0_pay6, k0_pay5, k0_pay4, k0_pay3]
  try simp (disch := omega) only [dif_pos, dif_neg]
  refine (lane_low' _).trans (Eq.trans (Finset.sum_congr rfl fun d _ => ?_) (scale_out _ _))
  refine Ideal.mul_congr (Ideal.mul_congr (congrArg _ ?_) rfl) rfl
  exact (ix3_inj ..).2 ⟨rfl, Fin.ext (by first | rfl | omega | (simp only []; omega)), Fin.ext (by first | rfl | omega | (simp only []; omega))⟩

theorem mask2 : k0_pay2 (ix2 (⟨16 + r.val, by omega⟩ : Fin 64) k) = near' r k := by
  pointwise [k0_pay2]
  try simp (disch := omega) only [dif_pos, dif_neg]
  try simp only [show 16 + r.val - 8 - 8 = r.val by omega]
  exact near_kernel r k

set_option maxHeartbeats 1600000 in
theorem score2 : scores K q0 q1 q2 q3 (ix2 (⟨16 + r.val, by omega⟩ : Fin 64) k)
    = (∑ d : Fin 64, K (ix3 0 ⟨d.val, by omega⟩ k) * q1 (ix3 0 r ⟨d.val, by omega⟩)) * eighth := by
  pointwise [scores, upper, k0_pay9, k0_pay8, k0_pay7, k0_pay6, k0_pay5, k0_pay4, k0_pay3]
  try simp (disch := omega) only [dif_pos, dif_neg]
  refine (lane_low _ _).trans (Eq.trans (Finset.sum_congr rfl fun d _ => ?_) (scale_out _ _))
  refine Ideal.mul_congr (Ideal.mul_congr (congrArg _ ?_) rfl) rfl
  exact (ix3_inj ..).2 ⟨rfl, Fin.ext (by first | rfl | omega | (simp only []; omega)), Fin.ext (by first | rfl | omega | (simp only []; omega))⟩

theorem mask3 : k0_pay2 (ix2 (⟨24 + r.val, by omega⟩ : Fin 64) k) = near' r k := by
  pointwise [k0_pay2]
  try simp (disch := omega) only [dif_pos, dif_neg]
  try simp only [show 24 + r.val - 8 - 8 - 8 = r.val by omega]
  exact near_kernel r k

set_option maxHeartbeats 1600000 in
theorem score3 : scores K q0 q1 q2 q3 (ix2 (⟨24 + r.val, by omega⟩ : Fin 64) k)
    = (∑ d : Fin 64, K (ix3 0 ⟨d.val, by omega⟩ k) * q1 (ix3 0 r ⟨64 + d.val, by omega⟩)) * eighth := by
  pointwise [scores, upper, k0_pay9, k0_pay8, k0_pay7, k0_pay6, k0_pay5, k0_pay4, k0_pay3]
  try simp (disch := omega) only [dif_pos, dif_neg]
  refine (lane_low _ _).trans (Eq.trans (Finset.sum_congr rfl fun d _ => ?_) (scale_out _ _))
  refine Ideal.mul_congr (Ideal.mul_congr (congrArg _ ?_) rfl) rfl
  exact (ix3_inj ..).2 ⟨rfl, Fin.ext (by first | rfl | omega | (simp only []; omega)), Fin.ext (by first | rfl | omega | (simp only []; omega))⟩

theorem mask4 : k0_pay2 (ix2 (⟨32 + r.val, by omega⟩ : Fin 64) k) = near' r k := by
  pointwise [k0_pay2]
  try simp (disch := omega) only [dif_pos, dif_neg]
  try simp only [show 32 + r.val - 8 - 8 - 8 - 8 = r.val by omega]
  exact near_kernel r k

set_option maxHeartbeats 1600000 in
theorem score4 : scores K q0 q1 q2 q3 (ix2 (⟨32 + r.val, by omega⟩ : Fin 64) k)
    = (∑ d : Fin 64, K (ix3 0 ⟨64 + d.val, by omega⟩ k) * q2 (ix3 0 r ⟨d.val, by omega⟩)) * eighth := by
  pointwise [scores, upper, k0_pay9, k0_pay8, k0_pay7, k0_pay6, k0_pay5, k0_pay4, k0_pay3]
  try simp (disch := omega) only [dif_pos, dif_neg]
  refine (lane_high _ _).trans (Eq.trans (Finset.sum_congr rfl fun d _ => ?_) (scale_out _ _))
  refine Ideal.mul_congr (Ideal.mul_congr (congrArg _ ?_) rfl) rfl
  exact (ix3_inj ..).2 ⟨rfl, Fin.ext (by first | rfl | omega | (simp only []; omega)), Fin.ext (by first | rfl | omega | (simp only []; omega))⟩

theorem mask5 : k0_pay2 (ix2 (⟨40 + r.val, by omega⟩ : Fin 64) k) = near' r k := by
  pointwise [k0_pay2]
  try simp (disch := omega) only [dif_pos, dif_neg]
  try simp only [show 40 + r.val - 8 - 8 - 8 - 8 - 8 = r.val by omega]
  exact near_kernel r k

set_option maxHeartbeats 1600000 in
theorem score5 : scores K q0 q1 q2 q3 (ix2 (⟨40 + r.val, by omega⟩ : Fin 64) k)
    = (∑ d : Fin 64, K (ix3 0 ⟨64 + d.val, by omega⟩ k) * q2 (ix3 0 r ⟨64 + d.val, by omega⟩)) * eighth := by
  pointwise [scores, upper, k0_pay9, k0_pay8, k0_pay7, k0_pay6, k0_pay5, k0_pay4, k0_pay3]
  try simp (disch := omega) only [dif_pos, dif_neg]
  refine (lane_high _ _).trans (Eq.trans (Finset.sum_congr rfl fun d _ => ?_) (scale_out _ _))
  refine Ideal.mul_congr (Ideal.mul_congr (congrArg _ ?_) rfl) rfl
  exact (ix3_inj ..).2 ⟨rfl, Fin.ext (by first | rfl | omega | (simp only []; omega)), Fin.ext (by first | rfl | omega | (simp only []; omega))⟩

theorem mask6 : k0_pay2 (ix2 (⟨48 + r.val, by omega⟩ : Fin 64) k) = near' r k := by
  pointwise [k0_pay2]
  try simp (disch := omega) only [dif_pos, dif_neg]
  try simp only [show 48 + r.val - 8 - 8 - 8 - 8 - 8 - 8 = r.val by omega]
  exact near_kernel r k

set_option maxHeartbeats 1600000 in
theorem score6 : scores K q0 q1 q2 q3 (ix2 (⟨48 + r.val, by omega⟩ : Fin 64) k)
    = (∑ d : Fin 64, K (ix3 0 ⟨64 + d.val, by omega⟩ k) * q3 (ix3 0 r ⟨d.val, by omega⟩)) * eighth := by
  pointwise [scores, upper, k0_pay9, k0_pay8, k0_pay7, k0_pay6, k0_pay5, k0_pay4, k0_pay3]
  try simp (disch := omega) only [dif_pos, dif_neg]
  refine (lane_high _ _).trans (Eq.trans (Finset.sum_congr rfl fun d _ => ?_) (scale_out _ _))
  refine Ideal.mul_congr (Ideal.mul_congr (congrArg _ ?_) rfl) rfl
  exact (ix3_inj ..).2 ⟨rfl, Fin.ext (by first | rfl | omega | (simp only []; omega)), Fin.ext (by first | rfl | omega | (simp only []; omega))⟩

theorem mask7 : k0_pay2 (ix2 (⟨56 + r.val, by omega⟩ : Fin 64) k) = near' r k := by
  pointwise [k0_pay2]
  try simp (disch := omega) only [dif_pos, dif_neg]
  try simp only [show 56 + r.val - 8 - 8 - 8 - 8 - 8 - 8 - 8 = r.val by omega]
  exact near_kernel r k

set_option maxHeartbeats 1600000 in
theorem score7 : scores K q0 q1 q2 q3 (ix2 (⟨56 + r.val, by omega⟩ : Fin 64) k)
    = (∑ d : Fin 64, K (ix3 0 ⟨64 + d.val, by omega⟩ k) * q3 (ix3 0 r ⟨64 + d.val, by omega⟩)) * eighth := by
  pointwise [scores, upper, k0_pay9, k0_pay8, k0_pay7, k0_pay6, k0_pay5, k0_pay4, k0_pay3]
  try simp (disch := omega) only [dif_pos, dif_neg]
  refine (lane_high _ _).trans (Eq.trans (Finset.sum_congr rfl fun d _ => ?_) (scale_out _ _))
  refine Ideal.mul_congr (Ideal.mul_congr (congrArg _ ?_) rfl) rfl
  exact (ix3_inj ..).2 ⟨rfl, Fin.ext (by first | rfl | omega | (simp only []; omega)), Fin.ext (by first | rfl | omega | (simp only []; omega))⟩
end Scores

section Lanes
variable (E : FVec Ideal S64x640 .f32) (z : Ideal .f32) (W : FVec Ideal S64x128 .f32) (G4 G5 G6 G7 : Vec Ideal S1x8x1 .f32)
  (o0 o1 o2 o3 o4 : FVec Ideal S8x128 .f32)

theorem gated0 (x : Fin 128) : k0_pay12 p E z V G4 (ix2 r x)
    = k0_pay11 p E z V (ix2 (⟨r.val, by omega⟩ : Fin 64) x) * Ideal.logistic (G4 (ix3 0 r 0)) := by
  pointwise [k0_pay12]

theorem gated1 (x : Fin 128) : k0_pay13 p E z V G4 (ix2 r x)
    = k0_pay11 p E z V (ix2 (⟨8 + r.val, by omega⟩ : Fin 64) x) * Ideal.logistic (G4 (ix3 0 r 0)) := by
  pointwise [k0_pay13]

theorem gated2 (x : Fin 128) : k0_pay14 p E z V G4 (ix2 r x)
    = k0_pay11 p E z V (ix2 (⟨16 + r.val, by omega⟩ : Fin 64) x) * Ideal.logistic (G4 (ix3 0 r 0)) := by
  pointwise [k0_pay14]

theorem gated3 (x : Fin 128) : k0_pay15 p E z V G4 (ix2 r x)
    = k0_pay11 p E z V (ix2 (⟨24 + r.val, by omega⟩ : Fin 64) x) * Ideal.logistic (G4 (ix3 0 r 0)) := by
  pointwise [k0_pay15]

theorem row4 (x : Fin 128) : k0_pay16 p E z V (ix2 r x) = k0_pay11 p E z V (ix2 (⟨32 + r.val, by omega⟩ : Fin 64) x) := by
  pointwise [k0_pay16]

theorem lane0 (d : Fin 64) : k0_pay1 (k0_pay17 W o0 o1 o2 o3 o4 G4 G5 G6 G7) (ix3 0 r ⟨d.val, by omega⟩)
    = o0 (ix2 r (⟨d.val, by omega⟩ : Fin 128)) := by
  pointwise [k0_pay1, k0_pay17]
  try simp (disch := omega) only [dif_pos, dif_neg, pick_low, pick_high]

theorem lane1 (d : Fin 64) : k0_pay1 (k0_pay17 W o0 o1 o2 o3 o4 G4 G5 G6 G7) (ix3 0 r ⟨64 + d.val, by omega⟩)
    = o1 (ix2 r (⟨d.val, by omega⟩ : Fin 128)) := by
  pointwise [k0_pay1, k0_pay17]
  try simp (disch := omega) only [dif_pos, dif_neg, pick_low, pick_high]
  simp only [show (64 + d.val + 128 - 64) % 128 = d.val by omega]

theorem lane2 (d : Fin 64) : k0_pay1 (k0_pay17 W o0 o1 o2 o3 o4 G4 G5 G6 G7) (ix3 0 r ⟨128 + d.val, by omega⟩)
    = o2 (ix2 r (⟨d.val, by omega⟩ : Fin 128)) := by
  pointwise [k0_pay1, k0_pay17]
  try simp (disch := omega) only [dif_pos, dif_neg, pick_low, pick_high]

theorem lane3 (d : Fin 64) : k0_pay1 (k0_pay17 W o0 o1 o2 o3 o4 G4 G5 G6 G7) (ix3 0 r ⟨192 + d.val, by omega⟩)
    = o3 (ix2 r (⟨d.val, by omega⟩ : Fin 128)) := by
  pointwise [k0_pay1, k0_pay17]
  try simp (disch := omega) only [dif_pos, dif_neg, pick_low, pick_high]
  simp only [show (192 + d.val - 128 + 128 - 64) % 128 = d.val by omega]

theorem lane4 (d : Fin 64) : k0_pay1 (k0_pay17 W o0 o1 o2 o3 o4 G4 G5 G6 G7) (ix3 0 r ⟨256 + d.val, by omega⟩)
    = o4 (ix2 r (⟨64 + d.val, by omega⟩ : Fin 128)) * Ideal.logistic (G4 (ix3 0 r 0)) := by
  pointwise [k0_pay1, k0_pay17]
  try simp (disch := omega) only [dif_pos, dif_neg, pick_low, pick_high]
  simp only [show (256 + d.val - 128 - 128 + 128 - 64) % 128 = 64 + d.val by omega]

theorem lane5 (d : Fin 64) : k0_pay1 (k0_pay17 W o0 o1 o2 o3 o4 G4 G5 G6 G7) (ix3 0 r ⟨320 + d.val, by omega⟩)
    = W (ix2 (⟨40 + r.val, by omega⟩ : Fin 64) (⟨64 + d.val, by omega⟩ : Fin 128)) * Ideal.logistic (G5 (ix3 0 r 0)) := by
  pointwise [k0_pay1, k0_pay17]
  try simp (disch := omega) only [dif_pos, dif_neg, pick_low, pick_high]
  simp only [show 320 + d.val - 128 - 128 = 64 + d.val by omega]

theorem lane6 (d : Fin 64) : k0_pay1 (k0_pay17 W o0 o1 o2 o3 o4 G4 G5 G6 G7) (ix3 0 r ⟨384 + d.val, by omega⟩)
    = W (ix2 (⟨48 + r.val, by omega⟩ : Fin 64) (⟨64 + d.val, by omega⟩ : Fin 128)) * Ideal.logistic (G6 (ix3 0 r 0)) := by
  pointwise [k0_pay1, k0_pay17]
  try simp (disch := omega) only [dif_pos, dif_neg, pick_low, pick_high]
  simp only [show (384 + d.val - 128 - 128 - 128 + 128 - 64) % 128 = 64 + d.val by omega]

theorem lane7 (d : Fin 64) : k0_pay1 (k0_pay17 W o0 o1 o2 o3 o4 G4 G5 G6 G7) (ix3 0 r ⟨448 + d.val, by omega⟩)
    = W (ix2 (⟨56 + r.val, by omega⟩ : Fin 64) (⟨64 + d.val, by omega⟩ : Fin 128)) * Ideal.logistic (G7 (ix3 0 r 0)) := by
  pointwise [k0_pay1, k0_pay17]
  try simp (disch := omega) only [dif_pos, dif_neg, pick_low, pick_high]
  simp only [show 448 + d.val - 128 - 128 - 128 = 64 + d.val by omega]
end Lanes

variable (g0 g1 g2 g3 g4 g5 g6 g7 : Vec Ideal S1x8x1 .f32)

/-- The block the kernel stores, from its exponentials. -/
def blockOf (E : FVec Ideal S64x640 .f32) : FVec Ideal S1x8x512 .f32 :=
  k0_pay1 (k0_pay17 (k0_pay11 p E (Scalar.ofBits .f32 0x00000000#32) V) (k0_pay12 p E (Scalar.ofBits .f32 0x00000000#32) V g0)
    (k0_pay13 p E (Scalar.ofBits .f32 0x00000000#32) V g1) (k0_pay14 p E (Scalar.ofBits .f32 0x00000000#32) V g2)
    (k0_pay15 p E (Scalar.ofBits .f32 0x00000000#32) V g3) (k0_pay16 p E (Scalar.ofBits .f32 0x00000000#32) V) g4 g5 g6 g7)

/-- The block the kernel stores. -/
def block : FVec Ideal S1x8x512 .f32 :=
  blockOf k0_pay2 V g0 g1 g2 g3 g4 g5 g6 g7
    (k0_pay10 k0_pay2 (k0_pay3 q0) (k0_pay4 q0) (k0_pay5 q1) (k0_pay6 q1) (k0_pay7 q2) (k0_pay8 q2) k0_pay9 q3 q3 K)

/-- A row of the averages, when its mask and scores are known. -/
theorem means_row (R : Fin 64) (x : Fin 128) (p' : Fin 640 → BitVec 1) (s : Fin 640 → EReal)
    (hp : ∀ k, k0_pay2 (ix2 R k) = p' k) (hs : ∀ k, scores K q0 q1 q2 q3 (ix2 R k) = s k) (g : EReal) :
    means k0_pay2 V (scores K q0 q1 q2 q3) (ix2 R x) * Ideal.logistic g = headOut p' s (fun k => V (ix3 0 x k)) g := by
  rw [means_at, funext hp, funext hs]; rfl

theorem block0 (d : Fin 64) : block K V q0 q1 q2 q3 g0 g1 g2 g3 g4 g5 g6 g7 (ix3 0 r ⟨d.val, by omega⟩)
    = headOut (near' r) (fun k => (∑ e : Fin 64, K (ix3 0 ⟨e.val, by omega⟩ k) * q0 (ix3 0 r ⟨e.val, by omega⟩)) * eighth)
        (fun k => V (ix3 0 ⟨d.val, by omega⟩ k)) (g0 (ix3 0 r 0)) := by
  rw [block, exps_eq, blockOf]
  refine (lane0 ..).trans ?_
  refine (gated0 ..).trans ?_
  exact means_row K V q0 q1 q2 q3 _ _ _ _ (mask0 r) (score0 K q0 q1 q2 q3 r) _

theorem block1 (d : Fin 64) : block K V q0 q1 q2 q3 g0 g1 g2 g3 g4 g5 g6 g7 (ix3 0 r ⟨64 + d.val, by omega⟩)
    = headOut (near' r) (fun k => (∑ e : Fin 64, K (ix3 0 ⟨e.val, by omega⟩ k) * q0 (ix3 0 r ⟨64 + e.val, by omega⟩)) * eighth)
        (fun k => V (ix3 0 ⟨d.val, by omega⟩ k)) (g1 (ix3 0 r 0)) := by
  rw [block, exps_eq, blockOf]
  refine (lane1 ..).trans ?_
  refine (gated1 ..).trans ?_
  exact means_row K V q0 q1 q2 q3 _ _ _ _ (mask1 r) (score1 K q0 q1 q2 q3 r) _

theorem block2 (d : Fin 64) : block K V q0 q1 q2 q3 g0 g1 g2 g3 g4 g5 g6 g7 (ix3 0 r ⟨128 + d.val, by omega⟩)
    = headOut (near' r) (fun k => (∑ e : Fin 64, K (ix3 0 ⟨e.val, by omega⟩ k) * q1 (ix3 0 r ⟨e.val, by omega⟩)) * eighth)
        (fun k => V (ix3 0 ⟨d.val, by omega⟩ k)) (g2 (ix3 0 r 0)) := by
  rw [block, exps_eq, blockOf]
  refine (lane2 ..).trans ?_
  refine (gated2 ..).trans ?_
  exact means_row K V q0 q1 q2 q3 _ _ _ _ (mask2 r) (score2 K q0 q1 q2 q3 r) _

theorem block3 (d : Fin 64) : block K V q0 q1 q2 q3 g0 g1 g2 g3 g4 g5 g6 g7 (ix3 0 r ⟨192 + d.val, by omega⟩)
    = headOut (near' r) (fun k => (∑ e : Fin 64, K (ix3 0 ⟨e.val, by omega⟩ k) * q1 (ix3 0 r ⟨64 + e.val, by omega⟩)) * eighth)
        (fun k => V (ix3 0 ⟨d.val, by omega⟩ k)) (g3 (ix3 0 r 0)) := by
  rw [block, exps_eq, blockOf]
  refine (lane3 ..).trans ?_
  refine (gated3 ..).trans ?_
  exact means_row K V q0 q1 q2 q3 _ _ _ _ (mask3 r) (score3 K q0 q1 q2 q3 r) _

theorem block4 (d : Fin 64) : block K V q0 q1 q2 q3 g0 g1 g2 g3 g4 g5 g6 g7 (ix3 0 r ⟨256 + d.val, by omega⟩)
    = headOut (near' r) (fun k => (∑ e : Fin 64, K (ix3 0 ⟨64 + e.val, by omega⟩ k) * q2 (ix3 0 r ⟨e.val, by omega⟩)) * eighth)
        (fun k => V (ix3 0 ⟨64 + d.val, by omega⟩ k)) (g4 (ix3 0 r 0)) := by
  rw [block, exps_eq, blockOf]
  refine (lane4 ..).trans ?_
  rw [row4]
  exact means_row K V q0 q1 q2 q3 _ _ _ _ (mask4 r) (score4 K q0 q1 q2 q3 r) _

theorem block5 (d : Fin 64) : block K V q0 q1 q2 q3 g0 g1 g2 g3 g4 g5 g6 g7 (ix3 0 r ⟨320 + d.val, by omega⟩)
    = headOut (near' r) (fun k => (∑ e : Fin 64, K (ix3 0 ⟨64 + e.val, by omega⟩ k) * q2 (ix3 0 r ⟨64 + e.val, by omega⟩)) * eighth)
        (fun k => V (ix3 0 ⟨64 + d.val, by omega⟩ k)) (g5 (ix3 0 r 0)) := by
  rw [block, exps_eq, blockOf]
  refine (lane5 ..).trans ?_
  exact means_row K V q0 q1 q2 q3 _ _ _ _ (mask5 r) (score5 K q0 q1 q2 q3 r) _

theorem block6 (d : Fin 64) : block K V q0 q1 q2 q3 g0 g1 g2 g3 g4 g5 g6 g7 (ix3 0 r ⟨384 + d.val, by omega⟩)
    = headOut (near' r) (fun k => (∑ e : Fin 64, K (ix3 0 ⟨64 + e.val, by omega⟩ k) * q3 (ix3 0 r ⟨e.val, by omega⟩)) * eighth)
        (fun k => V (ix3 0 ⟨64 + d.val, by omega⟩ k)) (g6 (ix3 0 r 0)) := by
  rw [block, exps_eq, blockOf]
  refine (lane6 ..).trans ?_
  exact means_row K V q0 q1 q2 q3 _ _ _ _ (mask6 r) (score6 K q0 q1 q2 q3 r) _

theorem block7 (d : Fin 64) : block K V q0 q1 q2 q3 g0 g1 g2 g3 g4 g5 g6 g7 (ix3 0 r ⟨448 + d.val, by omega⟩)
    = headOut (near' r) (fun k => (∑ e : Fin 64, K (ix3 0 ⟨64 + e.val, by omega⟩ k) * q3 (ix3 0 r ⟨64 + e.val, by omega⟩)) * eighth)
        (fun k => V (ix3 0 ⟨64 + d.val, by omega⟩ k)) (g7 (ix3 0 r 0)) := by
  rw [block, exps_eq, blockOf]
  refine (lane7 ..).trans ?_
  exact means_row K V q0 q1 q2 q3 _ _ _ _ (mask7 r) (score7 K q0 q1 q2 q3 r) _

end Cert.Proof.SampleHeads
end
-- ==== Proof.SampleLocal.lean ====
module

public import proofs.«01_k».proof.Proof.SampleHeads

/-! One sequence's block of the sample tokens' window attention, read against the whole arrays. -/

@[expose] public section
set_option maxRecDepth 16384
noncomputable section
namespace Cert.Proof.SampleLocal
open Idealize.ShloMosaic Idealize.ShloMosaic.TcCoe Idealize.SL.Sem
open Cert.SampleWindowIdeal Cert.Proof.SampleSpec Cert.Proof.SampleHeads
open Cert.Proof.WindowHeads (headOut)
open Cert.Proof.WindowStack (lo init tiny)

variable (q : FVec Ideal S32x8x512 .f32) (kv : FVec Ideal S32x256x640 .f32) (ms : FVec Ideal S32x8x128 .f32)

/-- Normalising the average or the weights is the same. -/
theorem headOut_eq (b : Fin 32) (r h : Fin 8) (d : Fin 64) (s v : Fin 640 → EReal) (g : EReal)
    (hs : ∀ k, s k = score q kv b r h k) (hv : ∀ k, v k = kv (ix3 b ⟨128 + 64 * (h.val / 4) + d.val, by omega⟩ k))
    (hg : g = ms (ix3 b r ⟨24 + h.val, by omega⟩)) :
    headOut (near' r) s v g = out q kv ms b r h d := by
  obtain rfl : s = score q kv b r h := funext hs
  obtain rfl : v = fun k => kv (ix3 b ⟨128 + 64 * (h.val / 4) + d.val, by omega⟩ k) := funext hv
  subst hg
  exact congrArg (· * _) (SoftmaxRow.normalise_after lo init WindowSpec.tiny_pos.1 WindowSpec.tiny_pos.2 (near' r) _ _)

/-- The scores of one head from the block's entries. -/
theorem score_eq (b : Fin 32) (r h : Fin 8) (k : Fin 640) (x y : Fin 64 → EReal)
    (hx : ∀ d : Fin 64, x d = kv (ix3 b ⟨64 * (h.val / 4) + d.val, by omega⟩ k))
    (hy : ∀ d : Fin 64, y d = q (ix3 b r ⟨64 * h.val + d.val, by omega⟩)) :
    (∑ d, x d * y d) * WindowScore.eighth = score q kv b r h k :=
  congrArg (· * WindowScore.eighth) (Finset.sum_congr rfl fun d _ => Ideal.mul_congr (hx d) (hy d))

variable (K V : Vec Ideal S1x128x640 .f32) (q0 q1 q2 q3 : Vec Ideal S1x8x128 .f32)
variable (g0 g1 g2 g3 g4 g5 g6 g7 : Vec Ideal S1x8x1 .f32)

/-- Lane `j` of row `r` of the block is the result's entry. -/
theorem point (r : Fin 8) (b : Fin 32)
    (hK : ∀ (x : Fin 128) (k : Fin 640), K (ix3 0 x k) = kv (ix3 b ⟨x.val, by omega⟩ k))
    (hV : ∀ (x : Fin 128) (k : Fin 640), V (ix3 0 x k) = kv (ix3 b ⟨128 + x.val, by omega⟩ k))
    (hq0 : ∀ x : Fin 128, q0 (ix3 0 r x) = q (ix3 b r ⟨x.val, by omega⟩))
    (hq1 : ∀ x : Fin 128, q1 (ix3 0 r x) = q (ix3 b r ⟨128 + x.val, by omega⟩))
    (hq2 : ∀ x : Fin 128, q2 (ix3 0 r x) = q (ix3 b r ⟨256 + x.val, by omega⟩))
    (hq3 : ∀ x : Fin 128, q3 (ix3 0 r x) = q (ix3 b r ⟨384 + x.val, by omega⟩))
    (hg0 : g0 (ix3 0 r 0) = ms (ix3 b r (24 : Fin 128)))
    (hg1 : g1 (ix3 0 r 0) = ms (ix3 b r (25 : Fin 128)))
    (hg2 : g2 (ix3 0 r 0) = ms (ix3 b r (26 : Fin 128)))
    (hg3 : g3 (ix3 0 r 0) = ms (ix3 b r (27 : Fin 128)))
    (hg4 : g4 (ix3 0 r 0) = ms (ix3 b r (28 : Fin 128)))
    (hg5 : g5 (ix3 0 r 0) = ms (ix3 b r (29 : Fin 128)))
    (hg6 : g6 (ix3 0 r 0) = ms (ix3 b r (30 : Fin 128)))
    (hg7 : g7 (ix3 0 r 0) = ms (ix3 b r (31 : Fin 128)))
    (j : Fin 512) : block K V q0 q1 q2 q3 g0 g1 g2 g3 g4 g5 g6 g7 (ix3 0 r j) = result q kv ms (ix3 b r j) := by
  obtain ⟨h, d, hd, rfl⟩ : ∃ (h : Fin 8) (d : Fin 64) (hd : 64 * h.val + d.val < 512), j = ⟨64 * h.val + d.val, hd⟩ :=
    ⟨⟨j.val / 64, by omega⟩, ⟨j.val % 64, by omega⟩, by simp only; omega, Fin.ext (by simp only; omega)⟩
  rw [result_at]
  match h, hd with
  | 0, _ =>
    refine Eq.trans (congrArg _ ((ix3_inj ..).2 ⟨rfl, rfl, Fin.ext (by simp)⟩))
      ((block0 K V q0 q1 q2 q3 r g0 g1 g2 g3 g4 g5 g6 g7 d).trans (headOut_eq q kv ms b r 0 d _ _ _
        (fun k => score_eq q kv b r 0 k _ _ (fun e => (hK _ _).trans ?_) (fun e => (hq0 _).trans ?_))
        (fun k => (hV _ _).trans ?_) hg0))
    · exact congrArg kv ((ix3_inj ..).2 ⟨rfl, Fin.ext (by first | rfl | (simp; done) | (simp; omega)), rfl⟩)
    · exact congrArg q ((ix3_inj ..).2 ⟨rfl, rfl, Fin.ext (by first | rfl | (simp; done) | (simp; omega))⟩)
    · exact congrArg kv ((ix3_inj ..).2 ⟨rfl, Fin.ext (by first | rfl | (simp; done) | (simp; omega)), rfl⟩)
  | 1, _ =>
    refine Eq.trans (congrArg _ ((ix3_inj ..).2 ⟨rfl, rfl, Fin.ext (by simp)⟩))
      ((block1 K V q0 q1 q2 q3 r g0 g1 g2 g3 g4 g5 g6 g7 d).trans (headOut_eq q kv ms b r 1 d _ _ _
        (fun k => score_eq q kv b r 1 k _ _ (fun e => (hK _ _).trans ?_) (fun e => (hq0 _).trans ?_))
        (fun k => (hV _ _).trans ?_) hg1))
    · exact congrArg kv ((ix3_inj ..).2 ⟨rfl, Fin.ext (by first | rfl | (simp; done) | (simp; omega)), rfl⟩)
    · exact congrArg q ((ix3_inj ..).2 ⟨rfl, rfl, Fin.ext (by first | rfl | (simp; done) | (simp; omega))⟩)
    · exact congrArg kv ((ix3_inj ..).2 ⟨rfl, Fin.ext (by first | rfl | (simp; done) | (simp; omega)), rfl⟩)
  | 2, _ =>
    refine Eq.trans (congrArg _ ((ix3_inj ..).2 ⟨rfl, rfl, Fin.ext (by simp)⟩))
      ((block2 K V q0 q1 q2 q3 r g0 g1 g2 g3 g4 g5 g6 g7 d).trans (headOut_eq q kv ms b r 2 d _ _ _
        (fun k => score_eq q kv b r 2 k _ _ (fun e => (hK _ _).trans ?_) (fun e => (hq1 _).trans ?_))
        (fun k => (hV _ _).trans ?_) hg2))
    · exact congrArg kv ((ix3_inj ..).2 ⟨rfl, Fin.ext (by first | rfl | (simp; done) | (simp; omega)), rfl⟩)
    · exact congrArg q ((ix3_inj ..).2 ⟨rfl, rfl, Fin.ext (by first | rfl | (simp; done) | (simp; omega))⟩)
    · exact congrArg kv ((ix3_inj ..).2 ⟨rfl, Fin.ext (by first | rfl | (simp; done) | (simp; omega)), rfl⟩)
  | 3, _ =>
    refine Eq.trans (congrArg _ ((ix3_inj ..).2 ⟨rfl, rfl, Fin.ext (by simp)⟩))
      ((block3 K V q0 q1 q2 q3 r g0 g1 g2 g3 g4 g5 g6 g7 d).trans (headOut_eq q kv ms b r 3 d _ _ _
        (fun k => score_eq q kv b r 3 k _ _ (fun e => (hK _ _).trans ?_) (fun e => (hq1 _).trans ?_))
        (fun k => (hV _ _).trans ?_) hg3))
    · exact congrArg kv ((ix3_inj ..).2 ⟨rfl, Fin.ext (by first | rfl | (simp; done) | (simp; omega)), rfl⟩)
    · exact congrArg q ((ix3_inj ..).2 ⟨rfl, rfl, Fin.ext (by first | rfl | (simp; done) | (simp; omega))⟩)
    · exact congrArg kv ((ix3_inj ..).2 ⟨rfl, Fin.ext (by first | rfl | (simp; done) | (simp; omega)), rfl⟩)
  | 4, _ =>
    refine Eq.trans (congrArg _ ((ix3_inj ..).2 ⟨rfl, rfl, Fin.ext (by simp)⟩))
      ((block4 K V q0 q1 q2 q3 r g0 g1 g2 g3 g4 g5 g6 g7 d).trans (headOut_eq q kv ms b r 4 d _ _ _
        (fun k => score_eq q kv b r 4 k _ _ (fun e => (hK _ _).trans ?_) (fun e => (hq2 _).trans ?_))
        (fun k => (hV _ _).trans ?_) hg4))
    · exact congrArg kv ((ix3_inj ..).2 ⟨rfl, Fin.ext (by first | rfl | (simp; done) | (simp; omega)), rfl⟩)
    · exact congrArg q ((ix3_inj ..).2 ⟨rfl, rfl, Fin.ext (by first | rfl | (simp; done) | (simp; omega))⟩)
    · exact congrArg kv ((ix3_inj ..).2 ⟨rfl, Fin.ext (by first | rfl | (simp; done) | (simp; omega)), rfl⟩)
  | 5, _ =>
    refine Eq.trans (congrArg _ ((ix3_inj ..).2 ⟨rfl, rfl, Fin.ext (by simp)⟩))
      ((block5 K V q0 q1 q2 q3 r g0 g1 g2 g3 g4 g5 g6 g7 d).trans (headOut_eq q kv ms b r 5 d _ _ _
        (fun k => score_eq q kv b r 5 k _ _ (fun e => (hK _ _).trans ?_) (fun e => (hq2 _).trans ?_))
        (fun k => (hV _ _).trans ?_) hg5))
    · exact congrArg kv ((ix3_inj ..).2 ⟨rfl, Fin.ext (by first | rfl | (simp; done) | (simp; omega)), rfl⟩)
    · exact congrArg q ((ix3_inj ..).2 ⟨rfl, rfl, Fin.ext (by first | rfl | (simp; done) | (simp; omega))⟩)
    · exact congrArg kv ((ix3_inj ..).2 ⟨rfl, Fin.ext (by first | rfl | (simp; done) | (simp; omega)), rfl⟩)
  | 6, _ =>
    refine Eq.trans (congrArg _ ((ix3_inj ..).2 ⟨rfl, rfl, Fin.ext (by simp)⟩))
      ((block6 K V q0 q1 q2 q3 r g0 g1 g2 g3 g4 g5 g6 g7 d).trans (headOut_eq q kv ms b r 6 d _ _ _
        (fun k => score_eq q kv b r 6 k _ _ (fun e => (hK _ _).trans ?_) (fun e => (hq3 _).trans ?_))
        (fun k => (hV _ _).trans ?_) hg6))
    · exact congrArg kv ((ix3_inj ..).2 ⟨rfl, Fin.ext (by first | rfl | (simp; done) | (simp; omega)), rfl⟩)
    · exact congrArg q ((ix3_inj ..).2 ⟨rfl, rfl, Fin.ext (by first | rfl | (simp; done) | (simp; omega))⟩)
    · exact congrArg kv ((ix3_inj ..).2 ⟨rfl, Fin.ext (by first | rfl | (simp; done) | (simp; omega)), rfl⟩)
  | 7, _ =>
    refine Eq.trans (congrArg _ ((ix3_inj ..).2 ⟨rfl, rfl, Fin.ext (by simp)⟩))
      ((block7 K V q0 q1 q2 q3 r g0 g1 g2 g3 g4 g5 g6 g7 d).trans (headOut_eq q kv ms b r 7 d _ _ _
        (fun k => score_eq q kv b r 7 k _ _ (fun e => (hK _ _).trans ?_) (fun e => (hq3 _).trans ?_))
        (fun k => (hV _ _).trans ?_) hg7))
    · exact congrArg kv ((ix3_inj ..).2 ⟨rfl, Fin.ext (by first | rfl | (simp; done) | (simp; omega)), rfl⟩)
    · exact congrArg q ((ix3_inj ..).2 ⟨rfl, rfl, Fin.ext (by first | rfl | (simp; done) | (simp; omega))⟩)
    · exact congrArg kv ((ix3_inj ..).2 ⟨rfl, Fin.ext (by first | rfl | (simp; done) | (simp; omega)), rfl⟩)

end Cert.Proof.SampleLocal
end
-- ==== Proof.SampleArr.lean ====
module

public import proofs.«01_k».proof.Proof.Gen.SampleWindowIdeal.Value
public import proofs.«01_k».proof.Proof.SampleLocal
public import Idealize.ShloMosaic.Lib.Pipeline.ValueKit

/-! The result array of the sample tokens' window attention is the formula of SampleSpec. -/

@[expose] public section
set_option maxRecDepth 16384
noncomputable section
namespace Cert.Proof.SampleArr
open Idealize.ShloMosaic Idealize.ShloMosaic.TcCoe Idealize.SL.Sem
open Idealize.ShloMosaic.Pipeline (Dat)
open Cert.SampleWindowIdeal Cert.SampleWindowIdeal.Gen
variable (m : (ℓ : Loc nD τ sig) → Buf (Elt Ideal) ℓ)

theorem idx : ∀ t : Fin cfg0.N, win0_0.index t = ![t.val, 0, 0] ∧ win0_1.index t = ![t.val, 0, 0]
   ∧ win0_2.index t = ![t.val, 0, 0] ∧ win0_3.index t = ![t.val, 0, 0] :=
  (by decide +kernel : ∀ t : Fin grid0.N, _)

theorem final (c : Dev nD) : (dats m 0 c).arrAt 3 (cfgs 0).N
    = SampleSpec.result (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]
  frame_out
  obtain ⟨i0, i1, i2, i3⟩ := idx t
  obtain ⟨u, r, j, rfl⟩ : ∃ (u : Fin 1) (r : Fin 8) (j : Fin 512), y = ix3 u r j := ⟨y 0, y 1, y 2, eq_ix3 y⟩
  obtain rfl : u = 0 := Subsingleton.elim _ _
  have hN : t.val < 32 := t.isLt
  refine Eq.trans (show _ = SampleHeads.block (View.ld (iblk m c 1 t) r0_4) (View.ld (iblk m c 1 t) r0_5)
    (View.ld (iblk m c 0 t) r0_0) (View.ld (iblk m c 0 t) r0_1) (View.ld (iblk m c 0 t) r0_2) (View.ld (iblk m c 0 t) r0_3)
    (View.ld (iblk m c 2 t) r0_6) (View.ld (iblk m c 2 t) r0_7) (View.ld (iblk m c 2 t) r0_8) (View.ld (iblk m c 2 t) r0_9)
    (View.ld (iblk m c 2 t) r0_10) (View.ld (iblk m c 2 t) r0_11) (View.ld (iblk m c 2 t) r0_12) (View.ld (iblk m c 2 t) r0_13)
    (ix3 0 r j) from rfl) ?_
  have e : ((View.whole main_v0).slice (win0_3.rect t)).emb (ix3 0 r j) = ix3 (⟨t.val, hN⟩ : Fin 32) r j := by
    blk_ext [iblk, V, idx t]
  rw [e]
  refine SampleLocal.point _ _ _ _ _ _ _ _ _ _ _ _ _ _ _ _ _ r _ (fun x k => ?_) (fun x k => ?_)
    (fun x => ?_) (fun x => ?_) (fun x => ?_) (fun x => ?_) ?_ ?_ ?_ ?_ ?_ ?_ ?_ ?_ j
  all_goals pointwise
  all_goals blk_ext [iblk, V, idx t]
end Cert.Proof.SampleArr
end
-- ==== Proof.SampleRef.lean ====
module

public import proofs.«01_k».proof.Proof.Gen.SampleWindowReferenceIdeal.Run
public import proofs.«01_k».proof.Proof.SampleSpec
public import proofs.«01_k».proof.Proof.WindowRef

/-! The reference of the sample tokens' window attention computes the formula of SampleSpec. -/

@[expose] public section
set_option maxRecDepth 16384
noncomputable section
namespace Cert.Proof.SampleRef
open Idealize.ShloMosaic Idealize.ShloMosaic.TcCoe Idealize.SL.Sem
open Cert.SampleWindowReferenceIdeal Cert.SampleWindowReferenceIdeal.Value

set_option maxHeartbeats 8000000 in
theorem ref_apply (m : (ℓ : Loc nD τ sig) → Buf (Elt Ideal) ℓ) (c : Dev nD) (b : Fin 32) (t : Fin 8) (h : Fin 8)
    (d : Fin 64) :
    ((res_main_v54 m c : FVec Ideal S32x8x512 .f32) (ix3 b t ⟨64 * h.val + d.val, by omega⟩) : EReal)
      = SampleSpec.out (m ((c : Thread nD τ).loc main_arg0)) (m ((c : Thread nD τ).loc main_arg1))
          (m ((c : Thread nD τ).loc main_arg2)) b t h d := by
  pointwise [res_main_v54]
  have e1 : (64 * h.val + d.val) / 256 = h.val / 4 := by omega
  have e2 : (64 * h.val + d.val) / 64 % 4 = h.val % 4 := by omega
  have e3 : (64 * h.val + d.val) % 64 = d.val := by omega
  have e4 : h.val / 4 * 4 + h.val % 4 = h.val := by omega
  have e5 : ∀ x, h.val / 4 * 256 + h.val % 4 * 64 + x = 64 * h.val + x := by omega
  have e6 : ∀ x, 128 + h.val / 4 * 64 + x = 128 + 64 * (h.val / 4) + x := by omega
  have e7 : ∀ x, h.val / 4 * 64 + x = 64 * (h.val / 4) + x := by omega
  simp only [e1, e2, e3, e4, e5, e6, e7]
  simp only [SampleSpec.near_reference]
  have hz : (id (constant S_ .f32 0x00000000#32 : FVec Ideal S_ .f32) ix0 : EReal) = 0 := WindowRef.zero_word
  simp only [hz]
  exact mul_comm (G := EReal) _ _

/-- Every run of the reference ends with the formula's array as its result and with its arguments unchanged. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v54) = SampleSpec.result (m ((c.tc : Thread nD τ).loc main_arg0))
          (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (run m ρ)
  funext i
  obtain ⟨b, t, j, rfl⟩ : ∃ (a : Fin 32) (b : Fin 8) (j : Fin 512), i = ix3 a b j := ⟨i 0, i 1, i 2, eq_ix3 i⟩
  have e : j = ⟨64 * (j.val / 64) + j.val % 64, by omega⟩ := Fin.ext (by simp only; omega)
  rw [e]
  exact (ref_apply m c b t ⟨j.val / 64, by omega⟩ ⟨j.val % 64, by omega⟩).trans (SampleSpec.result_at _ _ _ b t ⟨j.val / 64, by omega⟩ ⟨j.val % 64, by omega⟩ _).symm
end Cert.Proof.SampleRef
end
-- ==== Proof.lean ====
/- Assembles the claims of Defs.lean: each kernel's result array and each reference's result are the same formula
   of the arguments (the modules *Arr and *Ref). -/
module

public import proofs.«01_k».proof.Defs
public import proofs.«01_k».proof.Proof.Gen.Window
public import proofs.«01_k».proof.Proof.Gen.Window.Skeleton
public import proofs.«01_k».proof.Proof.Gen.Window.Launch
public import proofs.«01_k».proof.Proof.Gen.Window.Points
public import proofs.«01_k».proof.Proof.Gen.Window.Frame
public import proofs.«01_k».proof.Proof.Gen.WindowIdeal
public import proofs.«01_k».proof.Proof.Gen.WindowIdeal.Skeleton
public import proofs.«01_k».proof.Proof.Gen.WindowIdeal.Launch
public import proofs.«01_k».proof.Proof.Gen.WindowIdeal.Points
public import proofs.«01_k».proof.Proof.Gen.WindowIdeal.Frame
public import proofs.«01_k».proof.Proof.Gen.WindowReferenceIdeal
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpReferenceIdeal
public import proofs.«01_k».proof.Proof.WindowArr
public import proofs.«01_k».proof.Proof.WindowRef
public import proofs.«01_k».proof.Proof.MlpArr
public import proofs.«01_k».proof.Proof.MlpRef
public import proofs.«01_k».proof.Proof.MlpLastArr
public import proofs.«01_k».proof.Proof.MlpLastRef
public import proofs.«01_k».proof.Proof.InEvenArr
public import proofs.«01_k».proof.Proof.InEvenRef
public import proofs.«01_k».proof.Proof.InOddArr
public import proofs.«01_k».proof.Proof.InOddRef
public import proofs.«01_k».proof.Proof.OutEvenArr
public import proofs.«01_k».proof.Proof.OutEvenRef
public import proofs.«01_k».proof.Proof.OutOddArr
public import proofs.«01_k».proof.Proof.OutOddRef
public import proofs.«01_k».proof.Proof.Gen.MlpLast
public import proofs.«01_k».proof.Proof.Gen.MlpLast.Skeleton
public import proofs.«01_k».proof.Proof.Gen.MlpLast.Launch
public import proofs.«01_k».proof.Proof.Gen.MlpLast.Points
public import proofs.«01_k».proof.Proof.Gen.MlpLast.Frame
public import proofs.«01_k».proof.Proof.Gen.MlpLastIdeal
public import proofs.«01_k».proof.Proof.Gen.MlpLastIdeal.Skeleton
public import proofs.«01_k».proof.Proof.Gen.MlpLastIdeal.Launch
public import proofs.«01_k».proof.Proof.Gen.MlpLastIdeal.Points
public import proofs.«01_k».proof.Proof.Gen.MlpLastIdeal.Frame
public import proofs.«01_k».proof.Proof.Gen.MlpLastReferenceIdeal
public import proofs.«01_k».proof.Proof.Gen.InEven
public import proofs.«01_k».proof.Proof.Gen.InEven.Skeleton
public import proofs.«01_k».proof.Proof.Gen.InEven.Launch
public import proofs.«01_k».proof.Proof.Gen.InEven.Points
public import proofs.«01_k».proof.Proof.Gen.InEven.Frame
public import proofs.«01_k».proof.Proof.Gen.InEvenIdeal
public import proofs.«01_k».proof.Proof.Gen.InEvenIdeal.Skeleton
public import proofs.«01_k».proof.Proof.Gen.InEvenIdeal.Launch
public import proofs.«01_k».proof.Proof.Gen.InEvenIdeal.Points
public import proofs.«01_k».proof.Proof.Gen.InEvenIdeal.Frame
public import proofs.«01_k».proof.Proof.Gen.InEvenReferenceIdeal
public import proofs.«01_k».proof.Proof.Gen.InOdd
public import proofs.«01_k».proof.Proof.Gen.InOdd.Skeleton
public import proofs.«01_k».proof.Proof.Gen.InOdd.Launch
public import proofs.«01_k».proof.Proof.Gen.InOdd.Points
public import proofs.«01_k».proof.Proof.Gen.InOdd.Frame
public import proofs.«01_k».proof.Proof.Gen.InOddIdeal
public import proofs.«01_k».proof.Proof.Gen.InOddIdeal.Skeleton
public import proofs.«01_k».proof.Proof.Gen.InOddIdeal.Launch
public import proofs.«01_k».proof.Proof.Gen.InOddIdeal.Points
public import proofs.«01_k».proof.Proof.Gen.InOddIdeal.Frame
public import proofs.«01_k».proof.Proof.Gen.InOddReferenceIdeal
public import proofs.«01_k».proof.Proof.Gen.OutEven
public import proofs.«01_k».proof.Proof.Gen.OutEven.Skeleton
public import proofs.«01_k».proof.Proof.Gen.OutEven.Launch
public import proofs.«01_k».proof.Proof.Gen.OutEven.Points
public import proofs.«01_k».proof.Proof.Gen.OutEven.Frame
public import proofs.«01_k».proof.Proof.Gen.OutEvenIdeal
public import proofs.«01_k».proof.Proof.Gen.OutEvenIdeal.Skeleton
public import proofs.«01_k».proof.Proof.Gen.OutEvenIdeal.Launch
public import proofs.«01_k».proof.Proof.Gen.OutEvenIdeal.Points
public import proofs.«01_k».proof.Proof.Gen.OutEvenIdeal.Frame
public import proofs.«01_k».proof.Proof.Gen.OutEvenReferenceIdeal
public import proofs.«01_k».proof.Proof.Gen.OutOdd
public import proofs.«01_k».proof.Proof.Gen.OutOdd.Skeleton
public import proofs.«01_k».proof.Proof.Gen.OutOdd.Launch
public import proofs.«01_k».proof.Proof.Gen.OutOdd.Points
public import proofs.«01_k».proof.Proof.Gen.OutOdd.Frame
public import proofs.«01_k».proof.Proof.Gen.OutOddIdeal
public import proofs.«01_k».proof.Proof.Gen.OutOddIdeal.Skeleton
public import proofs.«01_k».proof.Proof.Gen.OutOddIdeal.Launch
public import proofs.«01_k».proof.Proof.Gen.OutOddIdeal.Points
public import proofs.«01_k».proof.Proof.Gen.OutOddIdeal.Frame
public import proofs.«01_k».proof.Proof.Gen.OutOddReferenceIdeal
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.AdaArr
public import proofs.«01_k».proof.Proof.Gen.AdaReferenceIdeal
public import proofs.«01_k».proof.Proof.AdaRef
public import proofs.«01_k».proof.Proof.Gen.Compress
public import proofs.«01_k».proof.Proof.Gen.Compress.Skeleton
public import proofs.«01_k».proof.Proof.Gen.Compress.Launch
public import proofs.«01_k».proof.Proof.Gen.Compress.Points
public import proofs.«01_k».proof.Proof.Gen.Compress.Frame
public import proofs.«01_k».proof.Proof.Gen.CompressIdeal
public import proofs.«01_k».proof.Proof.Gen.CompressIdeal.Skeleton
public import proofs.«01_k».proof.Proof.Gen.CompressIdeal.Launch
public import proofs.«01_k».proof.Proof.Gen.CompressIdeal.Points
public import proofs.«01_k».proof.Proof.Gen.CompressIdeal.Frame
public import proofs.«01_k».proof.Proof.CompressArr
public import proofs.«01_k».proof.Proof.Gen.CompressReferenceIdeal
public import proofs.«01_k».proof.Proof.CompressRef
public import proofs.«01_k».proof.Proof.Gen.Select
public import proofs.«01_k».proof.Proof.Gen.Select.Skeleton
public import proofs.«01_k».proof.Proof.Gen.Select.Launch
public import proofs.«01_k».proof.Proof.Gen.Select.Points
public import proofs.«01_k».proof.Proof.Gen.Select.Frame
public import proofs.«01_k».proof.Proof.Gen.SelectIdeal
public import proofs.«01_k».proof.Proof.Gen.SelectIdeal.Skeleton
public import proofs.«01_k».proof.Proof.Gen.SelectIdeal.Launch
public import proofs.«01_k».proof.Proof.Gen.SelectIdeal.Points
public import proofs.«01_k».proof.Proof.Gen.SelectIdeal.Frame
public import proofs.«01_k».proof.Proof.Gen.SelectIdeal.Value
public import proofs.«01_k».proof.Proof.Gen.SelectReferenceIdeal
public import proofs.«01_k».proof.Proof.Gen.SelectReferenceIdeal.Run
public import proofs.«01_k».proof.Proof.SelectArr
public import proofs.«01_k».proof.Proof.SelectRef
public import proofs.«01_k».proof.Proof.Gen.SampleWindow
public import proofs.«01_k».proof.Proof.Gen.SampleWindow.Skeleton
public import proofs.«01_k».proof.Proof.Gen.SampleWindow.Launch
public import proofs.«01_k».proof.Proof.Gen.SampleWindow.Points
public import proofs.«01_k».proof.Proof.Gen.SampleWindow.Frame
public import proofs.«01_k».proof.Proof.Gen.SampleWindowIdeal
public import proofs.«01_k».proof.Proof.Gen.SampleWindowIdeal.Skeleton
public import proofs.«01_k».proof.Proof.Gen.SampleWindowIdeal.Launch
public import proofs.«01_k».proof.Proof.Gen.SampleWindowIdeal.Points
public import proofs.«01_k».proof.Proof.Gen.SampleWindowIdeal.Frame
public import proofs.«01_k».proof.Proof.Gen.SampleWindowIdeal.Value
public import proofs.«01_k».proof.Proof.Gen.SampleWindowReferenceIdeal
public import proofs.«01_k».proof.Proof.Gen.SampleWindowReferenceIdeal.Run
public import proofs.«01_k».proof.Proof.SampleArr
public import proofs.«01_k».proof.Proof.SampleRef
public import Idealize.ShloMosaic.Adequacy
public import Idealize.ShloMosaic.Init
public import Idealize.ShloMosaic.Lib.Claim
public import Idealize.ShloMosaic.Lib.Quiescent

@[expose] public section

noncomputable section

namespace Cert.Proof

open Idealize.ShloMosaic Idealize.SL.Sem

theorem frame_windowRef : Cert.quiescent_WindowReferenceIdeal := fun m ρ _ =>
  (θ_run Cert.WindowReferenceIdeal.defs _ _).mono (fun r h => ⟨fun c => (h c).2, sem_eq_zero_of_no_sems (by decide) r.2⟩)
    (WindowRef.run_out m ρ)

theorem frame_mlpRef : Cert.quiescent_MlpReferenceIdeal := fun m ρ _ =>
  (θ_run Cert.MlpReferenceIdeal.defs _ _).mono (fun r h => ⟨fun c => (h c).2, sem_eq_zero_of_no_sems (by decide) r.2⟩)
    (MlpRef.run_out m ρ)

theorem frame_mlpLastRef : Cert.quiescent_MlpLastReferenceIdeal := fun m ρ _ =>
  (θ_run Cert.MlpLastReferenceIdeal.defs _ _).mono (fun r h => ⟨fun c => (h c).2, sem_eq_zero_of_no_sems (by decide) r.2⟩)
    (MlpLastRef.run_out m ρ)

theorem frame_inEvenRef : Cert.quiescent_InEvenReferenceIdeal := fun m ρ _ =>
  (θ_run Cert.InEvenReferenceIdeal.defs _ _).mono (fun r h => ⟨fun c => (h c).2.2.2.2.2.2.2.2, sem_eq_zero_of_no_sems (by decide) r.2⟩)
    (InEvenRef.run_out m ρ)

theorem frame_inOddRef : Cert.quiescent_InOddReferenceIdeal := fun m ρ _ =>
  (θ_run Cert.InOddReferenceIdeal.defs _ _).mono (fun r h => ⟨fun c => (h c).2.2.2.2.2.2, sem_eq_zero_of_no_sems (by decide) r.2⟩)
    (InOddRef.run_out m ρ)

theorem frame_outEvenRef : Cert.quiescent_OutEvenReferenceIdeal := fun m ρ _ =>
  (θ_run Cert.OutEvenReferenceIdeal.defs _ _).mono (fun r h => ⟨fun c => (h c).2, sem_eq_zero_of_no_sems (by decide) r.2⟩)
    (OutEvenRef.run_out m ρ)

theorem frame_outOddRef : Cert.quiescent_OutOddReferenceIdeal := fun m ρ _ =>
  (θ_run Cert.OutOddReferenceIdeal.defs _ _).mono (fun r h => ⟨fun c => (h c).2, sem_eq_zero_of_no_sems (by decide) r.2⟩)
    (OutOddRef.run_out m ρ)

theorem frame_adaRef : Cert.quiescent_AdaReferenceIdeal := fun m ρ _ =>
  (θ_run Cert.AdaReferenceIdeal.defs _ _).mono (fun r h => ⟨fun c => (h c).2, sem_eq_zero_of_no_sems (by decide) r.2⟩)
    (AdaRef.run_out m ρ)

theorem frame_compressRef : Cert.quiescent_CompressReferenceIdeal := fun m ρ _ =>
  (θ_run Cert.CompressReferenceIdeal.defs _ _).mono (fun r h => ⟨fun c => (h c).2, sem_eq_zero_of_no_sems (by decide) r.2⟩)
    (CompressRef.run_out m ρ)

theorem frame_selectRef : Cert.quiescent_SelectReferenceIdeal := fun m ρ _ =>
  (θ_run Cert.SelectReferenceIdeal.defs _ _).mono (fun r h => ⟨fun c => (h c).2, sem_eq_zero_of_no_sems (by decide) r.2⟩)
    (SelectRef.run_out m ρ)

theorem frame_sampleWindowRef : Cert.quiescent_SampleWindowReferenceIdeal := fun m ρ _ =>
  (θ_run Cert.SampleWindowReferenceIdeal.defs _ _).mono (fun r h => ⟨fun c => (h c).2, sem_eq_zero_of_no_sems (by decide) r.2⟩)
    (SampleRef.run_out m ρ)

/-- The two masks of `attended` have one value each, so they broadcast. -/
theorem facts_attended : Cert.On_attended.Facts where
  bcast_S_S4x4096x512 := by decide
  bcast_S_S4x4096x256 := by decide

theorem window : Cert.algebraic_WindowIdeal_WindowReferenceIdeal := by
  pair_intro
  · run_from Cert.WindowIdeal.Gen.run_main m g
  · run_from WindowRef.run_out m' g'
    exact (WindowArr.final m c).symm

theorem mlp : Cert.algebraic_MlpIdeal_MlpReferenceIdeal := by
  pair_intro
  · run_from Cert.MlpIdeal.Gen.run_main m g
  · run_from MlpRef.run_out m' g'
    exact (MlpArr.final m c).symm

theorem mlpLast : Cert.algebraic_MlpLastIdeal_MlpLastReferenceIdeal := by
  pair_intro
  · run_from Cert.MlpLastIdeal.Gen.run_main m g
  · run_from MlpLastRef.run_out m' g'
    exact (MlpLastArr.final m c).symm

set_option maxHeartbeats 4000000 in
theorem inEven : Cert.algebraic_InEvenIdeal_InEvenReferenceIdeal := by
  pair_intro
  · run_from Cert.InEvenIdeal.Gen.run_main m g
  · run_from InEvenRef.run_out m' g'
    · exact (InEvenArr.final5 m c).symm
    · exact (InEvenArr.final6 m c).symm
    · exact (InEvenArr.final7 m c).symm
    · exact (InEvenArr.final8 m c).symm
    · exact (InEvenArr.final9 m c).symm
    · exact (InEvenArr.final10 m c).symm
    · exact (InEvenArr.final11 m c).symm
    · exact (InEvenArr.final12 m c).symm

set_option maxHeartbeats 4000000 in
theorem inOdd : Cert.algebraic_InOddIdeal_InOddReferenceIdeal := by
  pair_intro
  · run_from Cert.InOddIdeal.Gen.run_main m g
  · run_from InOddRef.run_out m' g'
    · exact (InOddArr.final5 m c).symm
    · exact (InOddArr.final6 m c).symm
    · exact (InOddArr.final7 m c).symm
    · exact (InOddArr.final8 m c).symm
    · exact (InOddArr.final9 m c).symm
    · exact (InOddArr.final10 m c).symm

theorem outEven : Cert.algebraic_OutEvenIdeal_OutEvenReferenceIdeal := by
  pair_intro
  · run_from Cert.OutEvenIdeal.Gen.run_main m g
  · run_from OutEvenRef.run_out m' g'
    exact (OutEvenArr.final m c).symm

theorem outOdd : Cert.algebraic_OutOddIdeal_OutOddReferenceIdeal := by
  pair_intro
  · run_from Cert.OutOddIdeal.Gen.run_main m g
  · run_from OutOddRef.run_out m' g'
    exact (OutOddArr.final m c).symm

theorem ada : Cert.algebraic_AdaIdeal_AdaReferenceIdeal := by
  pair_intro
  · run_from Cert.AdaIdeal.Gen.run_main m g
  · run_from AdaRef.run_out m' g'
    exact (AdaArr.final m c).symm

theorem compress : Cert.algebraic_CompressIdeal_CompressReferenceIdeal := by
  pair_intro
  · run_from Cert.CompressIdeal.Gen.run_main m g
  · run_from CompressRef.run_out m' g'
    exact (CompressArr.final m c).symm

/-- Both runs end with the formula's array as the attention result; the chosen blocks are not compared. -/
theorem select : Cert.algebraic_SelectIdeal_SelectReferenceIdeal_on_attended (hOn_attended := facts_attended) := by
  intro m g m' g' _ hm
  refine ⟨fun c => SelectSpec.result (m ((c.tc : Thread Cert.SelectIdeal.nD Cert.SelectIdeal.τ).loc Cert.SelectIdeal.main_arg0))
      (m ((c.tc : Thread Cert.SelectIdeal.nD Cert.SelectIdeal.τ).loc Cert.SelectIdeal.main_arg1))
      (m ((c.tc : Thread Cert.SelectIdeal.nD Cert.SelectIdeal.τ).loc Cert.SelectIdeal.main_arg2)),
    fun c => m ((c.tc : Thread Cert.SelectIdeal.nD Cert.SelectIdeal.τ).loc Cert.SelectIdeal.main_v0_1), ?_, ?_⟩
  · refine (θ_run Cert.SelectIdeal.defs _ _).mono (fun r h c => ?_) (Cert.SelectIdeal.Value.run_blocks m g)
    obtain ⟨h0, _, ha⟩ := h c
    exact ⟨fun i _ => congrFun (h0.trans (SelectArr.final m c)) i, fun i hi => absurd (show (0#1 : BitVec 1) = 1#1 from hi) (by decide), ha⟩
  · refine (θ_run Cert.SelectReferenceIdeal.defs _ _).mono (fun r h c => ?_) (SelectRef.run_out m' g')
    obtain ⟨h0, ha⟩ := h c
    obtain ⟨m0, m1, m2⟩ := hm c
    rw [m0, m1, m2] at h0
    exact ⟨fun i _ => congrFun h0 i, fun i hi => absurd (show (0#1 : BitVec 1) = 1#1 from hi) (by decide), ha⟩

theorem sampleWindow : Cert.algebraic_SampleWindowIdeal_SampleWindowReferenceIdeal := by
  pair_intro
  · run_from Cert.SampleWindowIdeal.Gen.run_main m g
  · run_from SampleRef.run_out m' g'
    exact (SampleArr.final m c).symm

theorem claim : Cert.Claim := ⟨Cert.Window.Gen.facts, Cert.WindowIdeal.Gen.facts, Cert.WindowReferenceIdeal.Gen.facts,
  Cert.Mlp.Gen.facts, Cert.MlpIdeal.Gen.facts, Cert.MlpReferenceIdeal.Gen.facts,
  Cert.MlpLast.Gen.facts, Cert.MlpLastIdeal.Gen.facts, Cert.MlpLastReferenceIdeal.Gen.facts,
  Cert.InEven.Gen.facts, Cert.InEvenIdeal.Gen.facts, Cert.InEvenReferenceIdeal.Gen.facts,
  Cert.InOdd.Gen.facts, Cert.InOddIdeal.Gen.facts, Cert.InOddReferenceIdeal.Gen.facts,
  Cert.OutEven.Gen.facts, Cert.OutEvenIdeal.Gen.facts, Cert.OutEvenReferenceIdeal.Gen.facts,
  Cert.OutOdd.Gen.facts, Cert.OutOddIdeal.Gen.facts, Cert.OutOddReferenceIdeal.Gen.facts,
  Cert.Ada.Gen.facts, Cert.AdaIdeal.Gen.facts, Cert.AdaReferenceIdeal.Gen.facts,
  Cert.Compress.Gen.facts, Cert.CompressIdeal.Gen.facts, Cert.CompressReferenceIdeal.Gen.facts,
  Cert.Select.Gen.facts, Cert.SelectIdeal.Gen.facts, Cert.SelectReferenceIdeal.Gen.facts,
  Cert.SampleWindow.Gen.facts, Cert.SampleWindowIdeal.Gen.facts, Cert.SampleWindowReferenceIdeal.Gen.facts, facts_attended,
  fun m ρ _ => Cert.Window.Gen.frame m ρ, fun m ρ _ => Cert.WindowIdeal.Gen.frame m ρ, frame_windowRef,
  fun m ρ _ => Cert.Mlp.Gen.frame m ρ, fun m ρ _ => Cert.MlpIdeal.Gen.frame m ρ, frame_mlpRef,
  fun m ρ _ => Cert.MlpLast.Gen.frame m ρ, fun m ρ _ => Cert.MlpLastIdeal.Gen.frame m ρ, frame_mlpLastRef,
  fun m ρ _ => Cert.InEven.Gen.frame m ρ, fun m ρ _ => Cert.InEvenIdeal.Gen.frame m ρ, frame_inEvenRef,
  fun m ρ _ => Cert.InOdd.Gen.frame m ρ, fun m ρ _ => Cert.InOddIdeal.Gen.frame m ρ, frame_inOddRef,
  fun m ρ _ => Cert.OutEven.Gen.frame m ρ, fun m ρ _ => Cert.OutEvenIdeal.Gen.frame m ρ, frame_outEvenRef,
  fun m ρ _ => Cert.OutOdd.Gen.frame m ρ, fun m ρ _ => Cert.OutOddIdeal.Gen.frame m ρ, frame_outOddRef,
  fun m ρ _ => Cert.Ada.Gen.frame m ρ, fun m ρ _ => Cert.AdaIdeal.Gen.frame m ρ, frame_adaRef,
  fun m ρ _ => Cert.Compress.Gen.frame m ρ, fun m ρ _ => Cert.CompressIdeal.Gen.frame m ρ, frame_compressRef,
  fun m ρ _ => Cert.Select.Gen.frame m ρ, fun m ρ _ => Cert.SelectIdeal.Gen.frame m ρ, frame_selectRef,
  fun m ρ _ => Cert.SampleWindow.Gen.frame m ρ, fun m ρ _ => Cert.SampleWindowIdeal.Gen.frame m ρ, frame_sampleWindowRef,
  trivial, window, trivial, mlp, trivial, mlpLast, trivial, inEven, trivial, inOdd, trivial, outEven, trivial, outOdd, trivial, ada, trivial, compress, trivial, select,
  trivial, sampleWindow⟩

end Cert.Proof

end
